-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_RefGradWIdeal (m : (ℓ : Loc Cert.RefGradWIdeal.nD Cert.RefGradWIdeal.τ Cert.RefGradWIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_RefGradXIdeal (m : (ℓ : Loc Cert.RefGradXIdeal.nD Cert.RefGradXIdeal.τ Cert.RefGradXIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_RefGradWOutIdeal (m : (ℓ : Loc Cert.RefGradWOutIdeal.nD Cert.RefGradWOutIdeal.τ Cert.RefGradWOutIdeal.sig) → Buf (Elt Ideal) ℓ) : Prop :=
  True

def Pre_DHAttn (m : (ℓ : Loc Cert.DHAttn.nD Cert.DHAttn.τ Cert.DHAttn.sig) → Buf (Elt Bits) ℓ) : Prop :=
  True

def Pre_DHAttnIdeal (m : (ℓ : Loc Cert.DHAttnIdeal.nD Cert.DHAttnIdeal.τ Cert.DHAttnIdeal.sig) → Buf (Elt Ideal) ℓ) : Prop :=
  True

def Pre_RefDHAttnIdeal (m : (ℓ : Loc Cert.RefDHAttnIdeal.nD Cert.RefDHAttnIdeal.τ Cert.RefDHAttnIdeal.sig) → Buf (Elt Ideal) ℓ) : Prop :=
  True

def Pre_GradWBranch (m : (ℓ : Loc Cert.GradWBranch.nD Cert.GradWBranch.τ Cert.GradWBranch.sig) → Buf (Elt Bits) ℓ) : Prop :=
  True

def Pre_GradWBranchIdeal (m : (ℓ : Loc Cert.GradWBranchIdeal.nD Cert.GradWBranchIdeal.τ Cert.GradWBranchIdeal.sig) → Buf (Elt Ideal) ℓ) : Prop :=
  True

def Pre_RefGradWBranchIdeal (m : (ℓ : Loc Cert.RefGradWBranchIdeal.nD Cert.RefGradWBranchIdeal.τ Cert.RefGradWBranchIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_RefGluGateIdeal (m : (ℓ : Loc Cert.RefGluGateIdeal.nD Cert.RefGluGateIdeal.τ Cert.RefGluGateIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_RefBranchMergeIdeal (m : (ℓ : Loc Cert.RefBranchMergeIdeal.nD Cert.RefBranchMergeIdeal.τ Cert.RefBranchMergeIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_RefMergeBwdIdeal (m : (ℓ : Loc Cert.RefMergeBwdIdeal.nD Cert.RefMergeBwdIdeal.τ Cert.RefMergeBwdIdeal.sig) → Buf (Elt Ideal) ℓ) : Prop :=
  True

def Pre_GluGateBwd (m : (ℓ : Loc Cert.GluGateBwd.nD Cert.GluGateBwd.τ Cert.GluGateBwd.sig) → Buf (Elt Bits) ℓ) : Prop :=
  True

def Pre_GluGateBwdIdeal (m : (ℓ : Loc Cert.GluGateBwdIdeal.nD Cert.GluGateBwdIdeal.τ Cert.GluGateBwdIdeal.sig) → Buf (Elt Ideal) ℓ) : Prop :=
  True

def Pre_GluGateBwdIdeal_finite_gate [hPre_finite_gate : Cert.Pre_finite_gate.Facts] (m : (ℓ : Loc Cert.GluGateBwdIdeal.nD Cert.GluGateBwdIdeal.τ Cert.GluGateBwdIdeal.sig) → Buf (Elt Ideal) ℓ) : Prop :=
  ∀ c : Dev Cert.GluGateBwdIdeal.nD,
    (Cert.Pre_finite_gate.fn (F := Ideal) (m ((c.tc : Thread Cert.GluGateBwdIdeal.nD Cert.GluGateBwdIdeal.τ).loc Cert.GluGateBwdIdeal.main_arg0)) (m ((c.tc : Thread Cert.GluGateBwdIdeal.nD Cert.GluGateBwdIdeal.τ).loc Cert.GluGateBwdIdeal.main_arg1)) (m ((c.tc : Thread Cert.GluGateBwdIdeal.nD Cert.GluGateBwdIdeal.τ).loc Cert.GluGateBwdIdeal.main_arg2)) (m ((c.tc : Thread Cert.GluGateBwdIdeal.nD Cert.GluGateBwdIdeal.τ).loc Cert.GluGateBwdIdeal.main_arg3)) (m ((c.tc : Thread Cert.GluGateBwdIdeal.nD Cert.GluGateBwdIdeal.τ).loc Cert.GluGateBwdIdeal.main_arg4))).1 = (fun _ => 1#1)
    ∧ (Cert.Pre_finite_gate.fn (F := Ideal) (m ((c.tc : Thread Cert.GluGateBwdIdeal.nD Cert.GluGateBwdIdeal.τ).loc Cert.GluGateBwdIdeal.main_arg0)) (m ((c.tc : Thread Cert.GluGateBwdIdeal.nD Cert.GluGateBwdIdeal.τ).loc Cert.GluGateBwdIdeal.main_arg1)) (m ((c.tc : Thread Cert.GluGateBwdIdeal.nD Cert.GluGateBwdIdeal.τ).loc Cert.GluGateBwdIdeal.main_arg2)) (m ((c.tc : Thread Cert.GluGateBwdIdeal.nD Cert.GluGateBwdIdeal.τ).loc Cert.GluGateBwdIdeal.main_arg3)) (m ((c.tc : Thread Cert.GluGateBwdIdeal.nD Cert.GluGateBwdIdeal.τ).loc Cert.GluGateBwdIdeal.main_arg4))).2.1 = (fun _ => 1#1)
    ∧ (Cert.Pre_finite_gate.fn (F := Ideal) (m ((c.tc : Thread Cert.GluGateBwdIdeal.nD Cert.GluGateBwdIdeal.τ).loc Cert.GluGateBwdIdeal.main_arg0)) (m ((c.tc : Thread Cert.GluGateBwdIdeal.nD Cert.GluGateBwdIdeal.τ).loc Cert.GluGateBwdIdeal.main_arg1)) (m ((c.tc : Thread Cert.GluGateBwdIdeal.nD Cert.GluGateBwdIdeal.τ).loc Cert.GluGateBwdIdeal.main_arg2)) (m ((c.tc : Thread Cert.GluGateBwdIdeal.nD Cert.GluGateBwdIdeal.τ).loc Cert.GluGateBwdIdeal.main_arg3)) (m ((c.tc : Thread Cert.GluGateBwdIdeal.nD Cert.GluGateBwdIdeal.τ).loc Cert.GluGateBwdIdeal.main_arg4))).2.2 = (fun _ => 1#1)

def Pre_RefGluGateBwdIdeal (m : (ℓ : Loc Cert.RefGluGateBwdIdeal.nD Cert.RefGluGateBwdIdeal.τ Cert.RefGluGateBwdIdeal.sig) → Buf (Elt Ideal) ℓ) : Prop :=
  True

def Pre_RefGluGateBwdIdeal_finite_gate [hPre_finite_gate : Cert.Pre_finite_gate.Facts] (m : (ℓ : Loc Cert.RefGluGateBwdIdeal.nD Cert.RefGluGateBwdIdeal.τ Cert.RefGluGateBwdIdeal.sig) → Buf (Elt Ideal) ℓ) : Prop :=
  ∀ c : Dev Cert.RefGluGateBwdIdeal.nD,
    (Cert.Pre_finite_gate.fn (F := Ideal) (m ((c.tc : Thread Cert.RefGluGateBwdIdeal.nD Cert.RefGluGateBwdIdeal.τ).loc Cert.RefGluGateBwdIdeal.main_arg0)) (m ((c.tc : Thread Cert.RefGluGateBwdIdeal.nD Cert.RefGluGateBwdIdeal.τ).loc Cert.RefGluGateBwdIdeal.main_arg1)) (m ((c.tc : Thread Cert.RefGluGateBwdIdeal.nD Cert.RefGluGateBwdIdeal.τ).loc Cert.RefGluGateBwdIdeal.main_arg2)) (m ((c.tc : Thread Cert.RefGluGateBwdIdeal.nD Cert.RefGluGateBwdIdeal.τ).loc Cert.RefGluGateBwdIdeal.main_arg3)) (m ((c.tc : Thread Cert.RefGluGateBwdIdeal.nD Cert.RefGluGateBwdIdeal.τ).loc Cert.RefGluGateBwdIdeal.main_arg4))).1 = (fun _ => 1#1)
    ∧ (Cert.Pre_finite_gate.fn (F := Ideal) (m ((c.tc : Thread Cert.RefGluGateBwdIdeal.nD Cert.RefGluGateBwdIdeal.τ).loc Cert.RefGluGateBwdIdeal.main_arg0)) (m ((c.tc : Thread Cert.RefGluGateBwdIdeal.nD Cert.RefGluGateBwdIdeal.τ).loc Cert.RefGluGateBwdIdeal.main_arg1)) (m ((c.tc : Thread Cert.RefGluGateBwdIdeal.nD Cert.RefGluGateBwdIdeal.τ).loc Cert.RefGluGateBwdIdeal.main_arg2)) (m ((c.tc : Thread Cert.RefGluGateBwdIdeal.nD Cert.RefGluGateBwdIdeal.τ).loc Cert.RefGluGateBwdIdeal.main_arg3)) (m ((c.tc : Thread Cert.RefGluGateBwdIdeal.nD Cert.RefGluGateBwdIdeal.τ).loc Cert.RefGluGateBwdIdeal.main_arg4))).2.1 = (fun _ => 1#1)
    ∧ (Cert.Pre_finite_gate.fn (F := Ideal) (m ((c.tc : Thread Cert.RefGluGateBwdIdeal.nD Cert.RefGluGateBwdIdeal.τ).loc Cert.RefGluGateBwdIdeal.main_arg0)) (m ((c.tc : Thread Cert.RefGluGateBwdIdeal.nD Cert.RefGluGateBwdIdeal.τ).loc Cert.RefGluGateBwdIdeal.main_arg1)) (m ((c.tc : Thread Cert.RefGluGateBwdIdeal.nD Cert.RefGluGateBwdIdeal.τ).loc Cert.RefGluGateBwdIdeal.main_arg2)) (m ((c.tc : Thread Cert.RefGluGateBwdIdeal.nD Cert.RefGluGateBwdIdeal.τ).loc Cert.RefGluGateBwdIdeal.main_arg3)) (m ((c.tc : Thread Cert.RefGluGateBwdIdeal.nD Cert.RefGluGateBwdIdeal.τ).loc Cert.RefGluGateBwdIdeal.main_arg4))).2.2 = (fun _ => 1#1)

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_RefAdamWInIdeal (m : (ℓ : Loc Cert.RefAdamWInIdeal.nD Cert.RefAdamWInIdeal.τ Cert.RefAdamWInIdeal.sig) → Buf (Elt Ideal) ℓ) : Prop :=
  True

def Pre_AdamStack (m : (ℓ : Loc Cert.AdamStack.nD Cert.AdamStack.τ Cert.AdamStack.sig) → Buf (Elt Bits) ℓ) : Prop :=
  True

def Pre_AdamStackIdeal (m : (ℓ : Loc Cert.AdamStackIdeal.nD Cert.AdamStackIdeal.τ Cert.AdamStackIdeal.sig) → Buf (Elt Ideal) ℓ) : Prop :=
  True

def Pre_RefAdamStackIdeal (m : (ℓ : Loc Cert.RefAdamStackIdeal.nD Cert.RefAdamStackIdeal.τ Cert.RefAdamStackIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_RefAdamWOutIdeal (m : (ℓ : Loc Cert.RefAdamWOutIdeal.nD Cert.RefAdamWOutIdeal.τ Cert.RefAdamWOutIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_RefSumSmallIdeal (m : (ℓ : Loc Cert.RefSumSmallIdeal.nD Cert.RefSumSmallIdeal.τ Cert.RefSumSmallIdeal.sig) → Buf (Elt Ideal) ℓ) : Prop :=
  True

def Pre_AdamLambda (m : (ℓ : Loc Cert.AdamLambda.nD Cert.AdamLambda.τ Cert.AdamLambda.sig) → Buf (Elt Bits) ℓ) : Prop :=
  True

def Pre_AdamLambdaIdeal (m : (ℓ : Loc Cert.AdamLambdaIdeal.nD Cert.AdamLambdaIdeal.τ Cert.AdamLambdaIdeal.sig) → Buf (Elt Ideal) ℓ) : Prop :=
  True

def Pre_RefAdamLambdaIdeal (m : (ℓ : Loc Cert.RefAdamLambdaIdeal.nD Cert.RefAdamLambdaIdeal.τ Cert.RefAdamLambdaIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_RefAdamBIdeal (m : (ℓ : Loc Cert.RefAdamBIdeal.nD Cert.RefAdamBIdeal.τ Cert.RefAdamBIdeal.sig) → Buf (Elt Ideal) ℓ) : Prop :=
  True

def Pre_AdamC (m : (ℓ : Loc Cert.AdamC.nD Cert.AdamC.τ Cert.AdamC.sig) → Buf (Elt Bits) ℓ) : Prop :=
  True

def Pre_AdamCIdeal (m : (ℓ : Loc Cert.AdamCIdeal.nD Cert.AdamCIdeal.τ Cert.AdamCIdeal.sig) → Buf (Elt Ideal) ℓ) : Prop :=
  True

def Pre_RefAdamCIdeal (m : (ℓ : Loc Cert.RefAdamCIdeal.nD Cert.RefAdamCIdeal.τ Cert.RefAdamCIdeal.sig) → Buf (Elt Ideal) ℓ) : Prop :=
  True

def Pre_AdamD (m : (ℓ : Loc Cert.AdamD.nD Cert.AdamD.τ Cert.AdamD.sig) → Buf (Elt Bits) ℓ) : Prop :=
  True

def Pre_AdamDIdeal (m : (ℓ : Loc Cert.AdamDIdeal.nD Cert.AdamDIdeal.τ Cert.AdamDIdeal.sig) → Buf (Elt Ideal) ℓ) : Prop :=
  True

def Pre_RefAdamDIdeal (m : (ℓ : Loc Cert.RefAdamDIdeal.nD Cert.RefAdamDIdeal.τ Cert.RefAdamDIdeal.sig) → Buf (Elt Ideal) ℓ) : Prop :=
  True

def Pre_AdamLogStep (m : (ℓ : Loc Cert.AdamLogStep.nD Cert.AdamLogStep.τ Cert.AdamLogStep.sig) → Buf (Elt Bits) ℓ) : Prop :=
  True

def Pre_AdamLogStepIdeal (m : (ℓ : Loc Cert.AdamLogStepIdeal.nD Cert.AdamLogStepIdeal.τ Cert.AdamLogStepIdeal.sig) → Buf (Elt Ideal) ℓ) : Prop :=
  True

def Pre_RefAdamLogStepIdeal (m : (ℓ : Loc Cert.RefAdamLogStepIdeal.nD Cert.RefAdamLogStepIdeal.τ Cert.RefAdamLogStepIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_RefAdamSinksIdeal (m : (ℓ : Loc Cert.RefAdamSinksIdeal.nD Cert.RefAdamSinksIdeal.τ Cert.RefAdamSinksIdeal.sig) → Buf (Elt Ideal) ℓ) : Prop :=
  True

def Pre_AdamTable (m : (ℓ : Loc Cert.AdamTable.nD Cert.AdamTable.τ Cert.AdamTable.sig) → Buf (Elt Bits) ℓ) : Prop :=
  True

def Pre_AdamTableIdeal (m : (ℓ : Loc Cert.AdamTableIdeal.nD Cert.AdamTableIdeal.τ Cert.AdamTableIdeal.sig) → Buf (Elt Ideal) ℓ) : Prop :=
  True

def Pre_RefAdamTableIdeal (m : (ℓ : Loc Cert.RefAdamTableIdeal.nD Cert.RefAdamTableIdeal.τ Cert.RefAdamTableIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_RefAdamNormIdeal (m : (ℓ : Loc Cert.RefAdamNormIdeal.nD Cert.RefAdamNormIdeal.τ Cert.RefAdamNormIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_RefGradWIdeal [hRefGradWIdeal : Cert.RefGradWIdeal.Facts] : Prop :=
  ∀ (m : (ℓ : Loc Cert.RefGradWIdeal.nD Cert.RefGradWIdeal.τ Cert.RefGradWIdeal.sig) → Buf (Elt Ideal) ℓ) (g : Dev Cert.RefGradWIdeal.nD → PrngReg), Pre_RefGradWIdeal m →
    θ_run (Cert.RefGradWIdeal.defs (F := Ideal)) (onTc (τ := Cert.RefGradWIdeal.τ) (Cert.RefGradWIdeal.main (F := Ideal))) ⟨m, fun _ => 0, g⟩ (fun r => (∀ c : Dev Cert.RefGradWIdeal.nD,
      r.2.mem ((c.tc : Thread Cert.RefGradWIdeal.nD Cert.RefGradWIdeal.τ).loc Cert.RefGradWIdeal.main_arg0) = m ((c.tc : Thread Cert.RefGradWIdeal.nD Cert.RefGradWIdeal.τ).loc Cert.RefGradWIdeal.main_arg0)
      ∧ r.2.mem ((c.tc : Thread Cert.RefGradWIdeal.nD Cert.RefGradWIdeal.τ).loc Cert.RefGradWIdeal.main_arg1) = m ((c.tc : Thread Cert.RefGradWIdeal.nD Cert.RefGradWIdeal.τ).loc Cert.RefGradWIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_RefGradXIdeal [hRefGradXIdeal : Cert.RefGradXIdeal.Facts] : Prop :=
  ∀ (m : (ℓ : Loc Cert.RefGradXIdeal.nD Cert.RefGradXIdeal.τ Cert.RefGradXIdeal.sig) → Buf (Elt Ideal) ℓ) (g : Dev Cert.RefGradXIdeal.nD → PrngReg), Pre_RefGradXIdeal m →
    θ_run (Cert.RefGradXIdeal.defs (F := Ideal)) (onTc (τ := Cert.RefGradXIdeal.τ) (Cert.RefGradXIdeal.main (F := Ideal))) ⟨m, fun _ => 0, g⟩ (fun r => (∀ c : Dev Cert.RefGradXIdeal.nD,
      r.2.mem ((c.tc : Thread Cert.RefGradXIdeal.nD Cert.RefGradXIdeal.τ).loc Cert.RefGradXIdeal.main_arg0) = m ((c.tc : Thread Cert.RefGradXIdeal.nD Cert.RefGradXIdeal.τ).loc Cert.RefGradXIdeal.main_arg0)
      ∧ r.2.mem ((c.tc : Thread Cert.RefGradXIdeal.nD Cert.RefGradXIdeal.τ).loc Cert.RefGradXIdeal.main_arg1) = m ((c.tc : Thread Cert.RefGradXIdeal.nD Cert.RefGradXIdeal.τ).loc Cert.RefGradXIdeal.main_arg1)
      ∧ r.2.mem ((c.tc : Thread Cert.RefGradXIdeal.nD Cert.RefGradXIdeal.τ).loc Cert.RefGradXIdeal.main_arg2) = m ((c.tc : Thread Cert.RefGradXIdeal.nD Cert.RefGradXIdeal.τ).loc Cert.RefGradXIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_RefGradWOutIdeal [hRefGradWOutIdeal : Cert.RefGradWOutIdeal.Facts] : Prop :=
  ∀ (m : (ℓ : Loc Cert.RefGradWOutIdeal.nD Cert.RefGradWOutIdeal.τ Cert.RefGradWOutIdeal.sig) → Buf (Elt Ideal) ℓ) (g : Dev Cert.RefGradWOutIdeal.nD → PrngReg), Pre_RefGradWOutIdeal m →
    θ_run (Cert.RefGradWOutIdeal.defs (F := Ideal)) (onTc (τ := Cert.RefGradWOutIdeal.τ) (Cert.RefGradWOutIdeal.main (F := Ideal))) ⟨m, fun _ => 0, g⟩ (fun r => (∀ c : Dev Cert.RefGradWOutIdeal.nD,
      r.2.mem ((c.tc : Thread Cert.RefGradWOutIdeal.nD Cert.RefGradWOutIdeal.τ).loc Cert.RefGradWOutIdeal.main_arg0) = m ((c.tc : Thread Cert.RefGradWOutIdeal.nD Cert.RefGradWOutIdeal.τ).loc Cert.RefGradWOutIdeal.main_arg0)
      ∧ r.2.mem ((c.tc : Thread Cert.RefGradWOutIdeal.nD Cert.RefGradWOutIdeal.τ).loc Cert.RefGradWOutIdeal.main_arg1) = m ((c.tc : Thread Cert.RefGradWOutIdeal.nD Cert.RefGradWOutIdeal.τ).loc Cert.RefGradWOutIdeal.main_arg1))
      ∧ r.2.sem = fun _ => 0)

def quiescent_DHAttn [hDHAttn : Cert.DHAttn.Facts] : Prop :=
  ∀ (m : (ℓ : Loc Cert.DHAttn.nD Cert.DHAttn.τ Cert.DHAttn.sig) → Buf (Elt Bits) ℓ) (g : Dev Cert.DHAttn.nD → PrngReg), Pre_DHAttn m →
    θ_run (Cert.DHAttn.defs (F := Bits)) (onTc (τ := Cert.DHAttn.τ) (Cert.DHAttn.main (F := Bits))) ⟨m, fun _ => 0, g⟩ (fun r => (∀ c : Dev Cert.DHAttn.nD,
      r.2.mem ((c.tc : Thread Cert.DHAttn.nD Cert.DHAttn.τ).loc Cert.DHAttn.main_arg0) = m ((c.tc : Thread Cert.DHAttn.nD Cert.DHAttn.τ).loc Cert.DHAttn.main_arg0)
      ∧ r.2.mem ((c.tc : Thread Cert.DHAttn.nD Cert.DHAttn.τ).loc Cert.DHAttn.main_arg1) = m ((c.tc : Thread Cert.DHAttn.nD Cert.DHAttn.τ).loc Cert.DHAttn.main_arg1))
      ∧ r.2.sem = fun _ => 0)

def quiescent_DHAttnIdeal [hDHAttnIdeal : Cert.DHAttnIdeal.Facts] : Prop :=
  ∀ (m : (ℓ : Loc Cert.DHAttnIdeal.nD Cert.DHAttnIdeal.τ Cert.DHAttnIdeal.sig) → Buf (Elt Ideal) ℓ) (g : Dev Cert.DHAttnIdeal.nD → PrngReg), Pre_DHAttnIdeal m →
    θ_run (Cert.DHAttnIdeal.defs (F := Ideal)) (onTc (τ := Cert.DHAttnIdeal.τ) (Cert.DHAttnIdeal.main (F := Ideal))) ⟨m, fun _ => 0, g⟩ (fun r => (∀ c : Dev Cert.DHAttnIdeal.nD,
      r.2.mem ((c.tc : Thread Cert.DHAttnIdeal.nD Cert.DHAttnIdeal.τ).loc Cert.DHAttnIdeal.main_arg0) = m ((c.tc : Thread Cert.DHAttnIdeal.nD Cert.DHAttnIdeal.τ).loc Cert.DHAttnIdeal.main_arg0)
      ∧ r.2.mem ((c.tc : Thread Cert.DHAttnIdeal.nD Cert.DHAttnIdeal.τ).loc Cert.DHAttnIdeal.main_arg1) = m ((c.tc : Thread Cert.DHAttnIdeal.nD Cert.DHAttnIdeal.τ).loc Cert.DHAttnIdeal.main_arg1))
      ∧ r.2.sem = fun _ => 0)

def quiescent_RefDHAttnIdeal [hRefDHAttnIdeal : Cert.RefDHAttnIdeal.Facts] : Prop :=
  ∀ (m : (ℓ : Loc Cert.RefDHAttnIdeal.nD Cert.RefDHAttnIdeal.τ Cert.RefDHAttnIdeal.sig) → Buf (Elt Ideal) ℓ) (g : Dev Cert.RefDHAttnIdeal.nD → PrngReg), Pre_RefDHAttnIdeal m →
    θ_run (Cert.RefDHAttnIdeal.defs (F := Ideal)) (onTc (τ := Cert.RefDHAttnIdeal.τ) (Cert.RefDHAttnIdeal.main (F := Ideal))) ⟨m, fun _ => 0, g⟩ (fun r => (∀ c : Dev Cert.RefDHAttnIdeal.nD,
      r.2.mem ((c.tc : Thread Cert.RefDHAttnIdeal.nD Cert.RefDHAttnIdeal.τ).loc Cert.RefDHAttnIdeal.main_arg0) = m ((c.tc : Thread Cert.RefDHAttnIdeal.nD Cert.RefDHAttnIdeal.τ).loc Cert.RefDHAttnIdeal.main_arg0)
      ∧ r.2.mem ((c.tc : Thread Cert.RefDHAttnIdeal.nD Cert.RefDHAttnIdeal.τ).loc Cert.RefDHAttnIdeal.main_arg1) = m ((c.tc : Thread Cert.RefDHAttnIdeal.nD Cert.RefDHAttnIdeal.τ).loc Cert.RefDHAttnIdeal.main_arg1))
      ∧ r.2.sem = fun _ => 0)

def quiescent_GradWBranch [hGradWBranch : Cert.GradWBranch.Facts] : Prop :=
  ∀ (m : (ℓ : Loc Cert.GradWBranch.nD Cert.GradWBranch.τ Cert.GradWBranch.sig) → Buf (Elt Bits) ℓ) (g : Dev Cert.GradWBranch.nD → PrngReg), Pre_GradWBranch m →
    θ_run (Cert.GradWBranch.defs (F := Bits)) (onTc (τ := Cert.GradWBranch.τ) (Cert.GradWBranch.main (F := Bits))) ⟨m, fun _ => 0, g⟩ (fun r => (∀ c : Dev Cert.GradWBranch.nD,
      r.2.mem ((c.tc : Thread Cert.GradWBranch.nD Cert.GradWBranch.τ).loc Cert.GradWBranch.main_arg0) = m ((c.tc : Thread Cert.GradWBranch.nD Cert.GradWBranch.τ).loc Cert.GradWBranch.main_arg0)
      ∧ r.2.mem ((c.tc : Thread Cert.GradWBranch.nD Cert.GradWBranch.τ).loc Cert.GradWBranch.main_arg1) = m ((c.tc : Thread Cert.GradWBranch.nD Cert.GradWBranch.τ).loc Cert.GradWBranch.main_arg1))
      ∧ r.2.sem = fun _ => 0)

def quiescent_GradWBranchIdeal [hGradWBranchIdeal : Cert.GradWBranchIdeal.Facts] : Prop :=
  ∀ (m : (ℓ : Loc Cert.GradWBranchIdeal.nD Cert.GradWBranchIdeal.τ Cert.GradWBranchIdeal.sig) → Buf (Elt Ideal) ℓ) (g : Dev Cert.GradWBranchIdeal.nD → PrngReg), Pre_GradWBranchIdeal m →
    θ_run (Cert.GradWBranchIdeal.defs (F := Ideal)) (onTc (τ := Cert.GradWBranchIdeal.τ) (Cert.GradWBranchIdeal.main (F := Ideal))) ⟨m, fun _ => 0, g⟩ (fun r => (∀ c : Dev Cert.GradWBranchIdeal.nD,
      r.2.mem ((c.tc : Thread Cert.GradWBranchIdeal.nD Cert.GradWBranchIdeal.τ).loc Cert.GradWBranchIdeal.main_arg0) = m ((c.tc : Thread Cert.GradWBranchIdeal.nD Cert.GradWBranchIdeal.τ).loc Cert.GradWBranchIdeal.main_arg0)
      ∧ r.2.mem ((c.tc : Thread Cert.GradWBranchIdeal.nD Cert.GradWBranchIdeal.τ).loc Cert.GradWBranchIdeal.main_arg1) = m ((c.tc : Thread Cert.GradWBranchIdeal.nD Cert.GradWBranchIdeal.τ).loc Cert.GradWBranchIdeal.main_arg1))
      ∧ r.2.sem = fun _ => 0)

def quiescent_RefGradWBranchIdeal [hRefGradWBranchIdeal : Cert.RefGradWBranchIdeal.Facts] : Prop :=
  ∀ (m : (ℓ : Loc Cert.RefGradWBranchIdeal.nD Cert.RefGradWBranchIdeal.τ Cert.RefGradWBranchIdeal.sig) → Buf (Elt Ideal) ℓ) (g : Dev Cert.RefGradWBranchIdeal.nD → PrngReg), Pre_RefGradWBranchIdeal m →
    θ_run (Cert.RefGradWBranchIdeal.defs (F := Ideal)) (onTc (τ := Cert.RefGradWBranchIdeal.τ) (Cert.RefGradWBranchIdeal.main (F := Ideal))) ⟨m, fun _ => 0, g⟩ (fun r => (∀ c : Dev Cert.RefGradWBranchIdeal.nD,
      r.2.mem ((c.tc : Thread Cert.RefGradWBranchIdeal.nD Cert.RefGradWBranchIdeal.τ).loc Cert.RefGradWBranchIdeal.main_arg0) = m ((c.tc : Thread Cert.RefGradWBranchIdeal.nD Cert.RefGradWBranchIdeal.τ).loc Cert.RefGradWBranchIdeal.main_arg0)
      ∧ r.2.mem ((c.tc : Thread Cert.RefGradWBranchIdeal.nD Cert.RefGradWBranchIdeal.τ).loc Cert.RefGradWBranchIdeal.main_arg1) = m ((c.tc : Thread Cert.RefGradWBranchIdeal.nD Cert.RefGradWBranchIdeal.τ).loc Cert.RefGradWBranchIdeal.main_arg1))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2))
      ∧ r.2.sem = fun _ => 0)

def quiescent_RefGluGateIdeal [hRefGluGateIdeal : Cert.RefGluGateIdeal.Facts] : Prop :=
  ∀ (m : (ℓ : Loc Cert.RefGluGateIdeal.nD Cert.RefGluGateIdeal.τ Cert.RefGluGateIdeal.sig) → Buf (Elt Ideal) ℓ) (g : Dev Cert.RefGluGateIdeal.nD → PrngReg), Pre_RefGluGateIdeal m →
    θ_run (Cert.RefGluGateIdeal.defs (F := Ideal)) (onTc (τ := Cert.RefGluGateIdeal.τ) (Cert.RefGluGateIdeal.main (F := Ideal))) ⟨m, fun _ => 0, g⟩ (fun r => (∀ c : Dev Cert.RefGluGateIdeal.nD,
      r.2.mem ((c.tc : Thread Cert.RefGluGateIdeal.nD Cert.RefGluGateIdeal.τ).loc Cert.RefGluGateIdeal.main_arg0) = m ((c.tc : Thread Cert.RefGluGateIdeal.nD Cert.RefGluGateIdeal.τ).loc Cert.RefGluGateIdeal.main_arg0)
      ∧ r.2.mem ((c.tc : Thread Cert.RefGluGateIdeal.nD Cert.RefGluGateIdeal.τ).loc Cert.RefGluGateIdeal.main_arg1) = m ((c.tc : Thread Cert.RefGluGateIdeal.nD Cert.RefGluGateIdeal.τ).loc Cert.RefGluGateIdeal.main_arg1)
      ∧ r.2.mem ((c.tc : Thread Cert.RefGluGateIdeal.nD Cert.RefGluGateIdeal.τ).loc Cert.RefGluGateIdeal.main_arg2) = m ((c.tc : Thread Cert.RefGluGateIdeal.nD Cert.RefGluGateIdeal.τ).loc Cert.RefGluGateIdeal.main_arg2))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ r.2.sem = fun _ => 0)

def quiescent_RefBranchMergeIdeal [hRefBranchMergeIdeal : Cert.RefBranchMergeIdeal.Facts] : Prop :=
  ∀ (m : (ℓ : Loc Cert.RefBranchMergeIdeal.nD Cert.RefBranchMergeIdeal.τ Cert.RefBranchMergeIdeal.sig) → Buf (Elt Ideal) ℓ) (g : Dev Cert.RefBranchMergeIdeal.nD → PrngReg), Pre_RefBranchMergeIdeal m →
    θ_run (Cert.RefBranchMergeIdeal.defs (F := Ideal)) (onTc (τ := Cert.RefBranchMergeIdeal.τ) (Cert.RefBranchMergeIdeal.main (F := Ideal))) ⟨m, fun _ => 0, g⟩ (fun r => (∀ c : Dev Cert.RefBranchMergeIdeal.nD,
      r.2.mem ((c.tc : Thread Cert.RefBranchMergeIdeal.nD Cert.RefBranchMergeIdeal.τ).loc Cert.RefBranchMergeIdeal.main_arg0) = m ((c.tc : Thread Cert.RefBranchMergeIdeal.nD Cert.RefBranchMergeIdeal.τ).loc Cert.RefBranchMergeIdeal.main_arg0)
      ∧ r.2.mem ((c.tc : Thread Cert.RefBranchMergeIdeal.nD Cert.RefBranchMergeIdeal.τ).loc Cert.RefBranchMergeIdeal.main_arg1) = m ((c.tc : Thread Cert.RefBranchMergeIdeal.nD Cert.RefBranchMergeIdeal.τ).loc Cert.RefBranchMergeIdeal.main_arg1)
      ∧ r.2.mem ((c.tc : Thread Cert.RefBranchMergeIdeal.nD Cert.RefBranchMergeIdeal.τ).loc Cert.RefBranchMergeIdeal.main_arg2) = m ((c.tc : Thread Cert.RefBranchMergeIdeal.nD Cert.RefBranchMergeIdeal.τ).loc Cert.RefBranchMergeIdeal.main_arg2)
      ∧ r.2.mem ((c.tc : Thread Cert.RefBranchMergeIdeal.nD Cert.RefBranchMergeIdeal.τ).loc Cert.RefBranchMergeIdeal.main_arg3) = m ((c.tc : Thread Cert.RefBranchMergeIdeal.nD Cert.RefBranchMergeIdeal.τ).loc Cert.RefBranchMergeIdeal.main_arg3)
      ∧ r.2.mem ((c.tc : Thread Cert.RefBranchMergeIdeal.nD Cert.RefBranchMergeIdeal.τ).loc Cert.RefBranchMergeIdeal.main_arg4) = m ((c.tc : Thread Cert.RefBranchMergeIdeal.nD Cert.RefBranchMergeIdeal.τ).loc Cert.RefBranchMergeIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_RefMergeBwdIdeal [hRefMergeBwdIdeal : Cert.RefMergeBwdIdeal.Facts] : Prop :=
  ∀ (m : (ℓ : Loc Cert.RefMergeBwdIdeal.nD Cert.RefMergeBwdIdeal.τ Cert.RefMergeBwdIdeal.sig) → Buf (Elt Ideal) ℓ) (g : Dev Cert.RefMergeBwdIdeal.nD → PrngReg), Pre_RefMergeBwdIdeal m →
    θ_run (Cert.RefMergeBwdIdeal.defs (F := Ideal)) (onTc (τ := Cert.RefMergeBwdIdeal.τ) (Cert.RefMergeBwdIdeal.main (F := Ideal))) ⟨m, fun _ => 0, g⟩ (fun r => (∀ c : Dev Cert.RefMergeBwdIdeal.nD,
      r.2.mem ((c.tc : Thread Cert.RefMergeBwdIdeal.nD Cert.RefMergeBwdIdeal.τ).loc Cert.RefMergeBwdIdeal.main_arg0) = m ((c.tc : Thread Cert.RefMergeBwdIdeal.nD Cert.RefMergeBwdIdeal.τ).loc Cert.RefMergeBwdIdeal.main_arg0)
      ∧ r.2.mem ((c.tc : Thread Cert.RefMergeBwdIdeal.nD Cert.RefMergeBwdIdeal.τ).loc Cert.RefMergeBwdIdeal.main_arg1) = m ((c.tc : Thread Cert.RefMergeBwdIdeal.nD Cert.RefMergeBwdIdeal.τ).loc Cert.RefMergeBwdIdeal.main_arg1)
      ∧ r.2.mem ((c.tc : Thread Cert.RefMergeBwdIdeal.nD Cert.RefMergeBwdIdeal.τ).loc Cert.RefMergeBwdIdeal.main_arg2) = m ((c.tc : Thread Cert.RefMergeBwdIdeal.nD Cert.RefMergeBwdIdeal.τ).loc Cert.RefMergeBwdIdeal.main_arg2)
      ∧ r.2.mem ((c.tc : Thread Cert.RefMergeBwdIdeal.nD Cert.RefMergeBwdIdeal.τ).loc Cert.RefMergeBwdIdeal.main_arg3) = m ((c.tc : Thread Cert.RefMergeBwdIdeal.nD Cert.RefMergeBwdIdeal.τ).loc Cert.RefMergeBwdIdeal.main_arg3)
      ∧ r.2.mem ((c.tc : Thread Cert.RefMergeBwdIdeal.nD Cert.RefMergeBwdIdeal.τ).loc Cert.RefMergeBwdIdeal.main_arg4) = m ((c.tc : Thread Cert.RefMergeBwdIdeal.nD Cert.RefMergeBwdIdeal.τ).loc Cert.RefMergeBwdIdeal.main_arg4))
      ∧ r.2.sem = fun _ => 0)

def quiescent_GluGateBwd [hGluGateBwd : Cert.GluGateBwd.Facts] : Prop :=
  ∀ (m : (ℓ : Loc Cert.GluGateBwd.nD Cert.GluGateBwd.τ Cert.GluGateBwd.sig) → Buf (Elt Bits) ℓ) (g : Dev Cert.GluGateBwd.nD → PrngReg), Pre_GluGateBwd m →
    θ_run (Cert.GluGateBwd.defs (F := Bits)) (onTc (τ := Cert.GluGateBwd.τ) (Cert.GluGateBwd.main (F := Bits))) ⟨m, fun _ => 0, g⟩ (fun r => (∀ c : Dev Cert.GluGateBwd.nD,
      r.2.mem ((c.tc : Thread Cert.GluGateBwd.nD Cert.GluGateBwd.τ).loc Cert.GluGateBwd.main_arg0) = m ((c.tc : Thread Cert.GluGateBwd.nD Cert.GluGateBwd.τ).loc Cert.GluGateBwd.main_arg0)
      ∧ r.2.mem ((c.tc : Thread Cert.GluGateBwd.nD Cert.GluGateBwd.τ).loc Cert.GluGateBwd.main_arg1) = m ((c.tc : Thread Cert.GluGateBwd.nD Cert.GluGateBwd.τ).loc Cert.GluGateBwd.main_arg1)
      ∧ r.2.mem ((c.tc : Thread Cert.GluGateBwd.nD Cert.GluGateBwd.τ).loc Cert.GluGateBwd.main_arg2) = m ((c.tc : Thread Cert.GluGateBwd.nD Cert.GluGateBwd.τ).loc Cert.GluGateBwd.main_arg2)
      ∧ r.2.mem ((c.tc : Thread Cert.GluGateBwd.nD Cert.GluGateBwd.τ).loc Cert.GluGateBwd.main_arg3) = m ((c.tc : Thread Cert.GluGateBwd.nD Cert.GluGateBwd.τ).loc Cert.GluGateBwd.main_arg3)
      ∧ r.2.mem ((c.tc : Thread Cert.GluGateBwd.nD Cert.GluGateBwd.τ).loc Cert.GluGateBwd.main_arg4) = m ((c.tc : Thread Cert.GluGateBwd.nD Cert.GluGateBwd.τ).loc Cert.GluGateBwd.main_arg4))
      ∧ r.2.sem = fun _ => 0)

def quiescent_GluGateBwdIdeal [hGluGateBwdIdeal : Cert.GluGateBwdIdeal.Facts] : Prop :=
  ∀ (m : (ℓ : Loc Cert.GluGateBwdIdeal.nD Cert.GluGateBwdIdeal.τ Cert.GluGateBwdIdeal.sig) → Buf (Elt Ideal) ℓ) (g : Dev Cert.GluGateBwdIdeal.nD → PrngReg), Pre_GluGateBwdIdeal m →
    θ_run (Cert.GluGateBwdIdeal.defs (F := Ideal)) (onTc (τ := Cert.GluGateBwdIdeal.τ) (Cert.GluGateBwdIdeal.main (F := Ideal))) ⟨m, fun _ => 0, g⟩ (fun r => (∀ c : Dev Cert.GluGateBwdIdeal.nD,
      r.2.mem ((c.tc : Thread Cert.GluGateBwdIdeal.nD Cert.GluGateBwdIdeal.τ).loc Cert.GluGateBwdIdeal.main_arg0) = m ((c.tc : Thread Cert.GluGateBwdIdeal.nD Cert.GluGateBwdIdeal.τ).loc Cert.GluGateBwdIdeal.main_arg0)
      ∧ r.2.mem ((c.tc : Thread Cert.GluGateBwdIdeal.nD Cert.GluGateBwdIdeal.τ).loc Cert.GluGateBwdIdeal.main_arg1) = m ((c.tc : Thread Cert.GluGateBwdIdeal.nD Cert.GluGateBwdIdeal.τ).loc Cert.GluGateBwdIdeal.main_arg1)
      ∧ r.2.mem ((c.tc : Thread Cert.GluGateBwdIdeal.nD Cert.GluGateBwdIdeal.τ).loc Cert.GluGateBwdIdeal.main_arg2) = m ((c.tc : Thread Cert.GluGateBwdIdeal.nD Cert.GluGateBwdIdeal.τ).loc Cert.GluGateBwdIdeal.main_arg2)
      ∧ r.2.mem ((c.tc : Thread Cert.GluGateBwdIdeal.nD Cert.GluGateBwdIdeal.τ).loc Cert.GluGateBwdIdeal.main_arg3) = m ((c.tc : Thread Cert.GluGateBwdIdeal.nD Cert.GluGateBwdIdeal.τ).loc Cert.GluGateBwdIdeal.main_arg3)
      ∧ r.2.mem ((c.tc : Thread Cert.GluGateBwdIdeal.nD Cert.GluGateBwdIdeal.τ).loc Cert.GluGateBwdIdeal.main_arg4) = m ((c.tc : Thread Cert.GluGateBwdIdeal.nD Cert.GluGateBwdIdeal.τ).loc Cert.GluGateBwdIdeal.main_arg4))
      ∧ r.2.sem = fun _ => 0)

def quiescent_GluGateBwdIdeal_pre_finite_gate [hGluGateBwdIdeal : Cert.GluGateBwdIdeal.Facts] [hPre_finite_gate : Cert.Pre_finite_gate.Facts] : Prop :=
  ∀ (m : (ℓ : Loc Cert.GluGateBwdIdeal.nD Cert.GluGateBwdIdeal.τ Cert.GluGateBwdIdeal.sig) → Buf (Elt Ideal) ℓ) (g : Dev Cert.GluGateBwdIdeal.nD → PrngReg), Pre_GluGateBwdIdeal_finite_gate m →
    θ_run (Cert.GluGateBwdIdeal.defs (F := Ideal)) (onTc (τ := Cert.GluGateBwdIdeal.τ) (Cert.GluGateBwdIdeal.main (F := Ideal))) ⟨m, fun _ => 0, g⟩ (fun r => (∀ c : Dev Cert.GluGateBwdIdeal.nD,
      r.2.mem ((c.tc : Thread Cert.GluGateBwdIdeal.nD Cert.GluGateBwdIdeal.τ).loc Cert.GluGateBwdIdeal.main_arg0) = m ((c.tc : Thread Cert.GluGateBwdIdeal.nD Cert.GluGateBwdIdeal.τ).loc Cert.GluGateBwdIdeal.main_arg0)
      ∧ r.2.mem ((c.tc : Thread Cert.GluGateBwdIdeal.nD Cert.GluGateBwdIdeal.τ).loc Cert.GluGateBwdIdeal.main_arg1) = m ((c.tc : Thread Cert.GluGateBwdIdeal.nD Cert.GluGateBwdIdeal.τ).loc Cert.GluGateBwdIdeal.main_arg1)
      ∧ r.2.mem ((c.tc : Thread Cert.GluGateBwdIdeal.nD Cert.GluGateBwdIdeal.τ).loc Cert.GluGateBwdIdeal.main_arg2) = m ((c.tc : Thread Cert.GluGateBwdIdeal.nD Cert.GluGateBwdIdeal.τ).loc Cert.GluGateBwdIdeal.main_arg2)
      ∧ r.2.mem ((c.tc : Thread Cert.GluGateBwdIdeal.nD Cert.GluGateBwdIdeal.τ).loc Cert.GluGateBwdIdeal.main_arg3) = m ((c.tc : Thread Cert.GluGateBwdIdeal.nD Cert.GluGateBwdIdeal.τ).loc Cert.GluGateBwdIdeal.main_arg3)
      ∧ r.2.mem ((c.tc : Thread Cert.GluGateBwdIdeal.nD Cert.GluGateBwdIdeal.τ).loc Cert.GluGateBwdIdeal.main_arg4) = m ((c.tc : Thread Cert.GluGateBwdIdeal.nD Cert.GluGateBwdIdeal.τ).loc Cert.GluGateBwdIdeal.main_arg4))
      ∧ r.2.sem = fun _ => 0)

def quiescent_RefGluGateBwdIdeal [hRefGluGateBwdIdeal : Cert.RefGluGateBwdIdeal.Facts] : Prop :=
  ∀ (m : (ℓ : Loc Cert.RefGluGateBwdIdeal.nD Cert.RefGluGateBwdIdeal.τ Cert.RefGluGateBwdIdeal.sig) → Buf (Elt Ideal) ℓ) (g : Dev Cert.RefGluGateBwdIdeal.nD → PrngReg), Pre_RefGluGateBwdIdeal m →
    θ_run (Cert.RefGluGateBwdIdeal.defs (F := Ideal)) (onTc (τ := Cert.RefGluGateBwdIdeal.τ) (Cert.RefGluGateBwdIdeal.main (F := Ideal))) ⟨m, fun _ => 0, g⟩ (fun r => (∀ c : Dev Cert.RefGluGateBwdIdeal.nD,
      r.2.mem ((c.tc : Thread Cert.RefGluGateBwdIdeal.nD Cert.RefGluGateBwdIdeal.τ).loc Cert.RefGluGateBwdIdeal.main_arg0) = m ((c.tc : Thread Cert.RefGluGateBwdIdeal.nD Cert.RefGluGateBwdIdeal.τ).loc Cert.RefGluGateBwdIdeal.main_arg0)
      ∧ r.2.mem ((c.tc : Thread Cert.RefGluGateBwdIdeal.nD Cert.RefGluGateBwdIdeal.τ).loc Cert.RefGluGateBwdIdeal.main_arg1) = m ((c.tc : Thread Cert.RefGluGateBwdIdeal.nD Cert.RefGluGateBwdIdeal.τ).loc Cert.RefGluGateBwdIdeal.main_arg1)
      ∧ r.2.mem ((c.tc : Thread Cert.RefGluGateBwdIdeal.nD Cert.RefGluGateBwdIdeal.τ).loc Cert.RefGluGateBwdIdeal.main_arg2) = m ((c.tc : Thread Cert.RefGluGateBwdIdeal.nD Cert.RefGluGateBwdIdeal.τ).loc Cert.RefGluGateBwdIdeal.main_arg2)
      ∧ r.2.mem ((c.tc : Thread Cert.RefGluGateBwdIdeal.nD Cert.RefGluGateBwdIdeal.τ).loc Cert.RefGluGateBwdIdeal.main_arg3) = m ((c.tc : Thread Cert.RefGluGateBwdIdeal.nD Cert.RefGluGateBwdIdeal.τ).loc Cert.RefGluGateBwdIdeal.main_arg3)
      ∧ r.2.mem ((c.tc : Thread Cert.RefGluGateBwdIdeal.nD Cert.RefGluGateBwdIdeal.τ).loc Cert.RefGluGateBwdIdeal.main_arg4) = m ((c.tc : Thread Cert.RefGluGateBwdIdeal.nD Cert.RefGluGateBwdIdeal.τ).loc Cert.RefGluGateBwdIdeal.main_arg4))
      ∧ r.2.sem = fun _ => 0)

def quiescent_RefGluGateBwdIdeal_pre_finite_gate [hRefGluGateBwdIdeal : Cert.RefGluGateBwdIdeal.Facts] [hPre_finite_gate : Cert.Pre_finite_gate.Facts] : Prop :=
  ∀ (m : (ℓ : Loc Cert.RefGluGateBwdIdeal.nD Cert.RefGluGateBwdIdeal.τ Cert.RefGluGateBwdIdeal.sig) → Buf (Elt Ideal) ℓ) (g : Dev Cert.RefGluGateBwdIdeal.nD → PrngReg), Pre_RefGluGateBwdIdeal_finite_gate m →
    θ_run (Cert.RefGluGateBwdIdeal.defs (F := Ideal)) (onTc (τ := Cert.RefGluGateBwdIdeal.τ) (Cert.RefGluGateBwdIdeal.main (F := Ideal))) ⟨m, fun _ => 0, g⟩ (fun r => (∀ c : Dev Cert.RefGluGateBwdIdeal.nD,
      r.2.mem ((c.tc : Thread Cert.RefGluGateBwdIdeal.nD Cert.RefGluGateBwdIdeal.τ).loc Cert.RefGluGateBwdIdeal.main_arg0) = m ((c.tc : Thread Cert.RefGluGateBwdIdeal.nD Cert.RefGluGateBwdIdeal.τ).loc Cert.RefGluGateBwdIdeal.main_arg0)
      ∧ r.2.mem ((c.tc : Thread Cert.RefGluGateBwdIdeal.nD Cert.RefGluGateBwdIdeal.τ).loc Cert.RefGluGateBwdIdeal.main_arg1) = m ((c.tc : Thread Cert.RefGluGateBwdIdeal.nD Cert.RefGluGateBwdIdeal.τ).loc Cert.RefGluGateBwdIdeal.main_arg1)
      ∧ r.2.mem ((c.tc : Thread Cert.RefGluGateBwdIdeal.nD Cert.RefGluGateBwdIdeal.τ).loc Cert.RefGluGateBwdIdeal.main_arg2) = m ((c.tc : Thread Cert.RefGluGateBwdIdeal.nD Cert.RefGluGateBwdIdeal.τ).loc Cert.RefGluGateBwdIdeal.main_arg2)
      ∧ r.2.mem ((c.tc : Thread Cert.RefGluGateBwdIdeal.nD Cert.RefGluGateBwdIdeal.τ).loc Cert.RefGluGateBwdIdeal.main_arg3) = m ((c.tc : Thread Cert.RefGluGateBwdIdeal.nD Cert.RefGluGateBwdIdeal.τ).loc Cert.RefGluGateBwdIdeal.main_arg3)
      ∧ r.2.mem ((c.tc : Thread Cert.RefGluGateBwdIdeal.nD Cert.RefGluGateBwdIdeal.τ).loc Cert.RefGluGateBwdIdeal.main_arg4) = m ((c.tc : Thread Cert.RefGluGateBwdIdeal.nD Cert.RefGluGateBwdIdeal.τ).loc Cert.RefGluGateBwdIdeal.main_arg4))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_RefAdamWInIdeal [hRefAdamWInIdeal : Cert.RefAdamWInIdeal.Facts] : Prop :=
  ∀ (m : (ℓ : Loc Cert.RefAdamWInIdeal.nD Cert.RefAdamWInIdeal.τ Cert.RefAdamWInIdeal.sig) → Buf (Elt Ideal) ℓ) (g : Dev Cert.RefAdamWInIdeal.nD → PrngReg), Pre_RefAdamWInIdeal m →
    θ_run (Cert.RefAdamWInIdeal.defs (F := Ideal)) (onTc (τ := Cert.RefAdamWInIdeal.τ) (Cert.RefAdamWInIdeal.main (F := Ideal))) ⟨m, fun _ => 0, g⟩ (fun r => (∀ c : Dev Cert.RefAdamWInIdeal.nD,
      r.2.mem ((c.tc : Thread Cert.RefAdamWInIdeal.nD Cert.RefAdamWInIdeal.τ).loc Cert.RefAdamWInIdeal.main_arg0) = m ((c.tc : Thread Cert.RefAdamWInIdeal.nD Cert.RefAdamWInIdeal.τ).loc Cert.RefAdamWInIdeal.main_arg0)
      ∧ r.2.mem ((c.tc : Thread Cert.RefAdamWInIdeal.nD Cert.RefAdamWInIdeal.τ).loc Cert.RefAdamWInIdeal.main_arg1) = m ((c.tc : Thread Cert.RefAdamWInIdeal.nD Cert.RefAdamWInIdeal.τ).loc Cert.RefAdamWInIdeal.main_arg1)
      ∧ r.2.mem ((c.tc : Thread Cert.RefAdamWInIdeal.nD Cert.RefAdamWInIdeal.τ).loc Cert.RefAdamWInIdeal.main_arg2) = m ((c.tc : Thread Cert.RefAdamWInIdeal.nD Cert.RefAdamWInIdeal.τ).loc Cert.RefAdamWInIdeal.main_arg2)
      ∧ r.2.mem ((c.tc : Thread Cert.RefAdamWInIdeal.nD Cert.RefAdamWInIdeal.τ).loc Cert.RefAdamWInIdeal.main_arg3) = m ((c.tc : Thread Cert.RefAdamWInIdeal.nD Cert.RefAdamWInIdeal.τ).loc Cert.RefAdamWInIdeal.main_arg3))
      ∧ r.2.sem = fun _ => 0)

def quiescent_AdamStack [hAdamStack : Cert.AdamStack.Facts] : Prop :=
  ∀ (m : (ℓ : Loc Cert.AdamStack.nD Cert.AdamStack.τ Cert.AdamStack.sig) → Buf (Elt Bits) ℓ) (g : Dev Cert.AdamStack.nD → PrngReg), Pre_AdamStack m →
    θ_run (Cert.AdamStack.defs (F := Bits)) (onTc (τ := Cert.AdamStack.τ) (Cert.AdamStack.main (F := Bits))) ⟨m, fun _ => 0, g⟩ (fun r => (∀ c : Dev Cert.AdamStack.nD,
      r.2.mem ((c.tc : Thread Cert.AdamStack.nD Cert.AdamStack.τ).loc Cert.AdamStack.main_arg0) = m ((c.tc : Thread Cert.AdamStack.nD Cert.AdamStack.τ).loc Cert.AdamStack.main_arg0)
      ∧ r.2.mem ((c.tc : Thread Cert.AdamStack.nD Cert.AdamStack.τ).loc Cert.AdamStack.main_arg1) = m ((c.tc : Thread Cert.AdamStack.nD Cert.AdamStack.τ).loc Cert.AdamStack.main_arg1)
      ∧ r.2.mem ((c.tc : Thread Cert.AdamStack.nD Cert.AdamStack.τ).loc Cert.AdamStack.main_arg2) = m ((c.tc : Thread Cert.AdamStack.nD Cert.AdamStack.τ).loc Cert.AdamStack.main_arg2)
      ∧ r.2.mem ((c.tc : Thread Cert.AdamStack.nD Cert.AdamStack.τ).loc Cert.AdamStack.main_arg3) = m ((c.tc : Thread Cert.AdamStack.nD Cert.AdamStack.τ).loc Cert.AdamStack.main_arg3))
      ∧ r.2.sem = fun _ => 0)

def quiescent_AdamStackIdeal [hAdamStackIdeal : Cert.AdamStackIdeal.Facts] : Prop :=
  ∀ (m : (ℓ : Loc Cert.AdamStackIdeal.nD Cert.AdamStackIdeal.τ Cert.AdamStackIdeal.sig) → Buf (Elt Ideal) ℓ) (g : Dev Cert.AdamStackIdeal.nD → PrngReg), Pre_AdamStackIdeal m →
    θ_run (Cert.AdamStackIdeal.defs (F := Ideal)) (onTc (τ := Cert.AdamStackIdeal.τ) (Cert.AdamStackIdeal.main (F := Ideal))) ⟨m, fun _ => 0, g⟩ (fun r => (∀ c : Dev Cert.AdamStackIdeal.nD,
      r.2.mem ((c.tc : Thread Cert.AdamStackIdeal.nD Cert.AdamStackIdeal.τ).loc Cert.AdamStackIdeal.main_arg0) = m ((c.tc : Thread Cert.AdamStackIdeal.nD Cert.AdamStackIdeal.τ).loc Cert.AdamStackIdeal.main_arg0)
      ∧ r.2.mem ((c.tc : Thread Cert.AdamStackIdeal.nD Cert.AdamStackIdeal.τ).loc Cert.AdamStackIdeal.main_arg1) = m ((c.tc : Thread Cert.AdamStackIdeal.nD Cert.AdamStackIdeal.τ).loc Cert.AdamStackIdeal.main_arg1)
      ∧ r.2.mem ((c.tc : Thread Cert.AdamStackIdeal.nD Cert.AdamStackIdeal.τ).loc Cert.AdamStackIdeal.main_arg2) = m ((c.tc : Thread Cert.AdamStackIdeal.nD Cert.AdamStackIdeal.τ).loc Cert.AdamStackIdeal.main_arg2)
      ∧ r.2.mem ((c.tc : Thread Cert.AdamStackIdeal.nD Cert.AdamStackIdeal.τ).loc Cert.AdamStackIdeal.main_arg3) = m ((c.tc : Thread Cert.AdamStackIdeal.nD Cert.AdamStackIdeal.τ).loc Cert.AdamStackIdeal.main_arg3))
      ∧ r.2.sem = fun _ => 0)

def quiescent_RefAdamStackIdeal [hRefAdamStackIdeal : Cert.RefAdamStackIdeal.Facts] : Prop :=
  ∀ (m : (ℓ : Loc Cert.RefAdamStackIdeal.nD Cert.RefAdamStackIdeal.τ Cert.RefAdamStackIdeal.sig) → Buf (Elt Ideal) ℓ) (g : Dev Cert.RefAdamStackIdeal.nD → PrngReg), Pre_RefAdamStackIdeal m →
    θ_run (Cert.RefAdamStackIdeal.defs (F := Ideal)) (onTc (τ := Cert.RefAdamStackIdeal.τ) (Cert.RefAdamStackIdeal.main (F := Ideal))) ⟨m, fun _ => 0, g⟩ (fun r => (∀ c : Dev Cert.RefAdamStackIdeal.nD,
      r.2.mem ((c.tc : Thread Cert.RefAdamStackIdeal.nD Cert.RefAdamStackIdeal.τ).loc Cert.RefAdamStackIdeal.main_arg0) = m ((c.tc : Thread Cert.RefAdamStackIdeal.nD Cert.RefAdamStackIdeal.τ).loc Cert.RefAdamStackIdeal.main_arg0)
      ∧ r.2.mem ((c.tc : Thread Cert.RefAdamStackIdeal.nD Cert.RefAdamStackIdeal.τ).loc Cert.RefAdamStackIdeal.main_arg1) = m ((c.tc : Thread Cert.RefAdamStackIdeal.nD Cert.RefAdamStackIdeal.τ).loc Cert.RefAdamStackIdeal.main_arg1)
      ∧ r.2.mem ((c.tc : Thread Cert.RefAdamStackIdeal.nD Cert.RefAdamStackIdeal.τ).loc Cert.RefAdamStackIdeal.main_arg2) = m ((c.tc : Thread Cert.RefAdamStackIdeal.nD Cert.RefAdamStackIdeal.τ).loc Cert.RefAdamStackIdeal.main_arg2)
      ∧ r.2.mem ((c.tc : Thread Cert.RefAdamStackIdeal.nD Cert.RefAdamStackIdeal.τ).loc Cert.RefAdamStackIdeal.main_arg3) = m ((c.tc : Thread Cert.RefAdamStackIdeal.nD Cert.RefAdamStackIdeal.τ).loc Cert.RefAdamStackIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_RefAdamWOutIdeal [hRefAdamWOutIdeal : Cert.RefAdamWOutIdeal.Facts] : Prop :=
  ∀ (m : (ℓ : Loc Cert.RefAdamWOutIdeal.nD Cert.RefAdamWOutIdeal.τ Cert.RefAdamWOutIdeal.sig) → Buf (Elt Ideal) ℓ) (g : Dev Cert.RefAdamWOutIdeal.nD → PrngReg), Pre_RefAdamWOutIdeal m →
    θ_run (Cert.RefAdamWOutIdeal.defs (F := Ideal)) (onTc (τ := Cert.RefAdamWOutIdeal.τ) (Cert.RefAdamWOutIdeal.main (F := Ideal))) ⟨m, fun _ => 0, g⟩ (fun r => (∀ c : Dev Cert.RefAdamWOutIdeal.nD,
      r.2.mem ((c.tc : Thread Cert.RefAdamWOutIdeal.nD Cert.RefAdamWOutIdeal.τ).loc Cert.RefAdamWOutIdeal.main_arg0) = m ((c.tc : Thread Cert.RefAdamWOutIdeal.nD Cert.RefAdamWOutIdeal.τ).loc Cert.RefAdamWOutIdeal.main_arg0)
      ∧ r.2.mem ((c.tc : Thread Cert.RefAdamWOutIdeal.nD Cert.RefAdamWOutIdeal.τ).loc Cert.RefAdamWOutIdeal.main_arg1) = m ((c.tc : Thread Cert.RefAdamWOutIdeal.nD Cert.RefAdamWOutIdeal.τ).loc Cert.RefAdamWOutIdeal.main_arg1)
      ∧ r.2.mem ((c.tc : Thread Cert.RefAdamWOutIdeal.nD Cert.RefAdamWOutIdeal.τ).loc Cert.RefAdamWOutIdeal.main_arg2) = m ((c.tc : Thread Cert.RefAdamWOutIdeal.nD Cert.RefAdamWOutIdeal.τ).loc Cert.RefAdamWOutIdeal.main_arg2)
      ∧ r.2.mem ((c.tc : Thread Cert.RefAdamWOutIdeal.nD Cert.RefAdamWOutIdeal.τ).loc Cert.RefAdamWOutIdeal.main_arg3) = m ((c.tc : Thread Cert.RefAdamWOutIdeal.nD Cert.RefAdamWOutIdeal.τ).loc Cert.RefAdamWOutIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_RefSumSmallIdeal [hRefSumSmallIdeal : Cert.RefSumSmallIdeal.Facts] : Prop :=
  ∀ (m : (ℓ : Loc Cert.RefSumSmallIdeal.nD Cert.RefSumSmallIdeal.τ Cert.RefSumSmallIdeal.sig) → Buf (Elt Ideal) ℓ) (g : Dev Cert.RefSumSmallIdeal.nD → PrngReg), Pre_RefSumSmallIdeal m →
    θ_run (Cert.RefSumSmallIdeal.defs (F := Ideal)) (onTc (τ := Cert.RefSumSmallIdeal.τ) (Cert.RefSumSmallIdeal.main (F := Ideal))) ⟨m, fun _ => 0, g⟩ (fun r => (∀ c : Dev Cert.RefSumSmallIdeal.nD,
      r.2.mem ((c.tc : Thread Cert.RefSumSmallIdeal.nD Cert.RefSumSmallIdeal.τ).loc Cert.RefSumSmallIdeal.main_arg0) = m ((c.tc : Thread Cert.RefSumSmallIdeal.nD Cert.RefSumSmallIdeal.τ).loc Cert.RefSumSmallIdeal.main_arg0))
      ∧ r.2.sem = fun _ => 0)

def quiescent_AdamLambda [hAdamLambda : Cert.AdamLambda.Facts] : Prop :=
  ∀ (m : (ℓ : Loc Cert.AdamLambda.nD Cert.AdamLambda.τ Cert.AdamLambda.sig) → Buf (Elt Bits) ℓ) (g : Dev Cert.AdamLambda.nD → PrngReg), Pre_AdamLambda m →
    θ_run (Cert.AdamLambda.defs (F := Bits)) (onTc (τ := Cert.AdamLambda.τ) (Cert.AdamLambda.main (F := Bits))) ⟨m, fun _ => 0, g⟩ (fun r => (∀ c : Dev Cert.AdamLambda.nD,
      r.2.mem ((c.tc : Thread Cert.AdamLambda.nD Cert.AdamLambda.τ).loc Cert.AdamLambda.main_arg0) = m ((c.tc : Thread Cert.AdamLambda.nD Cert.AdamLambda.τ).loc Cert.AdamLambda.main_arg0)
      ∧ r.2.mem ((c.tc : Thread Cert.AdamLambda.nD Cert.AdamLambda.τ).loc Cert.AdamLambda.main_arg1) = m ((c.tc : Thread Cert.AdamLambda.nD Cert.AdamLambda.τ).loc Cert.AdamLambda.main_arg1)
      ∧ r.2.mem ((c.tc : Thread Cert.AdamLambda.nD Cert.AdamLambda.τ).loc Cert.AdamLambda.main_arg2) = m ((c.tc : Thread Cert.AdamLambda.nD Cert.AdamLambda.τ).loc Cert.AdamLambda.main_arg2)
      ∧ r.2.mem ((c.tc : Thread Cert.AdamLambda.nD Cert.AdamLambda.τ).loc Cert.AdamLambda.main_arg3) = m ((c.tc : Thread Cert.AdamLambda.nD Cert.AdamLambda.τ).loc Cert.AdamLambda.main_arg3))
      ∧ r.2.sem = fun _ => 0)

def quiescent_AdamLambdaIdeal [hAdamLambdaIdeal : Cert.AdamLambdaIdeal.Facts] : Prop :=
  ∀ (m : (ℓ : Loc Cert.AdamLambdaIdeal.nD Cert.AdamLambdaIdeal.τ Cert.AdamLambdaIdeal.sig) → Buf (Elt Ideal) ℓ) (g : Dev Cert.AdamLambdaIdeal.nD → PrngReg), Pre_AdamLambdaIdeal m →
    θ_run (Cert.AdamLambdaIdeal.defs (F := Ideal)) (onTc (τ := Cert.AdamLambdaIdeal.τ) (Cert.AdamLambdaIdeal.main (F := Ideal))) ⟨m, fun _ => 0, g⟩ (fun r => (∀ c : Dev Cert.AdamLambdaIdeal.nD,
      r.2.mem ((c.tc : Thread Cert.AdamLambdaIdeal.nD Cert.AdamLambdaIdeal.τ).loc Cert.AdamLambdaIdeal.main_arg0) = m ((c.tc : Thread Cert.AdamLambdaIdeal.nD Cert.AdamLambdaIdeal.τ).loc Cert.AdamLambdaIdeal.main_arg0)
      ∧ r.2.mem ((c.tc : Thread Cert.AdamLambdaIdeal.nD Cert.AdamLambdaIdeal.τ).loc Cert.AdamLambdaIdeal.main_arg1) = m ((c.tc : Thread Cert.AdamLambdaIdeal.nD Cert.AdamLambdaIdeal.τ).loc Cert.AdamLambdaIdeal.main_arg1)
      ∧ r.2.mem ((c.tc : Thread Cert.AdamLambdaIdeal.nD Cert.AdamLambdaIdeal.τ).loc Cert.AdamLambdaIdeal.main_arg2) = m ((c.tc : Thread Cert.AdamLambdaIdeal.nD Cert.AdamLambdaIdeal.τ).loc Cert.AdamLambdaIdeal.main_arg2)
      ∧ r.2.mem ((c.tc : Thread Cert.AdamLambdaIdeal.nD Cert.AdamLambdaIdeal.τ).loc Cert.AdamLambdaIdeal.main_arg3) = m ((c.tc : Thread Cert.AdamLambdaIdeal.nD Cert.AdamLambdaIdeal.τ).loc Cert.AdamLambdaIdeal.main_arg3))
      ∧ r.2.sem = fun _ => 0)

def quiescent_RefAdamLambdaIdeal [hRefAdamLambdaIdeal : Cert.RefAdamLambdaIdeal.Facts] : Prop :=
  ∀ (m : (ℓ : Loc Cert.RefAdamLambdaIdeal.nD Cert.RefAdamLambdaIdeal.τ Cert.RefAdamLambdaIdeal.sig) → Buf (Elt Ideal) ℓ) (g : Dev Cert.RefAdamLambdaIdeal.nD → PrngReg), Pre_RefAdamLambdaIdeal m →
    θ_run (Cert.RefAdamLambdaIdeal.defs (F := Ideal)) (onTc (τ := Cert.RefAdamLambdaIdeal.τ) (Cert.RefAdamLambdaIdeal.main (F := Ideal))) ⟨m, fun _ => 0, g⟩ (fun r => (∀ c : Dev Cert.RefAdamLambdaIdeal.nD,
      r.2.mem ((c.tc : Thread Cert.RefAdamLambdaIdeal.nD Cert.RefAdamLambdaIdeal.τ).loc Cert.RefAdamLambdaIdeal.main_arg0) = m ((c.tc : Thread Cert.RefAdamLambdaIdeal.nD Cert.RefAdamLambdaIdeal.τ).loc Cert.RefAdamLambdaIdeal.main_arg0)
      ∧ r.2.mem ((c.tc : Thread Cert.RefAdamLambdaIdeal.nD Cert.RefAdamLambdaIdeal.τ).loc Cert.RefAdamLambdaIdeal.main_arg1) = m ((c.tc : Thread Cert.RefAdamLambdaIdeal.nD Cert.RefAdamLambdaIdeal.τ).loc Cert.RefAdamLambdaIdeal.main_arg1)
      ∧ r.2.mem ((c.tc : Thread Cert.RefAdamLambdaIdeal.nD Cert.RefAdamLambdaIdeal.τ).loc Cert.RefAdamLambdaIdeal.main_arg2) = m ((c.tc : Thread Cert.RefAdamLambdaIdeal.nD Cert.RefAdamLambdaIdeal.τ).loc Cert.RefAdamLambdaIdeal.main_arg2)
      ∧ r.2.mem ((c.tc : Thread Cert.RefAdamLambdaIdeal.nD Cert.RefAdamLambdaIdeal.τ).loc Cert.RefAdamLambdaIdeal.main_arg3) = m ((c.tc : Thread Cert.RefAdamLambdaIdeal.nD Cert.RefAdamLambdaIdeal.τ).loc Cert.RefAdamLambdaIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_RefAdamBIdeal [hRefAdamBIdeal : Cert.RefAdamBIdeal.Facts] : Prop :=
  ∀ (m : (ℓ : Loc Cert.RefAdamBIdeal.nD Cert.RefAdamBIdeal.τ Cert.RefAdamBIdeal.sig) → Buf (Elt Ideal) ℓ) (g : Dev Cert.RefAdamBIdeal.nD → PrngReg), Pre_RefAdamBIdeal m →
    θ_run (Cert.RefAdamBIdeal.defs (F := Ideal)) (onTc (τ := Cert.RefAdamBIdeal.τ) (Cert.RefAdamBIdeal.main (F := Ideal))) ⟨m, fun _ => 0, g⟩ (fun r => (∀ c : Dev Cert.RefAdamBIdeal.nD,
      r.2.mem ((c.tc : Thread Cert.RefAdamBIdeal.nD Cert.RefAdamBIdeal.τ).loc Cert.RefAdamBIdeal.main_arg0) = m ((c.tc : Thread Cert.RefAdamBIdeal.nD Cert.RefAdamBIdeal.τ).loc Cert.RefAdamBIdeal.main_arg0)
      ∧ r.2.mem ((c.tc : Thread Cert.RefAdamBIdeal.nD Cert.RefAdamBIdeal.τ).loc Cert.RefAdamBIdeal.main_arg1) = m ((c.tc : Thread Cert.RefAdamBIdeal.nD Cert.RefAdamBIdeal.τ).loc Cert.RefAdamBIdeal.main_arg1)
      ∧ r.2.mem ((c.tc : Thread Cert.RefAdamBIdeal.nD Cert.RefAdamBIdeal.τ).loc Cert.RefAdamBIdeal.main_arg2) = m ((c.tc : Thread Cert.RefAdamBIdeal.nD Cert.RefAdamBIdeal.τ).loc Cert.RefAdamBIdeal.main_arg2)
      ∧ r.2.mem ((c.tc : Thread Cert.RefAdamBIdeal.nD Cert.RefAdamBIdeal.τ).loc Cert.RefAdamBIdeal.main_arg3) = m ((c.tc : Thread Cert.RefAdamBIdeal.nD Cert.RefAdamBIdeal.τ).loc Cert.RefAdamBIdeal.main_arg3))
      ∧ r.2.sem = fun _ => 0)

def quiescent_AdamC [hAdamC : Cert.AdamC.Facts] : Prop :=
  ∀ (m : (ℓ : Loc Cert.AdamC.nD Cert.AdamC.τ Cert.AdamC.sig) → Buf (Elt Bits) ℓ) (g : Dev Cert.AdamC.nD → PrngReg), Pre_AdamC m →
    θ_run (Cert.AdamC.defs (F := Bits)) (onTc (τ := Cert.AdamC.τ) (Cert.AdamC.main (F := Bits))) ⟨m, fun _ => 0, g⟩ (fun r => (∀ c : Dev Cert.AdamC.nD,
      r.2.mem ((c.tc : Thread Cert.AdamC.nD Cert.AdamC.τ).loc Cert.AdamC.main_arg0) = m ((c.tc : Thread Cert.AdamC.nD Cert.AdamC.τ).loc Cert.AdamC.main_arg0)
      ∧ r.2.mem ((c.tc : Thread Cert.AdamC.nD Cert.AdamC.τ).loc Cert.AdamC.main_arg1) = m ((c.tc : Thread Cert.AdamC.nD Cert.AdamC.τ).loc Cert.AdamC.main_arg1)
      ∧ r.2.mem ((c.tc : Thread Cert.AdamC.nD Cert.AdamC.τ).loc Cert.AdamC.main_arg2) = m ((c.tc : Thread Cert.AdamC.nD Cert.AdamC.τ).loc Cert.AdamC.main_arg2)
      ∧ r.2.mem ((c.tc : Thread Cert.AdamC.nD Cert.AdamC.τ).loc Cert.AdamC.main_arg3) = m ((c.tc : Thread Cert.AdamC.nD Cert.AdamC.τ).loc Cert.AdamC.main_arg3))
      ∧ r.2.sem = fun _ => 0)

def quiescent_AdamCIdeal [hAdamCIdeal : Cert.AdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg), Pre_AdamCIdeal m →
    θ_run (Cert.AdamCIdeal.defs (F := Ideal)) (onTc (τ := Cert.AdamCIdeal.τ) (Cert.AdamCIdeal.main (F := Ideal))) ⟨m, fun _ => 0, g⟩ (fun r => (∀ c : Dev Cert.AdamCIdeal.nD,
      r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
      ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
      ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
      ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ r.2.sem = fun _ => 0)

def quiescent_RefAdamCIdeal [hRefAdamCIdeal : Cert.RefAdamCIdeal.Facts] : Prop :=
  ∀ (m : (ℓ : Loc Cert.RefAdamCIdeal.nD Cert.RefAdamCIdeal.τ Cert.RefAdamCIdeal.sig) → Buf (Elt Ideal) ℓ) (g : Dev Cert.RefAdamCIdeal.nD → PrngReg), Pre_RefAdamCIdeal m →
    θ_run (Cert.RefAdamCIdeal.defs (F := Ideal)) (onTc (τ := Cert.RefAdamCIdeal.τ) (Cert.RefAdamCIdeal.main (F := Ideal))) ⟨m, fun _ => 0, g⟩ (fun r => (∀ c : Dev Cert.RefAdamCIdeal.nD,
      r.2.mem ((c.tc : Thread Cert.RefAdamCIdeal.nD Cert.RefAdamCIdeal.τ).loc Cert.RefAdamCIdeal.main_arg0) = m ((c.tc : Thread Cert.RefAdamCIdeal.nD Cert.RefAdamCIdeal.τ).loc Cert.RefAdamCIdeal.main_arg0)
      ∧ r.2.mem ((c.tc : Thread Cert.RefAdamCIdeal.nD Cert.RefAdamCIdeal.τ).loc Cert.RefAdamCIdeal.main_arg1) = m ((c.tc : Thread Cert.RefAdamCIdeal.nD Cert.RefAdamCIdeal.τ).loc Cert.RefAdamCIdeal.main_arg1)
      ∧ r.2.mem ((c.tc : Thread Cert.RefAdamCIdeal.nD Cert.RefAdamCIdeal.τ).loc Cert.RefAdamCIdeal.main_arg2) = m ((c.tc : Thread Cert.RefAdamCIdeal.nD Cert.RefAdamCIdeal.τ).loc Cert.RefAdamCIdeal.main_arg2)
      ∧ r.2.mem ((c.tc : Thread Cert.RefAdamCIdeal.nD Cert.RefAdamCIdeal.τ).loc Cert.RefAdamCIdeal.main_arg3) = m ((c.tc : Thread Cert.RefAdamCIdeal.nD Cert.RefAdamCIdeal.τ).loc Cert.RefAdamCIdeal.main_arg3))
      ∧ r.2.sem = fun _ => 0)

def quiescent_AdamD [hAdamD : Cert.AdamD.Facts] : Prop :=
  ∀ (m : (ℓ : Loc Cert.AdamD.nD Cert.AdamD.τ Cert.AdamD.sig) → Buf (Elt Bits) ℓ) (g : Dev Cert.AdamD.nD → PrngReg), Pre_AdamD m →
    θ_run (Cert.AdamD.defs (F := Bits)) (onTc (τ := Cert.AdamD.τ) (Cert.AdamD.main (F := Bits))) ⟨m, fun _ => 0, g⟩ (fun r => (∀ c : Dev Cert.AdamD.nD,
      r.2.mem ((c.tc : Thread Cert.AdamD.nD Cert.AdamD.τ).loc Cert.AdamD.main_arg0) = m ((c.tc : Thread Cert.AdamD.nD Cert.AdamD.τ).loc Cert.AdamD.main_arg0)
      ∧ r.2.mem ((c.tc : Thread Cert.AdamD.nD Cert.AdamD.τ).loc Cert.AdamD.main_arg1) = m ((c.tc : Thread Cert.AdamD.nD Cert.AdamD.τ).loc Cert.AdamD.main_arg1)
      ∧ r.2.mem ((c.tc : Thread Cert.AdamD.nD Cert.AdamD.τ).loc Cert.AdamD.main_arg2) = m ((c.tc : Thread Cert.AdamD.nD Cert.AdamD.τ).loc Cert.AdamD.main_arg2)
      ∧ r.2.mem ((c.tc : Thread Cert.AdamD.nD Cert.AdamD.τ).loc Cert.AdamD.main_arg3) = m ((c.tc : Thread Cert.AdamD.nD Cert.AdamD.τ).loc Cert.AdamD.main_arg3))
      ∧ r.2.sem = fun _ => 0)

def quiescent_AdamDIdeal [hAdamDIdeal : Cert.AdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg), Pre_AdamDIdeal m →
    θ_run (Cert.AdamDIdeal.defs (F := Ideal)) (onTc (τ := Cert.AdamDIdeal.τ) (Cert.AdamDIdeal.main (F := Ideal))) ⟨m, fun _ => 0, g⟩ (fun r => (∀ c : Dev Cert.AdamDIdeal.nD,
      r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
      ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
      ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
      ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ r.2.sem = fun _ => 0)

def quiescent_RefAdamDIdeal [hRefAdamDIdeal : Cert.RefAdamDIdeal.Facts] : Prop :=
  ∀ (m : (ℓ : Loc Cert.RefAdamDIdeal.nD Cert.RefAdamDIdeal.τ Cert.RefAdamDIdeal.sig) → Buf (Elt Ideal) ℓ) (g : Dev Cert.RefAdamDIdeal.nD → PrngReg), Pre_RefAdamDIdeal m →
    θ_run (Cert.RefAdamDIdeal.defs (F := Ideal)) (onTc (τ := Cert.RefAdamDIdeal.τ) (Cert.RefAdamDIdeal.main (F := Ideal))) ⟨m, fun _ => 0, g⟩ (fun r => (∀ c : Dev Cert.RefAdamDIdeal.nD,
      r.2.mem ((c.tc : Thread Cert.RefAdamDIdeal.nD Cert.RefAdamDIdeal.τ).loc Cert.RefAdamDIdeal.main_arg0) = m ((c.tc : Thread Cert.RefAdamDIdeal.nD Cert.RefAdamDIdeal.τ).loc Cert.RefAdamDIdeal.main_arg0)
      ∧ r.2.mem ((c.tc : Thread Cert.RefAdamDIdeal.nD Cert.RefAdamDIdeal.τ).loc Cert.RefAdamDIdeal.main_arg1) = m ((c.tc : Thread Cert.RefAdamDIdeal.nD Cert.RefAdamDIdeal.τ).loc Cert.RefAdamDIdeal.main_arg1)
      ∧ r.2.mem ((c.tc : Thread Cert.RefAdamDIdeal.nD Cert.RefAdamDIdeal.τ).loc Cert.RefAdamDIdeal.main_arg2) = m ((c.tc : Thread Cert.RefAdamDIdeal.nD Cert.RefAdamDIdeal.τ).loc Cert.RefAdamDIdeal.main_arg2)
      ∧ r.2.mem ((c.tc : Thread Cert.RefAdamDIdeal.nD Cert.RefAdamDIdeal.τ).loc Cert.RefAdamDIdeal.main_arg3) = m ((c.tc : Thread Cert.RefAdamDIdeal.nD Cert.RefAdamDIdeal.τ).loc Cert.RefAdamDIdeal.main_arg3))
      ∧ r.2.sem = fun _ => 0)

def quiescent_AdamLogStep [hAdamLogStep : Cert.AdamLogStep.Facts] : Prop :=
  ∀ (m : (ℓ : Loc Cert.AdamLogStep.nD Cert.AdamLogStep.τ Cert.AdamLogStep.sig) → Buf (Elt Bits) ℓ) (g : Dev Cert.AdamLogStep.nD → PrngReg), Pre_AdamLogStep m →
    θ_run (Cert.AdamLogStep.defs (F := Bits)) (onTc (τ := Cert.AdamLogStep.τ) (Cert.AdamLogStep.main (F := Bits))) ⟨m, fun _ => 0, g⟩ (fun r => (∀ c : Dev Cert.AdamLogStep.nD,
      r.2.mem ((c.tc : Thread Cert.AdamLogStep.nD Cert.AdamLogStep.τ).loc Cert.AdamLogStep.main_arg0) = m ((c.tc : Thread Cert.AdamLogStep.nD Cert.AdamLogStep.τ).loc Cert.AdamLogStep.main_arg0)
      ∧ r.2.mem ((c.tc : Thread Cert.AdamLogStep.nD Cert.AdamLogStep.τ).loc Cert.AdamLogStep.main_arg1) = m ((c.tc : Thread Cert.AdamLogStep.nD Cert.AdamLogStep.τ).loc Cert.AdamLogStep.main_arg1)
      ∧ r.2.mem ((c.tc : Thread Cert.AdamLogStep.nD Cert.AdamLogStep.τ).loc Cert.AdamLogStep.main_arg2) = m ((c.tc : Thread Cert.AdamLogStep.nD Cert.AdamLogStep.τ).loc Cert.AdamLogStep.main_arg2)
      ∧ r.2.mem ((c.tc : Thread Cert.AdamLogStep.nD Cert.AdamLogStep.τ).loc Cert.AdamLogStep.main_arg3) = m ((c.tc : Thread Cert.AdamLogStep.nD Cert.AdamLogStep.τ).loc Cert.AdamLogStep.main_arg3))
      ∧ r.2.sem = fun _ => 0)

def quiescent_AdamLogStepIdeal [hAdamLogStepIdeal : Cert.AdamLogStepIdeal.Facts] : Prop :=
  ∀ (m : (ℓ : Loc Cert.AdamLogStepIdeal.nD Cert.AdamLogStepIdeal.τ Cert.AdamLogStepIdeal.sig) → Buf (Elt Ideal) ℓ) (g : Dev Cert.AdamLogStepIdeal.nD → PrngReg), Pre_AdamLogStepIdeal m →
    θ_run (Cert.AdamLogStepIdeal.defs (F := Ideal)) (onTc (τ := Cert.AdamLogStepIdeal.τ) (Cert.AdamLogStepIdeal.main (F := Ideal))) ⟨m, fun _ => 0, g⟩ (fun r => (∀ c : Dev Cert.AdamLogStepIdeal.nD,
      r.2.mem ((c.tc : Thread Cert.AdamLogStepIdeal.nD Cert.AdamLogStepIdeal.τ).loc Cert.AdamLogStepIdeal.main_arg0) = m ((c.tc : Thread Cert.AdamLogStepIdeal.nD Cert.AdamLogStepIdeal.τ).loc Cert.AdamLogStepIdeal.main_arg0)
      ∧ r.2.mem ((c.tc : Thread Cert.AdamLogStepIdeal.nD Cert.AdamLogStepIdeal.τ).loc Cert.AdamLogStepIdeal.main_arg1) = m ((c.tc : Thread Cert.AdamLogStepIdeal.nD Cert.AdamLogStepIdeal.τ).loc Cert.AdamLogStepIdeal.main_arg1)
      ∧ r.2.mem ((c.tc : Thread Cert.AdamLogStepIdeal.nD Cert.AdamLogStepIdeal.τ).loc Cert.AdamLogStepIdeal.main_arg2) = m ((c.tc : Thread Cert.AdamLogStepIdeal.nD Cert.AdamLogStepIdeal.τ).loc Cert.AdamLogStepIdeal.main_arg2)
      ∧ r.2.mem ((c.tc : Thread Cert.AdamLogStepIdeal.nD Cert.AdamLogStepIdeal.τ).loc Cert.AdamLogStepIdeal.main_arg3) = m ((c.tc : Thread Cert.AdamLogStepIdeal.nD Cert.AdamLogStepIdeal.τ).loc Cert.AdamLogStepIdeal.main_arg3))
      ∧ r.2.sem = fun _ => 0)

def quiescent_RefAdamLogStepIdeal [hRefAdamLogStepIdeal : Cert.RefAdamLogStepIdeal.Facts] : Prop :=
  ∀ (m : (ℓ : Loc Cert.RefAdamLogStepIdeal.nD Cert.RefAdamLogStepIdeal.τ Cert.RefAdamLogStepIdeal.sig) → Buf (Elt Ideal) ℓ) (g : Dev Cert.RefAdamLogStepIdeal.nD → PrngReg), Pre_RefAdamLogStepIdeal m →
    θ_run (Cert.RefAdamLogStepIdeal.defs (F := Ideal)) (onTc (τ := Cert.RefAdamLogStepIdeal.τ) (Cert.RefAdamLogStepIdeal.main (F := Ideal))) ⟨m, fun _ => 0, g⟩ (fun r => (∀ c : Dev Cert.RefAdamLogStepIdeal.nD,
      r.2.mem ((c.tc : Thread Cert.RefAdamLogStepIdeal.nD Cert.RefAdamLogStepIdeal.τ).loc Cert.RefAdamLogStepIdeal.main_arg0) = m ((c.tc : Thread Cert.RefAdamLogStepIdeal.nD Cert.RefAdamLogStepIdeal.τ).loc Cert.RefAdamLogStepIdeal.main_arg0)
      ∧ r.2.mem ((c.tc : Thread Cert.RefAdamLogStepIdeal.nD Cert.RefAdamLogStepIdeal.τ).loc Cert.RefAdamLogStepIdeal.main_arg1) = m ((c.tc : Thread Cert.RefAdamLogStepIdeal.nD Cert.RefAdamLogStepIdeal.τ).loc Cert.RefAdamLogStepIdeal.main_arg1)
      ∧ r.2.mem ((c.tc : Thread Cert.RefAdamLogStepIdeal.nD Cert.RefAdamLogStepIdeal.τ).loc Cert.RefAdamLogStepIdeal.main_arg2) = m ((c.tc : Thread Cert.RefAdamLogStepIdeal.nD Cert.RefAdamLogStepIdeal.τ).loc Cert.RefAdamLogStepIdeal.main_arg2)
      ∧ r.2.mem ((c.tc : Thread Cert.RefAdamLogStepIdeal.nD Cert.RefAdamLogStepIdeal.τ).loc Cert.RefAdamLogStepIdeal.main_arg3) = m ((c.tc : Thread Cert.RefAdamLogStepIdeal.nD Cert.RefAdamLogStepIdeal.τ).loc Cert.RefAdamLogStepIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_RefAdamSinksIdeal [hRefAdamSinksIdeal : Cert.RefAdamSinksIdeal.Facts] : Prop :=
  ∀ (m : (ℓ : Loc Cert.RefAdamSinksIdeal.nD Cert.RefAdamSinksIdeal.τ Cert.RefAdamSinksIdeal.sig) → Buf (Elt Ideal) ℓ) (g : Dev Cert.RefAdamSinksIdeal.nD → PrngReg), Pre_RefAdamSinksIdeal m →
    θ_run (Cert.RefAdamSinksIdeal.defs (F := Ideal)) (onTc (τ := Cert.RefAdamSinksIdeal.τ) (Cert.RefAdamSinksIdeal.main (F := Ideal))) ⟨m, fun _ => 0, g⟩ (fun r => (∀ c : Dev Cert.RefAdamSinksIdeal.nD,
      r.2.mem ((c.tc : Thread Cert.RefAdamSinksIdeal.nD Cert.RefAdamSinksIdeal.τ).loc Cert.RefAdamSinksIdeal.main_arg0) = m ((c.tc : Thread Cert.RefAdamSinksIdeal.nD Cert.RefAdamSinksIdeal.τ).loc Cert.RefAdamSinksIdeal.main_arg0)
      ∧ r.2.mem ((c.tc : Thread Cert.RefAdamSinksIdeal.nD Cert.RefAdamSinksIdeal.τ).loc Cert.RefAdamSinksIdeal.main_arg1) = m ((c.tc : Thread Cert.RefAdamSinksIdeal.nD Cert.RefAdamSinksIdeal.τ).loc Cert.RefAdamSinksIdeal.main_arg1)
      ∧ r.2.mem ((c.tc : Thread Cert.RefAdamSinksIdeal.nD Cert.RefAdamSinksIdeal.τ).loc Cert.RefAdamSinksIdeal.main_arg2) = m ((c.tc : Thread Cert.RefAdamSinksIdeal.nD Cert.RefAdamSinksIdeal.τ).loc Cert.RefAdamSinksIdeal.main_arg2)
      ∧ r.2.mem ((c.tc : Thread Cert.RefAdamSinksIdeal.nD Cert.RefAdamSinksIdeal.τ).loc Cert.RefAdamSinksIdeal.main_arg3) = m ((c.tc : Thread Cert.RefAdamSinksIdeal.nD Cert.RefAdamSinksIdeal.τ).loc Cert.RefAdamSinksIdeal.main_arg3))
      ∧ r.2.sem = fun _ => 0)

def quiescent_AdamTable [hAdamTable : Cert.AdamTable.Facts] : Prop :=
  ∀ (m : (ℓ : Loc Cert.AdamTable.nD Cert.AdamTable.τ Cert.AdamTable.sig) → Buf (Elt Bits) ℓ) (g : Dev Cert.AdamTable.nD → PrngReg), Pre_AdamTable m →
    θ_run (Cert.AdamTable.defs (F := Bits)) (onTc (τ := Cert.AdamTable.τ) (Cert.AdamTable.main (F := Bits))) ⟨m, fun _ => 0, g⟩ (fun r => (∀ c : Dev Cert.AdamTable.nD,
      r.2.mem ((c.tc : Thread Cert.AdamTable.nD Cert.AdamTable.τ).loc Cert.AdamTable.main_arg0) = m ((c.tc : Thread Cert.AdamTable.nD Cert.AdamTable.τ).loc Cert.AdamTable.main_arg0)
      ∧ r.2.mem ((c.tc : Thread Cert.AdamTable.nD Cert.AdamTable.τ).loc Cert.AdamTable.main_arg1) = m ((c.tc : Thread Cert.AdamTable.nD Cert.AdamTable.τ).loc Cert.AdamTable.main_arg1)
      ∧ r.2.mem ((c.tc : Thread Cert.AdamTable.nD Cert.AdamTable.τ).loc Cert.AdamTable.main_arg2) = m ((c.tc : Thread Cert.AdamTable.nD Cert.AdamTable.τ).loc Cert.AdamTable.main_arg2)
      ∧ r.2.mem ((c.tc : Thread Cert.AdamTable.nD Cert.AdamTable.τ).loc Cert.AdamTable.main_arg3) = m ((c.tc : Thread Cert.AdamTable.nD Cert.AdamTable.τ).loc Cert.AdamTable.main_arg3))
      ∧ r.2.sem = fun _ => 0)

def quiescent_AdamTableIdeal [hAdamTableIdeal : Cert.AdamTableIdeal.Facts] : Prop :=
  ∀ (m : (ℓ : Loc Cert.AdamTableIdeal.nD Cert.AdamTableIdeal.τ Cert.AdamTableIdeal.sig) → Buf (Elt Ideal) ℓ) (g : Dev Cert.AdamTableIdeal.nD → PrngReg), Pre_AdamTableIdeal m →
    θ_run (Cert.AdamTableIdeal.defs (F := Ideal)) (onTc (τ := Cert.AdamTableIdeal.τ) (Cert.AdamTableIdeal.main (F := Ideal))) ⟨m, fun _ => 0, g⟩ (fun r => (∀ c : Dev Cert.AdamTableIdeal.nD,
      r.2.mem ((c.tc : Thread Cert.AdamTableIdeal.nD Cert.AdamTableIdeal.τ).loc Cert.AdamTableIdeal.main_arg0) = m ((c.tc : Thread Cert.AdamTableIdeal.nD Cert.AdamTableIdeal.τ).loc Cert.AdamTableIdeal.main_arg0)
      ∧ r.2.mem ((c.tc : Thread Cert.AdamTableIdeal.nD Cert.AdamTableIdeal.τ).loc Cert.AdamTableIdeal.main_arg1) = m ((c.tc : Thread Cert.AdamTableIdeal.nD Cert.AdamTableIdeal.τ).loc Cert.AdamTableIdeal.main_arg1)
      ∧ r.2.mem ((c.tc : Thread Cert.AdamTableIdeal.nD Cert.AdamTableIdeal.τ).loc Cert.AdamTableIdeal.main_arg2) = m ((c.tc : Thread Cert.AdamTableIdeal.nD Cert.AdamTableIdeal.τ).loc Cert.AdamTableIdeal.main_arg2)
      ∧ r.2.mem ((c.tc : Thread Cert.AdamTableIdeal.nD Cert.AdamTableIdeal.τ).loc Cert.AdamTableIdeal.main_arg3) = m ((c.tc : Thread Cert.AdamTableIdeal.nD Cert.AdamTableIdeal.τ).loc Cert.AdamTableIdeal.main_arg3))
      ∧ r.2.sem = fun _ => 0)

def quiescent_RefAdamTableIdeal [hRefAdamTableIdeal : Cert.RefAdamTableIdeal.Facts] : Prop :=
  ∀ (m : (ℓ : Loc Cert.RefAdamTableIdeal.nD Cert.RefAdamTableIdeal.τ Cert.RefAdamTableIdeal.sig) → Buf (Elt Ideal) ℓ) (g : Dev Cert.RefAdamTableIdeal.nD → PrngReg), Pre_RefAdamTableIdeal m →
    θ_run (Cert.RefAdamTableIdeal.defs (F := Ideal)) (onTc (τ := Cert.RefAdamTableIdeal.τ) (Cert.RefAdamTableIdeal.main (F := Ideal))) ⟨m, fun _ => 0, g⟩ (fun r => (∀ c : Dev Cert.RefAdamTableIdeal.nD,
      r.2.mem ((c.tc : Thread Cert.RefAdamTableIdeal.nD Cert.RefAdamTableIdeal.τ).loc Cert.RefAdamTableIdeal.main_arg0) = m ((c.tc : Thread Cert.RefAdamTableIdeal.nD Cert.RefAdamTableIdeal.τ).loc Cert.RefAdamTableIdeal.main_arg0)
      ∧ r.2.mem ((c.tc : Thread Cert.RefAdamTableIdeal.nD Cert.RefAdamTableIdeal.τ).loc Cert.RefAdamTableIdeal.main_arg1) = m ((c.tc : Thread Cert.RefAdamTableIdeal.nD Cert.RefAdamTableIdeal.τ).loc Cert.RefAdamTableIdeal.main_arg1)
      ∧ r.2.mem ((c.tc : Thread Cert.RefAdamTableIdeal.nD Cert.RefAdamTableIdeal.τ).loc Cert.RefAdamTableIdeal.main_arg2) = m ((c.tc : Thread Cert.RefAdamTableIdeal.nD Cert.RefAdamTableIdeal.τ).loc Cert.RefAdamTableIdeal.main_arg2)
      ∧ r.2.mem ((c.tc : Thread Cert.RefAdamTableIdeal.nD Cert.RefAdamTableIdeal.τ).loc Cert.RefAdamTableIdeal.main_arg3) = m ((c.tc : Thread Cert.RefAdamTableIdeal.nD Cert.RefAdamTableIdeal.τ).loc Cert.RefAdamTableIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_RefAdamNormIdeal [hRefAdamNormIdeal : Cert.RefAdamNormIdeal.Facts] : Prop :=
  ∀ (m : (ℓ : Loc Cert.RefAdamNormIdeal.nD Cert.RefAdamNormIdeal.τ Cert.RefAdamNormIdeal.sig) → Buf (Elt Ideal) ℓ) (g : Dev Cert.RefAdamNormIdeal.nD → PrngReg), Pre_RefAdamNormIdeal m →
    θ_run (Cert.RefAdamNormIdeal.defs (F := Ideal)) (onTc (τ := Cert.RefAdamNormIdeal.τ) (Cert.RefAdamNormIdeal.main (F := Ideal))) ⟨m, fun _ => 0, g⟩ (fun r => (∀ c : Dev Cert.RefAdamNormIdeal.nD,
      r.2.mem ((c.tc : Thread Cert.RefAdamNormIdeal.nD Cert.RefAdamNormIdeal.τ).loc Cert.RefAdamNormIdeal.main_arg0) = m ((c.tc : Thread Cert.RefAdamNormIdeal.nD Cert.RefAdamNormIdeal.τ).loc Cert.RefAdamNormIdeal.main_arg0)
      ∧ r.2.mem ((c.tc : Thread Cert.RefAdamNormIdeal.nD Cert.RefAdamNormIdeal.τ).loc Cert.RefAdamNormIdeal.main_arg1) = m ((c.tc : Thread Cert.RefAdamNormIdeal.nD Cert.RefAdamNormIdeal.τ).loc Cert.RefAdamNormIdeal.main_arg1)
      ∧ r.2.mem ((c.tc : Thread Cert.RefAdamNormIdeal.nD Cert.RefAdamNormIdeal.τ).loc Cert.RefAdamNormIdeal.main_arg2) = m ((c.tc : Thread Cert.RefAdamNormIdeal.nD Cert.RefAdamNormIdeal.τ).loc Cert.RefAdamNormIdeal.main_arg2)
      ∧ r.2.mem ((c.tc : Thread Cert.RefAdamNormIdeal.nD Cert.RefAdamNormIdeal.τ).loc Cert.RefAdamNormIdeal.main_arg3) = m ((c.tc : Thread Cert.RefAdamNormIdeal.nD Cert.RefAdamNormIdeal.τ).loc Cert.RefAdamNormIdeal.main_arg3))
      ∧ r.2.sem = fun _ => 0)

def preserves_Attn_AttnIdeal : Prop :=
  IdealRules.named_const.Statement Cert.AttnIdeal.κ "mask" .f32 0xF149F2CA#32 ⊥

def algebraic_AttnIdeal_ReferenceIdeal_pre_finite [hAttnIdeal : Cert.AttnIdeal.Facts] [hReferenceIdeal : Cert.ReferenceIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttnIdeal_finite m →
    (∀ c : Dev Cert.AttnIdeal.nD,
      m' ((c.tc : Thread Cert.ReferenceIdeal.nD Cert.ReferenceIdeal.τ).loc Cert.ReferenceIdeal.main_arg0) = m ((c.tc : Thread Cert.AttnIdeal.nD Cert.AttnIdeal.τ).loc Cert.AttnIdeal.main_arg0)
      ∧ m' ((c.tc : Thread Cert.ReferenceIdeal.nD Cert.ReferenceIdeal.τ).loc Cert.ReferenceIdeal.main_arg1) = m ((c.tc : Thread Cert.AttnIdeal.nD Cert.AttnIdeal.τ).loc Cert.AttnIdeal.main_arg1)
      ∧ m' ((c.tc : Thread Cert.ReferenceIdeal.nD Cert.ReferenceIdeal.τ).loc Cert.ReferenceIdeal.main_arg2) = m ((c.tc : Thread Cert.AttnIdeal.nD Cert.AttnIdeal.τ).loc Cert.AttnIdeal.main_arg2)
      ∧ m' ((c.tc : Thread Cert.ReferenceIdeal.nD Cert.ReferenceIdeal.τ).loc Cert.ReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v42_1)) (v1 : (c : Dev Cert.AttnIdeal.nD) → Buf (Elt Ideal) ((c.tc : Thread Cert.AttnIdeal.nD Cert.AttnIdeal.τ).loc Cert.AttnIdeal.main_v43_0)) (v2 : (c : Dev Cert.AttnIdeal.nD) → Buf (Elt Ideal) ((c.tc : Thread Cert.AttnIdeal.nD Cert.AttnIdeal.τ).loc Cert.AttnIdeal.main_v49)) (v3 : (c : Dev Cert.AttnIdeal.nD) → Buf (Elt Ideal) ((c.tc : Thread Cert.AttnIdeal.nD Cert.AttnIdeal.τ).loc Cert.AttnIdeal.main_v55)) (v4 : (c : Dev Cert.AttnIdeal.nD) → Buf (Elt Ideal) ((c.tc : Thread Cert.AttnIdeal.nD Cert.AttnIdeal.τ).loc Cert.AttnIdeal.main_v43_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v42_1) = v0 c
          ∧ r.2.mem ((c.tc : Thread Cert.AttnIdeal.nD Cert.AttnIdeal.τ).loc Cert.AttnIdeal.main_v43_0) = v1 c
          ∧ r.2.mem ((c.tc : Thread Cert.AttnIdeal.nD Cert.AttnIdeal.τ).loc Cert.AttnIdeal.main_v49) = v2 c
          ∧ r.2.mem ((c.tc : Thread Cert.AttnIdeal.nD Cert.AttnIdeal.τ).loc Cert.AttnIdeal.main_v55) = v3 c
          ∧ r.2.mem ((c.tc : Thread Cert.AttnIdeal.nD Cert.AttnIdeal.τ).loc Cert.AttnIdeal.main_v43_1) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v190) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_v192) = v3 c
          ∧ r.2.mem ((c.tc : Thread Cert.ReferenceIdeal.nD Cert.ReferenceIdeal.τ).loc Cert.ReferenceIdeal.main_v193) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v1) = v0 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1))

def preserves_GradW_GradWIdeal : Prop :=
  True

def algebraic_GradWIdeal_RefGradWIdeal [hGradWIdeal : Cert.GradWIdeal.Facts] [hRefGradWIdeal : Cert.RefGradWIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.RefGradWIdeal.nD Cert.RefGradWIdeal.τ Cert.RefGradWIdeal.sig) → Buf (Elt Ideal) ℓ) (g' : Dev Cert.RefGradWIdeal.nD → PrngReg), Pre_GradWIdeal m →
    (∀ c : Dev Cert.GradWIdeal.nD,
      m' ((c.tc : Thread Cert.RefGradWIdeal.nD Cert.RefGradWIdeal.τ).loc Cert.RefGradWIdeal.main_arg0) = m ((c.tc : Thread Cert.GradWIdeal.nD Cert.GradWIdeal.τ).loc Cert.GradWIdeal.main_arg0)
      ∧ m' ((c.tc : Thread Cert.RefGradWIdeal.nD Cert.RefGradWIdeal.τ).loc Cert.RefGradWIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v3)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v3) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.RefGradWIdeal.defs (F := Ideal)) (onTc (τ := Cert.RefGradWIdeal.τ) (Cert.RefGradWIdeal.main (F := Ideal))) ⟨m', fun _ => 0, g'⟩ (fun r => ∀ c : Dev Cert.RefGradWIdeal.nD,
          r.2.mem ((c.tc : Thread Cert.RefGradWIdeal.nD Cert.RefGradWIdeal.τ).loc Cert.RefGradWIdeal.main_v8) = v0 c
          ∧ r.2.mem ((c.tc : Thread Cert.RefGradWIdeal.nD Cert.RefGradWIdeal.τ).loc Cert.RefGradWIdeal.main_arg0) = m' ((c.tc : Thread Cert.RefGradWIdeal.nD Cert.RefGradWIdeal.τ).loc Cert.RefGradWIdeal.main_arg0)
          ∧ r.2.mem ((c.tc : Thread Cert.RefGradWIdeal.nD Cert.RefGradWIdeal.τ).loc Cert.RefGradWIdeal.main_arg1) = m' ((c.tc : Thread Cert.RefGradWIdeal.nD Cert.RefGradWIdeal.τ).loc Cert.RefGradWIdeal.main_arg1))

def preserves_GradX_GradXIdeal : Prop :=
  True

def algebraic_GradXIdeal_RefGradXIdeal [hGradXIdeal : Cert.GradXIdeal.Facts] [hRefGradXIdeal : Cert.RefGradXIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.RefGradXIdeal.nD Cert.RefGradXIdeal.τ Cert.RefGradXIdeal.sig) → Buf (Elt Ideal) ℓ) (g' : Dev Cert.RefGradXIdeal.nD → PrngReg), Pre_GradXIdeal m →
    (∀ c : Dev Cert.GradXIdeal.nD,
      m' ((c.tc : Thread Cert.RefGradXIdeal.nD Cert.RefGradXIdeal.τ).loc Cert.RefGradXIdeal.main_arg0) = m ((c.tc : Thread Cert.GradXIdeal.nD Cert.GradXIdeal.τ).loc Cert.GradXIdeal.main_arg0)
      ∧ m' ((c.tc : Thread Cert.RefGradXIdeal.nD Cert.RefGradXIdeal.τ).loc Cert.RefGradXIdeal.main_arg1) = m ((c.tc : Thread Cert.GradXIdeal.nD Cert.GradXIdeal.τ).loc Cert.GradXIdeal.main_arg1)
      ∧ m' ((c.tc : Thread Cert.RefGradXIdeal.nD Cert.RefGradXIdeal.τ).loc Cert.RefGradXIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v4)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v4) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.RefGradXIdeal.defs (F := Ideal)) (onTc (τ := Cert.RefGradXIdeal.τ) (Cert.RefGradXIdeal.main (F := Ideal))) ⟨m', fun _ => 0, g'⟩ (fun r => ∀ c : Dev Cert.RefGradXIdeal.nD,
          r.2.mem ((c.tc : Thread Cert.RefGradXIdeal.nD Cert.RefGradXIdeal.τ).loc Cert.RefGradXIdeal.main_v10) = v0 c
          ∧ r.2.mem ((c.tc : Thread Cert.RefGradXIdeal.nD Cert.RefGradXIdeal.τ).loc Cert.RefGradXIdeal.main_arg0) = m' ((c.tc : Thread Cert.RefGradXIdeal.nD Cert.RefGradXIdeal.τ).loc Cert.RefGradXIdeal.main_arg0)
          ∧ r.2.mem ((c.tc : Thread Cert.RefGradXIdeal.nD Cert.RefGradXIdeal.τ).loc Cert.RefGradXIdeal.main_arg1) = m' ((c.tc : Thread Cert.RefGradXIdeal.nD Cert.RefGradXIdeal.τ).loc Cert.RefGradXIdeal.main_arg1)
          ∧ r.2.mem ((c.tc : Thread Cert.RefGradXIdeal.nD Cert.RefGradXIdeal.τ).loc Cert.RefGradXIdeal.main_arg2) = m' ((c.tc : Thread Cert.RefGradXIdeal.nD Cert.RefGradXIdeal.τ).loc Cert.RefGradXIdeal.main_arg2))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v2) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1))

def preserves_GradWOut_GradWOutIdeal : Prop :=
  True

def algebraic_GradWOutIdeal_RefGradWOutIdeal [hGradWOutIdeal : Cert.GradWOutIdeal.Facts] [hRefGradWOutIdeal : Cert.RefGradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.RefGradWOutIdeal.nD Cert.RefGradWOutIdeal.τ Cert.RefGradWOutIdeal.sig) → Buf (Elt Ideal) ℓ) (g' : Dev Cert.RefGradWOutIdeal.nD → PrngReg), Pre_GradWOutIdeal m →
    (∀ c : Dev Cert.GradWOutIdeal.nD,
      m' ((c.tc : Thread Cert.RefGradWOutIdeal.nD Cert.RefGradWOutIdeal.τ).loc Cert.RefGradWOutIdeal.main_arg0) = m ((c.tc : Thread Cert.GradWOutIdeal.nD Cert.GradWOutIdeal.τ).loc Cert.GradWOutIdeal.main_arg0)
      ∧ m' ((c.tc : Thread Cert.RefGradWOutIdeal.nD Cert.RefGradWOutIdeal.τ).loc Cert.RefGradWOutIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v3)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v3) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.RefGradWOutIdeal.defs (F := Ideal)) (onTc (τ := Cert.RefGradWOutIdeal.τ) (Cert.RefGradWOutIdeal.main (F := Ideal))) ⟨m', fun _ => 0, g'⟩ (fun r => ∀ c : Dev Cert.RefGradWOutIdeal.nD,
          r.2.mem ((c.tc : Thread Cert.RefGradWOutIdeal.nD Cert.RefGradWOutIdeal.τ).loc Cert.RefGradWOutIdeal.main_v8) = v0 c
          ∧ r.2.mem ((c.tc : Thread Cert.RefGradWOutIdeal.nD Cert.RefGradWOutIdeal.τ).loc Cert.RefGradWOutIdeal.main_arg0) = m' ((c.tc : Thread Cert.RefGradWOutIdeal.nD Cert.RefGradWOutIdeal.τ).loc Cert.RefGradWOutIdeal.main_arg0)
          ∧ r.2.mem ((c.tc : Thread Cert.RefGradWOutIdeal.nD Cert.RefGradWOutIdeal.τ).loc Cert.RefGradWOutIdeal.main_arg1) = m' ((c.tc : Thread Cert.RefGradWOutIdeal.nD Cert.RefGradWOutIdeal.τ).loc Cert.RefGradWOutIdeal.main_arg1))

def preserves_DHAttn_DHAttnIdeal : Prop :=
  True

def algebraic_DHAttnIdeal_RefDHAttnIdeal [hDHAttnIdeal : Cert.DHAttnIdeal.Facts] [hRefDHAttnIdeal : Cert.RefDHAttnIdeal.Facts] : Prop :=
  ∀ (m : (ℓ : Loc Cert.DHAttnIdeal.nD Cert.DHAttnIdeal.τ Cert.DHAttnIdeal.sig) → Buf (Elt Ideal) ℓ) (g : Dev Cert.DHAttnIdeal.nD → PrngReg)
    (m' : (ℓ : Loc Cert.RefDHAttnIdeal.nD Cert.RefDHAttnIdeal.τ Cert.RefDHAttnIdeal.sig) → Buf (Elt Ideal) ℓ) (g' : Dev Cert.RefDHAttnIdeal.nD → PrngReg), Pre_DHAttnIdeal m →
    (∀ c : Dev Cert.DHAttnIdeal.nD,
      m' ((c.tc : Thread Cert.RefDHAttnIdeal.nD Cert.RefDHAttnIdeal.τ).loc Cert.RefDHAttnIdeal.main_arg0) = m ((c.tc : Thread Cert.DHAttnIdeal.nD Cert.DHAttnIdeal.τ).loc Cert.DHAttnIdeal.main_arg0)
      ∧ m' ((c.tc : Thread Cert.RefDHAttnIdeal.nD Cert.RefDHAttnIdeal.τ).loc Cert.RefDHAttnIdeal.main_arg1) = m ((c.tc : Thread Cert.DHAttnIdeal.nD Cert.DHAttnIdeal.τ).loc Cert.DHAttnIdeal.main_arg1)) →
    ∃ (v0 : (c : Dev Cert.DHAttnIdeal.nD) → Buf (Elt Ideal) ((c.tc : Thread Cert.DHAttnIdeal.nD Cert.DHAttnIdeal.τ).loc Cert.DHAttnIdeal.main_v3)),
      θ_run (Cert.DHAttnIdeal.defs (F := Ideal)) (onTc (τ := Cert.DHAttnIdeal.τ) (Cert.DHAttnIdeal.main (F := Ideal))) ⟨m, fun _ => 0, g⟩ (fun r => ∀ c : Dev Cert.DHAttnIdeal.nD,
          r.2.mem ((c.tc : Thread Cert.DHAttnIdeal.nD Cert.DHAttnIdeal.τ).loc Cert.DHAttnIdeal.main_v3) = v0 c
          ∧ r.2.mem ((c.tc : Thread Cert.DHAttnIdeal.nD Cert.DHAttnIdeal.τ).loc Cert.DHAttnIdeal.main_arg0) = m ((c.tc : Thread Cert.DHAttnIdeal.nD Cert.DHAttnIdeal.τ).loc Cert.DHAttnIdeal.main_arg0)
          ∧ r.2.mem ((c.tc : Thread Cert.DHAttnIdeal.nD Cert.DHAttnIdeal.τ).loc Cert.DHAttnIdeal.main_arg1) = m ((c.tc : Thread Cert.DHAttnIdeal.nD Cert.DHAttnIdeal.τ).loc Cert.DHAttnIdeal.main_arg1))
      ∧ θ_run (Cert.RefDHAttnIdeal.defs (F := Ideal)) (onTc (τ := Cert.RefDHAttnIdeal.τ) (Cert.RefDHAttnIdeal.main (F := Ideal))) ⟨m', fun _ => 0, g'⟩ (fun r => ∀ c : Dev Cert.RefDHAttnIdeal.nD,
          r.2.mem ((c.tc : Thread Cert.RefDHAttnIdeal.nD Cert.RefDHAttnIdeal.τ).loc Cert.RefDHAttnIdeal.main_v4) = v0 c
          ∧ r.2.mem ((c.tc : Thread Cert.RefDHAttnIdeal.nD Cert.RefDHAttnIdeal.τ).loc Cert.RefDHAttnIdeal.main_arg0) = m' ((c.tc : Thread Cert.RefDHAttnIdeal.nD Cert.RefDHAttnIdeal.τ).loc Cert.RefDHAttnIdeal.main_arg0)
          ∧ r.2.mem ((c.tc : Thread Cert.RefDHAttnIdeal.nD Cert.RefDHAttnIdeal.τ).loc Cert.RefDHAttnIdeal.main_arg1) = m' ((c.tc : Thread Cert.RefDHAttnIdeal.nD Cert.RefDHAttnIdeal.τ).loc Cert.RefDHAttnIdeal.main_arg1))

def preserves_GradWBranch_GradWBranchIdeal : Prop :=
  True

def algebraic_GradWBranchIdeal_RefGradWBranchIdeal [hGradWBranchIdeal : Cert.GradWBranchIdeal.Facts] [hRefGradWBranchIdeal : Cert.RefGradWBranchIdeal.Facts] : Prop :=
  ∀ (m : (ℓ : Loc Cert.GradWBranchIdeal.nD Cert.GradWBranchIdeal.τ Cert.GradWBranchIdeal.sig) → Buf (Elt Ideal) ℓ) (g : Dev Cert.GradWBranchIdeal.nD → PrngReg)
    (m' : (ℓ : Loc Cert.RefGradWBranchIdeal.nD Cert.RefGradWBranchIdeal.τ Cert.RefGradWBranchIdeal.sig) → Buf (Elt Ideal) ℓ) (g' : Dev Cert.RefGradWBranchIdeal.nD → PrngReg), Pre_GradWBranchIdeal m →
    (∀ c : Dev Cert.GradWBranchIdeal.nD,
      m' ((c.tc : Thread Cert.RefGradWBranchIdeal.nD Cert.RefGradWBranchIdeal.τ).loc Cert.RefGradWBranchIdeal.main_arg0) = m ((c.tc : Thread Cert.GradWBranchIdeal.nD Cert.GradWBranchIdeal.τ).loc Cert.GradWBranchIdeal.main_arg0)
      ∧ m' ((c.tc : Thread Cert.RefGradWBranchIdeal.nD Cert.RefGradWBranchIdeal.τ).loc Cert.RefGradWBranchIdeal.main_arg1) = m ((c.tc : Thread Cert.GradWBranchIdeal.nD Cert.GradWBranchIdeal.τ).loc Cert.GradWBranchIdeal.main_arg1)) →
    ∃ (v0 : (c : Dev Cert.GradWBranchIdeal.nD) → Buf (Elt Ideal) ((c.tc : Thread Cert.GradWBranchIdeal.nD Cert.GradWBranchIdeal.τ).loc Cert.GradWBranchIdeal.main_v2)),
      θ_run (Cert.GradWBranchIdeal.defs (F := Ideal)) (onTc (τ := Cert.GradWBranchIdeal.τ) (Cert.GradWBranchIdeal.main (F := Ideal))) ⟨m, fun _ => 0, g⟩ (fun r => ∀ c : Dev Cert.GradWBranchIdeal.nD,
          r.2.mem ((c.tc : Thread Cert.GradWBranchIdeal.nD Cert.GradWBranchIdeal.τ).loc Cert.GradWBranchIdeal.main_v2) = v0 c
          ∧ r.2.mem ((c.tc : Thread Cert.GradWBranchIdeal.nD Cert.GradWBranchIdeal.τ).loc Cert.GradWBranchIdeal.main_arg0) = m ((c.tc : Thread Cert.GradWBranchIdeal.nD Cert.GradWBranchIdeal.τ).loc Cert.GradWBranchIdeal.main_arg0)
          ∧ r.2.mem ((c.tc : Thread Cert.GradWBranchIdeal.nD Cert.GradWBranchIdeal.τ).loc Cert.GradWBranchIdeal.main_arg1) = m ((c.tc : Thread Cert.GradWBranchIdeal.nD Cert.GradWBranchIdeal.τ).loc Cert.GradWBranchIdeal.main_arg1))
      ∧ θ_run (Cert.RefGradWBranchIdeal.defs (F := Ideal)) (onTc (τ := Cert.RefGradWBranchIdeal.τ) (Cert.RefGradWBranchIdeal.main (F := Ideal))) ⟨m', fun _ => 0, g'⟩ (fun r => ∀ c : Dev Cert.RefGradWBranchIdeal.nD,
          r.2.mem ((c.tc : Thread Cert.RefGradWBranchIdeal.nD Cert.RefGradWBranchIdeal.τ).loc Cert.RefGradWBranchIdeal.main_v9) = v0 c
          ∧ r.2.mem ((c.tc : Thread Cert.RefGradWBranchIdeal.nD Cert.RefGradWBranchIdeal.τ).loc Cert.RefGradWBranchIdeal.main_arg0) = m' ((c.tc : Thread Cert.RefGradWBranchIdeal.nD Cert.RefGradWBranchIdeal.τ).loc Cert.RefGradWBranchIdeal.main_arg0)
          ∧ r.2.mem ((c.tc : Thread Cert.RefGradWBranchIdeal.nD Cert.RefGradWBranchIdeal.τ).loc Cert.RefGradWBranchIdeal.main_arg1) = m' ((c.tc : Thread Cert.RefGradWBranchIdeal.nD Cert.RefGradWBranchIdeal.τ).loc Cert.RefGradWBranchIdeal.main_arg1))

def preserves_GluGate_GluGateIdeal : Prop :=
  True

def algebraic_GluGateIdeal_RefGluGateIdeal [hGluGateIdeal : Cert.GluGateIdeal.Facts] [hRefGluGateIdeal : Cert.RefGluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.RefGluGateIdeal.nD Cert.RefGluGateIdeal.τ Cert.RefGluGateIdeal.sig) → Buf (Elt Ideal) ℓ) (g' : Dev Cert.RefGluGateIdeal.nD → PrngReg), Pre_GluGateIdeal m →
    (∀ c : Dev Cert.GluGateIdeal.nD,
      m' ((c.tc : Thread Cert.RefGluGateIdeal.nD Cert.RefGluGateIdeal.τ).loc Cert.RefGluGateIdeal.main_arg0) = m ((c.tc : Thread Cert.GluGateIdeal.nD Cert.GluGateIdeal.τ).loc Cert.GluGateIdeal.main_arg0)
      ∧ m' ((c.tc : Thread Cert.RefGluGateIdeal.nD Cert.RefGluGateIdeal.τ).loc Cert.RefGluGateIdeal.main_arg1) = m ((c.tc : Thread Cert.GluGateIdeal.nD Cert.GluGateIdeal.τ).loc Cert.GluGateIdeal.main_arg1)
      ∧ m' ((c.tc : Thread Cert.RefGluGateIdeal.nD Cert.RefGluGateIdeal.τ).loc Cert.RefGluGateIdeal.main_arg2) = m ((c.tc : Thread Cert.GluGateIdeal.nD Cert.GluGateIdeal.τ).loc Cert.GluGateIdeal.main_arg2)) →
    ∃ (v0 : (c : Dev Cert.GluGateIdeal.nD) → Buf (Elt Ideal) ((c.tc : Thread Cert.GluGateIdeal.nD Cert.GluGateIdeal.τ).loc Cert.GluGateIdeal.main_v3_0)) (v1 : (c : Dev Cert.GluGateIdeal.nD) → Buf (Elt Ideal) ((c.tc : Thread Cert.GluGateIdeal.nD Cert.GluGateIdeal.τ).loc Cert.GluGateIdeal.main_v3_1)) (v2 : (c : Dev Cert.GluGateIdeal.nD) → Buf (Elt Ideal) ((c.tc : Thread Cert.GluGateIdeal.nD Cert.GluGateIdeal.τ).loc Cert.GluGateIdeal.main_v3_2)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v3_0) = v0 c
          ∧ r.2.mem ((c.tc : Thread Cert.GluGateIdeal.nD Cert.GluGateIdeal.τ).loc Cert.GluGateIdeal.main_v3_1) = v1 c
          ∧ r.2.mem ((c.tc : Thread Cert.GluGateIdeal.nD Cert.GluGateIdeal.τ).loc Cert.GluGateIdeal.main_v3_2) = v2 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2))
      ∧ θ_run (Cert.RefGluGateIdeal.defs (F := Ideal)) (onTc (τ := Cert.RefGluGateIdeal.τ) (Cert.RefGluGateIdeal.main (F := Ideal))) ⟨m', fun _ => 0, g'⟩ (fun r => ∀ c : Dev Cert.RefGluGateIdeal.nD,
          r.2.mem ((c.tc : Thread Cert.RefGluGateIdeal.nD Cert.RefGluGateIdeal.τ).loc Cert.RefGluGateIdeal.main_v9) = v0 c
          ∧ r.2.mem ((c.tc : Thread Cert.RefGluGateIdeal.nD Cert.RefGluGateIdeal.τ).loc Cert.RefGluGateIdeal.main_v10) = v1 c
          ∧ r.2.mem ((c.tc : Thread Cert.RefGluGateIdeal.nD Cert.RefGluGateIdeal.τ).loc Cert.RefGluGateIdeal.main_v20) = v2 c
          ∧ r.2.mem ((c.tc : Thread Cert.RefGluGateIdeal.nD Cert.RefGluGateIdeal.τ).loc Cert.RefGluGateIdeal.main_arg0) = m' ((c.tc : Thread Cert.RefGluGateIdeal.nD Cert.RefGluGateIdeal.τ).loc Cert.RefGluGateIdeal.main_arg0)
          ∧ r.2.mem ((c.tc : Thread Cert.RefGluGateIdeal.nD Cert.RefGluGateIdeal.τ).loc Cert.RefGluGateIdeal.main_arg1) = m' ((c.tc : Thread Cert.RefGluGateIdeal.nD Cert.RefGluGateIdeal.τ).loc Cert.RefGluGateIdeal.main_arg1)
          ∧ r.2.mem ((c.tc : Thread Cert.RefGluGateIdeal.nD Cert.RefGluGateIdeal.τ).loc Cert.RefGluGateIdeal.main_arg2) = m' ((c.tc : Thread Cert.RefGluGateIdeal.nD Cert.RefGluGateIdeal.τ).loc Cert.RefGluGateIdeal.main_arg2))

def preserves_BranchMerge_BranchMergeIdeal : Prop :=
  True

def algebraic_BranchMergeIdeal_RefBranchMergeIdeal [hBranchMergeIdeal : Cert.BranchMergeIdeal.Facts] [hRefBranchMergeIdeal : Cert.RefBranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.RefBranchMergeIdeal.nD Cert.RefBranchMergeIdeal.τ Cert.RefBranchMergeIdeal.sig) → Buf (Elt Ideal) ℓ) (g' : Dev Cert.RefBranchMergeIdeal.nD → PrngReg), Pre_BranchMergeIdeal m →
    (∀ c : Dev Cert.BranchMergeIdeal.nD,
      m' ((c.tc : Thread Cert.RefBranchMergeIdeal.nD Cert.RefBranchMergeIdeal.τ).loc Cert.RefBranchMergeIdeal.main_arg0) = m ((c.tc : Thread Cert.BranchMergeIdeal.nD Cert.BranchMergeIdeal.τ).loc Cert.BranchMergeIdeal.main_arg0)
      ∧ m' ((c.tc : Thread Cert.RefBranchMergeIdeal.nD Cert.RefBranchMergeIdeal.τ).loc Cert.RefBranchMergeIdeal.main_arg1) = m ((c.tc : Thread Cert.BranchMergeIdeal.nD Cert.BranchMergeIdeal.τ).loc Cert.BranchMergeIdeal.main_arg1)
      ∧ m' ((c.tc : Thread Cert.RefBranchMergeIdeal.nD Cert.RefBranchMergeIdeal.τ).loc Cert.RefBranchMergeIdeal.main_arg2) = m ((c.tc : Thread Cert.BranchMergeIdeal.nD Cert.BranchMergeIdeal.τ).loc Cert.BranchMergeIdeal.main_arg2)
      ∧ m' ((c.tc : Thread Cert.RefBranchMergeIdeal.nD Cert.RefBranchMergeIdeal.τ).loc Cert.RefBranchMergeIdeal.main_arg3) = m ((c.tc : Thread Cert.BranchMergeIdeal.nD Cert.BranchMergeIdeal.τ).loc Cert.BranchMergeIdeal.main_arg3)
      ∧ m' ((c.tc : Thread Cert.RefBranchMergeIdeal.nD Cert.RefBranchMergeIdeal.τ).loc Cert.RefBranchMergeIdeal.main_arg4) = m ((c.tc : Thread Cert.BranchMergeIdeal.nD Cert.BranchMergeIdeal.τ).loc Cert.BranchMergeIdeal.main_arg4)) →
    ∃ (v0 : (c : Dev Cert.BranchMergeIdeal.nD) → Buf (Elt Ideal) ((c.tc : Thread Cert.BranchMergeIdeal.nD Cert.BranchMergeIdeal.τ).loc Cert.BranchMergeIdeal.main_v2_0)) (v1 : (c : Dev Cert.BranchMergeIdeal.nD) → Buf (Elt Ideal) ((c.tc : Thread Cert.BranchMergeIdeal.nD Cert.BranchMergeIdeal.τ).loc Cert.BranchMergeIdeal.main_v2_1)) (v2 : (c : Dev Cert.BranchMergeIdeal.nD) → Buf (Elt Ideal) ((c.tc : Thread Cert.BranchMergeIdeal.nD Cert.BranchMergeIdeal.τ).loc Cert.BranchMergeIdeal.main_v2_2)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v2_0) = v0 c
          ∧ r.2.mem ((c.tc : Thread Cert.BranchMergeIdeal.nD Cert.BranchMergeIdeal.τ).loc Cert.BranchMergeIdeal.main_v2_1) = v1 c
          ∧ r.2.mem ((c.tc : Thread Cert.BranchMergeIdeal.nD Cert.BranchMergeIdeal.τ).loc Cert.BranchMergeIdeal.main_v2_2) = v2 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4))
      ∧ θ_run (Cert.RefBranchMergeIdeal.defs (F := Ideal)) (onTc (τ := Cert.RefBranchMergeIdeal.τ) (Cert.RefBranchMergeIdeal.main (F := Ideal))) ⟨m', fun _ => 0, g'⟩ (fun r => ∀ c : Dev Cert.RefBranchMergeIdeal.nD,
          r.2.mem ((c.tc : Thread Cert.RefBranchMergeIdeal.nD Cert.RefBranchMergeIdeal.τ).loc Cert.RefBranchMergeIdeal.main_v10) = v0 c
          ∧ r.2.mem ((c.tc : Thread Cert.RefBranchMergeIdeal.nD Cert.RefBranchMergeIdeal.τ).loc Cert.RefBranchMergeIdeal.main_v12) = v1 c
          ∧ r.2.mem ((c.tc : Thread Cert.RefBranchMergeIdeal.nD Cert.RefBranchMergeIdeal.τ).loc Cert.RefBranchMergeIdeal.main_v28) = v2 c
          ∧ r.2.mem ((c.tc : Thread Cert.RefBranchMergeIdeal.nD Cert.RefBranchMergeIdeal.τ).loc Cert.RefBranchMergeIdeal.main_arg0) = m' ((c.tc : Thread Cert.RefBranchMergeIdeal.nD Cert.RefBranchMergeIdeal.τ).loc Cert.RefBranchMergeIdeal.main_arg0)
          ∧ r.2.mem ((c.tc : Thread Cert.RefBranchMergeIdeal.nD Cert.RefBranchMergeIdeal.τ).loc Cert.RefBranchMergeIdeal.main_arg1) = m' ((c.tc : Thread Cert.RefBranchMergeIdeal.nD Cert.RefBranchMergeIdeal.τ).loc Cert.RefBranchMergeIdeal.main_arg1)
          ∧ r.2.mem ((c.tc : Thread Cert.RefBranchMergeIdeal.nD Cert.RefBranchMergeIdeal.τ).loc Cert.RefBranchMergeIdeal.main_arg2) = m' ((c.tc : Thread Cert.RefBranchMergeIdeal.nD Cert.RefBranchMergeIdeal.τ).loc Cert.RefBranchMergeIdeal.main_arg2)
          ∧ r.2.mem ((c.tc : Thread Cert.RefBranchMergeIdeal.nD Cert.RefBranchMergeIdeal.τ).loc Cert.RefBranchMergeIdeal.main_arg3) = m' ((c.tc : Thread Cert.RefBranchMergeIdeal.nD Cert.RefBranchMergeIdeal.τ).loc Cert.RefBranchMergeIdeal.main_arg3)
          ∧ r.2.mem ((c.tc : Thread Cert.RefBranchMergeIdeal.nD Cert.RefBranchMergeIdeal.τ).loc Cert.RefBranchMergeIdeal.main_arg4) = m' ((c.tc : Thread Cert.RefBranchMergeIdeal.nD Cert.RefBranchMergeIdeal.τ).loc Cert.RefBranchMergeIdeal.main_arg4))

def preserves_MergeBwd_MergeBwdIdeal : Prop :=
  True

def algebraic_MergeBwdIdeal_RefMergeBwdIdeal [hMergeBwdIdeal : Cert.MergeBwdIdeal.Facts] [hRefMergeBwdIdeal : Cert.RefMergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.RefMergeBwdIdeal.nD Cert.RefMergeBwdIdeal.τ Cert.RefMergeBwdIdeal.sig) → Buf (Elt Ideal) ℓ) (g' : Dev Cert.RefMergeBwdIdeal.nD → PrngReg), Pre_MergeBwdIdeal m →
    (∀ c : Dev Cert.MergeBwdIdeal.nD,
      m' ((c.tc : Thread Cert.RefMergeBwdIdeal.nD Cert.RefMergeBwdIdeal.τ).loc Cert.RefMergeBwdIdeal.main_arg0) = m ((c.tc : Thread Cert.MergeBwdIdeal.nD Cert.MergeBwdIdeal.τ).loc Cert.MergeBwdIdeal.main_arg0)
      ∧ m' ((c.tc : Thread Cert.RefMergeBwdIdeal.nD Cert.RefMergeBwdIdeal.τ).loc Cert.RefMergeBwdIdeal.main_arg1) = m ((c.tc : Thread Cert.MergeBwdIdeal.nD Cert.MergeBwdIdeal.τ).loc Cert.MergeBwdIdeal.main_arg1)
      ∧ m' ((c.tc : Thread Cert.RefMergeBwdIdeal.nD Cert.RefMergeBwdIdeal.τ).loc Cert.RefMergeBwdIdeal.main_arg2) = m ((c.tc : Thread Cert.MergeBwdIdeal.nD Cert.MergeBwdIdeal.τ).loc Cert.MergeBwdIdeal.main_arg2)
      ∧ m' ((c.tc : Thread Cert.RefMergeBwdIdeal.nD Cert.RefMergeBwdIdeal.τ).loc Cert.RefMergeBwdIdeal.main_arg3) = m ((c.tc : Thread Cert.MergeBwdIdeal.nD Cert.MergeBwdIdeal.τ).loc Cert.MergeBwdIdeal.main_arg3)
      ∧ m' ((c.tc : Thread Cert.RefMergeBwdIdeal.nD Cert.RefMergeBwdIdeal.τ).loc Cert.RefMergeBwdIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v2_0)) (v1 : (c : Dev Cert.MergeBwdIdeal.nD) → Buf (Elt Ideal) ((c.tc : Thread Cert.MergeBwdIdeal.nD Cert.MergeBwdIdeal.τ).loc Cert.MergeBwdIdeal.main_v2_1)) (v2 : (c : Dev Cert.MergeBwdIdeal.nD) → Buf (Elt Ideal) ((c.tc : Thread Cert.MergeBwdIdeal.nD Cert.MergeBwdIdeal.τ).loc Cert.MergeBwdIdeal.main_v2_2)) (v3 : (c : Dev Cert.MergeBwdIdeal.nD) → Buf (Elt Ideal) ((c.tc : Thread Cert.MergeBwdIdeal.nD Cert.MergeBwdIdeal.τ).loc Cert.MergeBwdIdeal.main_v2_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v2_0) = v0 c
          ∧ r.2.mem ((c.tc : Thread Cert.MergeBwdIdeal.nD Cert.MergeBwdIdeal.τ).loc Cert.MergeBwdIdeal.main_v2_1) = v1 c
          ∧ r.2.mem ((c.tc : Thread Cert.MergeBwdIdeal.nD Cert.MergeBwdIdeal.τ).loc Cert.MergeBwdIdeal.main_v2_2) = v2 c
          ∧ r.2.mem ((c.tc : Thread Cert.MergeBwdIdeal.nD Cert.MergeBwdIdeal.τ).loc Cert.MergeBwdIdeal.main_v2_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.RefMergeBwdIdeal.defs (F := Ideal)) (onTc (τ := Cert.RefMergeBwdIdeal.τ) (Cert.RefMergeBwdIdeal.main (F := Ideal))) ⟨m', fun _ => 0, g'⟩ (fun r => ∀ c : Dev Cert.RefMergeBwdIdeal.nD,
          r.2.mem ((c.tc : Thread Cert.RefMergeBwdIdeal.nD Cert.RefMergeBwdIdeal.τ).loc Cert.RefMergeBwdIdeal.main_v38) = v0 c
          ∧ r.2.mem ((c.tc : Thread Cert.RefMergeBwdIdeal.nD Cert.RefMergeBwdIdeal.τ).loc Cert.RefMergeBwdIdeal.main_v39) = v1 c
          ∧ r.2.mem ((c.tc : Thread Cert.RefMergeBwdIdeal.nD Cert.RefMergeBwdIdeal.τ).loc Cert.RefMergeBwdIdeal.main_v40) = v2 c
          ∧ r.2.mem ((c.tc : Thread Cert.RefMergeBwdIdeal.nD Cert.RefMergeBwdIdeal.τ).loc Cert.RefMergeBwdIdeal.main_v41) = v3 c
          ∧ r.2.mem ((c.tc : Thread Cert.RefMergeBwdIdeal.nD Cert.RefMergeBwdIdeal.τ).loc Cert.RefMergeBwdIdeal.main_arg0) = m' ((c.tc : Thread Cert.RefMergeBwdIdeal.nD Cert.RefMergeBwdIdeal.τ).loc Cert.RefMergeBwdIdeal.main_arg0)
          ∧ r.2.mem ((c.tc : Thread Cert.RefMergeBwdIdeal.nD Cert.RefMergeBwdIdeal.τ).loc Cert.RefMergeBwdIdeal.main_arg1) = m' ((c.tc : Thread Cert.RefMergeBwdIdeal.nD Cert.RefMergeBwdIdeal.τ).loc Cert.RefMergeBwdIdeal.main_arg1)
          ∧ r.2.mem ((c.tc : Thread Cert.RefMergeBwdIdeal.nD Cert.RefMergeBwdIdeal.τ).loc Cert.RefMergeBwdIdeal.main_arg2) = m' ((c.tc : Thread Cert.RefMergeBwdIdeal.nD Cert.RefMergeBwdIdeal.τ).loc Cert.RefMergeBwdIdeal.main_arg2)
          ∧ r.2.mem ((c.tc : Thread Cert.RefMergeBwdIdeal.nD Cert.RefMergeBwdIdeal.τ).loc Cert.RefMergeBwdIdeal.main_arg3) = m' ((c.tc : Thread Cert.RefMergeBwdIdeal.nD Cert.RefMergeBwdIdeal.τ).loc Cert.RefMergeBwdIdeal.main_arg3)
          ∧ r.2.mem ((c.tc : Thread Cert.RefMergeBwdIdeal.nD Cert.RefMergeBwdIdeal.τ).loc Cert.RefMergeBwdIdeal.main_arg4) = m' ((c.tc : Thread Cert.RefMergeBwdIdeal.nD Cert.RefMergeBwdIdeal.τ).loc Cert.RefMergeBwdIdeal.main_arg4))

def preserves_GluGateBwd_GluGateBwdIdeal : Prop :=
  True

def algebraic_GluGateBwdIdeal_RefGluGateBwdIdeal_pre_finite_gate [hGluGateBwdIdeal : Cert.GluGateBwdIdeal.Facts] [hRefGluGateBwdIdeal : Cert.RefGluGateBwdIdeal.Facts] [hPre_finite_gate : Cert.Pre_finite_gate.Facts] : Prop :=
  ∀ (m : (ℓ : Loc Cert.GluGateBwdIdeal.nD Cert.GluGateBwdIdeal.τ Cert.GluGateBwdIdeal.sig) → Buf (Elt Ideal) ℓ) (g : Dev Cert.GluGateBwdIdeal.nD → PrngReg)
    (m' : (ℓ : Loc Cert.RefGluGateBwdIdeal.nD Cert.RefGluGateBwdIdeal.τ Cert.RefGluGateBwdIdeal.sig) → Buf (Elt Ideal) ℓ) (g' : Dev Cert.RefGluGateBwdIdeal.nD → PrngReg), Pre_GluGateBwdIdeal_finite_gate m →
    (∀ c : Dev Cert.GluGateBwdIdeal.nD,
      m' ((c.tc : Thread Cert.RefGluGateBwdIdeal.nD Cert.RefGluGateBwdIdeal.τ).loc Cert.RefGluGateBwdIdeal.main_arg0) = m ((c.tc : Thread Cert.GluGateBwdIdeal.nD Cert.GluGateBwdIdeal.τ).loc Cert.GluGateBwdIdeal.main_arg0)
      ∧ m' ((c.tc : Thread Cert.RefGluGateBwdIdeal.nD Cert.RefGluGateBwdIdeal.τ).loc Cert.RefGluGateBwdIdeal.main_arg1) = m ((c.tc : Thread Cert.GluGateBwdIdeal.nD Cert.GluGateBwdIdeal.τ).loc Cert.GluGateBwdIdeal.main_arg1)
      ∧ m' ((c.tc : Thread Cert.RefGluGateBwdIdeal.nD Cert.RefGluGateBwdIdeal.τ).loc Cert.RefGluGateBwdIdeal.main_arg2) = m ((c.tc : Thread Cert.GluGateBwdIdeal.nD Cert.GluGateBwdIdeal.τ).loc Cert.GluGateBwdIdeal.main_arg2)
      ∧ m' ((c.tc : Thread Cert.RefGluGateBwdIdeal.nD Cert.RefGluGateBwdIdeal.τ).loc Cert.RefGluGateBwdIdeal.main_arg3) = m ((c.tc : Thread Cert.GluGateBwdIdeal.nD Cert.GluGateBwdIdeal.τ).loc Cert.GluGateBwdIdeal.main_arg3)
      ∧ m' ((c.tc : Thread Cert.RefGluGateBwdIdeal.nD Cert.RefGluGateBwdIdeal.τ).loc Cert.RefGluGateBwdIdeal.main_arg4) = m ((c.tc : Thread Cert.GluGateBwdIdeal.nD Cert.GluGateBwdIdeal.τ).loc Cert.GluGateBwdIdeal.main_arg4)) →
    ∃ (v0 : (c : Dev Cert.GluGateBwdIdeal.nD) → Buf (Elt Ideal) ((c.tc : Thread Cert.GluGateBwdIdeal.nD Cert.GluGateBwdIdeal.τ).loc Cert.GluGateBwdIdeal.main_v1_0)) (v1 : (c : Dev Cert.GluGateBwdIdeal.nD) → Buf (Elt Ideal) ((c.tc : Thread Cert.GluGateBwdIdeal.nD Cert.GluGateBwdIdeal.τ).loc Cert.GluGateBwdIdeal.main_v1_1)) (v2 : (c : Dev Cert.GluGateBwdIdeal.nD) → Buf (Elt Ideal) ((c.tc : Thread Cert.GluGateBwdIdeal.nD Cert.GluGateBwdIdeal.τ).loc Cert.GluGateBwdIdeal.main_v1_2)),
      θ_run (Cert.GluGateBwdIdeal.defs (F := Ideal)) (onTc (τ := Cert.GluGateBwdIdeal.τ) (Cert.GluGateBwdIdeal.main (F := Ideal))) ⟨m, fun _ => 0, g⟩ (fun r => ∀ c : Dev Cert.GluGateBwdIdeal.nD,
          r.2.mem ((c.tc : Thread Cert.GluGateBwdIdeal.nD Cert.GluGateBwdIdeal.τ).loc Cert.GluGateBwdIdeal.main_v1_0) = v0 c
          ∧ r.2.mem ((c.tc : Thread Cert.GluGateBwdIdeal.nD Cert.GluGateBwdIdeal.τ).loc Cert.GluGateBwdIdeal.main_v1_1) = v1 c
          ∧ r.2.mem ((c.tc : Thread Cert.GluGateBwdIdeal.nD Cert.GluGateBwdIdeal.τ).loc Cert.GluGateBwdIdeal.main_v1_2) = v2 c
          ∧ r.2.mem ((c.tc : Thread Cert.GluGateBwdIdeal.nD Cert.GluGateBwdIdeal.τ).loc Cert.GluGateBwdIdeal.main_arg0) = m ((c.tc : Thread Cert.GluGateBwdIdeal.nD Cert.GluGateBwdIdeal.τ).loc Cert.GluGateBwdIdeal.main_arg0)
          ∧ r.2.mem ((c.tc : Thread Cert.GluGateBwdIdeal.nD Cert.GluGateBwdIdeal.τ).loc Cert.GluGateBwdIdeal.main_arg1) = m ((c.tc : Thread Cert.GluGateBwdIdeal.nD Cert.GluGateBwdIdeal.τ).loc Cert.GluGateBwdIdeal.main_arg1)
          ∧ r.2.mem ((c.tc : Thread Cert.GluGateBwdIdeal.nD Cert.GluGateBwdIdeal.τ).loc Cert.GluGateBwdIdeal.main_arg2) = m ((c.tc : Thread Cert.GluGateBwdIdeal.nD Cert.GluGateBwdIdeal.τ).loc Cert.GluGateBwdIdeal.main_arg2)
          ∧ r.2.mem ((c.tc : Thread Cert.GluGateBwdIdeal.nD Cert.GluGateBwdIdeal.τ).loc Cert.GluGateBwdIdeal.main_arg3) = m ((c.tc : Thread Cert.GluGateBwdIdeal.nD Cert.GluGateBwdIdeal.τ).loc Cert.GluGateBwdIdeal.main_arg3)
          ∧ r.2.mem ((c.tc : Thread Cert.GluGateBwdIdeal.nD Cert.GluGateBwdIdeal.τ).loc Cert.GluGateBwdIdeal.main_arg4) = m ((c.tc : Thread Cert.GluGateBwdIdeal.nD Cert.GluGateBwdIdeal.τ).loc Cert.GluGateBwdIdeal.main_arg4))
      ∧ θ_run (Cert.RefGluGateBwdIdeal.defs (F := Ideal)) (onTc (τ := Cert.RefGluGateBwdIdeal.τ) (Cert.RefGluGateBwdIdeal.main (F := Ideal))) ⟨m', fun _ => 0, g'⟩ (fun r => ∀ c : Dev Cert.RefGluGateBwdIdeal.nD,
          r.2.mem ((c.tc : Thread Cert.RefGluGateBwdIdeal.nD Cert.RefGluGateBwdIdeal.τ).loc Cert.RefGluGateBwdIdeal.main_v28) = v0 c
          ∧ r.2.mem ((c.tc : Thread Cert.RefGluGateBwdIdeal.nD Cert.RefGluGateBwdIdeal.τ).loc Cert.RefGluGateBwdIdeal.main_v29) = v1 c
          ∧ r.2.mem ((c.tc : Thread Cert.RefGluGateBwdIdeal.nD Cert.RefGluGateBwdIdeal.τ).loc Cert.RefGluGateBwdIdeal.main_v30) = v2 c
          ∧ r.2.mem ((c.tc : Thread Cert.RefGluGateBwdIdeal.nD Cert.RefGluGateBwdIdeal.τ).loc Cert.RefGluGateBwdIdeal.main_arg0) = m' ((c.tc : Thread Cert.RefGluGateBwdIdeal.nD Cert.RefGluGateBwdIdeal.τ).loc Cert.RefGluGateBwdIdeal.main_arg0)
          ∧ r.2.mem ((c.tc : Thread Cert.RefGluGateBwdIdeal.nD Cert.RefGluGateBwdIdeal.τ).loc Cert.RefGluGateBwdIdeal.main_arg1) = m' ((c.tc : Thread Cert.RefGluGateBwdIdeal.nD Cert.RefGluGateBwdIdeal.τ).loc Cert.RefGluGateBwdIdeal.main_arg1)
          ∧ r.2.mem ((c.tc : Thread Cert.RefGluGateBwdIdeal.nD Cert.RefGluGateBwdIdeal.τ).loc Cert.RefGluGateBwdIdeal.main_arg2) = m' ((c.tc : Thread Cert.RefGluGateBwdIdeal.nD Cert.RefGluGateBwdIdeal.τ).loc Cert.RefGluGateBwdIdeal.main_arg2)
          ∧ r.2.mem ((c.tc : Thread Cert.RefGluGateBwdIdeal.nD Cert.RefGluGateBwdIdeal.τ).loc Cert.RefGluGateBwdIdeal.main_arg3) = m' ((c.tc : Thread Cert.RefGluGateBwdIdeal.nD Cert.RefGluGateBwdIdeal.τ).loc Cert.RefGluGateBwdIdeal.main_arg3)
          ∧ r.2.mem ((c.tc : Thread Cert.RefGluGateBwdIdeal.nD Cert.RefGluGateBwdIdeal.τ).loc Cert.RefGluGateBwdIdeal.main_arg4) = m' ((c.tc : Thread Cert.RefGluGateBwdIdeal.nD Cert.RefGluGateBwdIdeal.τ).loc Cert.RefGluGateBwdIdeal.main_arg4))

def preserves_AdamWIn_AdamWInIdeal : Prop :=
  True

def algebraic_AdamWInIdeal_RefAdamWInIdeal [hAdamWInIdeal : Cert.AdamWInIdeal.Facts] [hRefAdamWInIdeal : Cert.RefAdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.RefAdamWInIdeal.nD Cert.RefAdamWInIdeal.τ Cert.RefAdamWInIdeal.sig) → Buf (Elt Ideal) ℓ) (g' : Dev Cert.RefAdamWInIdeal.nD → PrngReg), Pre_AdamWInIdeal m →
    (∀ c : Dev Cert.AdamWInIdeal.nD,
      m' ((c.tc : Thread Cert.RefAdamWInIdeal.nD Cert.RefAdamWInIdeal.τ).loc Cert.RefAdamWInIdeal.main_arg0) = m ((c.tc : Thread Cert.AdamWInIdeal.nD Cert.AdamWInIdeal.τ).loc Cert.AdamWInIdeal.main_arg0)
      ∧ m' ((c.tc : Thread Cert.RefAdamWInIdeal.nD Cert.RefAdamWInIdeal.τ).loc Cert.RefAdamWInIdeal.main_arg1) = m ((c.tc : Thread Cert.AdamWInIdeal.nD Cert.AdamWInIdeal.τ).loc Cert.AdamWInIdeal.main_arg1)
      ∧ m' ((c.tc : Thread Cert.RefAdamWInIdeal.nD Cert.RefAdamWInIdeal.τ).loc Cert.RefAdamWInIdeal.main_arg2) = m ((c.tc : Thread Cert.AdamWInIdeal.nD Cert.AdamWInIdeal.τ).loc Cert.AdamWInIdeal.main_arg2)
      ∧ m' ((c.tc : Thread Cert.RefAdamWInIdeal.nD Cert.RefAdamWInIdeal.τ).loc Cert.RefAdamWInIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.RefAdamWInIdeal.defs (F := Ideal)) (onTc (τ := Cert.RefAdamWInIdeal.τ) (Cert.RefAdamWInIdeal.main (F := Ideal))) ⟨m', fun _ => 0, g'⟩ (fun r => ∀ c : Dev Cert.RefAdamWInIdeal.nD,
          r.2.mem ((c.tc : Thread Cert.RefAdamWInIdeal.nD Cert.RefAdamWInIdeal.τ).loc Cert.RefAdamWInIdeal.main_v1) = v0 c
          ∧ r.2.mem ((c.tc : Thread Cert.RefAdamWInIdeal.nD Cert.RefAdamWInIdeal.τ).loc Cert.RefAdamWInIdeal.main_v25) = v1 c
          ∧ r.2.mem ((c.tc : Thread Cert.RefAdamWInIdeal.nD Cert.RefAdamWInIdeal.τ).loc Cert.RefAdamWInIdeal.main_v6) = v2 c
          ∧ r.2.mem ((c.tc : Thread Cert.RefAdamWInIdeal.nD Cert.RefAdamWInIdeal.τ).loc Cert.RefAdamWInIdeal.main_v12) = v3 c
          ∧ r.2.mem ((c.tc : Thread Cert.RefAdamWInIdeal.nD Cert.RefAdamWInIdeal.τ).loc Cert.RefAdamWInIdeal.main_arg0) = m' ((c.tc : Thread Cert.RefAdamWInIdeal.nD Cert.RefAdamWInIdeal.τ).loc Cert.RefAdamWInIdeal.main_arg0)
          ∧ r.2.mem ((c.tc : Thread Cert.RefAdamWInIdeal.nD Cert.RefAdamWInIdeal.τ).loc Cert.RefAdamWInIdeal.main_arg1) = m' ((c.tc : Thread Cert.RefAdamWInIdeal.nD Cert.RefAdamWInIdeal.τ).loc Cert.RefAdamWInIdeal.main_arg1)
          ∧ r.2.mem ((c.tc : Thread Cert.RefAdamWInIdeal.nD Cert.RefAdamWInIdeal.τ).loc Cert.RefAdamWInIdeal.main_arg2) = m' ((c.tc : Thread Cert.RefAdamWInIdeal.nD Cert.RefAdamWInIdeal.τ).loc Cert.RefAdamWInIdeal.main_arg2)
          ∧ r.2.mem ((c.tc : Thread Cert.RefAdamWInIdeal.nD Cert.RefAdamWInIdeal.τ).loc Cert.RefAdamWInIdeal.main_arg3) = m' ((c.tc : Thread Cert.RefAdamWInIdeal.nD Cert.RefAdamWInIdeal.τ).loc Cert.RefAdamWInIdeal.main_arg3))

def preserves_AdamStack_AdamStackIdeal : Prop :=
  True

def algebraic_AdamStackIdeal_RefAdamStackIdeal [hAdamStackIdeal : Cert.AdamStackIdeal.Facts] [hRefAdamStackIdeal : Cert.RefAdamStackIdeal.Facts] : Prop :=
  ∀ (m : (ℓ : Loc Cert.AdamStackIdeal.nD Cert.AdamStackIdeal.τ Cert.AdamStackIdeal.sig) → Buf (Elt Ideal) ℓ) (g : Dev Cert.AdamStackIdeal.nD → PrngReg)
    (m' : (ℓ : Loc Cert.RefAdamStackIdeal.nD Cert.RefAdamStackIdeal.τ Cert.RefAdamStackIdeal.sig) → Buf (Elt Ideal) ℓ) (g' : Dev Cert.RefAdamStackIdeal.nD → PrngReg), Pre_AdamStackIdeal m →
    (∀ c : Dev Cert.AdamStackIdeal.nD,
      m' ((c.tc : Thread Cert.RefAdamStackIdeal.nD Cert.RefAdamStackIdeal.τ).loc Cert.RefAdamStackIdeal.main_arg0) = m ((c.tc : Thread Cert.AdamStackIdeal.nD Cert.AdamStackIdeal.τ).loc Cert.AdamStackIdeal.main_arg0)
      ∧ m' ((c.tc : Thread Cert.RefAdamStackIdeal.nD Cert.RefAdamStackIdeal.τ).loc Cert.RefAdamStackIdeal.main_arg1) = m ((c.tc : Thread Cert.AdamStackIdeal.nD Cert.AdamStackIdeal.τ).loc Cert.AdamStackIdeal.main_arg1)
      ∧ m' ((c.tc : Thread Cert.RefAdamStackIdeal.nD Cert.RefAdamStackIdeal.τ).loc Cert.RefAdamStackIdeal.main_arg2) = m ((c.tc : Thread Cert.AdamStackIdeal.nD Cert.AdamStackIdeal.τ).loc Cert.AdamStackIdeal.main_arg2)
      ∧ m' ((c.tc : Thread Cert.RefAdamStackIdeal.nD Cert.RefAdamStackIdeal.τ).loc Cert.RefAdamStackIdeal.main_arg3) = m ((c.tc : Thread Cert.AdamStackIdeal.nD Cert.AdamStackIdeal.τ).loc Cert.AdamStackIdeal.main_arg3)) →
    ∃ (v0 : (c : Dev Cert.AdamStackIdeal.nD) → Buf (Elt Ideal) ((c.tc : Thread Cert.AdamStackIdeal.nD Cert.AdamStackIdeal.τ).loc Cert.AdamStackIdeal.main_v0_0)) (v1 : (c : Dev Cert.AdamStackIdeal.nD) → Buf (Elt Ideal) ((c.tc : Thread Cert.AdamStackIdeal.nD Cert.AdamStackIdeal.τ).loc Cert.AdamStackIdeal.main_v0_1)) (v2 : (c : Dev Cert.AdamStackIdeal.nD) → Buf (Elt Ideal) ((c.tc : Thread Cert.AdamStackIdeal.nD Cert.AdamStackIdeal.τ).loc Cert.AdamStackIdeal.main_v0_2)) (v3 : (c : Dev Cert.AdamStackIdeal.nD) → Buf (Elt Ideal) ((c.tc : Thread Cert.AdamStackIdeal.nD Cert.AdamStackIdeal.τ).loc Cert.AdamStackIdeal.main_v0_3)),
      θ_run (Cert.AdamStackIdeal.defs (F := Ideal)) (onTc (τ := Cert.AdamStackIdeal.τ) (Cert.AdamStackIdeal.main (F := Ideal))) ⟨m, fun _ => 0, g⟩ (fun r => ∀ c : Dev Cert.AdamStackIdeal.nD,
          r.2.mem ((c.tc : Thread Cert.AdamStackIdeal.nD Cert.AdamStackIdeal.τ).loc Cert.AdamStackIdeal.main_v0_0) = v0 c
          ∧ r.2.mem ((c.tc : Thread Cert.AdamStackIdeal.nD Cert.AdamStackIdeal.τ).loc Cert.AdamStackIdeal.main_v0_1) = v1 c
          ∧ r.2.mem ((c.tc : Thread Cert.AdamStackIdeal.nD Cert.AdamStackIdeal.τ).loc Cert.AdamStackIdeal.main_v0_2) = v2 c
          ∧ r.2.mem ((c.tc : Thread Cert.AdamStackIdeal.nD Cert.AdamStackIdeal.τ).loc Cert.AdamStackIdeal.main_v0_3) = v3 c
          ∧ r.2.mem ((c.tc : Thread Cert.AdamStackIdeal.nD Cert.AdamStackIdeal.τ).loc Cert.AdamStackIdeal.main_arg0) = m ((c.tc : Thread Cert.AdamStackIdeal.nD Cert.AdamStackIdeal.τ).loc Cert.AdamStackIdeal.main_arg0)
          ∧ r.2.mem ((c.tc : Thread Cert.AdamStackIdeal.nD Cert.AdamStackIdeal.τ).loc Cert.AdamStackIdeal.main_arg1) = m ((c.tc : Thread Cert.AdamStackIdeal.nD Cert.AdamStackIdeal.τ).loc Cert.AdamStackIdeal.main_arg1)
          ∧ r.2.mem ((c.tc : Thread Cert.AdamStackIdeal.nD Cert.AdamStackIdeal.τ).loc Cert.AdamStackIdeal.main_arg2) = m ((c.tc : Thread Cert.AdamStackIdeal.nD Cert.AdamStackIdeal.τ).loc Cert.AdamStackIdeal.main_arg2)
          ∧ r.2.mem ((c.tc : Thread Cert.AdamStackIdeal.nD Cert.AdamStackIdeal.τ).loc Cert.AdamStackIdeal.main_arg3) = m ((c.tc : Thread Cert.AdamStackIdeal.nD Cert.AdamStackIdeal.τ).loc Cert.AdamStackIdeal.main_arg3))
      ∧ θ_run (Cert.RefAdamStackIdeal.defs (F := Ideal)) (onTc (τ := Cert.RefAdamStackIdeal.τ) (Cert.RefAdamStackIdeal.main (F := Ideal))) ⟨m', fun _ => 0, g'⟩ (fun r => ∀ c : Dev Cert.RefAdamStackIdeal.nD,
          r.2.mem ((c.tc : Thread Cert.RefAdamStackIdeal.nD Cert.RefAdamStackIdeal.τ).loc Cert.RefAdamStackIdeal.main_v1) = v0 c
          ∧ r.2.mem ((c.tc : Thread Cert.RefAdamStackIdeal.nD Cert.RefAdamStackIdeal.τ).loc Cert.RefAdamStackIdeal.main_v25) = v1 c
          ∧ r.2.mem ((c.tc : Thread Cert.RefAdamStackIdeal.nD Cert.RefAdamStackIdeal.τ).loc Cert.RefAdamStackIdeal.main_v6) = v2 c
          ∧ r.2.mem ((c.tc : Thread Cert.RefAdamStackIdeal.nD Cert.RefAdamStackIdeal.τ).loc Cert.RefAdamStackIdeal.main_v12) = v3 c
          ∧ r.2.mem ((c.tc : Thread Cert.RefAdamStackIdeal.nD Cert.RefAdamStackIdeal.τ).loc Cert.RefAdamStackIdeal.main_arg0) = m' ((c.tc : Thread Cert.RefAdamStackIdeal.nD Cert.RefAdamStackIdeal.τ).loc Cert.RefAdamStackIdeal.main_arg0)
          ∧ r.2.mem ((c.tc : Thread Cert.RefAdamStackIdeal.nD Cert.RefAdamStackIdeal.τ).loc Cert.RefAdamStackIdeal.main_arg1) = m' ((c.tc : Thread Cert.RefAdamStackIdeal.nD Cert.RefAdamStackIdeal.τ).loc Cert.RefAdamStackIdeal.main_arg1)
          ∧ r.2.mem ((c.tc : Thread Cert.RefAdamStackIdeal.nD Cert.RefAdamStackIdeal.τ).loc Cert.RefAdamStackIdeal.main_arg2) = m' ((c.tc : Thread Cert.RefAdamStackIdeal.nD Cert.RefAdamStackIdeal.τ).loc Cert.RefAdamStackIdeal.main_arg2)
          ∧ r.2.mem ((c.tc : Thread Cert.RefAdamStackIdeal.nD Cert.RefAdamStackIdeal.τ).loc Cert.RefAdamStackIdeal.main_arg3) = m' ((c.tc : Thread Cert.RefAdamStackIdeal.nD Cert.RefAdamStackIdeal.τ).loc Cert.RefAdamStackIdeal.main_arg3))

def preserves_AdamWOut_AdamWOutIdeal : Prop :=
  True

def algebraic_AdamWOutIdeal_RefAdamWOutIdeal [hAdamWOutIdeal : Cert.AdamWOutIdeal.Facts] [hRefAdamWOutIdeal : Cert.RefAdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.RefAdamWOutIdeal.nD Cert.RefAdamWOutIdeal.τ Cert.RefAdamWOutIdeal.sig) → Buf (Elt Ideal) ℓ) (g' : Dev Cert.RefAdamWOutIdeal.nD → PrngReg), Pre_AdamWOutIdeal m →
    (∀ c : Dev Cert.AdamWOutIdeal.nD,
      m' ((c.tc : Thread Cert.RefAdamWOutIdeal.nD Cert.RefAdamWOutIdeal.τ).loc Cert.RefAdamWOutIdeal.main_arg0) = m ((c.tc : Thread Cert.AdamWOutIdeal.nD Cert.AdamWOutIdeal.τ).loc Cert.AdamWOutIdeal.main_arg0)
      ∧ m' ((c.tc : Thread Cert.RefAdamWOutIdeal.nD Cert.RefAdamWOutIdeal.τ).loc Cert.RefAdamWOutIdeal.main_arg1) = m ((c.tc : Thread Cert.AdamWOutIdeal.nD Cert.AdamWOutIdeal.τ).loc Cert.AdamWOutIdeal.main_arg1)
      ∧ m' ((c.tc : Thread Cert.RefAdamWOutIdeal.nD Cert.RefAdamWOutIdeal.τ).loc Cert.RefAdamWOutIdeal.main_arg2) = m ((c.tc : Thread Cert.AdamWOutIdeal.nD Cert.AdamWOutIdeal.τ).loc Cert.AdamWOutIdeal.main_arg2)
      ∧ m' ((c.tc : Thread Cert.RefAdamWOutIdeal.nD Cert.RefAdamWOutIdeal.τ).loc Cert.RefAdamWOutIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.RefAdamWOutIdeal.defs (F := Ideal)) (onTc (τ := Cert.RefAdamWOutIdeal.τ) (Cert.RefAdamWOutIdeal.main (F := Ideal))) ⟨m', fun _ => 0, g'⟩ (fun r => ∀ c : Dev Cert.RefAdamWOutIdeal.nD,
          r.2.mem ((c.tc : Thread Cert.RefAdamWOutIdeal.nD Cert.RefAdamWOutIdeal.τ).loc Cert.RefAdamWOutIdeal.main_v1) = v0 c
          ∧ r.2.mem ((c.tc : Thread Cert.RefAdamWOutIdeal.nD Cert.RefAdamWOutIdeal.τ).loc Cert.RefAdamWOutIdeal.main_v25) = v1 c
          ∧ r.2.mem ((c.tc : Thread Cert.RefAdamWOutIdeal.nD Cert.RefAdamWOutIdeal.τ).loc Cert.RefAdamWOutIdeal.main_v6) = v2 c
          ∧ r.2.mem ((c.tc : Thread Cert.RefAdamWOutIdeal.nD Cert.RefAdamWOutIdeal.τ).loc Cert.RefAdamWOutIdeal.main_v12) = v3 c
          ∧ r.2.mem ((c.tc : Thread Cert.RefAdamWOutIdeal.nD Cert.RefAdamWOutIdeal.τ).loc Cert.RefAdamWOutIdeal.main_arg0) = m' ((c.tc : Thread Cert.RefAdamWOutIdeal.nD Cert.RefAdamWOutIdeal.τ).loc Cert.RefAdamWOutIdeal.main_arg0)
          ∧ r.2.mem ((c.tc : Thread Cert.RefAdamWOutIdeal.nD Cert.RefAdamWOutIdeal.τ).loc Cert.RefAdamWOutIdeal.main_arg1) = m' ((c.tc : Thread Cert.RefAdamWOutIdeal.nD Cert.RefAdamWOutIdeal.τ).loc Cert.RefAdamWOutIdeal.main_arg1)
          ∧ r.2.mem ((c.tc : Thread Cert.RefAdamWOutIdeal.nD Cert.RefAdamWOutIdeal.τ).loc Cert.RefAdamWOutIdeal.main_arg2) = m' ((c.tc : Thread Cert.RefAdamWOutIdeal.nD Cert.RefAdamWOutIdeal.τ).loc Cert.RefAdamWOutIdeal.main_arg2)
          ∧ r.2.mem ((c.tc : Thread Cert.RefAdamWOutIdeal.nD Cert.RefAdamWOutIdeal.τ).loc Cert.RefAdamWOutIdeal.main_arg3) = m' ((c.tc : Thread Cert.RefAdamWOutIdeal.nD Cert.RefAdamWOutIdeal.τ).loc Cert.RefAdamWOutIdeal.main_arg3))

def preserves_SumSmall_SumSmallIdeal : Prop :=
  True

def algebraic_SumSmallIdeal_RefSumSmallIdeal [hSumSmallIdeal : Cert.SumSmallIdeal.Facts] [hRefSumSmallIdeal : Cert.RefSumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.RefSumSmallIdeal.nD Cert.RefSumSmallIdeal.τ Cert.RefSumSmallIdeal.sig) → Buf (Elt Ideal) ℓ) (g' : Dev Cert.RefSumSmallIdeal.nD → PrngReg), Pre_SumSmallIdeal m →
    (∀ c : Dev Cert.SumSmallIdeal.nD,
      m' ((c.tc : Thread Cert.RefSumSmallIdeal.nD Cert.RefSumSmallIdeal.τ).loc Cert.RefSumSmallIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.RefSumSmallIdeal.defs (F := Ideal)) (onTc (τ := Cert.RefSumSmallIdeal.τ) (Cert.RefSumSmallIdeal.main (F := Ideal))) ⟨m', fun _ => 0, g'⟩ (fun r => ∀ c : Dev Cert.RefSumSmallIdeal.nD,
          r.2.mem ((c.tc : Thread Cert.RefSumSmallIdeal.nD Cert.RefSumSmallIdeal.τ).loc Cert.RefSumSmallIdeal.main_v0) = v0 c
          ∧ r.2.mem ((c.tc : Thread Cert.RefSumSmallIdeal.nD Cert.RefSumSmallIdeal.τ).loc Cert.RefSumSmallIdeal.main_arg0) = m' ((c.tc : Thread Cert.RefSumSmallIdeal.nD Cert.RefSumSmallIdeal.τ).loc Cert.RefSumSmallIdeal.main_arg0))

def preserves_AdamLambda_AdamLambdaIdeal : Prop :=
  True

def algebraic_AdamLambdaIdeal_RefAdamLambdaIdeal [hAdamLambdaIdeal : Cert.AdamLambdaIdeal.Facts] [hRefAdamLambdaIdeal : Cert.RefAdamLambdaIdeal.Facts] : Prop :=
  ∀ (m : (ℓ : Loc Cert.AdamLambdaIdeal.nD Cert.AdamLambdaIdeal.τ Cert.AdamLambdaIdeal.sig) → Buf (Elt Ideal) ℓ) (g : Dev Cert.AdamLambdaIdeal.nD → PrngReg)
    (m' : (ℓ : Loc Cert.RefAdamLambdaIdeal.nD Cert.RefAdamLambdaIdeal.τ Cert.RefAdamLambdaIdeal.sig) → Buf (Elt Ideal) ℓ) (g' : Dev Cert.RefAdamLambdaIdeal.nD → PrngReg), Pre_AdamLambdaIdeal m →
    (∀ c : Dev Cert.AdamLambdaIdeal.nD,
      m' ((c.tc : Thread Cert.RefAdamLambdaIdeal.nD Cert.RefAdamLambdaIdeal.τ).loc Cert.RefAdamLambdaIdeal.main_arg0) = m ((c.tc : Thread Cert.AdamLambdaIdeal.nD Cert.AdamLambdaIdeal.τ).loc Cert.AdamLambdaIdeal.main_arg0)
      ∧ m' ((c.tc : Thread Cert.RefAdamLambdaIdeal.nD Cert.RefAdamLambdaIdeal.τ).loc Cert.RefAdamLambdaIdeal.main_arg1) = m ((c.tc : Thread Cert.AdamLambdaIdeal.nD Cert.AdamLambdaIdeal.τ).loc Cert.AdamLambdaIdeal.main_arg1)
      ∧ m' ((c.tc : Thread Cert.RefAdamLambdaIdeal.nD Cert.RefAdamLambdaIdeal.τ).loc Cert.RefAdamLambdaIdeal.main_arg2) = m ((c.tc : Thread Cert.AdamLambdaIdeal.nD Cert.AdamLambdaIdeal.τ).loc Cert.AdamLambdaIdeal.main_arg2)
      ∧ m' ((c.tc : Thread Cert.RefAdamLambdaIdeal.nD Cert.RefAdamLambdaIdeal.τ).loc Cert.RefAdamLambdaIdeal.main_arg3) = m ((c.tc : Thread Cert.AdamLambdaIdeal.nD Cert.AdamLambdaIdeal.τ).loc Cert.AdamLambdaIdeal.main_arg3)) →
    ∃ (v0 : (c : Dev Cert.AdamLambdaIdeal.nD) → Buf (Elt Ideal) ((c.tc : Thread Cert.AdamLambdaIdeal.nD Cert.AdamLambdaIdeal.τ).loc Cert.AdamLambdaIdeal.main_v0_0)) (v1 : (c : Dev Cert.AdamLambdaIdeal.nD) → Buf (Elt Ideal) ((c.tc : Thread Cert.AdamLambdaIdeal.nD Cert.AdamLambdaIdeal.τ).loc Cert.AdamLambdaIdeal.main_v0_1)) (v2 : (c : Dev Cert.AdamLambdaIdeal.nD) → Buf (Elt Ideal) ((c.tc : Thread Cert.AdamLambdaIdeal.nD Cert.AdamLambdaIdeal.τ).loc Cert.AdamLambdaIdeal.main_v0_2)),
      θ_run (Cert.AdamLambdaIdeal.defs (F := Ideal)) (onTc (τ := Cert.AdamLambdaIdeal.τ) (Cert.AdamLambdaIdeal.main (F := Ideal))) ⟨m, fun _ => 0, g⟩ (fun r => ∀ c : Dev Cert.AdamLambdaIdeal.nD,
          r.2.mem ((c.tc : Thread Cert.AdamLambdaIdeal.nD Cert.AdamLambdaIdeal.τ).loc Cert.AdamLambdaIdeal.main_v0_0) = v0 c
          ∧ r.2.mem ((c.tc : Thread Cert.AdamLambdaIdeal.nD Cert.AdamLambdaIdeal.τ).loc Cert.AdamLambdaIdeal.main_v0_1) = v1 c
          ∧ r.2.mem ((c.tc : Thread Cert.AdamLambdaIdeal.nD Cert.AdamLambdaIdeal.τ).loc Cert.AdamLambdaIdeal.main_v0_2) = v2 c
          ∧ r.2.mem ((c.tc : Thread Cert.AdamLambdaIdeal.nD Cert.AdamLambdaIdeal.τ).loc Cert.AdamLambdaIdeal.main_arg0) = m ((c.tc : Thread Cert.AdamLambdaIdeal.nD Cert.AdamLambdaIdeal.τ).loc Cert.AdamLambdaIdeal.main_arg0)
          ∧ r.2.mem ((c.tc : Thread Cert.AdamLambdaIdeal.nD Cert.AdamLambdaIdeal.τ).loc Cert.AdamLambdaIdeal.main_arg1) = m ((c.tc : Thread Cert.AdamLambdaIdeal.nD Cert.AdamLambdaIdeal.τ).loc Cert.AdamLambdaIdeal.main_arg1)
          ∧ r.2.mem ((c.tc : Thread Cert.AdamLambdaIdeal.nD Cert.AdamLambdaIdeal.τ).loc Cert.AdamLambdaIdeal.main_arg2) = m ((c.tc : Thread Cert.AdamLambdaIdeal.nD Cert.AdamLambdaIdeal.τ).loc Cert.AdamLambdaIdeal.main_arg2)
          ∧ r.2.mem ((c.tc : Thread Cert.AdamLambdaIdeal.nD Cert.AdamLambdaIdeal.τ).loc Cert.AdamLambdaIdeal.main_arg3) = m ((c.tc : Thread Cert.AdamLambdaIdeal.nD Cert.AdamLambdaIdeal.τ).loc Cert.AdamLambdaIdeal.main_arg3))
      ∧ θ_run (Cert.RefAdamLambdaIdeal.defs (F := Ideal)) (onTc (τ := Cert.RefAdamLambdaIdeal.τ) (Cert.RefAdamLambdaIdeal.main (F := Ideal))) ⟨m', fun _ => 0, g'⟩ (fun r => ∀ c : Dev Cert.RefAdamLambdaIdeal.nD,
          r.2.mem ((c.tc : Thread Cert.RefAdamLambdaIdeal.nD Cert.RefAdamLambdaIdeal.τ).loc Cert.RefAdamLambdaIdeal.main_v23) = v0 c
          ∧ r.2.mem ((c.tc : Thread Cert.RefAdamLambdaIdeal.nD Cert.RefAdamLambdaIdeal.τ).loc Cert.RefAdamLambdaIdeal.main_v4) = v1 c
          ∧ r.2.mem ((c.tc : Thread Cert.RefAdamLambdaIdeal.nD Cert.RefAdamLambdaIdeal.τ).loc Cert.RefAdamLambdaIdeal.main_v10) = v2 c
          ∧ r.2.mem ((c.tc : Thread Cert.RefAdamLambdaIdeal.nD Cert.RefAdamLambdaIdeal.τ).loc Cert.RefAdamLambdaIdeal.main_arg0) = m' ((c.tc : Thread Cert.RefAdamLambdaIdeal.nD Cert.RefAdamLambdaIdeal.τ).loc Cert.RefAdamLambdaIdeal.main_arg0)
          ∧ r.2.mem ((c.tc : Thread Cert.RefAdamLambdaIdeal.nD Cert.RefAdamLambdaIdeal.τ).loc Cert.RefAdamLambdaIdeal.main_arg1) = m' ((c.tc : Thread Cert.RefAdamLambdaIdeal.nD Cert.RefAdamLambdaIdeal.τ).loc Cert.RefAdamLambdaIdeal.main_arg1)
          ∧ r.2.mem ((c.tc : Thread Cert.RefAdamLambdaIdeal.nD Cert.RefAdamLambdaIdeal.τ).loc Cert.RefAdamLambdaIdeal.main_arg2) = m' ((c.tc : Thread Cert.RefAdamLambdaIdeal.nD Cert.RefAdamLambdaIdeal.τ).loc Cert.RefAdamLambdaIdeal.main_arg2)
          ∧ r.2.mem ((c.tc : Thread Cert.RefAdamLambdaIdeal.nD Cert.RefAdamLambdaIdeal.τ).loc Cert.RefAdamLambdaIdeal.main_arg3) = m' ((c.tc : Thread Cert.RefAdamLambdaIdeal.nD Cert.RefAdamLambdaIdeal.τ).loc Cert.RefAdamLambdaIdeal.main_arg3))

def preserves_AdamB_AdamBIdeal : Prop :=
  True

def algebraic_AdamBIdeal_RefAdamBIdeal [hAdamBIdeal : Cert.AdamBIdeal.Facts] [hRefAdamBIdeal : Cert.RefAdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.RefAdamBIdeal.nD Cert.RefAdamBIdeal.τ Cert.RefAdamBIdeal.sig) → Buf (Elt Ideal) ℓ) (g' : Dev Cert.RefAdamBIdeal.nD → PrngReg), Pre_AdamBIdeal m →
    (∀ c : Dev Cert.AdamBIdeal.nD,
      m' ((c.tc : Thread Cert.RefAdamBIdeal.nD Cert.RefAdamBIdeal.τ).loc Cert.RefAdamBIdeal.main_arg0) = m ((c.tc : Thread Cert.AdamBIdeal.nD Cert.AdamBIdeal.τ).loc Cert.AdamBIdeal.main_arg0)
      ∧ m' ((c.tc : Thread Cert.RefAdamBIdeal.nD Cert.RefAdamBIdeal.τ).loc Cert.RefAdamBIdeal.main_arg1) = m ((c.tc : Thread Cert.AdamBIdeal.nD Cert.AdamBIdeal.τ).loc Cert.AdamBIdeal.main_arg1)
      ∧ m' ((c.tc : Thread Cert.RefAdamBIdeal.nD Cert.RefAdamBIdeal.τ).loc Cert.RefAdamBIdeal.main_arg2) = m ((c.tc : Thread Cert.AdamBIdeal.nD Cert.AdamBIdeal.τ).loc Cert.AdamBIdeal.main_arg2)
      ∧ m' ((c.tc : Thread Cert.RefAdamBIdeal.nD Cert.RefAdamBIdeal.τ).loc Cert.RefAdamBIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.RefAdamBIdeal.defs (F := Ideal)) (onTc (τ := Cert.RefAdamBIdeal.τ) (Cert.RefAdamBIdeal.main (F := Ideal))) ⟨m', fun _ => 0, g'⟩ (fun r => ∀ c : Dev Cert.RefAdamBIdeal.nD,
          r.2.mem ((c.tc : Thread Cert.RefAdamBIdeal.nD Cert.RefAdamBIdeal.τ).loc Cert.RefAdamBIdeal.main_v23) = v0 c
          ∧ r.2.mem ((c.tc : Thread Cert.RefAdamBIdeal.nD Cert.RefAdamBIdeal.τ).loc Cert.RefAdamBIdeal.main_v4) = v1 c
          ∧ r.2.mem ((c.tc : Thread Cert.RefAdamBIdeal.nD Cert.RefAdamBIdeal.τ).loc Cert.RefAdamBIdeal.main_v10) = v2 c
          ∧ r.2.mem ((c.tc : Thread Cert.RefAdamBIdeal.nD Cert.RefAdamBIdeal.τ).loc Cert.RefAdamBIdeal.main_arg0) = m' ((c.tc : Thread Cert.RefAdamBIdeal.nD Cert.RefAdamBIdeal.τ).loc Cert.RefAdamBIdeal.main_arg0)
          ∧ r.2.mem ((c.tc : Thread Cert.RefAdamBIdeal.nD Cert.RefAdamBIdeal.τ).loc Cert.RefAdamBIdeal.main_arg1) = m' ((c.tc : Thread Cert.RefAdamBIdeal.nD Cert.RefAdamBIdeal.τ).loc Cert.RefAdamBIdeal.main_arg1)
          ∧ r.2.mem ((c.tc : Thread Cert.RefAdamBIdeal.nD Cert.RefAdamBIdeal.τ).loc Cert.RefAdamBIdeal.main_arg2) = m' ((c.tc : Thread Cert.RefAdamBIdeal.nD Cert.RefAdamBIdeal.τ).loc Cert.RefAdamBIdeal.main_arg2)
          ∧ r.2.mem ((c.tc : Thread Cert.RefAdamBIdeal.nD Cert.RefAdamBIdeal.τ).loc Cert.RefAdamBIdeal.main_arg3) = m' ((c.tc : Thread Cert.RefAdamBIdeal.nD Cert.RefAdamBIdeal.τ).loc Cert.RefAdamBIdeal.main_arg3))

def preserves_AdamC_AdamCIdeal : Prop :=
  True

def algebraic_AdamCIdeal_RefAdamCIdeal [hAdamCIdeal : Cert.AdamCIdeal.Facts] [hRefAdamCIdeal : Cert.RefAdamCIdeal.Facts] : Prop :=
  ∀ (m : (ℓ : Loc Cert.AdamCIdeal.nD Cert.AdamCIdeal.τ Cert.AdamCIdeal.sig) → Buf (Elt Ideal) ℓ) (g : Dev Cert.AdamCIdeal.nD → PrngReg)
    (m' : (ℓ : Loc Cert.RefAdamCIdeal.nD Cert.RefAdamCIdeal.τ Cert.RefAdamCIdeal.sig) → Buf (Elt Ideal) ℓ) (g' : Dev Cert.RefAdamCIdeal.nD → PrngReg), Pre_AdamCIdeal m →
    (∀ c : Dev Cert.AdamCIdeal.nD,
      m' ((c.tc : Thread Cert.RefAdamCIdeal.nD Cert.RefAdamCIdeal.τ).loc Cert.RefAdamCIdeal.main_arg0) = m ((c.tc : Thread Cert.AdamCIdeal.nD Cert.AdamCIdeal.τ).loc Cert.AdamCIdeal.main_arg0)
      ∧ m' ((c.tc : Thread Cert.RefAdamCIdeal.nD Cert.RefAdamCIdeal.τ).loc Cert.RefAdamCIdeal.main_arg1) = m ((c.tc : Thread Cert.AdamCIdeal.nD Cert.AdamCIdeal.τ).loc Cert.AdamCIdeal.main_arg1)
      ∧ m' ((c.tc : Thread Cert.RefAdamCIdeal.nD Cert.RefAdamCIdeal.τ).loc Cert.RefAdamCIdeal.main_arg2) = m ((c.tc : Thread Cert.AdamCIdeal.nD Cert.AdamCIdeal.τ).loc Cert.AdamCIdeal.main_arg2)
      ∧ m' ((c.tc : Thread Cert.RefAdamCIdeal.nD Cert.RefAdamCIdeal.τ).loc Cert.RefAdamCIdeal.main_arg3) = m ((c.tc : Thread Cert.AdamCIdeal.nD Cert.AdamCIdeal.τ).loc Cert.AdamCIdeal.main_arg3)) →
    ∃ (v0 : (c : Dev Cert.AdamCIdeal.nD) → Buf (Elt Ideal) ((c.tc : Thread Cert.AdamCIdeal.nD Cert.AdamCIdeal.τ).loc Cert.AdamCIdeal.main_v0_0)) (v1 : (c : Dev Cert.AdamCIdeal.nD) → Buf (Elt Ideal) ((c.tc : Thread Cert.AdamCIdeal.nD Cert.AdamCIdeal.τ).loc Cert.AdamCIdeal.main_v0_1)) (v2 : (c : Dev Cert.AdamCIdeal.nD) → Buf (Elt Ideal) ((c.tc : Thread Cert.AdamCIdeal.nD Cert.AdamCIdeal.τ).loc Cert.AdamCIdeal.main_v0_2)),
      θ_run (Cert.AdamCIdeal.defs (F := Ideal)) (onTc (τ := Cert.AdamCIdeal.τ) (Cert.AdamCIdeal.main (F := Ideal))) ⟨m, fun _ => 0, g⟩ (fun r => ∀ c : Dev Cert.AdamCIdeal.nD,
          r.2.mem ((c.tc : Thread Cert.AdamCIdeal.nD Cert.AdamCIdeal.τ).loc Cert.AdamCIdeal.main_v0_0) = v0 c
          ∧ r.2.mem ((c.tc : Thread Cert.AdamCIdeal.nD Cert.AdamCIdeal.τ).loc Cert.AdamCIdeal.main_v0_1) = v1 c
          ∧ r.2.mem ((c.tc : Thread Cert.AdamCIdeal.nD Cert.AdamCIdeal.τ).loc Cert.AdamCIdeal.main_v0_2) = v2 c
          ∧ r.2.mem ((c.tc : Thread Cert.AdamCIdeal.nD Cert.AdamCIdeal.τ).loc Cert.AdamCIdeal.main_arg0) = m ((c.tc : Thread Cert.AdamCIdeal.nD Cert.AdamCIdeal.τ).loc Cert.AdamCIdeal.main_arg0)
          ∧ r.2.mem ((c.tc : Thread Cert.AdamCIdeal.nD Cert.AdamCIdeal.τ).loc Cert.AdamCIdeal.main_arg1) = m ((c.tc : Thread Cert.AdamCIdeal.nD Cert.AdamCIdeal.τ).loc Cert.AdamCIdeal.main_arg1)
          ∧ r.2.mem ((c.tc : Thread Cert.AdamCIdeal.nD Cert.AdamCIdeal.τ).loc Cert.AdamCIdeal.main_arg2) = m ((c.tc : Thread Cert.AdamCIdeal.nD Cert.AdamCIdeal.τ).loc Cert.AdamCIdeal.main_arg2)
          ∧ r.2.mem ((c.tc : Thread Cert.AdamCIdeal.nD Cert.AdamCIdeal.τ).loc Cert.AdamCIdeal.main_arg3) = m ((c.tc : Thread Cert.AdamCIdeal.nD Cert.AdamCIdeal.τ).loc Cert.AdamCIdeal.main_arg3))
      ∧ θ_run (Cert.RefAdamCIdeal.defs (F := Ideal)) (onTc (τ := Cert.RefAdamCIdeal.τ) (Cert.RefAdamCIdeal.main (F := Ideal))) ⟨m', fun _ => 0, g'⟩ (fun r => ∀ c : Dev Cert.RefAdamCIdeal.nD,
          r.2.mem ((c.tc : Thread Cert.RefAdamCIdeal.nD Cert.RefAdamCIdeal.τ).loc Cert.RefAdamCIdeal.main_v23) = v0 c
          ∧ r.2.mem ((c.tc : Thread Cert.RefAdamCIdeal.nD Cert.RefAdamCIdeal.τ).loc Cert.RefAdamCIdeal.main_v4) = v1 c
          ∧ r.2.mem ((c.tc : Thread Cert.RefAdamCIdeal.nD Cert.RefAdamCIdeal.τ).loc Cert.RefAdamCIdeal.main_v10) = v2 c
          ∧ r.2.mem ((c.tc : Thread Cert.RefAdamCIdeal.nD Cert.RefAdamCIdeal.τ).loc Cert.RefAdamCIdeal.main_arg0) = m' ((c.tc : Thread Cert.RefAdamCIdeal.nD Cert.RefAdamCIdeal.τ).loc Cert.RefAdamCIdeal.main_arg0)
          ∧ r.2.mem ((c.tc : Thread Cert.RefAdamCIdeal.nD Cert.RefAdamCIdeal.τ).loc Cert.RefAdamCIdeal.main_arg1) = m' ((c.tc : Thread Cert.RefAdamCIdeal.nD Cert.RefAdamCIdeal.τ).loc Cert.RefAdamCIdeal.main_arg1)
          ∧ r.2.mem ((c.tc : Thread Cert.RefAdamCIdeal.nD Cert.RefAdamCIdeal.τ).loc Cert.RefAdamCIdeal.main_arg2) = m' ((c.tc : Thread Cert.RefAdamCIdeal.nD Cert.RefAdamCIdeal.τ).loc Cert.RefAdamCIdeal.main_arg2)
          ∧ r.2.mem ((c.tc : Thread Cert.RefAdamCIdeal.nD Cert.RefAdamCIdeal.τ).loc Cert.RefAdamCIdeal.main_arg3) = m' ((c.tc : Thread Cert.RefAdamCIdeal.nD Cert.RefAdamCIdeal.τ).loc Cert.RefAdamCIdeal.main_arg3))

def preserves_AdamD_AdamDIdeal : Prop :=
  True

def algebraic_AdamDIdeal_RefAdamDIdeal [hAdamDIdeal : Cert.AdamDIdeal.Facts] [hRefAdamDIdeal : Cert.RefAdamDIdeal.Facts] : Prop :=
  ∀ (m : (ℓ : Loc Cert.AdamDIdeal.nD Cert.AdamDIdeal.τ Cert.AdamDIdeal.sig) → Buf (Elt Ideal) ℓ) (g : Dev Cert.AdamDIdeal.nD → PrngReg)
    (m' : (ℓ : Loc Cert.RefAdamDIdeal.nD Cert.RefAdamDIdeal.τ Cert.RefAdamDIdeal.sig) → Buf (Elt Ideal) ℓ) (g' : Dev Cert.RefAdamDIdeal.nD → PrngReg), Pre_AdamDIdeal m →
    (∀ c : Dev Cert.AdamDIdeal.nD,
      m' ((c.tc : Thread Cert.RefAdamDIdeal.nD Cert.RefAdamDIdeal.τ).loc Cert.RefAdamDIdeal.main_arg0) = m ((c.tc : Thread Cert.AdamDIdeal.nD Cert.AdamDIdeal.τ).loc Cert.AdamDIdeal.main_arg0)
      ∧ m' ((c.tc : Thread Cert.RefAdamDIdeal.nD Cert.RefAdamDIdeal.τ).loc Cert.RefAdamDIdeal.main_arg1) = m ((c.tc : Thread Cert.AdamDIdeal.nD Cert.AdamDIdeal.τ).loc Cert.AdamDIdeal.main_arg1)
      ∧ m' ((c.tc : Thread Cert.RefAdamDIdeal.nD Cert.RefAdamDIdeal.τ).loc Cert.RefAdamDIdeal.main_arg2) = m ((c.tc : Thread Cert.AdamDIdeal.nD Cert.AdamDIdeal.τ).loc Cert.AdamDIdeal.main_arg2)
      ∧ m' ((c.tc : Thread Cert.RefAdamDIdeal.nD Cert.RefAdamDIdeal.τ).loc Cert.RefAdamDIdeal.main_arg3) = m ((c.tc : Thread Cert.AdamDIdeal.nD Cert.AdamDIdeal.τ).loc Cert.AdamDIdeal.main_arg3)) →
    ∃ (v0 : (c : Dev Cert.AdamDIdeal.nD) → Buf (Elt Ideal) ((c.tc : Thread Cert.AdamDIdeal.nD Cert.AdamDIdeal.τ).loc Cert.AdamDIdeal.main_v0_0)) (v1 : (c : Dev Cert.AdamDIdeal.nD) → Buf (Elt Ideal) ((c.tc : Thread Cert.AdamDIdeal.nD Cert.AdamDIdeal.τ).loc Cert.AdamDIdeal.main_v0_1)) (v2 : (c : Dev Cert.AdamDIdeal.nD) → Buf (Elt Ideal) ((c.tc : Thread Cert.AdamDIdeal.nD Cert.AdamDIdeal.τ).loc Cert.AdamDIdeal.main_v0_2)),
      θ_run (Cert.AdamDIdeal.defs (F := Ideal)) (onTc (τ := Cert.AdamDIdeal.τ) (Cert.AdamDIdeal.main (F := Ideal))) ⟨m, fun _ => 0, g⟩ (fun r => ∀ c : Dev Cert.AdamDIdeal.nD,
          r.2.mem ((c.tc : Thread Cert.AdamDIdeal.nD Cert.AdamDIdeal.τ).loc Cert.AdamDIdeal.main_v0_0) = v0 c
          ∧ r.2.mem ((c.tc : Thread Cert.AdamDIdeal.nD Cert.AdamDIdeal.τ).loc Cert.AdamDIdeal.main_v0_1) = v1 c
          ∧ r.2.mem ((c.tc : Thread Cert.AdamDIdeal.nD Cert.AdamDIdeal.τ).loc Cert.AdamDIdeal.main_v0_2) = v2 c
          ∧ r.2.mem ((c.tc : Thread Cert.AdamDIdeal.nD Cert.AdamDIdeal.τ).loc Cert.AdamDIdeal.main_arg0) = m ((c.tc : Thread Cert.AdamDIdeal.nD Cert.AdamDIdeal.τ).loc Cert.AdamDIdeal.main_arg0)
          ∧ r.2.mem ((c.tc : Thread Cert.AdamDIdeal.nD Cert.AdamDIdeal.τ).loc Cert.AdamDIdeal.main_arg1) = m ((c.tc : Thread Cert.AdamDIdeal.nD Cert.AdamDIdeal.τ).loc Cert.AdamDIdeal.main_arg1)
          ∧ r.2.mem ((c.tc : Thread Cert.AdamDIdeal.nD Cert.AdamDIdeal.τ).loc Cert.AdamDIdeal.main_arg2) = m ((c.tc : Thread Cert.AdamDIdeal.nD Cert.AdamDIdeal.τ).loc Cert.AdamDIdeal.main_arg2)
          ∧ r.2.mem ((c.tc : Thread Cert.AdamDIdeal.nD Cert.AdamDIdeal.τ).loc Cert.AdamDIdeal.main_arg3) = m ((c.tc : Thread Cert.AdamDIdeal.nD Cert.AdamDIdeal.τ).loc Cert.AdamDIdeal.main_arg3))
      ∧ θ_run (Cert.RefAdamDIdeal.defs (F := Ideal)) (onTc (τ := Cert.RefAdamDIdeal.τ) (Cert.RefAdamDIdeal.main (F := Ideal))) ⟨m', fun _ => 0, g'⟩ (fun r => ∀ c : Dev Cert.RefAdamDIdeal.nD,
          r.2.mem ((c.tc : Thread Cert.RefAdamDIdeal.nD Cert.RefAdamDIdeal.τ).loc Cert.RefAdamDIdeal.main_v23) = v0 c
          ∧ r.2.mem ((c.tc : Thread Cert.RefAdamDIdeal.nD Cert.RefAdamDIdeal.τ).loc Cert.RefAdamDIdeal.main_v4) = v1 c
          ∧ r.2.mem ((c.tc : Thread Cert.RefAdamDIdeal.nD Cert.RefAdamDIdeal.τ).loc Cert.RefAdamDIdeal.main_v10) = v2 c
          ∧ r.2.mem ((c.tc : Thread Cert.RefAdamDIdeal.nD Cert.RefAdamDIdeal.τ).loc Cert.RefAdamDIdeal.main_arg0) = m' ((c.tc : Thread Cert.RefAdamDIdeal.nD Cert.RefAdamDIdeal.τ).loc Cert.RefAdamDIdeal.main_arg0)
          ∧ r.2.mem ((c.tc : Thread Cert.RefAdamDIdeal.nD Cert.RefAdamDIdeal.τ).loc Cert.RefAdamDIdeal.main_arg1) = m' ((c.tc : Thread Cert.RefAdamDIdeal.nD Cert.RefAdamDIdeal.τ).loc Cert.RefAdamDIdeal.main_arg1)
          ∧ r.2.mem ((c.tc : Thread Cert.RefAdamDIdeal.nD Cert.RefAdamDIdeal.τ).loc Cert.RefAdamDIdeal.main_arg2) = m' ((c.tc : Thread Cert.RefAdamDIdeal.nD Cert.RefAdamDIdeal.τ).loc Cert.RefAdamDIdeal.main_arg2)
          ∧ r.2.mem ((c.tc : Thread Cert.RefAdamDIdeal.nD Cert.RefAdamDIdeal.τ).loc Cert.RefAdamDIdeal.main_arg3) = m' ((c.tc : Thread Cert.RefAdamDIdeal.nD Cert.RefAdamDIdeal.τ).loc Cert.RefAdamDIdeal.main_arg3))

def preserves_AdamLogStep_AdamLogStepIdeal : Prop :=
  True

def algebraic_AdamLogStepIdeal_RefAdamLogStepIdeal [hAdamLogStepIdeal : Cert.AdamLogStepIdeal.Facts] [hRefAdamLogStepIdeal : Cert.RefAdamLogStepIdeal.Facts] : Prop :=
  ∀ (m : (ℓ : Loc Cert.AdamLogStepIdeal.nD Cert.AdamLogStepIdeal.τ Cert.AdamLogStepIdeal.sig) → Buf (Elt Ideal) ℓ) (g : Dev Cert.AdamLogStepIdeal.nD → PrngReg)
    (m' : (ℓ : Loc Cert.RefAdamLogStepIdeal.nD Cert.RefAdamLogStepIdeal.τ Cert.RefAdamLogStepIdeal.sig) → Buf (Elt Ideal) ℓ) (g' : Dev Cert.RefAdamLogStepIdeal.nD → PrngReg), Pre_AdamLogStepIdeal m →
    (∀ c : Dev Cert.AdamLogStepIdeal.nD,
      m' ((c.tc : Thread Cert.RefAdamLogStepIdeal.nD Cert.RefAdamLogStepIdeal.τ).loc Cert.RefAdamLogStepIdeal.main_arg0) = m ((c.tc : Thread Cert.AdamLogStepIdeal.nD Cert.AdamLogStepIdeal.τ).loc Cert.AdamLogStepIdeal.main_arg0)
      ∧ m' ((c.tc : Thread Cert.RefAdamLogStepIdeal.nD Cert.RefAdamLogStepIdeal.τ).loc Cert.RefAdamLogStepIdeal.main_arg1) = m ((c.tc : Thread Cert.AdamLogStepIdeal.nD Cert.AdamLogStepIdeal.τ).loc Cert.AdamLogStepIdeal.main_arg1)
      ∧ m' ((c.tc : Thread Cert.RefAdamLogStepIdeal.nD Cert.RefAdamLogStepIdeal.τ).loc Cert.RefAdamLogStepIdeal.main_arg2) = m ((c.tc : Thread Cert.AdamLogStepIdeal.nD Cert.AdamLogStepIdeal.τ).loc Cert.AdamLogStepIdeal.main_arg2)
      ∧ m' ((c.tc : Thread Cert.RefAdamLogStepIdeal.nD Cert.RefAdamLogStepIdeal.τ).loc Cert.RefAdamLogStepIdeal.main_arg3) = m ((c.tc : Thread Cert.AdamLogStepIdeal.nD Cert.AdamLogStepIdeal.τ).loc Cert.AdamLogStepIdeal.main_arg3)) →
    ∃ (v0 : (c : Dev Cert.AdamLogStepIdeal.nD) → Buf (Elt Ideal) ((c.tc : Thread Cert.AdamLogStepIdeal.nD Cert.AdamLogStepIdeal.τ).loc Cert.AdamLogStepIdeal.main_v0_0)) (v1 : (c : Dev Cert.AdamLogStepIdeal.nD) → Buf (Elt Ideal) ((c.tc : Thread Cert.AdamLogStepIdeal.nD Cert.AdamLogStepIdeal.τ).loc Cert.AdamLogStepIdeal.main_v0_1)) (v2 : (c : Dev Cert.AdamLogStepIdeal.nD) → Buf (Elt Ideal) ((c.tc : Thread Cert.AdamLogStepIdeal.nD Cert.AdamLogStepIdeal.τ).loc Cert.AdamLogStepIdeal.main_v0_2)),
      θ_run (Cert.AdamLogStepIdeal.defs (F := Ideal)) (onTc (τ := Cert.AdamLogStepIdeal.τ) (Cert.AdamLogStepIdeal.main (F := Ideal))) ⟨m, fun _ => 0, g⟩ (fun r => ∀ c : Dev Cert.AdamLogStepIdeal.nD,
          r.2.mem ((c.tc : Thread Cert.AdamLogStepIdeal.nD Cert.AdamLogStepIdeal.τ).loc Cert.AdamLogStepIdeal.main_v0_0) = v0 c
          ∧ r.2.mem ((c.tc : Thread Cert.AdamLogStepIdeal.nD Cert.AdamLogStepIdeal.τ).loc Cert.AdamLogStepIdeal.main_v0_1) = v1 c
          ∧ r.2.mem ((c.tc : Thread Cert.AdamLogStepIdeal.nD Cert.AdamLogStepIdeal.τ).loc Cert.AdamLogStepIdeal.main_v0_2) = v2 c
          ∧ r.2.mem ((c.tc : Thread Cert.AdamLogStepIdeal.nD Cert.AdamLogStepIdeal.τ).loc Cert.AdamLogStepIdeal.main_arg0) = m ((c.tc : Thread Cert.AdamLogStepIdeal.nD Cert.AdamLogStepIdeal.τ).loc Cert.AdamLogStepIdeal.main_arg0)
          ∧ r.2.mem ((c.tc : Thread Cert.AdamLogStepIdeal.nD Cert.AdamLogStepIdeal.τ).loc Cert.AdamLogStepIdeal.main_arg1) = m ((c.tc : Thread Cert.AdamLogStepIdeal.nD Cert.AdamLogStepIdeal.τ).loc Cert.AdamLogStepIdeal.main_arg1)
          ∧ r.2.mem ((c.tc : Thread Cert.AdamLogStepIdeal.nD Cert.AdamLogStepIdeal.τ).loc Cert.AdamLogStepIdeal.main_arg2) = m ((c.tc : Thread Cert.AdamLogStepIdeal.nD Cert.AdamLogStepIdeal.τ).loc Cert.AdamLogStepIdeal.main_arg2)
          ∧ r.2.mem ((c.tc : Thread Cert.AdamLogStepIdeal.nD Cert.AdamLogStepIdeal.τ).loc Cert.AdamLogStepIdeal.main_arg3) = m ((c.tc : Thread Cert.AdamLogStepIdeal.nD Cert.AdamLogStepIdeal.τ).loc Cert.AdamLogStepIdeal.main_arg3))
      ∧ θ_run (Cert.RefAdamLogStepIdeal.defs (F := Ideal)) (onTc (τ := Cert.RefAdamLogStepIdeal.τ) (Cert.RefAdamLogStepIdeal.main (F := Ideal))) ⟨m', fun _ => 0, g'⟩ (fun r => ∀ c : Dev Cert.RefAdamLogStepIdeal.nD,
          r.2.mem ((c.tc : Thread Cert.RefAdamLogStepIdeal.nD Cert.RefAdamLogStepIdeal.τ).loc Cert.RefAdamLogStepIdeal.main_v23) = v0 c
          ∧ r.2.mem ((c.tc : Thread Cert.RefAdamLogStepIdeal.nD Cert.RefAdamLogStepIdeal.τ).loc Cert.RefAdamLogStepIdeal.main_v4) = v1 c
          ∧ r.2.mem ((c.tc : Thread Cert.RefAdamLogStepIdeal.nD Cert.RefAdamLogStepIdeal.τ).loc Cert.RefAdamLogStepIdeal.main_v10) = v2 c
          ∧ r.2.mem ((c.tc : Thread Cert.RefAdamLogStepIdeal.nD Cert.RefAdamLogStepIdeal.τ).loc Cert.RefAdamLogStepIdeal.main_arg0) = m' ((c.tc : Thread Cert.RefAdamLogStepIdeal.nD Cert.RefAdamLogStepIdeal.τ).loc Cert.RefAdamLogStepIdeal.main_arg0)
          ∧ r.2.mem ((c.tc : Thread Cert.RefAdamLogStepIdeal.nD Cert.RefAdamLogStepIdeal.τ).loc Cert.RefAdamLogStepIdeal.main_arg1) = m' ((c.tc : Thread Cert.RefAdamLogStepIdeal.nD Cert.RefAdamLogStepIdeal.τ).loc Cert.RefAdamLogStepIdeal.main_arg1)
          ∧ r.2.mem ((c.tc : Thread Cert.RefAdamLogStepIdeal.nD Cert.RefAdamLogStepIdeal.τ).loc Cert.RefAdamLogStepIdeal.main_arg2) = m' ((c.tc : Thread Cert.RefAdamLogStepIdeal.nD Cert.RefAdamLogStepIdeal.τ).loc Cert.RefAdamLogStepIdeal.main_arg2)
          ∧ r.2.mem ((c.tc : Thread Cert.RefAdamLogStepIdeal.nD Cert.RefAdamLogStepIdeal.τ).loc Cert.RefAdamLogStepIdeal.main_arg3) = m' ((c.tc : Thread Cert.RefAdamLogStepIdeal.nD Cert.RefAdamLogStepIdeal.τ).loc Cert.RefAdamLogStepIdeal.main_arg3))

def preserves_AdamSinks_AdamSinksIdeal : Prop :=
  True

def algebraic_AdamSinksIdeal_RefAdamSinksIdeal [hAdamSinksIdeal : Cert.AdamSinksIdeal.Facts] [hRefAdamSinksIdeal : Cert.RefAdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.RefAdamSinksIdeal.nD Cert.RefAdamSinksIdeal.τ Cert.RefAdamSinksIdeal.sig) → Buf (Elt Ideal) ℓ) (g' : Dev Cert.RefAdamSinksIdeal.nD → PrngReg), Pre_AdamSinksIdeal m →
    (∀ c : Dev Cert.AdamSinksIdeal.nD,
      m' ((c.tc : Thread Cert.RefAdamSinksIdeal.nD Cert.RefAdamSinksIdeal.τ).loc Cert.RefAdamSinksIdeal.main_arg0) = m ((c.tc : Thread Cert.AdamSinksIdeal.nD Cert.AdamSinksIdeal.τ).loc Cert.AdamSinksIdeal.main_arg0)
      ∧ m' ((c.tc : Thread Cert.RefAdamSinksIdeal.nD Cert.RefAdamSinksIdeal.τ).loc Cert.RefAdamSinksIdeal.main_arg1) = m ((c.tc : Thread Cert.AdamSinksIdeal.nD Cert.AdamSinksIdeal.τ).loc Cert.AdamSinksIdeal.main_arg1)
      ∧ m' ((c.tc : Thread Cert.RefAdamSinksIdeal.nD Cert.RefAdamSinksIdeal.τ).loc Cert.RefAdamSinksIdeal.main_arg2) = m ((c.tc : Thread Cert.AdamSinksIdeal.nD Cert.AdamSinksIdeal.τ).loc Cert.AdamSinksIdeal.main_arg2)
      ∧ m' ((c.tc : Thread Cert.RefAdamSinksIdeal.nD Cert.RefAdamSinksIdeal.τ).loc Cert.RefAdamSinksIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v0_0)) (v1 : (c : Dev Cert.AdamSinksIdeal.nD) → Buf (Elt Ideal) ((c.tc : Thread Cert.AdamSinksIdeal.nD Cert.AdamSinksIdeal.τ).loc Cert.AdamSinksIdeal.main_v0_1)) (v2 : (c : Dev Cert.AdamSinksIdeal.nD) → Buf (Elt Ideal) ((c.tc : Thread Cert.AdamSinksIdeal.nD Cert.AdamSinksIdeal.τ).loc Cert.AdamSinksIdeal.main_v0_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v0_0) = v0 c
          ∧ r.2.mem ((c.tc : Thread Cert.AdamSinksIdeal.nD Cert.AdamSinksIdeal.τ).loc Cert.AdamSinksIdeal.main_v0_1) = v1 c
          ∧ r.2.mem ((c.tc : Thread Cert.AdamSinksIdeal.nD Cert.AdamSinksIdeal.τ).loc Cert.AdamSinksIdeal.main_v0_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.RefAdamSinksIdeal.defs (F := Ideal)) (onTc (τ := Cert.RefAdamSinksIdeal.τ) (Cert.RefAdamSinksIdeal.main (F := Ideal))) ⟨m', fun _ => 0, g'⟩ (fun r => ∀ c : Dev Cert.RefAdamSinksIdeal.nD,
          r.2.mem ((c.tc : Thread Cert.RefAdamSinksIdeal.nD Cert.RefAdamSinksIdeal.τ).loc Cert.RefAdamSinksIdeal.main_v23) = v0 c
          ∧ r.2.mem ((c.tc : Thread Cert.RefAdamSinksIdeal.nD Cert.RefAdamSinksIdeal.τ).loc Cert.RefAdamSinksIdeal.main_v4) = v1 c
          ∧ r.2.mem ((c.tc : Thread Cert.RefAdamSinksIdeal.nD Cert.RefAdamSinksIdeal.τ).loc Cert.RefAdamSinksIdeal.main_v10) = v2 c
          ∧ r.2.mem ((c.tc : Thread Cert.RefAdamSinksIdeal.nD Cert.RefAdamSinksIdeal.τ).loc Cert.RefAdamSinksIdeal.main_arg0) = m' ((c.tc : Thread Cert.RefAdamSinksIdeal.nD Cert.RefAdamSinksIdeal.τ).loc Cert.RefAdamSinksIdeal.main_arg0)
          ∧ r.2.mem ((c.tc : Thread Cert.RefAdamSinksIdeal.nD Cert.RefAdamSinksIdeal.τ).loc Cert.RefAdamSinksIdeal.main_arg1) = m' ((c.tc : Thread Cert.RefAdamSinksIdeal.nD Cert.RefAdamSinksIdeal.τ).loc Cert.RefAdamSinksIdeal.main_arg1)
          ∧ r.2.mem ((c.tc : Thread Cert.RefAdamSinksIdeal.nD Cert.RefAdamSinksIdeal.τ).loc Cert.RefAdamSinksIdeal.main_arg2) = m' ((c.tc : Thread Cert.RefAdamSinksIdeal.nD Cert.RefAdamSinksIdeal.τ).loc Cert.RefAdamSinksIdeal.main_arg2)
          ∧ r.2.mem ((c.tc : Thread Cert.RefAdamSinksIdeal.nD Cert.RefAdamSinksIdeal.τ).loc Cert.RefAdamSinksIdeal.main_arg3) = m' ((c.tc : Thread Cert.RefAdamSinksIdeal.nD Cert.RefAdamSinksIdeal.τ).loc Cert.RefAdamSinksIdeal.main_arg3))

def preserves_AdamTable_AdamTableIdeal : Prop :=
  True

def algebraic_AdamTableIdeal_RefAdamTableIdeal [hAdamTableIdeal : Cert.AdamTableIdeal.Facts] [hRefAdamTableIdeal : Cert.RefAdamTableIdeal.Facts] : Prop :=
  ∀ (m : (ℓ : Loc Cert.AdamTableIdeal.nD Cert.AdamTableIdeal.τ Cert.AdamTableIdeal.sig) → Buf (Elt Ideal) ℓ) (g : Dev Cert.AdamTableIdeal.nD → PrngReg)
    (m' : (ℓ : Loc Cert.RefAdamTableIdeal.nD Cert.RefAdamTableIdeal.τ Cert.RefAdamTableIdeal.sig) → Buf (Elt Ideal) ℓ) (g' : Dev Cert.RefAdamTableIdeal.nD → PrngReg), Pre_AdamTableIdeal m →
    (∀ c : Dev Cert.AdamTableIdeal.nD,
      m' ((c.tc : Thread Cert.RefAdamTableIdeal.nD Cert.RefAdamTableIdeal.τ).loc Cert.RefAdamTableIdeal.main_arg0) = m ((c.tc : Thread Cert.AdamTableIdeal.nD Cert.AdamTableIdeal.τ).loc Cert.AdamTableIdeal.main_arg0)
      ∧ m' ((c.tc : Thread Cert.RefAdamTableIdeal.nD Cert.RefAdamTableIdeal.τ).loc Cert.RefAdamTableIdeal.main_arg1) = m ((c.tc : Thread Cert.AdamTableIdeal.nD Cert.AdamTableIdeal.τ).loc Cert.AdamTableIdeal.main_arg1)
      ∧ m' ((c.tc : Thread Cert.RefAdamTableIdeal.nD Cert.RefAdamTableIdeal.τ).loc Cert.RefAdamTableIdeal.main_arg2) = m ((c.tc : Thread Cert.AdamTableIdeal.nD Cert.AdamTableIdeal.τ).loc Cert.AdamTableIdeal.main_arg2)
      ∧ m' ((c.tc : Thread Cert.RefAdamTableIdeal.nD Cert.RefAdamTableIdeal.τ).loc Cert.RefAdamTableIdeal.main_arg3) = m ((c.tc : Thread Cert.AdamTableIdeal.nD Cert.AdamTableIdeal.τ).loc Cert.AdamTableIdeal.main_arg3)) →
    ∃ (v0 : (c : Dev Cert.AdamTableIdeal.nD) → Buf (Elt Ideal) ((c.tc : Thread Cert.AdamTableIdeal.nD Cert.AdamTableIdeal.τ).loc Cert.AdamTableIdeal.main_v0_0)) (v1 : (c : Dev Cert.AdamTableIdeal.nD) → Buf (Elt Ideal) ((c.tc : Thread Cert.AdamTableIdeal.nD Cert.AdamTableIdeal.τ).loc Cert.AdamTableIdeal.main_v0_1)) (v2 : (c : Dev Cert.AdamTableIdeal.nD) → Buf (Elt Ideal) ((c.tc : Thread Cert.AdamTableIdeal.nD Cert.AdamTableIdeal.τ).loc Cert.AdamTableIdeal.main_v0_2)),
      θ_run (Cert.AdamTableIdeal.defs (F := Ideal)) (onTc (τ := Cert.AdamTableIdeal.τ) (Cert.AdamTableIdeal.main (F := Ideal))) ⟨m, fun _ => 0, g⟩ (fun r => ∀ c : Dev Cert.AdamTableIdeal.nD,
          r.2.mem ((c.tc : Thread Cert.AdamTableIdeal.nD Cert.AdamTableIdeal.τ).loc Cert.AdamTableIdeal.main_v0_0) = v0 c
          ∧ r.2.mem ((c.tc : Thread Cert.AdamTableIdeal.nD Cert.AdamTableIdeal.τ).loc Cert.AdamTableIdeal.main_v0_1) = v1 c
          ∧ r.2.mem ((c.tc : Thread Cert.AdamTableIdeal.nD Cert.AdamTableIdeal.τ).loc Cert.AdamTableIdeal.main_v0_2) = v2 c
          ∧ r.2.mem ((c.tc : Thread Cert.AdamTableIdeal.nD Cert.AdamTableIdeal.τ).loc Cert.AdamTableIdeal.main_arg0) = m ((c.tc : Thread Cert.AdamTableIdeal.nD Cert.AdamTableIdeal.τ).loc Cert.AdamTableIdeal.main_arg0)
          ∧ r.2.mem ((c.tc : Thread Cert.AdamTableIdeal.nD Cert.AdamTableIdeal.τ).loc Cert.AdamTableIdeal.main_arg1) = m ((c.tc : Thread Cert.AdamTableIdeal.nD Cert.AdamTableIdeal.τ).loc Cert.AdamTableIdeal.main_arg1)
          ∧ r.2.mem ((c.tc : Thread Cert.AdamTableIdeal.nD Cert.AdamTableIdeal.τ).loc Cert.AdamTableIdeal.main_arg2) = m ((c.tc : Thread Cert.AdamTableIdeal.nD Cert.AdamTableIdeal.τ).loc Cert.AdamTableIdeal.main_arg2)
          ∧ r.2.mem ((c.tc : Thread Cert.AdamTableIdeal.nD Cert.AdamTableIdeal.τ).loc Cert.AdamTableIdeal.main_arg3) = m ((c.tc : Thread Cert.AdamTableIdeal.nD Cert.AdamTableIdeal.τ).loc Cert.AdamTableIdeal.main_arg3))
      ∧ θ_run (Cert.RefAdamTableIdeal.defs (F := Ideal)) (onTc (τ := Cert.RefAdamTableIdeal.τ) (Cert.RefAdamTableIdeal.main (F := Ideal))) ⟨m', fun _ => 0, g'⟩ (fun r => ∀ c : Dev Cert.RefAdamTableIdeal.nD,
          r.2.mem ((c.tc : Thread Cert.RefAdamTableIdeal.nD Cert.RefAdamTableIdeal.τ).loc Cert.RefAdamTableIdeal.main_v23) = v0 c
          ∧ r.2.mem ((c.tc : Thread Cert.RefAdamTableIdeal.nD Cert.RefAdamTableIdeal.τ).loc Cert.RefAdamTableIdeal.main_v4) = v1 c
          ∧ r.2.mem ((c.tc : Thread Cert.RefAdamTableIdeal.nD Cert.RefAdamTableIdeal.τ).loc Cert.RefAdamTableIdeal.main_v10) = v2 c
          ∧ r.2.mem ((c.tc : Thread Cert.RefAdamTableIdeal.nD Cert.RefAdamTableIdeal.τ).loc Cert.RefAdamTableIdeal.main_arg0) = m' ((c.tc : Thread Cert.RefAdamTableIdeal.nD Cert.RefAdamTableIdeal.τ).loc Cert.RefAdamTableIdeal.main_arg0)
          ∧ r.2.mem ((c.tc : Thread Cert.RefAdamTableIdeal.nD Cert.RefAdamTableIdeal.τ).loc Cert.RefAdamTableIdeal.main_arg1) = m' ((c.tc : Thread Cert.RefAdamTableIdeal.nD Cert.RefAdamTableIdeal.τ).loc Cert.RefAdamTableIdeal.main_arg1)
          ∧ r.2.mem ((c.tc : Thread Cert.RefAdamTableIdeal.nD Cert.RefAdamTableIdeal.τ).loc Cert.RefAdamTableIdeal.main_arg2) = m' ((c.tc : Thread Cert.RefAdamTableIdeal.nD Cert.RefAdamTableIdeal.τ).loc Cert.RefAdamTableIdeal.main_arg2)
          ∧ r.2.mem ((c.tc : Thread Cert.RefAdamTableIdeal.nD Cert.RefAdamTableIdeal.τ).loc Cert.RefAdamTableIdeal.main_arg3) = m' ((c.tc : Thread Cert.RefAdamTableIdeal.nD Cert.RefAdamTableIdeal.τ).loc Cert.RefAdamTableIdeal.main_arg3))

def preserves_AdamNorm_AdamNormIdeal : Prop :=
  True

def algebraic_AdamNormIdeal_RefAdamNormIdeal [hAdamNormIdeal : Cert.AdamNormIdeal.Facts] [hRefAdamNormIdeal : Cert.RefAdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.RefAdamNormIdeal.nD Cert.RefAdamNormIdeal.τ Cert.RefAdamNormIdeal.sig) → Buf (Elt Ideal) ℓ) (g' : Dev Cert.RefAdamNormIdeal.nD → PrngReg), Pre_AdamNormIdeal m →
    (∀ c : Dev Cert.AdamNormIdeal.nD,
      m' ((c.tc : Thread Cert.RefAdamNormIdeal.nD Cert.RefAdamNormIdeal.τ).loc Cert.RefAdamNormIdeal.main_arg0) = m ((c.tc : Thread Cert.AdamNormIdeal.nD Cert.AdamNormIdeal.τ).loc Cert.AdamNormIdeal.main_arg0)
      ∧ m' ((c.tc : Thread Cert.RefAdamNormIdeal.nD Cert.RefAdamNormIdeal.τ).loc Cert.RefAdamNormIdeal.main_arg1) = m ((c.tc : Thread Cert.AdamNormIdeal.nD Cert.AdamNormIdeal.τ).loc Cert.AdamNormIdeal.main_arg1)
      ∧ m' ((c.tc : Thread Cert.RefAdamNormIdeal.nD Cert.RefAdamNormIdeal.τ).loc Cert.RefAdamNormIdeal.main_arg2) = m ((c.tc : Thread Cert.AdamNormIdeal.nD Cert.AdamNormIdeal.τ).loc Cert.AdamNormIdeal.main_arg2)
      ∧ m' ((c.tc : Thread Cert.RefAdamNormIdeal.nD Cert.RefAdamNormIdeal.τ).loc Cert.RefAdamNormIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.RefAdamNormIdeal.defs (F := Ideal)) (onTc (τ := Cert.RefAdamNormIdeal.τ) (Cert.RefAdamNormIdeal.main (F := Ideal))) ⟨m', fun _ => 0, g'⟩ (fun r => ∀ c : Dev Cert.RefAdamNormIdeal.nD,
          r.2.mem ((c.tc : Thread Cert.RefAdamNormIdeal.nD Cert.RefAdamNormIdeal.τ).loc Cert.RefAdamNormIdeal.main_v23) = v0 c
          ∧ r.2.mem ((c.tc : Thread Cert.RefAdamNormIdeal.nD Cert.RefAdamNormIdeal.τ).loc Cert.RefAdamNormIdeal.main_v4) = v1 c
          ∧ r.2.mem ((c.tc : Thread Cert.RefAdamNormIdeal.nD Cert.RefAdamNormIdeal.τ).loc Cert.RefAdamNormIdeal.main_v10) = v2 c
          ∧ r.2.mem ((c.tc : Thread Cert.RefAdamNormIdeal.nD Cert.RefAdamNormIdeal.τ).loc Cert.RefAdamNormIdeal.main_arg0) = m' ((c.tc : Thread Cert.RefAdamNormIdeal.nD Cert.RefAdamNormIdeal.τ).loc Cert.RefAdamNormIdeal.main_arg0)
          ∧ r.2.mem ((c.tc : Thread Cert.RefAdamNormIdeal.nD Cert.RefAdamNormIdeal.τ).loc Cert.RefAdamNormIdeal.main_arg1) = m' ((c.tc : Thread Cert.RefAdamNormIdeal.nD Cert.RefAdamNormIdeal.τ).loc Cert.RefAdamNormIdeal.main_arg1)
          ∧ r.2.mem ((c.tc : Thread Cert.RefAdamNormIdeal.nD Cert.RefAdamNormIdeal.τ).loc Cert.RefAdamNormIdeal.main_arg2) = m' ((c.tc : Thread Cert.RefAdamNormIdeal.nD Cert.RefAdamNormIdeal.τ).loc Cert.RefAdamNormIdeal.main_arg2)
          ∧ r.2.mem ((c.tc : Thread Cert.RefAdamNormIdeal.nD Cert.RefAdamNormIdeal.τ).loc Cert.RefAdamNormIdeal.main_arg3) = m' ((c.tc : Thread Cert.RefAdamNormIdeal.nD Cert.RefAdamNormIdeal.τ).loc Cert.RefAdamNormIdeal.main_arg3))

def Claim : Prop :=
  ∃ (hAttn : Cert.Attn.Facts) (hAttnIdeal : Cert.AttnIdeal.Facts) (hReferenceIdeal : Cert.ReferenceIdeal.Facts) (hInProj : Cert.InProj.Facts) (hInProjIdeal : Cert.InProjIdeal.Facts) (hRefInProjIdeal : Cert.RefInProjIdeal.Facts) (hGradW : Cert.GradW.Facts) (hGradWIdeal : Cert.GradWIdeal.Facts) (hRefGradWIdeal : Cert.RefGradWIdeal.Facts) (hGradX : Cert.GradX.Facts) (hGradXIdeal : Cert.GradXIdeal.Facts) (hRefGradXIdeal : Cert.RefGradXIdeal.Facts) (hOutProj : Cert.OutProj.Facts) (hOutProjIdeal : Cert.OutProjIdeal.Facts) (hRefOutProjIdeal : Cert.RefOutProjIdeal.Facts) (hGradWOut : Cert.GradWOut.Facts) (hGradWOutIdeal : Cert.GradWOutIdeal.Facts) (hRefGradWOutIdeal : Cert.RefGradWOutIdeal.Facts) (hDHAttn : Cert.DHAttn.Facts) (hDHAttnIdeal : Cert.DHAttnIdeal.Facts) (hRefDHAttnIdeal : Cert.RefDHAttnIdeal.Facts) (hGradWBranch : Cert.GradWBranch.Facts) (hGradWBranchIdeal : Cert.GradWBranchIdeal.Facts) (hRefGradWBranchIdeal : Cert.RefGradWBranchIdeal.Facts) (hGluGate : Cert.GluGate.Facts) (hGluGateIdeal : Cert.GluGateIdeal.Facts) (hRefGluGateIdeal : Cert.RefGluGateIdeal.Facts) (hBranchMerge : Cert.BranchMerge.Facts) (hBranchMergeIdeal : Cert.BranchMergeIdeal.Facts) (hRefBranchMergeIdeal : Cert.RefBranchMergeIdeal.Facts) (hMergeBwd : Cert.MergeBwd.Facts) (hMergeBwdIdeal : Cert.MergeBwdIdeal.Facts) (hRefMergeBwdIdeal : Cert.RefMergeBwdIdeal.Facts) (hGluGateBwd : Cert.GluGateBwd.Facts) (hGluGateBwdIdeal : Cert.GluGateBwdIdeal.Facts) (hRefGluGateBwdIdeal : Cert.RefGluGateBwdIdeal.Facts) (hAdamWIn : Cert.AdamWIn.Facts) (hAdamWInIdeal : Cert.AdamWInIdeal.Facts) (hRefAdamWInIdeal : Cert.RefAdamWInIdeal.Facts) (hAdamStack : Cert.AdamStack.Facts) (hAdamStackIdeal : Cert.AdamStackIdeal.Facts) (hRefAdamStackIdeal : Cert.RefAdamStackIdeal.Facts) (hAdamWOut : Cert.AdamWOut.Facts) (hAdamWOutIdeal : Cert.AdamWOutIdeal.Facts) (hRefAdamWOutIdeal : Cert.RefAdamWOutIdeal.Facts) (hSumSmall : Cert.SumSmall.Facts) (hSumSmallIdeal : Cert.SumSmallIdeal.Facts) (hRefSumSmallIdeal : Cert.RefSumSmallIdeal.Facts) (hAdamLambda : Cert.AdamLambda.Facts) (hAdamLambdaIdeal : Cert.AdamLambdaIdeal.Facts) (hRefAdamLambdaIdeal : Cert.RefAdamLambdaIdeal.Facts) (hAdamB : Cert.AdamB.Facts) (hAdamBIdeal : Cert.AdamBIdeal.Facts) (hRefAdamBIdeal : Cert.RefAdamBIdeal.Facts) (hAdamC : Cert.AdamC.Facts) (hAdamCIdeal : Cert.AdamCIdeal.Facts) (hRefAdamCIdeal : Cert.RefAdamCIdeal.Facts) (hAdamD : Cert.AdamD.Facts) (hAdamDIdeal : Cert.AdamDIdeal.Facts) (hRefAdamDIdeal : Cert.RefAdamDIdeal.Facts) (hAdamLogStep : Cert.AdamLogStep.Facts) (hAdamLogStepIdeal : Cert.AdamLogStepIdeal.Facts) (hRefAdamLogStepIdeal : Cert.RefAdamLogStepIdeal.Facts) (hAdamSinks : Cert.AdamSinks.Facts) (hAdamSinksIdeal : Cert.AdamSinksIdeal.Facts) (hRefAdamSinksIdeal : Cert.RefAdamSinksIdeal.Facts) (hAdamTable : Cert.AdamTable.Facts) (hAdamTableIdeal : Cert.AdamTableIdeal.Facts) (hRefAdamTableIdeal : Cert.RefAdamTableIdeal.Facts) (hAdamNorm : Cert.AdamNorm.Facts) (hAdamNormIdeal : Cert.AdamNormIdeal.Facts) (hRefAdamNormIdeal : Cert.RefAdamNormIdeal.Facts) (hPre_finite : Cert.Pre_finite.Facts) (hPre_finite_gate : Cert.Pre_finite_gate.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_RefInProjIdeal (hRefInProjIdeal := hRefInProjIdeal)
    ∧ quiescent_GradW (hGradW := hGradW)
    ∧ quiescent_GradWIdeal (hGradWIdeal := hGradWIdeal)
    ∧ quiescent_RefGradWIdeal (hRefGradWIdeal := hRefGradWIdeal)
    ∧ quiescent_GradX (hGradX := hGradX)
    ∧ quiescent_GradXIdeal (hGradXIdeal := hGradXIdeal)
    ∧ quiescent_RefGradXIdeal (hRefGradXIdeal := hRefGradXIdeal)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_GradWOut (hGradWOut := hGradWOut)
    ∧ quiescent_GradWOutIdeal (hGradWOutIdeal := hGradWOutIdeal)
    ∧ quiescent_RefGradWOutIdeal (hRefGradWOutIdeal := hRefGradWOutIdeal)
    ∧ quiescent_DHAttn (hDHAttn := hDHAttn)
    ∧ quiescent_DHAttnIdeal (hDHAttnIdeal := hDHAttnIdeal)
    ∧ quiescent_RefDHAttnIdeal (hRefDHAttnIdeal := hRefDHAttnIdeal)
    ∧ quiescent_GradWBranch (hGradWBranch := hGradWBranch)
    ∧ quiescent_GradWBranchIdeal (hGradWBranchIdeal := hGradWBranchIdeal)
    ∧ quiescent_RefGradWBranchIdeal (hRefGradWBranchIdeal := hRefGradWBranchIdeal)
    ∧ quiescent_GluGate (hGluGate := hGluGate)
    ∧ quiescent_GluGateIdeal (hGluGateIdeal := hGluGateIdeal)
    ∧ quiescent_RefGluGateIdeal (hRefGluGateIdeal := hRefGluGateIdeal)
    ∧ quiescent_BranchMerge (hBranchMerge := hBranchMerge)
    ∧ quiescent_BranchMergeIdeal (hBranchMergeIdeal := hBranchMergeIdeal)
    ∧ quiescent_RefBranchMergeIdeal (hRefBranchMergeIdeal := hRefBranchMergeIdeal)
    ∧ quiescent_MergeBwd (hMergeBwd := hMergeBwd)
    ∧ quiescent_MergeBwdIdeal (hMergeBwdIdeal := hMergeBwdIdeal)
    ∧ quiescent_RefMergeBwdIdeal (hRefMergeBwdIdeal := hRefMergeBwdIdeal)
    ∧ quiescent_GluGateBwd (hGluGateBwd := hGluGateBwd)
    ∧ quiescent_GluGateBwdIdeal (hGluGateBwdIdeal := hGluGateBwdIdeal)
    ∧ quiescent_GluGateBwdIdeal_pre_finite_gate (hGluGateBwdIdeal := hGluGateBwdIdeal) (hPre_finite_gate := hPre_finite_gate)
    ∧ quiescent_RefGluGateBwdIdeal (hRefGluGateBwdIdeal := hRefGluGateBwdIdeal)
    ∧ quiescent_RefGluGateBwdIdeal_pre_finite_gate (hRefGluGateBwdIdeal := hRefGluGateBwdIdeal) (hPre_finite_gate := hPre_finite_gate)
    ∧ quiescent_AdamWIn (hAdamWIn := hAdamWIn)
    ∧ quiescent_AdamWInIdeal (hAdamWInIdeal := hAdamWInIdeal)
    ∧ quiescent_RefAdamWInIdeal (hRefAdamWInIdeal := hRefAdamWInIdeal)
    ∧ quiescent_AdamStack (hAdamStack := hAdamStack)
    ∧ quiescent_AdamStackIdeal (hAdamStackIdeal := hAdamStackIdeal)
    ∧ quiescent_RefAdamStackIdeal (hRefAdamStackIdeal := hRefAdamStackIdeal)
    ∧ quiescent_AdamWOut (hAdamWOut := hAdamWOut)
    ∧ quiescent_AdamWOutIdeal (hAdamWOutIdeal := hAdamWOutIdeal)
    ∧ quiescent_RefAdamWOutIdeal (hRefAdamWOutIdeal := hRefAdamWOutIdeal)
    ∧ quiescent_SumSmall (hSumSmall := hSumSmall)
    ∧ quiescent_SumSmallIdeal (hSumSmallIdeal := hSumSmallIdeal)
    ∧ quiescent_RefSumSmallIdeal (hRefSumSmallIdeal := hRefSumSmallIdeal)
    ∧ quiescent_AdamLambda (hAdamLambda := hAdamLambda)
    ∧ quiescent_AdamLambdaIdeal (hAdamLambdaIdeal := hAdamLambdaIdeal)
    ∧ quiescent_RefAdamLambdaIdeal (hRefAdamLambdaIdeal := hRefAdamLambdaIdeal)
    ∧ quiescent_AdamB (hAdamB := hAdamB)
    ∧ quiescent_AdamBIdeal (hAdamBIdeal := hAdamBIdeal)
    ∧ quiescent_RefAdamBIdeal (hRefAdamBIdeal := hRefAdamBIdeal)
    ∧ quiescent_AdamC (hAdamC := hAdamC)
    ∧ quiescent_AdamCIdeal (hAdamCIdeal := hAdamCIdeal)
    ∧ quiescent_RefAdamCIdeal (hRefAdamCIdeal := hRefAdamCIdeal)
    ∧ quiescent_AdamD (hAdamD := hAdamD)
    ∧ quiescent_AdamDIdeal (hAdamDIdeal := hAdamDIdeal)
    ∧ quiescent_RefAdamDIdeal (hRefAdamDIdeal := hRefAdamDIdeal)
    ∧ quiescent_AdamLogStep (hAdamLogStep := hAdamLogStep)
    ∧ quiescent_AdamLogStepIdeal (hAdamLogStepIdeal := hAdamLogStepIdeal)
    ∧ quiescent_RefAdamLogStepIdeal (hRefAdamLogStepIdeal := hRefAdamLogStepIdeal)
    ∧ quiescent_AdamSinks (hAdamSinks := hAdamSinks)
    ∧ quiescent_AdamSinksIdeal (hAdamSinksIdeal := hAdamSinksIdeal)
    ∧ quiescent_RefAdamSinksIdeal (hRefAdamSinksIdeal := hRefAdamSinksIdeal)
    ∧ quiescent_AdamTable (hAdamTable := hAdamTable)
    ∧ quiescent_AdamTableIdeal (hAdamTableIdeal := hAdamTableIdeal)
    ∧ quiescent_RefAdamTableIdeal (hRefAdamTableIdeal := hRefAdamTableIdeal)
    ∧ quiescent_AdamNorm (hAdamNorm := hAdamNorm)
    ∧ quiescent_AdamNormIdeal (hAdamNormIdeal := hAdamNormIdeal)
    ∧ quiescent_RefAdamNormIdeal (hRefAdamNormIdeal := hRefAdamNormIdeal)
    ∧ preserves_Attn_AttnIdeal
    ∧ algebraic_AttnIdeal_ReferenceIdeal_pre_finite (hAttnIdeal := hAttnIdeal) (hReferenceIdeal := hReferenceIdeal) (hPre_finite := hPre_finite)
    ∧ preserves_InProj_InProjIdeal
    ∧ algebraic_InProjIdeal_RefInProjIdeal (hInProjIdeal := hInProjIdeal) (hRefInProjIdeal := hRefInProjIdeal)
    ∧ preserves_GradW_GradWIdeal
    ∧ algebraic_GradWIdeal_RefGradWIdeal (hGradWIdeal := hGradWIdeal) (hRefGradWIdeal := hRefGradWIdeal)
    ∧ preserves_GradX_GradXIdeal
    ∧ algebraic_GradXIdeal_RefGradXIdeal (hGradXIdeal := hGradXIdeal) (hRefGradXIdeal := hRefGradXIdeal)
    ∧ preserves_OutProj_OutProjIdeal
    ∧ algebraic_OutProjIdeal_RefOutProjIdeal (hOutProjIdeal := hOutProjIdeal) (hRefOutProjIdeal := hRefOutProjIdeal)
    ∧ preserves_GradWOut_GradWOutIdeal
    ∧ algebraic_GradWOutIdeal_RefGradWOutIdeal (hGradWOutIdeal := hGradWOutIdeal) (hRefGradWOutIdeal := hRefGradWOutIdeal)
    ∧ preserves_DHAttn_DHAttnIdeal
    ∧ algebraic_DHAttnIdeal_RefDHAttnIdeal (hDHAttnIdeal := hDHAttnIdeal) (hRefDHAttnIdeal := hRefDHAttnIdeal)
    ∧ preserves_GradWBranch_GradWBranchIdeal
    ∧ algebraic_GradWBranchIdeal_RefGradWBranchIdeal (hGradWBranchIdeal := hGradWBranchIdeal) (hRefGradWBranchIdeal := hRefGradWBranchIdeal)
    ∧ preserves_GluGate_GluGateIdeal
    ∧ algebraic_GluGateIdeal_RefGluGateIdeal (hGluGateIdeal := hGluGateIdeal) (hRefGluGateIdeal := hRefGluGateIdeal)
    ∧ preserves_BranchMerge_BranchMergeIdeal
    ∧ algebraic_BranchMergeIdeal_RefBranchMergeIdeal (hBranchMergeIdeal := hBranchMergeIdeal) (hRefBranchMergeIdeal := hRefBranchMergeIdeal)
    ∧ preserves_MergeBwd_MergeBwdIdeal
    ∧ algebraic_MergeBwdIdeal_RefMergeBwdIdeal (hMergeBwdIdeal := hMergeBwdIdeal) (hRefMergeBwdIdeal := hRefMergeBwdIdeal)
    ∧ preserves_GluGateBwd_GluGateBwdIdeal
    ∧ algebraic_GluGateBwdIdeal_RefGluGateBwdIdeal_pre_finite_gate (hGluGateBwdIdeal := hGluGateBwdIdeal) (hRefGluGateBwdIdeal := hRefGluGateBwdIdeal) (hPre_finite_gate := hPre_finite_gate)
    ∧ preserves_AdamWIn_AdamWInIdeal
    ∧ algebraic_AdamWInIdeal_RefAdamWInIdeal (hAdamWInIdeal := hAdamWInIdeal) (hRefAdamWInIdeal := hRefAdamWInIdeal)
    ∧ preserves_AdamStack_AdamStackIdeal
    ∧ algebraic_AdamStackIdeal_RefAdamStackIdeal (hAdamStackIdeal := hAdamStackIdeal) (hRefAdamStackIdeal := hRefAdamStackIdeal)
    ∧ preserves_AdamWOut_AdamWOutIdeal
    ∧ algebraic_AdamWOutIdeal_RefAdamWOutIdeal (hAdamWOutIdeal := hAdamWOutIdeal) (hRefAdamWOutIdeal := hRefAdamWOutIdeal)
    ∧ preserves_SumSmall_SumSmallIdeal
    ∧ algebraic_SumSmallIdeal_RefSumSmallIdeal (hSumSmallIdeal := hSumSmallIdeal) (hRefSumSmallIdeal := hRefSumSmallIdeal)
    ∧ preserves_AdamLambda_AdamLambdaIdeal
    ∧ algebraic_AdamLambdaIdeal_RefAdamLambdaIdeal (hAdamLambdaIdeal := hAdamLambdaIdeal) (hRefAdamLambdaIdeal := hRefAdamLambdaIdeal)
    ∧ preserves_AdamB_AdamBIdeal
    ∧ algebraic_AdamBIdeal_RefAdamBIdeal (hAdamBIdeal := hAdamBIdeal) (hRefAdamBIdeal := hRefAdamBIdeal)
    ∧ preserves_AdamC_AdamCIdeal
    ∧ algebraic_AdamCIdeal_RefAdamCIdeal (hAdamCIdeal := hAdamCIdeal) (hRefAdamCIdeal := hRefAdamCIdeal)
    ∧ preserves_AdamD_AdamDIdeal
    ∧ algebraic_AdamDIdeal_RefAdamDIdeal (hAdamDIdeal := hAdamDIdeal) (hRefAdamDIdeal := hRefAdamDIdeal)
    ∧ preserves_AdamLogStep_AdamLogStepIdeal
    ∧ algebraic_AdamLogStepIdeal_RefAdamLogStepIdeal (hAdamLogStepIdeal := hAdamLogStepIdeal) (hRefAdamLogStepIdeal := hRefAdamLogStepIdeal)
    ∧ preserves_AdamSinks_AdamSinksIdeal
    ∧ algebraic_AdamSinksIdeal_RefAdamSinksIdeal (hAdamSinksIdeal := hAdamSinksIdeal) (hRefAdamSinksIdeal := hRefAdamSinksIdeal)
    ∧ preserves_AdamTable_AdamTableIdeal
    ∧ algebraic_AdamTableIdeal_RefAdamTableIdeal (hAdamTableIdeal := hAdamTableIdeal) (hRefAdamTableIdeal := hRefAdamTableIdeal)
    ∧ preserves_AdamNorm_AdamNormIdeal
    ∧ algebraic_AdamNormIdeal_RefAdamNormIdeal (hAdamNormIdeal := hAdamNormIdeal) (hRefAdamNormIdeal := hRefAdamNormIdeal)
-- ==== Pre_finite.lean ====
abbrev S8192x8704 : Shape := ⟨2, ![8192, 8704]⟩
abbrev S16 : Shape := ⟨1, ![16]⟩
abbrev S32x16 : Shape := ⟨2, ![32, 16]⟩
abbrev S8192x1024 : Shape := ⟨2, ![8192, 1024]⟩
abbrev S_ : Shape := ⟨0, ![]⟩

class Facts : Prop where
  bcast_S_S8192x8704 : S_.BroadcastsInDim S8192x8704 (![] : Fin 0 → Fin S8192x8704.rank)
  bcast_S_S16 : S_.BroadcastsInDim S16 (![] : Fin 0 → Fin S16.rank)
  bcast_S_S32x16 : S_.BroadcastsInDim S32x16 (![] : Fin 0 → Fin S32x16.rank)
  bcast_S_S8192x1024 : S_.BroadcastsInDim S8192x1024 (![] : Fin 0 → Fin S8192x1024.rank)

variable [Facts]

def fn_part1 {F : FTy → Type} [FloatOps F] (main_arg3 : FVec F S8192x1024 .f32) (main_v4 : IVec S8192x8704 1) (main_v9 : IVec S16 1) (main_v14 : IVec S32x16 1) (main_v16 : IVec S8192x1024 1) : IVec S8192x8704 1 × IVec S16 1 × IVec S32x16 1 × IVec S8192x1024 1 :=
  let main_cst_6 : FVec F S_ .f32 := constant S_ .f32 0xFF800000#32
  let main_v17 : FVec F S8192x1024 .f32 := broadcastInDim S8192x1024 ![] bcast_S_S8192x1024 main_cst_6
  let main_v18 : IVec S8192x1024 1 := cmpf .ogt main_arg3 main_v17
  let main_v19 : IVec S8192x1024 1 := andi main_v16 main_v18
  (main_v4, main_v9, main_v14, main_v19)

def fn {F : FTy → Type} [FloatOps F] (main_arg0 : FVec F S8192x8704 .f32) (main_arg1 : FVec F S16 .f32) (main_arg2 : FVec F S32x16 .f32) (main_arg3 : FVec F S8192x1024 .f32) : IVec S8192x8704 1 × IVec S16 1 × IVec S32x16 1 × IVec S8192x1024 1 :=
  let main_cst : FVec F S_ .f32 := constant S_ .f32 0x7F800000#32
  let main_v0 : FVec F S8192x8704 .f32 := broadcastInDim S8192x8704 ![] bcast_S_S8192x8704 main_cst
  let main_v1 : IVec S8192x8704 1 := cmpf .olt main_arg0 main_v0
  let main_cst_0 : FVec F S_ .f32 := constant S_ .f32 0xFF800000#32
  let main_v2 : FVec F S8192x8704 .f32 := broadcastInDim S8192x8704 ![] bcast_S_S8192x8704 main_cst_0
  let main_v3 : IVec S8192x8704 1 := cmpf .ogt main_arg0 main_v2
  let main_v4 : IVec S8192x8704 1 := andi main_v1 main_v3
  let main_cst_1 : FVec F S_ .f32 := constant S_ .f32 0x7F800000#32
  let main_v5 : FVec F S16 .f32 := broadcastInDim S16 ![] bcast_S_S16 main_cst_1
  let main_v6 : IVec S16 1 := cmpf .olt main_arg1 main_v5
  let main_cst_2 : FVec F S_ .f32 := constant S_ .f32 0xFF800000#32
  let main_v7 : FVec F S16 .f32 := broadcastInDim S16 ![] bcast_S_S16 main_cst_2
  let main_v8 : IVec S16 1 := cmpf .ogt main_arg1 main_v7
  let main_v9 : IVec S16 1 := andi main_v6 main_v8
  let main_cst_3 : FVec F S_ .f32 := constant S_ .f32 0x7F800000#32
  let main_v10 : FVec F S32x16 .f32 := broadcastInDim S32x16 ![] bcast_S_S32x16 main_cst_3
  let main_v11 : IVec S32x16 1 := cmpf .olt main_arg2 main_v10
  let main_cst_4 : FVec F S_ .f32 := constant S_ .f32 0xFF800000#32
  let main_v12 : FVec F S32x16 .f32 := broadcastInDim S32x16 ![] bcast_S_S32x16 main_cst_4
  let main_v13 : IVec S32x16 1 := cmpf .ogt main_arg2 main_v12
  let main_v14 : IVec S32x16 1 := andi main_v11 main_v13
  let main_cst_5 : FVec F S_ .f32 := constant S_ .f32 0x7F800000#32
  let main_v15 : FVec F S8192x1024 .f32 := broadcastInDim S8192x1024 ![] bcast_S_S8192x1024 main_cst_5
  let main_v16 : IVec S8192x1024 1 := cmpf .olt main_arg3 main_v15
  fn_part1 (F := F) main_arg3 main_v4 main_v9 main_v14 main_v16
-- ==== Pre_finite_gate.lean ====
abbrev S8192x2048 : Shape := ⟨2, ![8192, 2048]⟩
abbrev S1024x2048 : Shape := ⟨2, ![1024, 2048]⟩
abbrev S8192x1024 : Shape := ⟨2, ![8192, 1024]⟩
abbrev S8192x8704 : Shape := ⟨2, ![8192, 8704]⟩
abbrev S_ : Shape := ⟨0, ![]⟩

class Facts : Prop where
  bcast_S_S8192x2048 : S_.BroadcastsInDim S8192x2048 (![] : Fin 0 → Fin S8192x2048.rank)
  bcast_S_S1024x2048 : S_.BroadcastsInDim S1024x2048 (![] : Fin 0 → Fin S1024x2048.rank)
  bcast_S_S8192x1024 : S_.BroadcastsInDim S8192x1024 (![] : Fin 0 → Fin S8192x1024.rank)

variable [Facts]

def fn {F : FTy → Type} [FloatOps F] (main_arg0 : FVec F S8192x2048 .bf16) (main_arg1 : FVec F S1024x2048 .f32) (main_arg2 : FVec F S8192x1024 .f32) (main_arg3 : FVec F S8192x1024 .f32) (main_arg4 : FVec F S8192x8704 .f32) : IVec S8192x2048 1 × IVec S1024x2048 1 × IVec S8192x1024 1 :=
  let main_cst : FVec F S_ .bf16 := constant S_ .bf16 0x7F80#16
  let main_v0 : FVec F S8192x2048 .bf16 := broadcastInDim S8192x2048 ![] bcast_S_S8192x2048 main_cst
  let main_v1 : IVec S8192x2048 1 := cmpf .olt main_arg0 main_v0
  let main_cst_0 : FVec F S_ .bf16 := constant S_ .bf16 0xFF80#16
  let main_v2 : FVec F S8192x2048 .bf16 := broadcastInDim S8192x2048 ![] bcast_S_S8192x2048 main_cst_0
  let main_v3 : IVec S8192x2048 1 := cmpf .ogt main_arg0 main_v2
  let main_v4 : IVec S8192x2048 1 := andi main_v1 main_v3
  let main_cst_1 : FVec F S_ .f32 := constant S_ .f32 0x7F800000#32
  let main_v5 : FVec F S1024x2048 .f32 := broadcastInDim S1024x2048 ![] bcast_S_S1024x2048 main_cst_1
  let main_v6 : IVec S1024x2048 1 := cmpf .olt main_arg1 main_v5
  let main_cst_2 : FVec F S_ .f32 := constant S_ .f32 0xFF800000#32
  let main_v7 : FVec F S1024x2048 .f32 := broadcastInDim S1024x2048 ![] bcast_S_S1024x2048 main_cst_2
  let main_v8 : IVec S1024x2048 1 := cmpf .ogt main_arg1 main_v7
  let main_v9 : IVec S1024x2048 1 := andi main_v6 main_v8
  let main_cst_3 : FVec F S_ .f32 := constant S_ .f32 0x7F800000#32
  let main_v10 : FVec F S8192x1024 .f32 := broadcastInDim S8192x1024 ![] bcast_S_S8192x1024 main_cst_3
  let main_v11 : IVec S8192x1024 1 := cmpf .olt main_arg2 main_v10
  let main_cst_4 : FVec F S_ .f32 := constant S_ .f32 0xFF800000#32
  let main_v12 : FVec F S8192x1024 .f32 := broadcastInDim S8192x1024 ![] bcast_S_S8192x1024 main_cst_4
  let main_v13 : IVec S8192x1024 1 := cmpf .ogt main_arg2 main_v12
  let main_v14 : IVec S8192x1024 1 := andi main_v11 main_v13
  (main_v4, main_v9, main_v14)
-- ==== Attn.lean ====
abbrev S8192x8704 : Shape := ⟨2, ![8192, 8704]⟩
abbrev S16 : Shape := ⟨1, ![16]⟩
abbrev S32x16 : Shape := ⟨2, ![32, 16]⟩
abbrev S8192x1024 : Shape := ⟨2, ![8192, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S128x128x1 : Shape := ⟨3, ![128, 128, 1]⟩
abbrev S32 : Shape := ⟨1, ![32]⟩
abbrev S1x1x32 : Shape := ⟨3, ![1, 1, 32]⟩
abbrev S128x128x32 : Shape := ⟨3, ![128, 128, 32]⟩
abbrev S16x128x128 : Shape := ⟨3, ![16, 128, 128]⟩
abbrev S128x512 : Shape := ⟨2, ![128, 512]⟩
abbrev S8x128x128 : Shape := ⟨3, ![8, 128, 128]⟩
abbrev S512x128 : Shape := ⟨2, ![512, 128]⟩
abbrev S256x128 : Shape := ⟨2, ![256, 128]⟩
abbrev S256x512 : Shape := ⟨2, ![256, 512]⟩
abbrev S1x128x128 : Shape := ⟨3, ![1, 128, 128]⟩
abbrev S1 : Shape := ⟨1, ![1]⟩
abbrev S8192x256 : Shape := ⟨2, ![8192, 256]⟩
abbrev S16x8x128 : Shape := ⟨3, ![16, 8, 128]⟩
abbrev S8x8x128 : Shape := ⟨3, ![8, 8, 128]⟩
abbrev S1x8x128 : Shape := ⟨3, ![1, 8, 128]⟩
abbrev S8x128 : Shape := ⟨2, ![8, 128]⟩
abbrev S1x1 : Shape := ⟨2, ![1, 1]⟩
abbrev S8064x256 : Shape := ⟨2, ![8064, 256]⟩
abbrev S128x256 : Shape := ⟨2, ![128, 256]⟩

abbrev nBuf : Space → Nat
  | .hbm => 78
  | .vmem => 52
  | .smem => 2
  | _ => 0

abbrev bufTy : (tb : Table) → Fin (tcTables nBuf tb) → BufTy
  | .hbm, ⟨0, _⟩ => ⟨S8192x8704, .f32⟩
  | .hbm, ⟨1, _⟩ => ⟨S16, .f32⟩
  | .hbm, ⟨2, _⟩ => ⟨S32x16, .f32⟩
  | .hbm, ⟨3, _⟩ => ⟨S8192x1024, .f32⟩
  | .hbm, ⟨4, _⟩ => ⟨S128, .i32⟩
  | .hbm, ⟨5, _⟩ => ⟨S128x1, .i32⟩
  | .hbm, ⟨6, _⟩ => ⟨S128, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .f32⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S_, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128x1, .i32⟩
  | .hbm, ⟨47, _⟩ => ⟨S32, .i32⟩
  | .hbm, ⟨48, _⟩ => ⟨S1x1x32, .i32⟩
  | .hbm, ⟨49, _⟩ => ⟨S128x128x32, .i32⟩
  | .hbm, ⟨50, _⟩ => ⟨S128x128x32, .i32⟩
  | .hbm, ⟨51, _⟩ => ⟨S128x128x32, .i1⟩
  | .hbm, ⟨52, _⟩ => ⟨S128x128x32, .f32⟩
  | .hbm, ⟨53, _⟩ => ⟨S16x128x128, .f32⟩
  | .hbm, ⟨54, _⟩ => ⟨S8192x1024, .f32⟩
  | .hbm, ⟨55, _⟩ => ⟨S8192x1024, .bf16⟩
  | .hbm, ⟨56, _⟩ => ⟨S8192x1024, .bf16⟩
  | .hbm, ⟨57, _⟩ => ⟨S8192x1024, .bf16⟩
  | .hbm, ⟨58, _⟩ => ⟨S8192x256, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S16x128x128, .f32⟩
  | .hbm, ⟨63, _⟩ => ⟨S16x8x128, .f32⟩
  | .hbm, ⟨64, _⟩ => ⟨S8064x256, .f32⟩
  | .hbm, ⟨65, _⟩ => ⟨S128x256, .f32⟩
  | .hbm, ⟨66, _⟩ => ⟨S_, .f32⟩
  | .hbm, ⟨67, _⟩ => ⟨S128x256, .f32⟩
  | .hbm, ⟨68, _⟩ => ⟨S8192x256, .f32⟩
  | .hbm, ⟨69, _⟩ => ⟨S8192x256, .f32⟩
  | .hbm, ⟨70, _⟩ => ⟨S8192x256, .bf16⟩
  | .hbm, ⟨71, _⟩ => ⟨S8064x256, .f32⟩
  | .hbm, ⟨72, _⟩ => ⟨S128x256, .f32⟩
  | .hbm, ⟨73, _⟩ => ⟨S_, .f32⟩
  | .hbm, ⟨74, _⟩ => ⟨S128x256, .f32⟩
  | .hbm, ⟨75, _⟩ => ⟨S8192x256, .f32⟩
  | .hbm, ⟨76, _⟩ => ⟨S8192x256, .f32⟩
  | .hbm, ⟨77, _⟩ => ⟨S8192x256, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S8x128x128, .f32⟩
  | .local _ .vmem, ⟨11, _⟩ => ⟨S8x128x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .bf16⟩
  | .local _ .vmem, ⟨17, _⟩ => ⟨S128x512, .bf16⟩
  | .local _ .vmem, ⟨18, _⟩ => ⟨S128x512, .f32⟩
  | .local _ .vmem, ⟨19, _⟩ => ⟨S128x512, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S8x128x128, .f32⟩
  | .local _ .vmem, ⟨29, _⟩ => ⟨S8x128x128, .f32⟩
  | .local _ .vmem, ⟨30, _⟩ => ⟨S128x512, .f32⟩
  | .local _ .vmem, ⟨31, _⟩ => ⟨S128x512, .f32⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x512, .f32⟩
  | .local _ .vmem, ⟨36, _⟩ => ⟨S128x512, .bf16⟩
  | .local _ .vmem, ⟨37, _⟩ => ⟨S128x512, .bf16⟩
  | .local _ .vmem, ⟨38, _⟩ => ⟨S128x512, .bf16⟩
  | .local _ .vmem, ⟨39, _⟩ => ⟨S128x512, .bf16⟩
  | .local _ .vmem, ⟨40, _⟩ => ⟨S128x128, .f32⟩
  | .local _ .vmem, ⟨41, _⟩ => ⟨S128x128, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S128x128, .f32⟩
  | .local _ .vmem, ⟨48, _⟩ => ⟨S8x128x128, .f32⟩
  | .local _ .vmem, ⟨49, _⟩ => ⟨S8x128x128, .f32⟩
  | .local _ .vmem, ⟨50, _⟩ => ⟨S8x8x128, .f32⟩
  | .local _ .vmem, ⟨51, _⟩ => ⟨S8x8x128, .f32⟩
  | .local _ .smem, ⟨0, _⟩ => ⟨S16, .f32⟩
  | .local _ .smem, ⟨1, _⟩ => ⟨S16, .f32⟩
  | _, _ => ⟨S8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v43_0 : Ref sig .tc := ⟨.hbm, 56, rfl⟩
abbrev main_v43_1 : Ref sig .tc := ⟨.hbm, 57, rfl⟩
abbrev main_v43_2 : Ref sig .tc := ⟨.hbm, 58, rfl⟩
abbrev main_v43_3 : Ref sig .tc := ⟨.hbm, 59, rfl⟩
abbrev main_v43_4 : Ref sig .tc := ⟨.hbm, 60, rfl⟩
abbrev main_v43_5 : Ref sig .tc := ⟨.hbm, 61, rfl⟩
abbrev main_v43_6 : Ref sig .tc := ⟨.hbm, 62, rfl⟩
abbrev main_v43_7 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc1_stg11_0 : Ref sig .tc := ⟨.vmem, 38, rfl⟩
abbrev cc1_stg11_1 : Ref sig .tc := ⟨.vmem, 39, rfl⟩
abbrev cc1_stg12_0 : Ref sig .tc := ⟨.vmem, 40, rfl⟩
abbrev cc1_stg12_1 : Ref sig .tc := ⟨.vmem, 41, rfl⟩
abbrev cc1_stg13_0 : Ref sig .tc := ⟨.vmem, 42, rfl⟩
abbrev cc1_stg13_1 : Ref sig .tc := ⟨.vmem, 43, rfl⟩
abbrev cc1_stg14_0 : Ref sig .tc := ⟨.vmem, 44, rfl⟩
abbrev cc1_stg14_1 : Ref sig .tc := ⟨.vmem, 45, rfl⟩
abbrev cc1_stg15_0 : Ref sig .tc := ⟨.vmem, 46, rfl⟩
abbrev cc1_stg15_1 : Ref sig .tc := ⟨.vmem, 47, rfl⟩
abbrev cc1_stg16_0 : Ref sig .tc := ⟨.vmem, 48, rfl⟩
abbrev cc1_stg16_1 : Ref sig .tc := ⟨.vmem, 49, rfl⟩
abbrev cc1_stg17_0 : Ref sig .tc := ⟨.vmem, 50, rfl⟩
abbrev cc1_stg17_1 : Ref sig .tc := ⟨.vmem, 51, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc1_sem0_0 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45
abbrev cc1_sem14_0 : DmaSem sig := 46
abbrev cc1_sem14_1 : DmaSem sig := 47
abbrev cc1_sem15_0 : DmaSem sig := 48
abbrev cc1_sem15_1 : DmaSem sig := 49
abbrev cc1_sem16_0 : DmaSem sig := 50
abbrev cc1_sem16_1 : DmaSem sig := 51
abbrev cc1_sem17_0 : DmaSem sig := 52
abbrev cc1_sem17_1 : DmaSem sig := 53

abbrev nD : Nat := 1
abbrev τ : Topo := Topo.v7x

variable {F : FTy → Type} [FloatOps F]

abbrev grid0 : Pipeline.Grid := ⟨2, ![2, 64], ![false, false]⟩

def k0_off1 (i : grid0.Coords) (c0_i32_27 : BitVec 32) (c0_i32_28 : BitVec 32) : Fin 1 → Nat :=
  let arg0 : BitVec 32 := BitVec.ofNat 32 (i 0).val
  let c8_i32 : BitVec 32 := 8#32
  let v88 : BitVec 32 := Scalar.muli arg0 c8_i32
  let v89 : BitVec 32 := Scalar.addi v88 c0_i32_27
  let v90 : BitVec 32 := Scalar.addi v89 c0_i32_28
  let v91 : Index := Scalar.indexCast v90
  ![v91.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c24_i32 : BitVec 32 := 24#32
  let v2 : BitVec 32 := Scalar.addi c24_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c26_i32 : BitVec 32 := 26#32
  let v2 : BitVec 32 := Scalar.addi c26_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 64], ![false, false]⟩

def k1_off1 (i : grid1.Coords) (c0_i32_63 : BitVec 32) : Fin 1 → Nat :=
  let arg0 : BitVec 32 := BitVec.ofNat 32 (i 0).val
  let c8_i32 : BitVec 32 := 8#32
  let v163 : BitVec 32 := Scalar.muli arg0 c8_i32
  let v164 : BitVec 32 := Scalar.addi v163 c0_i32_63
  let v165 : Index := Scalar.indexCast v164
  ![v165.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c24_i32 : BitVec 32 := 24#32
  let v2 : BitVec 32 := Scalar.addi c24_i32 arg0
  let c0_i32_0 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c26_i32 : BitVec 32 := 26#32
  let v2 : BitVec 32 := Scalar.addi c26_i32 arg0
  let c0_i32_0 : BitVec 32 := 0#32
  ![v1.toNat, v2.toNat]

def cc1_transform_5 (i : grid1.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S128x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S128x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S128x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S128x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S8x128x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 2 → Memref sig .tc .vmem S8x8x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, false]
-- ==== AttnIdeal.lean ====
variable {F : FTy → Type} [FloatOps F] [Named F]
def κ : String → Option EReal := fun
  | "mask" => some ⊥
  | _ => none
-- ==== ReferenceIdeal.lean ====
abbrev S8192x8704 : Shape := ⟨2, ![8192, 8704]⟩
abbrev S16 : Shape := ⟨1, ![16]⟩
abbrev S32x16 : Shape := ⟨2, ![32, 16]⟩
abbrev S8192x1024 : Shape := ⟨2, ![8192, 1024]⟩
abbrev S8192x256 : Shape := ⟨2, ![8192, 256]⟩
abbrev S8192x4096 : Shape := ⟨2, ![8192, 4096]⟩
abbrev S64x128x4x4x64 : Shape := ⟨5, ![64, 128, 4, 4, 64]⟩
abbrev S8192x4x64 : Shape := ⟨3, ![8192, 4, 64]⟩
abbrev S_ : Shape := ⟨0, ![]⟩
abbrev S128x4x64 : Shape := ⟨3, ![128, 4, 64]⟩
abbrev S8320x4x64 : Shape := ⟨3, ![8320, 4, 64]⟩
abbrev S65x128x4x64 : Shape := ⟨4, ![65, 128, 4, 64]⟩
abbrev S64x128x4x64 : Shape := ⟨4, ![64, 128, 4, 64]⟩
abbrev S64x256x4x64 : Shape := ⟨4, ![64, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S64x4x256x128x4 : Shape := ⟨5, ![64, 4, 256, 128, 4]⟩
abbrev S64x4x4x128x256 : Shape := ⟨5, ![64, 4, 4, 128, 256]⟩
abbrev S1x4x4x128x256 : Shape := ⟨5, ![1, 4, 4, 128, 256]⟩
abbrev S4x4 : Shape := ⟨2, ![4, 4]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩
abbrev S64x4x64x256 : Shape := ⟨4, ![64, 4, 64, 256]⟩
abbrev S64x4x128x4x64 : Shape := ⟨5, ![64, 4, 128, 4, 64]⟩
abbrev S64x4x256x64 : Shape := ⟨4, ![64, 4, 256, 64]⟩

abbrev nBuf : Space → Nat
  | .hbm => 260
  | .vmem => 0
  | .smem => 0
  | _ => 0

abbrev hbmTy0_0 (i : Nat) : BufTy := match i % 128 with
  | 0 => ⟨S8192x8704, .f32⟩
  | 1 => ⟨S16, .f32⟩
  | 2 => ⟨S32x16, .f32⟩
  | 3 => ⟨S8192x1024, .f32⟩
  | 4 => ⟨S8192x1024, .f32⟩
  | 5 => ⟨S8192x1024, .f32⟩
  | 6 => ⟨S8192x1024, .f32⟩
  | 7 => ⟨S8192x256, .f32⟩
  | 8 => ⟨S8192x256, .f32⟩
  | 9 => ⟨S8192x1024, .f32⟩
  | 10 => ⟨S8192x4096, .f32⟩
  | 11 => ⟨S64x128x4x4x64, .f32⟩
  | 12 => ⟨S8192x4x64, .f32⟩
  | 13 => ⟨S_, .f32⟩
  | 14 => ⟨S128x4x64, .f32⟩
  | 15 => ⟨S8320x4x64, .f32⟩
  | 16 => ⟨S_, .f32⟩
  | 17 => ⟨S128x4x64, .f32⟩
  | 18 => ⟨S65x128x4x64, .f32⟩
  | 19 => ⟨S64x128x4x64, .f32⟩
  | 20 => ⟨S64x128x4x64, .f32⟩
  | 21 => ⟨S64x256x4x64, .f32⟩
  | 22 => ⟨S8192x4x64, .f32⟩
  | 23 => ⟨S_, .f32⟩
  | 24 => ⟨S128x4x64, .f32⟩
  | 25 => ⟨S8320x4x64, .f32⟩
  | 26 => ⟨S_, .f32⟩
  | 27 => ⟨S128x4x64, .f32⟩
  | 28 => ⟨S65x128x4x64, .f32⟩
  | 29 => ⟨S64x128x4x64, .f32⟩
  | 30 => ⟨S64x128x4x64, .f32⟩
  | 31 => ⟨S64x256x4x64, .f32⟩
  | 32 => ⟨S128, .i32⟩
  | 33 => ⟨S128x1, .i32⟩
  | 34 => ⟨S256, .i32⟩
  | 35 => ⟨S1x256, .i32⟩
  | 36 => ⟨S_, .i32⟩
  | 37 => ⟨S128x1, .i32⟩
  | 38 => ⟨S128x1, .i32⟩
  | 39 => ⟨S128x256, .i32⟩
  | 40 => ⟨S128x256, .i32⟩
  | 41 => ⟨S128x256, .i32⟩
  | 42 => ⟨S_, .i32⟩
  | 43 => ⟨S128x256, .i32⟩
  | 44 => ⟨S128x256, .i1⟩
  | 45 => ⟨S_, .i32⟩
  | 46 => ⟨S128x256, .i32⟩
  | 47 => ⟨S128x256, .i1⟩
  | 48 => ⟨S128x256, .i1⟩
  | 49 => ⟨S_, .i32⟩
  | 50 => ⟨S_, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i32⟩
  | 59 => ⟨S128x256, .f32⟩
  | 60 => ⟨S_, .f32⟩
  | 61 => ⟨S128x256, .f32⟩
  | 62 => ⟨S128x256, .f32⟩
  | 63 => ⟨S128x256, .f32⟩
  | 64 => ⟨S_, .f32⟩
  | 65 => ⟨S128x256, .f32⟩
  | 66 => ⟨S128x256, .f32⟩
  | 67 => ⟨S_, .f32⟩
  | 68 => ⟨S128x256, .f32⟩
  | 69 => ⟨S128x256, .f32⟩
  | 70 => ⟨S128x256, .i32⟩
  | 71 => ⟨S_, .i32⟩
  | 72 => ⟨S128x256, .i32⟩
  | 73 => ⟨S128x256, .i32⟩
  | 74 => ⟨S_, .i32⟩
  | 75 => ⟨S128x256, .i32⟩
  | 76 => ⟨S128x256, .i32⟩
  | 77 => ⟨S128x256, .i32⟩
  | 78 => ⟨S_, .i32⟩
  | 79 => ⟨S128x256, .i32⟩
  | 80 => ⟨S128x256, .i1⟩
  | 81 => ⟨S_, .i32⟩
  | 82 => ⟨S128x256, .i32⟩
  | 83 => ⟨S128x256, .i32⟩
  | 84 => ⟨S128x256, .i32⟩
  | 85 => ⟨S128x256x1, .i32⟩
  | 86 => ⟨S128x256x16, .f32⟩
  | 87 => ⟨S16x128x256, .f32⟩
  | 88 => ⟨S4x4x128x256, .f32⟩
  | 89 => ⟨S64, .i32⟩
  | 90 => ⟨S64x1x1, .i32⟩
  | 91 => ⟨S_, .i32⟩
  | 92 => ⟨S64x1x1, .i32⟩
  | 93 => ⟨S64x1x1, .i32⟩
  | 94 => ⟨S_, .i32⟩
  | 95 => ⟨S64x1x1, .i32⟩
  | 96 => ⟨S64x1x1, .i32⟩
  | 97 => ⟨S1x1x256, .i32⟩
  | 98 => ⟨S64x1x256, .i32⟩
  | 99 => ⟨S64x1x256, .i32⟩
  | 100 => ⟨S64x1x256, .i32⟩
  | 101 => ⟨S1x128x256, .i1⟩
  | 102 => ⟨S_, .i32⟩
  | 103 => ⟨S64x1x256, .i32⟩
  | 104 => ⟨S64x1x256, .i1⟩
  | 105 => ⟨S64x128x256, .i1⟩
  | 106 => ⟨S64x128x256, .i1⟩
  | 107 => ⟨S64x128x256, .i1⟩
  | 108 => ⟨S64x1x1x128x256, .i1⟩
  | 109 => ⟨S64x4x256x128x4, .f32⟩
  | 110 => ⟨S64x4x4x128x256, .f32⟩
  | 111 => ⟨S_, .f32⟩
  | 112 => ⟨S64x4x4x128x256, .f32⟩
  | 113 => ⟨S64x4x4x128x256, .f32⟩
  | 114 => ⟨S1x4x4x128x256, .f32⟩
  | 115 => ⟨S64x4x4x128x256, .f32⟩
  | 116 => ⟨S64x4x4x128x256, .f32⟩
  | 117 => ⟨S_, .f32⟩
  | 118 => ⟨S_, .f32⟩
  | 119 => ⟨S64x4x4x128x256, .i1⟩
  | 120 => ⟨S64x4x4x128x256, .f32⟩
  | 121 => ⟨S64x4x4x128x256, .f32⟩
  | 122 => ⟨S_, .f32⟩
  | 123 => ⟨S64x4x4x128x256, .f32⟩
  | 124 => ⟨S4x4, .f32⟩
  | 125 => ⟨S1x4x4x1x1, .f32⟩
  | 126 => ⟨S_, .f32⟩
  | 127 => ⟨S64x4x4x128, .f32⟩
  | _ => ⟨S8192x8704, .f32⟩

abbrev hbmTy0_1 (i : Nat) : BufTy := match i % 128 with
  | 0 => ⟨S64x4x4x128x1, .f32⟩
  | 1 => ⟨S64x4x4x128x256, .f32⟩
  | 2 => ⟨S64x4x4x128x256, .i1⟩
  | 3 => ⟨S64x4x4x128x256, .f32⟩
  | 4 => ⟨S_, .f32⟩
  | 5 => ⟨S64x4x4x128, .f32⟩
  | 6 => ⟨S64x4x4x128x1, .f32⟩
  | 7 => ⟨S64x4x4x128x1, .f32⟩
  | 8 => ⟨S64x4x4x128x1, .f32⟩
  | 9 => ⟨S64x4x4x128x1, .f32⟩
  | 10 => ⟨S64x4x4x128x1, .i1⟩
  | 11 => ⟨S64x4x4x128x1, .f32⟩
  | 12 => ⟨S64x4x4x128x1, .i1⟩
  | 13 => ⟨S_, .f32⟩
  | 14 => ⟨S64x4x4x128x1, .f32⟩
  | 15 => ⟨S_, .f32⟩
  | 16 => ⟨S64x4x4x128x1, .f32⟩
  | 17 => ⟨S_, .f32⟩
  | 18 => ⟨S64x4x4x128x1, .f32⟩
  | 19 => ⟨S64x4x4x128x1, .f32⟩
  | 20 => ⟨S64x4x4x128x1, .f32⟩
  | 21 => ⟨S64x4x4x128x256, .f32⟩
  | 22 => ⟨S64x4x4x128x256, .f32⟩
  | 23 => ⟨S64x4x4x128x256, .f32⟩
  | 24 => ⟨S_, .f32⟩
  | 25 => ⟨S64x4x4x128, .f32⟩
  | 26 => ⟨S64x4x4x128x1, .f32⟩
  | 27 => ⟨S64x4x4x128x1, .f32⟩
  | 28 => ⟨S64x4x4x128x1, .f32⟩
  | 29 => ⟨S64x4x4x128x1, .f32⟩
  | 30 => ⟨S64x4x4x128x1, .f32⟩
  | 31 => ⟨S64x4x4x128x256, .f32⟩
  | 32 => ⟨S64x4x4x128x256, .f32⟩
  | 33 => ⟨S64x4x4x128x1, .f32⟩
  | 34 => ⟨S_, .f32⟩
  | 35 => ⟨S64x4x4x128x1, .f32⟩
  | 36 => ⟨S64x4x4x128x1, .f32⟩
  | 37 => ⟨S64x4x64x4x128, .f32⟩
  | 38 => ⟨S64x128x4x4x64, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S64x128x4x4x64, .f32⟩
  | 61 => ⟨S64x4x64x4x128, .f32⟩
  | 62 => ⟨S64x4x4x128x256, .f32⟩
  | 63 => ⟨S64x4x64x256, .f32⟩
  | 64 => ⟨S64x256x4x64, .f32⟩
  | 65 => ⟨S64x4x4x128x256, .f32⟩
  | 66 => ⟨S64x4x4x128x256, .f32⟩
  | 67 => ⟨S64x4x4x128x256, .f32⟩
  | 68 => ⟨S_, .f32⟩
  | 69 => ⟨S64x4x4x128, .f32⟩
  | 70 => ⟨S64x4x4x128x1, .f32⟩
  | 71 => ⟨S64x4x4x128x1, .f32⟩
  | 72 => ⟨S64x4x4x128x256, .f32⟩
  | 73 => ⟨S64x4x4x128x256, .f32⟩
  | 74 => ⟨S64x4x4x128x1, .f32⟩
  | 75 => ⟨S64x4x4x128x1, .f32⟩
  | 76 => ⟨S_, .f32⟩
  | 77 => ⟨S64x4x4x128, .f32⟩
  | 78 => ⟨S64x4x4x128x256, .f32⟩
  | 79 => ⟨S64x4x4x128x256, .f32⟩
  | 80 => ⟨S64x4x4x128x256, .f32⟩
  | 81 => ⟨S64x4x4x128x256, .f32⟩
  | 82 => ⟨S_, .f32⟩
  | 83 => ⟨S64x4x4x128, .f32⟩
  | 84 => ⟨S64x4x4x128x1, .f32⟩
  | 85 => ⟨S64x4x4x128x1, .f32⟩
  | 86 => ⟨S64x4x4x128x1, .f32⟩
  | 87 => ⟨S_, .f32⟩
  | 88 => ⟨S64x4x4x128, .f32⟩
  | 89 => ⟨S64x4x4x128, .f32⟩
  | 90 => ⟨S64x4x4x128x256, .f32⟩
  | 91 => ⟨S64x4x4x128x256, .f32⟩
  | 92 => ⟨S64x4x4x128x256, .f32⟩
  | 93 => ⟨S_, .f32⟩
  | 94 => ⟨S64x4x4x128x256, .f32⟩
  | 95 => ⟨S64x4x4x128x256, .f32⟩
  | 96 => ⟨S_, .f32⟩
  | 97 => ⟨S64x4x4x128x256, .f32⟩
  | 98 => ⟨S64x4x4x128x256, .f32⟩
  | 99 => ⟨S64x4x256x128x4, .f32⟩
  | 100 => ⟨S64x4x128x4x64, .f32⟩
  | 101 => ⟨S64x128x4x4x64, .f32⟩
  | 102 => ⟨S64x4x256x64, .f32⟩
  | 103 => ⟨S64x256x4x64, .f32⟩
  | 104 => ⟨S64x128x4x64, .f32⟩
  | 105 => ⟨S64x128x4x64, .f32⟩
  | 106 => ⟨S_, .f32⟩
  | 107 => ⟨S65x128x4x64, .f32⟩
  | 108 => ⟨S_, .f32⟩
  | 109 => ⟨S65x128x4x64, .f32⟩
  | 110 => ⟨S65x128x4x64, .f32⟩
  | 111 => ⟨S8320x4x64, .f32⟩
  | 112 => ⟨S128x4x64, .f32⟩
  | 113 => ⟨S8192x4x64, .f32⟩
  | 114 => ⟨S8192x256, .f32⟩
  | 115 => ⟨S64x128x4x64, .f32⟩
  | 116 => ⟨S64x128x4x64, .f32⟩
  | 117 => ⟨S_, .f32⟩
  | 118 => ⟨S65x128x4x64, .f32⟩
  | 119 => ⟨S_, .f32⟩
  | 120 => ⟨S65x128x4x64, .f32⟩
  | 121 => ⟨S65x128x4x64, .f32⟩
  | 122 => ⟨S8320x4x64, .f32⟩
  | 123 => ⟨S128x4x64, .f32⟩
  | 124 => ⟨S8192x4x64, .f32⟩
  | 125 => ⟨S8192x256, .f32⟩
  | 126 => ⟨S8192x1024, .f32⟩
  | 127 => ⟨S8192x1024, .bf16⟩
  | _ => ⟨S8192x8704, .f32⟩

abbrev hbmTy0_2 (i : Nat) : BufTy := match i % 128 with
  | 0 => ⟨S8192x1024, .bf16⟩
  | 1 => ⟨S8192x256, .bf16⟩
  | 2 => ⟨S8192x256, .bf16⟩
  | 3 => ⟨S8192x1024, .bf16⟩
  | _ => ⟨S8192x8704, .f32⟩

abbrev hbmTy (i : Nat) : BufTy := match i / 128 with
  | 0 => hbmTy0_0 i
  | 1 => hbmTy0_1 i
  | 2 => hbmTy0_2 i
  | _ => ⟨S8192x8704, .f32⟩

abbrev bufTy : (tb : Table) → Fin (tcTables nBuf tb) → BufTy
  | .hbm, ⟨i, _⟩ => hbmTy i
  | _, _ => ⟨S8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_call0_v0 : Ref sig .tc := ⟨.hbm, 50, rfl⟩
abbrev main_call0_v1 : Ref sig .tc := ⟨.hbm, 51, rfl⟩
abbrev main_v38 : Ref sig .tc := ⟨.hbm, 52, rfl⟩
abbrev main_c_6 : Ref sig .tc := ⟨.hbm, 53, rfl⟩
abbrev main_v39 : Ref sig .tc := ⟨.hbm, 54, rfl⟩
abbrev main_v40 : Ref sig .tc := ⟨.hbm, 55, rfl⟩
abbrev main_c_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_c_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_15 : Ref sig .tc := ⟨.hbm, 91, rfl⟩
abbrev main_v68 : Ref sig .tc := ⟨.hbm, 92, rfl⟩
abbrev main_v69 : Ref sig .tc := ⟨.hbm, 93, rfl⟩
abbrev main_c_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_17 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_18 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_19 : Ref sig .tc := ⟨.hbm, 117, rfl⟩
abbrev main_call2_v0 : Ref sig .tc := ⟨.hbm, 118, rfl⟩
abbrev main_v90_1 : Ref sig .tc := ⟨.hbm, 119, rfl⟩
abbrev main_call2_v2 : Ref sig .tc := ⟨.hbm, 120, rfl⟩
abbrev main_v90_0 : Ref sig .tc := ⟨.hbm, 121, rfl⟩
abbrev main_call2_cst : Ref sig .tc := ⟨.hbm, 122, rfl⟩
abbrev main_v90_2 : Ref sig .tc := ⟨.hbm, 123, rfl⟩
abbrev main_v91 : Ref sig .tc := ⟨.hbm, 124, rfl⟩
abbrev main_v92 : Ref sig .tc := ⟨.hbm, 125, rfl⟩
abbrev main_cst_20 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_cst_23 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_26 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_call3_v0 : Ref sig .tc := ⟨.hbm, 168, rfl⟩
abbrev main_call3_v1 : Ref sig .tc := ⟨.hbm, 169, rfl⟩
abbrev main_call3_cst : Ref sig .tc := ⟨.hbm, 170, rfl⟩
abbrev main_call3_v2 : Ref sig .tc := ⟨.hbm, 171, rfl⟩
abbrev main_call3_v3 : Ref sig .tc := ⟨.hbm, 172, rfl⟩
abbrev main_call3_cst_0 : Ref sig .tc := ⟨.hbm, 173, rfl⟩
abbrev main_call3_v4 : Ref sig .tc := ⟨.hbm, 174, rfl⟩
abbrev main_v128_2 : Ref sig .tc := ⟨.hbm, 175, rfl⟩
abbrev main_call3_cst_1 : Ref sig .tc := ⟨.hbm, 176, rfl⟩
abbrev main_call3_v6 : Ref sig .tc := ⟨.hbm, 177, rfl⟩
abbrev main_call3_v7 : Ref sig .tc := ⟨.hbm, 178, rfl⟩
abbrev main_v128_1 : Ref sig .tc := ⟨.hbm, 179, rfl⟩
abbrev main_v128_0 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_call4_v0 : Ref sig .tc := ⟨.hbm, 184, rfl⟩
abbrev main_call4_v1 : Ref sig .tc := ⟨.hbm, 185, rfl⟩
abbrev main_call4_v2 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_27 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_28 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_29 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_30 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_call5_cst : Ref sig .tc := ⟨.hbm, 221, rfl⟩
abbrev main_call5_v0 : Ref sig .tc := ⟨.hbm, 222, rfl⟩
abbrev main_v162 : Ref sig .tc := ⟨.hbm, 223, rfl⟩
abbrev main_cst_31 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_32 : Ref sig .tc := ⟨.hbm, 234, rfl⟩
abbrev main_v172 : Ref sig .tc := ⟨.hbm, 235, rfl⟩
abbrev main_cst_33 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_34 : Ref sig .tc := ⟨.hbm, 245, rfl⟩
abbrev main_v181 : Ref sig .tc := ⟨.hbm, 246, rfl⟩
abbrev main_cst_35 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩

abbrev nD : Nat := 1
abbrev τ : Topo := Topo.v7x

variable {F : FTy → Type} [FloatOps F]
-- ==== InProj.lean ====
abbrev S8192x2048 : Shape := ⟨2, ![8192, 2048]⟩
abbrev S2048x8704 : Shape := ⟨2, ![2048, 8704]⟩
abbrev S1x8192x2048 : Shape := ⟨3, ![1, 8192, 2048]⟩
abbrev S1x2048x8704 : Shape := ⟨3, ![1, 2048, 8704]⟩
abbrev S1x8192x8704 : Shape := ⟨3, ![1, 8192, 8704]⟩
abbrev S1x2048x2048 : Shape := ⟨3, ![1, 2048, 2048]⟩
abbrev S1x2048x512 : Shape := ⟨3, ![1, 2048, 512]⟩
abbrev S2048x512 : Shape := ⟨2, ![2048, 512]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8704, .f32⟩
  | .hbm, ⟨2, _⟩ => ⟨S8192x2048, .bf16⟩
  | .hbm, ⟨3, _⟩ => ⟨S2048x8704, .bf16⟩
  | .hbm, ⟨4, _⟩ => ⟨S1x8192x2048, .bf16⟩
  | .hbm, ⟨5, _⟩ => ⟨S1x2048x8704, .bf16⟩
  | .hbm, ⟨6, _⟩ => ⟨S1x8192x8704, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 17, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefInProjIdeal.lean ====
abbrev S8192x2048 : Shape := ⟨2, ![8192, 2048]⟩
abbrev S2048x8704 : Shape := ⟨2, ![2048, 8704]⟩
abbrev S1x8192x2048 : Shape := ⟨3, ![1, 8192, 2048]⟩
abbrev S1x8192x8704 : Shape := ⟨3, ![1, 8192, 8704]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8704, .f32⟩
  | .hbm, ⟨2, _⟩ => ⟨S1x8192x2048, .f32⟩
  | .hbm, ⟨3, _⟩ => ⟨S1x8192x8704, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradW.lean ====
abbrev S8192x2048 : Shape := ⟨2, ![8192, 2048]⟩
abbrev S8192x8704 : Shape := ⟨2, ![8192, 8704]⟩
abbrev S1x8192x2048 : Shape := ⟨3, ![1, 8192, 2048]⟩
abbrev S1x8192x8704 : Shape := ⟨3, ![1, 8192, 8704]⟩
abbrev S1x2048x8704 : Shape := ⟨3, ![1, 2048, 8704]⟩
abbrev S1x2048x2048 : Shape := ⟨3, ![1, 2048, 2048]⟩
abbrev S1x2048x512 : Shape := ⟨3, ![1, 2048, 512]⟩
abbrev S2048x512 : Shape := ⟨2, ![2048, 512]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x8704, .bf16⟩
  | .hbm, ⟨2, _⟩ => ⟨S8192x2048, .bf16⟩
  | .hbm, ⟨3, _⟩ => ⟨S1x8192x2048, .bf16⟩
  | .hbm, ⟨4, _⟩ => ⟨S1x8192x8704, .bf16⟩
  | .hbm, ⟨5, _⟩ => ⟨S1x2048x8704, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 17, 4], ![false, false, false, false]⟩

def k0_cond3 (i : grid0.Coords) : BitVec 1 :=
  let arg3 : BitVec 32 := BitVec.ofNat 32 (i 3).val
  let c3_i32_8 : BitVec 32 := 3#32
  let v13 : BitVec 1 := Scalar.cmpi .eq arg3 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefGradWIdeal.lean ====
abbrev S8192x2048 : Shape := ⟨2, ![8192, 2048]⟩
abbrev S8192x8704 : Shape := ⟨2, ![8192, 8704]⟩
abbrev S_ : Shape := ⟨0, ![]⟩
abbrev S2048x8704 : Shape := ⟨2, ![2048, 8704]⟩
abbrev S1x8192x2048 : Shape := ⟨3, ![1, 8192, 2048]⟩
abbrev S1x8192x8704 : Shape := ⟨3, ![1, 8192, 8704]⟩
abbrev S8704x2048 : Shape := ⟨2, ![8704, 2048]⟩
abbrev S1x2048x8704 : Shape := ⟨3, ![1, 2048, 8704]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8704, .bf16⟩
  | .hbm, ⟨2, _⟩ => ⟨S_, .f32⟩
  | .hbm, ⟨3, _⟩ => ⟨S2048x8704, .f32⟩
  | .hbm, ⟨4, _⟩ => ⟨S1x8192x2048, .f32⟩
  | .hbm, ⟨5, _⟩ => ⟨S1x8192x8704, .f32⟩
  | .hbm, ⟨6, _⟩ => ⟨S1x8192x8704, .bf16⟩
  | .hbm, ⟨7, _⟩ => ⟨S1x8192x8704, .f32⟩
  | .hbm, ⟨8, _⟩ => ⟨S8704x2048, .f32⟩
  | .hbm, ⟨9, _⟩ => ⟨S2048x8704, .f32⟩
  | .hbm, ⟨10, _⟩ => ⟨S2048x8704, .bf16⟩
  | .hbm, ⟨11, _⟩ => ⟨S1x2048x8704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradX.lean ====
abbrev S2048x8704 : Shape := ⟨2, ![2048, 8704]⟩
abbrev S8192x8704 : Shape := ⟨2, ![8192, 8704]⟩
abbrev S8192x2048 : Shape := ⟨2, ![8192, 2048]⟩
abbrev S1x8192x8704 : Shape := ⟨3, ![1, 8192, 8704]⟩
abbrev S1x2048x8704 : Shape := ⟨3, ![1, 2048, 8704]⟩
abbrev S1x8192x2048 : Shape := ⟨3, ![1, 8192, 2048]⟩
abbrev S1x1024x4352 : Shape := ⟨3, ![1, 1024, 4352]⟩
abbrev S1x512x4352 : Shape := ⟨3, ![1, 512, 4352]⟩
abbrev S1x1024x512 : Shape := ⟨3, ![1, 1024, 512]⟩
abbrev S1024x512 : Shape := ⟨2, ![1024, 512]⟩
abbrev S1024x4352 : Shape := ⟨2, ![1024, 4352]⟩
abbrev S512x4352 : Shape := ⟨2, ![512, 4352]⟩

abbrev nBuf : Space → Nat
  | .hbm => 8
  | .vmem => 9
  | .smem => 0
  | _ => 0

abbrev bufTy : (tb : Table) → Fin (tcTables nBuf tb) → BufTy
  | .hbm, ⟨0, _⟩ => ⟨S2048x8704, .f32⟩
  | .hbm, ⟨1, _⟩ => ⟨S8192x8704, .bf16⟩
  | .hbm, ⟨2, _⟩ => ⟨S8192x2048, .f32⟩
  | .hbm, ⟨3, _⟩ => ⟨S2048x8704, .bf16⟩
  | .hbm, ⟨4, _⟩ => ⟨S1x8192x8704, .bf16⟩
  | .hbm, ⟨5, _⟩ => ⟨S1x2048x8704, .bf16⟩
  | .hbm, ⟨6, _⟩ => ⟨S1x8192x2048, .f32⟩
  | .hbm, ⟨7, _⟩ => ⟨S1x8192x2048, .f32⟩
  | .local _ .vmem, ⟨0, _⟩ => ⟨S1x1024x4352, .bf16⟩
  | .local _ .vmem, ⟨1, _⟩ => ⟨S1x1024x4352, .bf16⟩
  | .local _ .vmem, ⟨2, _⟩ => ⟨S1x512x4352, .bf16⟩
  | .local _ .vmem, ⟨3, _⟩ => ⟨S1x512x4352, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | _, _ => ⟨S2048x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 8, 4, 2], ![false, false, false, false]⟩

def k0_cond3 (i : grid0.Coords) : BitVec 1 :=
  let arg3 : BitVec 32 := BitVec.ofNat 32 (i 3).val
  let c1_i32_8 : BitVec 32 := 1#32
  let v13 : BitVec 1 := Scalar.cmpi .eq arg3 c1_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== RefGradXIdeal.lean ====
abbrev S2048x8704 : Shape := ⟨2, ![2048, 8704]⟩
abbrev S8192x8704 : Shape := ⟨2, ![8192, 8704]⟩
abbrev S8192x2048 : Shape := ⟨2, ![8192, 2048]⟩
abbrev S_ : Shape := ⟨0, ![]⟩
abbrev S1x8192x2048 : Shape := ⟨3, ![1, 8192, 2048]⟩
abbrev S1x8192x8704 : Shape := ⟨3, ![1, 8192, 8704]⟩

abbrev nBuf : Space → Nat
  | .hbm => 17
  | .vmem => 0
  | .smem => 0
  | _ => 0

abbrev bufTy : (tb : Table) → Fin (tcTables nBuf tb) → BufTy
  | .hbm, ⟨0, _⟩ => ⟨S2048x8704, .f32⟩
  | .hbm, ⟨1, _⟩ => ⟨S8192x8704, .bf16⟩
  | .hbm, ⟨2, _⟩ => ⟨S8192x2048, .f32⟩
  | .hbm, ⟨3, _⟩ => ⟨S_, .f32⟩
  | .hbm, ⟨4, _⟩ => ⟨S1x8192x2048, .f32⟩
  | .hbm, ⟨5, _⟩ => ⟨S1x8192x8704, .f32⟩
  | .hbm, ⟨6, _⟩ => ⟨S_, .f32⟩
  | .hbm, ⟨7, _⟩ => ⟨S1x8192x2048, .f32⟩
  | .hbm, ⟨8, _⟩ => ⟨S1x8192x2048, .f32⟩
  | .hbm, ⟨9, _⟩ => ⟨S1x8192x8704, .bf16⟩
  | .hbm, ⟨10, _⟩ => ⟨S1x8192x8704, .f32⟩
  | .hbm, ⟨11, _⟩ => ⟨S1x8192x2048, .f32⟩
  | .hbm, ⟨12, _⟩ => ⟨S_, .f32⟩
  | .hbm, ⟨13, _⟩ => ⟨S1x8192x2048, .f32⟩
  | .hbm, ⟨14, _⟩ => ⟨S1x8192x2048, .f32⟩
  | .hbm, ⟨15, _⟩ => ⟨S1x8192x2048, .f32⟩
  | .hbm, ⟨16, _⟩ => ⟨S1x8192x2048, .f32⟩
  | _, _ => ⟨S2048x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1x8192x2048 : Shape := ⟨3, ![1, 8192, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S1x8192x2048, .bf16⟩
  | .hbm, ⟨4, _⟩ => ⟨S1x2048x2048, .bf16⟩
  | .hbm, ⟨5, _⟩ => ⟨S1x8192x2048, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .f32⟩
  | .local _ .vmem, ⟨5, _⟩ => ⟨S1x2048x512, .f32⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefOutProjIdeal.lean ====
abbrev S8192x2048 : Shape := ⟨2, ![8192, 2048]⟩
abbrev S2048x2048 : Shape := ⟨2, ![2048, 2048]⟩
abbrev S1x8192x2048 : Shape := ⟨3, ![1, 8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S1x8192x2048, .bf16⟩
  | .hbm, ⟨3, _⟩ => ⟨S1x8192x2048, .f32⟩
  | .hbm, ⟨4, _⟩ => ⟨S1x8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradWOut.lean ====
abbrev S8192x2048 : Shape := ⟨2, ![8192, 2048]⟩
abbrev S1x8192x2048 : Shape := ⟨3, ![1, 8192, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S2048x2048 : Shape := ⟨2, ![2048, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .bf16⟩
  | .hbm, ⟨3, _⟩ => ⟨S1x8192x2048, .bf16⟩
  | .hbm, ⟨4, _⟩ => ⟨S1x8192x2048, .bf16⟩
  | .hbm, ⟨5, _⟩ => ⟨S1x2048x2048, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32_8 : BitVec 32 := 3#32
  let v13 : BitVec 1 := Scalar.cmpi .eq arg3 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefGradWOutIdeal.lean ====
abbrev S8192x2048 : Shape := ⟨2, ![8192, 2048]⟩
abbrev S_ : Shape := ⟨0, ![]⟩
abbrev S2048x2048 : Shape := ⟨2, ![2048, 2048]⟩
abbrev S1x8192x2048 : Shape := ⟨3, ![1, 8192, 2048]⟩
abbrev S1x2048x2048 : Shape := ⟨3, ![1, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S1x8192x2048, .bf16⟩
  | .hbm, ⟨5, _⟩ => ⟨S1x8192x2048, .f32⟩
  | .hbm, ⟨6, _⟩ => ⟨S1x8192x2048, .f32⟩
  | .hbm, ⟨7, _⟩ => ⟨S1x8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S1x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DHAttn.lean ====
abbrev S8192x2048 : Shape := ⟨2, ![8192, 2048]⟩
abbrev S1024x2048 : Shape := ⟨2, ![1024, 2048]⟩
abbrev S1x8192x2048 : Shape := ⟨3, ![1, 8192, 2048]⟩
abbrev S1x1024x2048 : Shape := ⟨3, ![1, 1024, 2048]⟩
abbrev S1x8192x1024 : Shape := ⟨3, ![1, 8192, 1024]⟩
abbrev S1x2048x2048 : Shape := ⟨3, ![1, 2048, 2048]⟩
abbrev S1x512x2048 : Shape := ⟨3, ![1, 512, 2048]⟩
abbrev S1x2048x512 : Shape := ⟨3, ![1, 2048, 512]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S1024x2048, .bf16⟩
  | .hbm, ⟨3, _⟩ => ⟨S1x8192x2048, .bf16⟩
  | .hbm, ⟨4, _⟩ => ⟨S1x1024x2048, .bf16⟩
  | .hbm, ⟨5, _⟩ => ⟨S1x8192x1024, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .f32⟩
  | .local _ .vmem, ⟨5, _⟩ => ⟨S1x2048x512, .f32⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefDHAttnIdeal.lean ====
abbrev S8192x2048 : Shape := ⟨2, ![8192, 2048]⟩
abbrev S1024x2048 : Shape := ⟨2, ![1024, 2048]⟩
abbrev S_ : Shape := ⟨0, ![]⟩
abbrev S1x8192x1024 : Shape := ⟨3, ![1, 8192, 1024]⟩
abbrev S1x8192x2048 : Shape := ⟨3, ![1, 8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S_, .f32⟩
  | .hbm, ⟨3, _⟩ => ⟨S1x8192x1024, .f32⟩
  | .hbm, ⟨4, _⟩ => ⟨S1x8192x2048, .f32⟩
  | .hbm, ⟨5, _⟩ => ⟨S1x8192x2048, .bf16⟩
  | .hbm, ⟨6, _⟩ => ⟨S1x8192x2048, .f32⟩
  | .hbm, ⟨7, _⟩ => ⟨S1x8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradWBranch.lean ====
abbrev S8192x1024 : Shape := ⟨2, ![8192, 1024]⟩
abbrev S8192x2048 : Shape := ⟨2, ![8192, 2048]⟩
abbrev S1x8192x1024 : Shape := ⟨3, ![1, 8192, 1024]⟩
abbrev S1x8192x2048 : Shape := ⟨3, ![1, 8192, 2048]⟩
abbrev S1x1024x2048 : Shape := ⟨3, ![1, 1024, 2048]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x8192x1024, .bf16⟩
  | .hbm, ⟨3, _⟩ => ⟨S1x8192x2048, .bf16⟩
  | .hbm, ⟨4, _⟩ => ⟨S1x1024x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 1, 4, 4], ![false, false, false, false]⟩

def k0_cond3 (i : grid0.Coords) : BitVec 1 :=
  let arg3 : BitVec 32 := BitVec.ofNat 32 (i 3).val
  let c3_i32_8 : BitVec 32 := 3#32
  let v13 : BitVec 1 := Scalar.cmpi .eq arg3 c3_i32_8
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RefGradWBranchIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S1x8192x1024 : Shape := ⟨3, ![1, 8192, 1024]⟩
abbrev S1x8192x2048 : Shape := ⟨3, ![1, 8192, 2048]⟩
abbrev S2048x1024 : Shape := ⟨2, ![2048, 1024]⟩
abbrev S1x1024x2048 : Shape := ⟨3, ![1, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S1x8192x1024, .bf16⟩
  | .hbm, ⟨5, _⟩ => ⟨S1x8192x1024, .f32⟩
  | .hbm, ⟨6, _⟩ => ⟨S1x8192x2048, .f32⟩
  | .hbm, ⟨7, _⟩ => ⟨S1x8192x2048, .bf16⟩
  | .hbm, ⟨8, _⟩ => ⟨S1x8192x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | .hbm, ⟨12, _⟩ => ⟨S1x1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GluGate.lean ====
abbrev S8192x1024 : Shape := ⟨2, ![8192, 1024]⟩
abbrev S1024x2048 : Shape := ⟨2, ![1024, 2048]⟩
abbrev S8192x8704 : Shape := ⟨2, ![8192, 8704]⟩
abbrev S1024x1024 : Shape := ⟨2, ![1024, 1024]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x8704, .f32⟩
  | .hbm, ⟨3, _⟩ => ⟨S1024x2048, .bf16⟩
  | .hbm, ⟨4, _⟩ => ⟨S1024x1024, .bf16⟩
  | .hbm, ⟨5, _⟩ => ⟨S1024x1024, .bf16⟩
  | .hbm, ⟨6, _⟩ => ⟨S8192x1024, .f32⟩
  | .hbm, ⟨7, _⟩ => ⟨S8192x1024, .f32⟩
  | .hbm, ⟨8, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x1024, .bf16⟩
  | .local _ .vmem, ⟨5, _⟩ => ⟨S2048x1024, .bf16⟩
  | .local _ .vmem, ⟨6, _⟩ => ⟨S1024x256, .bf16⟩
  | .local _ .vmem, ⟨7, _⟩ => ⟨S1024x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefGluGateIdeal.lean ====
abbrev S8192x1024 : Shape := ⟨2, ![8192, 1024]⟩
abbrev S1024x2048 : Shape := ⟨2, ![1024, 2048]⟩
abbrev S8192x8704 : Shape := ⟨2, ![8192, 8704]⟩
abbrev S8192x256 : Shape := ⟨2, ![8192, 256]⟩
abbrev S8192x4096 : Shape := ⟨2, ![8192, 4096]⟩
abbrev S8192x2048 : Shape := ⟨2, ![8192, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x8704, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x256, .f32⟩
  | .hbm, ⟨7, _⟩ => ⟨S8192x256, .f32⟩
  | .hbm, ⟨8, _⟩ => ⟨S8192x1024, .f32⟩
  | .hbm, ⟨9, _⟩ => ⟨S8192x4096, .f32⟩
  | .hbm, ⟨10, _⟩ => ⟨S8192x1024, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]
-- ==== BranchMerge.lean ====
abbrev S8192x1024 : Shape := ⟨2, ![8192, 1024]⟩
abbrev S1024x2048 : Shape := ⟨2, ![1024, 2048]⟩
abbrev S8192x8704 : Shape := ⟨2, ![8192, 8704]⟩
abbrev S8192x2048 : Shape := ⟨2, ![8192, 2048]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 10
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x8704, .f32⟩
  | .hbm, ⟨5, _⟩ => ⟨S1024x2048, .bf16⟩
  | .hbm, ⟨6, _⟩ => ⟨S1024x2048, .bf16⟩
  | .hbm, ⟨7, _⟩ => ⟨S8192x2048, .f32⟩
  | .hbm, ⟨8, _⟩ => ⟨S8192x2048, .f32⟩
  | .hbm, ⟨9, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S2048x1024, .bf16⟩
  | .local _ .vmem, ⟨5, _⟩ => ⟨S2048x1024, .bf16⟩
  | .local _ .vmem, ⟨6, _⟩ => ⟨S1024x256, .bf16⟩
  | .local _ .vmem, ⟨7, _⟩ => ⟨S1024x256, .bf16⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | .local _ .vmem, ⟨16, _⟩ => ⟨S2048x256, .bf16⟩
  | .local _ .vmem, ⟨17, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefBranchMergeIdeal.lean ====
abbrev S8192x1024 : Shape := ⟨2, ![8192, 1024]⟩
abbrev S1024x2048 : Shape := ⟨2, ![1024, 2048]⟩
abbrev S8192x8704 : Shape := ⟨2, ![8192, 8704]⟩
abbrev S8192x256 : Shape := ⟨2, ![8192, 256]⟩
abbrev S8192x4096 : Shape := ⟨2, ![8192, 4096]⟩
abbrev S8192x2048 : Shape := ⟨2, ![8192, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .f32⟩
  | .hbm, ⟨3, _⟩ => ⟨S1024x2048, .f32⟩
  | .hbm, ⟨4, _⟩ => ⟨S8192x8704, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x1024, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S8192x2048, .f32⟩
  | .hbm, ⟨16, _⟩ => ⟨S8192x1024, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== MergeBwd.lean ====
abbrev S8192x2048 : Shape := ⟨2, ![8192, 2048]⟩
abbrev S2048x2048 : Shape := ⟨2, ![2048, 2048]⟩
abbrev S8192x8704 : Shape := ⟨2, ![8192, 8704]⟩
abbrev S1024x2048 : Shape := ⟨2, ![1024, 2048]⟩
abbrev S256x2048 : Shape := ⟨2, ![256, 2048]⟩
abbrev S1024x256 : Shape := ⟨2, ![1024, 256]⟩

abbrev nBuf : Space → Nat
  | .hbm => 11
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x8704, .f32⟩
  | .hbm, ⟨5, _⟩ => ⟨S8192x2048, .bf16⟩
  | .hbm, ⟨6, _⟩ => ⟨S2048x2048, .bf16⟩
  | .hbm, ⟨7, _⟩ => ⟨S8192x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RefMergeBwdIdeal.lean ====
abbrev S8192x2048 : Shape := ⟨2, ![8192, 2048]⟩
abbrev S2048x2048 : Shape := ⟨2, ![2048, 2048]⟩
abbrev S8192x8704 : Shape := ⟨2, ![8192, 8704]⟩
abbrev S8192x1024 : Shape := ⟨2, ![8192, 1024]⟩
abbrev S8192x256 : Shape := ⟨2, ![8192, 256]⟩
abbrev S8192x4096 : Shape := ⟨2, ![8192, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x8704, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x1024, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S8192x2048, .bf16⟩
  | .hbm, ⟨51, _⟩ => ⟨S8192x2048, .bf16⟩
  | .hbm, ⟨52, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== GluGateBwd.lean ====
abbrev S8192x2048 : Shape := ⟨2, ![8192, 2048]⟩
abbrev S1024x2048 : Shape := ⟨2, ![1024, 2048]⟩
abbrev S8192x1024 : Shape := ⟨2, ![8192, 1024]⟩
abbrev S8192x8704 : Shape := ⟨2, ![8192, 8704]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S8192x1024, .f32⟩
  | .hbm, ⟨4, _⟩ => ⟨S8192x8704, .f32⟩
  | .hbm, ⟨5, _⟩ => ⟨S1024x2048, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .local _ .vmem, ⟨0, _⟩ => ⟨S2048x2048, .bf16⟩
  | .local _ .vmem, ⟨1, _⟩ => ⟨S2048x2048, .bf16⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefGluGateBwdIdeal.lean ====
abbrev S8192x2048 : Shape := ⟨2, ![8192, 2048]⟩
abbrev S1024x2048 : Shape := ⟨2, ![1024, 2048]⟩
abbrev S8192x1024 : Shape := ⟨2, ![8192, 1024]⟩
abbrev S8192x8704 : Shape := ⟨2, ![8192, 8704]⟩
abbrev S8192x256 : Shape := ⟨2, ![8192, 256]⟩
abbrev S8192x4096 : Shape := ⟨2, ![8192, 4096]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S8192x1024, .f32⟩
  | .hbm, ⟨4, _⟩ => ⟨S8192x8704, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .f32⟩
  | .hbm, ⟨10, _⟩ => ⟨S8192x1024, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x2048, .f32⟩
  | .hbm, ⟨40, _⟩ => ⟨S8192x2048, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .bf16⟩
  | .hbm, ⟨53, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== AdamWIn.lean ====
abbrev S8x2048x1088 : Shape := ⟨3, ![8, 2048, 1088]⟩
abbrev S2048x1088 : Shape := ⟨2, ![2048, 1088]⟩
abbrev S8x128x1088 : Shape := ⟨3, ![8, 128, 1088]⟩
abbrev S128x1088 : Shape := ⟨2, ![128, 1088]⟩
abbrev S1x128x1088 : Shape := ⟨3, ![1, 128, 1088]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1088, .bf16⟩
  | .hbm, ⟨1, _⟩ => ⟨S2048x1088, .f32⟩
  | .hbm, ⟨2, _⟩ => ⟨S2048x1088, .f32⟩
  | .hbm, ⟨3, _⟩ => ⟨S2048x1088, .f32⟩
  | .hbm, ⟨4, _⟩ => ⟨S2048x1088, .f32⟩
  | .hbm, ⟨5, _⟩ => ⟨S2048x1088, .f32⟩
  | .hbm, ⟨6, _⟩ => ⟨S2048x1088, .f32⟩
  | .hbm, ⟨7, _⟩ => ⟨S2048x1088, .f32⟩
  | .local _ .vmem, ⟨0, _⟩ => ⟨S8x128x1088, .bf16⟩
  | .local _ .vmem, ⟨1, _⟩ => ⟨S8x128x1088, .bf16⟩
  | .local _ .vmem, ⟨2, _⟩ => ⟨S128x1088, .f32⟩
  | .local _ .vmem, ⟨3, _⟩ => ⟨S128x1088, .f32⟩
  | .local _ .vmem, ⟨4, _⟩ => ⟨S128x1088, .f32⟩
  | .local _ .vmem, ⟨5, _⟩ => ⟨S128x1088, .f32⟩
  | .local _ .vmem, ⟨6, _⟩ => ⟨S128x1088, .f32⟩
  | .local _ .vmem, ⟨7, _⟩ => ⟨S128x1088, .f32⟩
  | .local _ .vmem, ⟨8, _⟩ => ⟨S128x1088, .f32⟩
  | .local _ .vmem, ⟨9, _⟩ => ⟨S128x1088, .f32⟩
  | .local _ .vmem, ⟨10, _⟩ => ⟨S128x1088, .f32⟩
  | .local _ .vmem, ⟨11, _⟩ => ⟨S128x1088, .f32⟩
  | .local _ .vmem, ⟨12, _⟩ => ⟨S128x1088, .f32⟩
  | .local _ .vmem, ⟨13, _⟩ => ⟨S128x1088, .f32⟩
  | .local _ .vmem, ⟨14, _⟩ => ⟨S128x1088, .f32⟩
  | .local _ .vmem, ⟨15, _⟩ => ⟨S128x1088, .f32⟩
  | _, _ => ⟨S8x2048x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1088 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1088 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1088 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1088 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1088 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1088 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamWInIdeal.lean ====
abbrev S8x2048x1088 : Shape := ⟨3, ![8, 2048, 1088]⟩
abbrev S2048x1088 : Shape := ⟨2, ![2048, 1088]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1088, .bf16⟩
  | .hbm, ⟨1, _⟩ => ⟨S2048x1088, .f32⟩
  | .hbm, ⟨2, _⟩ => ⟨S2048x1088, .f32⟩
  | .hbm, ⟨3, _⟩ => ⟨S2048x1088, .f32⟩
  | .hbm, ⟨4, _⟩ => ⟨S8x2048x1088, .f32⟩
  | .hbm, ⟨5, _⟩ => ⟨S_, .f32⟩
  | .hbm, ⟨6, _⟩ => ⟨S2048x1088, .f32⟩
  | .hbm, ⟨7, _⟩ => ⟨S_, .f32⟩
  | .hbm, ⟨8, _⟩ => ⟨S2048x1088, .f32⟩
  | .hbm, ⟨9, _⟩ => ⟨S2048x1088, .f32⟩
  | .hbm, ⟨10, _⟩ => ⟨S_, .f32⟩
  | .hbm, ⟨11, _⟩ => ⟨S2048x1088, .f32⟩
  | .hbm, ⟨12, _⟩ => ⟨S2048x1088, .f32⟩
  | .hbm, ⟨13, _⟩ => ⟨S2048x1088, .f32⟩
  | .hbm, ⟨14, _⟩ => ⟨S_, .f32⟩
  | .hbm, ⟨15, _⟩ => ⟨S2048x1088, .f32⟩
  | .hbm, ⟨16, _⟩ => ⟨S2048x1088, .f32⟩
  | .hbm, ⟨17, _⟩ => ⟨S2048x1088, .f32⟩
  | .hbm, ⟨18, _⟩ => ⟨S_, .f32⟩
  | .hbm, ⟨19, _⟩ => ⟨S2048x1088, .f32⟩
  | .hbm, ⟨20, _⟩ => ⟨S2048x1088, .f32⟩
  | .hbm, ⟨21, _⟩ => ⟨S2048x1088, .f32⟩
  | .hbm, ⟨22, _⟩ => ⟨S_, .f32⟩
  | .hbm, ⟨23, _⟩ => ⟨S2048x1088, .f32⟩
  | .hbm, ⟨24, _⟩ => ⟨S2048x1088, .f32⟩
  | .hbm, ⟨25, _⟩ => ⟨S_, .f32⟩
  | .hbm, ⟨26, _⟩ => ⟨S2048x1088, .f32⟩
  | .hbm, ⟨27, _⟩ => ⟨S2048x1088, .f32⟩
  | .hbm, ⟨28, _⟩ => ⟨S2048x1088, .f32⟩
  | .hbm, ⟨29, _⟩ => ⟨S_, .f32⟩
  | .hbm, ⟨30, _⟩ => ⟨S2048x1088, .f32⟩
  | .hbm, ⟨31, _⟩ => ⟨S2048x1088, .f32⟩
  | .hbm, ⟨32, _⟩ => ⟨S2048x1088, .f32⟩
  | .hbm, ⟨33, _⟩ => ⟨S_, .f32⟩
  | .hbm, ⟨34, _⟩ => ⟨S2048x1088, .f32⟩
  | .hbm, ⟨35, _⟩ => ⟨S2048x1088, .f32⟩
  | .hbm, ⟨36, _⟩ => ⟨S2048x1088, .f32⟩
  | .hbm, ⟨37, _⟩ => ⟨S_, .f32⟩
  | .hbm, ⟨38, _⟩ => ⟨S2048x1088, .f32⟩
  | .hbm, ⟨39, _⟩ => ⟨S2048x1088, .f32⟩
  | _, _ => ⟨S8x2048x1088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamStack.lean ====
abbrev S8x3072x256 : Shape := ⟨3, ![8, 3072, 256]⟩
abbrev S3072x256 : Shape := ⟨2, ![3072, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x3072x256, .bf16⟩
  | .hbm, ⟨1, _⟩ => ⟨S3072x256, .f32⟩
  | .hbm, ⟨2, _⟩ => ⟨S3072x256, .f32⟩
  | .hbm, ⟨3, _⟩ => ⟨S3072x256, .f32⟩
  | .hbm, ⟨4, _⟩ => ⟨S3072x256, .f32⟩
  | .hbm, ⟨5, _⟩ => ⟨S3072x256, .f32⟩
  | .hbm, ⟨6, _⟩ => ⟨S3072x256, .f32⟩
  | .hbm, ⟨7, _⟩ => ⟨S3072x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x3072x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamStackIdeal.lean ====
abbrev S8x3072x256 : Shape := ⟨3, ![8, 3072, 256]⟩
abbrev S3072x256 : Shape := ⟨2, ![3072, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x3072x256, .bf16⟩
  | .hbm, ⟨1, _⟩ => ⟨S3072x256, .f32⟩
  | .hbm, ⟨2, _⟩ => ⟨S3072x256, .f32⟩
  | .hbm, ⟨3, _⟩ => ⟨S3072x256, .f32⟩
  | .hbm, ⟨4, _⟩ => ⟨S8x3072x256, .f32⟩
  | .hbm, ⟨5, _⟩ => ⟨S_, .f32⟩
  | .hbm, ⟨6, _⟩ => ⟨S3072x256, .f32⟩
  | .hbm, ⟨7, _⟩ => ⟨S_, .f32⟩
  | .hbm, ⟨8, _⟩ => ⟨S3072x256, .f32⟩
  | .hbm, ⟨9, _⟩ => ⟨S3072x256, .f32⟩
  | .hbm, ⟨10, _⟩ => ⟨S_, .f32⟩
  | .hbm, ⟨11, _⟩ => ⟨S3072x256, .f32⟩
  | .hbm, ⟨12, _⟩ => ⟨S3072x256, .f32⟩
  | .hbm, ⟨13, _⟩ => ⟨S3072x256, .f32⟩
  | .hbm, ⟨14, _⟩ => ⟨S_, .f32⟩
  | .hbm, ⟨15, _⟩ => ⟨S3072x256, .f32⟩
  | .hbm, ⟨16, _⟩ => ⟨S3072x256, .f32⟩
  | .hbm, ⟨17, _⟩ => ⟨S3072x256, .f32⟩
  | .hbm, ⟨18, _⟩ => ⟨S_, .f32⟩
  | .hbm, ⟨19, _⟩ => ⟨S3072x256, .f32⟩
  | .hbm, ⟨20, _⟩ => ⟨S3072x256, .f32⟩
  | .hbm, ⟨21, _⟩ => ⟨S3072x256, .f32⟩
  | .hbm, ⟨22, _⟩ => ⟨S_, .f32⟩
  | .hbm, ⟨23, _⟩ => ⟨S3072x256, .f32⟩
  | .hbm, ⟨24, _⟩ => ⟨S3072x256, .f32⟩
  | .hbm, ⟨25, _⟩ => ⟨S_, .f32⟩
  | .hbm, ⟨26, _⟩ => ⟨S3072x256, .f32⟩
  | .hbm, ⟨27, _⟩ => ⟨S3072x256, .f32⟩
  | .hbm, ⟨28, _⟩ => ⟨S3072x256, .f32⟩
  | .hbm, ⟨29, _⟩ => ⟨S_, .f32⟩
  | .hbm, ⟨30, _⟩ => ⟨S3072x256, .f32⟩
  | .hbm, ⟨31, _⟩ => ⟨S3072x256, .f32⟩
  | .hbm, ⟨32, _⟩ => ⟨S3072x256, .f32⟩
  | .hbm, ⟨33, _⟩ => ⟨S_, .f32⟩
  | .hbm, ⟨34, _⟩ => ⟨S3072x256, .f32⟩
  | .hbm, ⟨35, _⟩ => ⟨S3072x256, .f32⟩
  | .hbm, ⟨36, _⟩ => ⟨S3072x256, .f32⟩
  | .hbm, ⟨37, _⟩ => ⟨S_, .f32⟩
  | .hbm, ⟨38, _⟩ => ⟨S3072x256, .f32⟩
  | .hbm, ⟨39, _⟩ => ⟨S3072x256, .f32⟩
  | _, _ => ⟨S8x3072x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWOut.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamWOutIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumSmall.lean ====
abbrev S8x2160x128 : Shape := ⟨3, ![8, 2160, 128]⟩
abbrev S2160x128 : Shape := ⟨2, ![2160, 128]⟩
abbrev S1x2160x128 : Shape := ⟨3, ![1, 2160, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2160x128, .f32⟩
  | .hbm, ⟨1, _⟩ => ⟨S2160x128, .f32⟩
  | .local _ .vmem, ⟨0, _⟩ => ⟨S8x2160x128, .f32⟩
  | .local _ .vmem, ⟨1, _⟩ => ⟨S2160x128, .f32⟩
  | _, _ => ⟨S8x2160x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSumSmallIdeal.lean ====
abbrev S8x2160x128 : Shape := ⟨3, ![8, 2160, 128]⟩
abbrev S_ : Shape := ⟨0, ![]⟩
abbrev S2160x128 : Shape := ⟨2, ![2160, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2160x128, .f32⟩
  | .hbm, ⟨1, _⟩ => ⟨S_, .f32⟩
  | .hbm, ⟨2, _⟩ => ⟨S2160x128, .f32⟩
  | _, _ => ⟨S8x2160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamLambda.lean ====
abbrev S1x64x64 : Shape := ⟨3, ![1, 64, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLambdaIdeal.lean ====
abbrev S1x64x64 : Shape := ⟨3, ![1, 64, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S1x64x64, .f32⟩
  | .hbm, ⟨5, _⟩ => ⟨S1x64x64, .f32⟩
  | .hbm, ⟨6, _⟩ => ⟨S1x64x64, .f32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamLambdaIdeal.lean ====
abbrev S1x64x64 : Shape := ⟨3, ![1, 64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x64, .f32⟩
  | .hbm, ⟨4, _⟩ => ⟨S_, .f32⟩
  | .hbm, ⟨5, _⟩ => ⟨S1x64x64, .f32⟩
  | .hbm, ⟨6, _⟩ => ⟨S1x64x64, .f32⟩
  | .hbm, ⟨7, _⟩ => ⟨S_, .f32⟩
  | .hbm, ⟨8, _⟩ => ⟨S1x64x64, .f32⟩
  | .hbm, ⟨9, _⟩ => ⟨S1x64x64, .f32⟩
  | .hbm, ⟨10, _⟩ => ⟨S1x64x64, .f32⟩
  | .hbm, ⟨11, _⟩ => ⟨S_, .f32⟩
  | .hbm, ⟨12, _⟩ => ⟨S1x64x64, .f32⟩
  | .hbm, ⟨13, _⟩ => ⟨S1x64x64, .f32⟩
  | .hbm, ⟨14, _⟩ => ⟨S1x64x64, .f32⟩
  | .hbm, ⟨15, _⟩ => ⟨S_, .f32⟩
  | .hbm, ⟨16, _⟩ => ⟨S1x64x64, .f32⟩
  | .hbm, ⟨17, _⟩ => ⟨S1x64x64, .f32⟩
  | .hbm, ⟨18, _⟩ => ⟨S1x64x64, .f32⟩
  | .hbm, ⟨19, _⟩ => ⟨S_, .f32⟩
  | .hbm, ⟨20, _⟩ => ⟨S1x64x64, .f32⟩
  | .hbm, ⟨21, _⟩ => ⟨S1x64x64, .f32⟩
  | .hbm, ⟨22, _⟩ => ⟨S_, .f32⟩
  | .hbm, ⟨23, _⟩ => ⟨S1x64x64, .f32⟩
  | .hbm, ⟨24, _⟩ => ⟨S1x64x64, .f32⟩
  | .hbm, ⟨25, _⟩ => ⟨S1x64x64, .f32⟩
  | .hbm, ⟨26, _⟩ => ⟨S_, .f32⟩
  | .hbm, ⟨27, _⟩ => ⟨S1x64x64, .f32⟩
  | .hbm, ⟨28, _⟩ => ⟨S1x64x64, .f32⟩
  | .hbm, ⟨29, _⟩ => ⟨S1x64x64, .f32⟩
  | .hbm, ⟨30, _⟩ => ⟨S_, .f32⟩
  | .hbm, ⟨31, _⟩ => ⟨S1x64x64, .f32⟩
  | .hbm, ⟨32, _⟩ => ⟨S1x64x64, .f32⟩
  | .hbm, ⟨33, _⟩ => ⟨S1x64x64, .f32⟩
  | .hbm, ⟨34, _⟩ => ⟨S_, .f32⟩
  | .hbm, ⟨35, _⟩ => ⟨S1x64x64, .f32⟩
  | .hbm, ⟨36, _⟩ => ⟨S1x64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S1x64x64x16 : Shape := ⟨4, ![1, 64, 64, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S1x64x64x16, .f32⟩
  | .hbm, ⟨5, _⟩ => ⟨S1x64x64x16, .f32⟩
  | .hbm, ⟨6, _⟩ => ⟨S1x64x64x16, .f32⟩
  | .local _ .vmem, ⟨0, _⟩ => ⟨S1x64x64x16, .f32⟩
  | .local _ .vmem, ⟨1, _⟩ => ⟨S1x64x64x16, .f32⟩
  | .local _ .vmem, ⟨2, _⟩ => ⟨S1x64x64x16, .f32⟩
  | .local _ .vmem, ⟨3, _⟩ => ⟨S1x64x64x16, .f32⟩
  | .local _ .vmem, ⟨4, _⟩ => ⟨S1x64x64x16, .f32⟩
  | .local _ .vmem, ⟨5, _⟩ => ⟨S1x64x64x16, .f32⟩
  | .local _ .vmem, ⟨6, _⟩ => ⟨S1x64x64x16, .f32⟩
  | _, _ => ⟨S1x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamBIdeal.lean ====
abbrev S1x64x64x16 : Shape := ⟨4, ![1, 64, 64, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S1x64x64x16, .f32⟩
  | .hbm, ⟨5, _⟩ => ⟨S1x64x64x16, .f32⟩
  | .hbm, ⟨6, _⟩ => ⟨S1x64x64x16, .f32⟩
  | .local _ .vmem, ⟨0, _⟩ => ⟨S1x64x64x16, .f32⟩
  | .local _ .vmem, ⟨1, _⟩ => ⟨S1x64x64x16, .f32⟩
  | .local _ .vmem, ⟨2, _⟩ => ⟨S1x64x64x16, .f32⟩
  | .local _ .vmem, ⟨3, _⟩ => ⟨S1x64x64x16, .f32⟩
  | .local _ .vmem, ⟨4, _⟩ => ⟨S1x64x64x16, .f32⟩
  | .local _ .vmem, ⟨5, _⟩ => ⟨S1x64x64x16, .f32⟩
  | .local _ .vmem, ⟨6, _⟩ => ⟨S1x64x64x16, .f32⟩
  | _, _ => ⟨S1x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamBIdeal.lean ====
abbrev S1x64x64x16 : Shape := ⟨4, ![1, 64, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x64x16, .f32⟩
  | .hbm, ⟨1, _⟩ => ⟨S1x64x64x16, .f32⟩
  | .hbm, ⟨2, _⟩ => ⟨S1x64x64x16, .f32⟩
  | .hbm, ⟨3, _⟩ => ⟨S1x64x64x16, .f32⟩
  | .hbm, ⟨4, _⟩ => ⟨S_, .f32⟩
  | .hbm, ⟨5, _⟩ => ⟨S1x64x64x16, .f32⟩
  | .hbm, ⟨6, _⟩ => ⟨S1x64x64x16, .f32⟩
  | .hbm, ⟨7, _⟩ => ⟨S_, .f32⟩
  | .hbm, ⟨8, _⟩ => ⟨S1x64x64x16, .f32⟩
  | .hbm, ⟨9, _⟩ => ⟨S1x64x64x16, .f32⟩
  | .hbm, ⟨10, _⟩ => ⟨S1x64x64x16, .f32⟩
  | .hbm, ⟨11, _⟩ => ⟨S_, .f32⟩
  | .hbm, ⟨12, _⟩ => ⟨S1x64x64x16, .f32⟩
  | .hbm, ⟨13, _⟩ => ⟨S1x64x64x16, .f32⟩
  | .hbm, ⟨14, _⟩ => ⟨S1x64x64x16, .f32⟩
  | .hbm, ⟨15, _⟩ => ⟨S_, .f32⟩
  | .hbm, ⟨16, _⟩ => ⟨S1x64x64x16, .f32⟩
  | .hbm, ⟨17, _⟩ => ⟨S1x64x64x16, .f32⟩
  | .hbm, ⟨18, _⟩ => ⟨S1x64x64x16, .f32⟩
  | .hbm, ⟨19, _⟩ => ⟨S_, .f32⟩
  | .hbm, ⟨20, _⟩ => ⟨S1x64x64x16, .f32⟩
  | .hbm, ⟨21, _⟩ => ⟨S1x64x64x16, .f32⟩
  | .hbm, ⟨22, _⟩ => ⟨S_, .f32⟩
  | .hbm, ⟨23, _⟩ => ⟨S1x64x64x16, .f32⟩
  | .hbm, ⟨24, _⟩ => ⟨S1x64x64x16, .f32⟩
  | .hbm, ⟨25, _⟩ => ⟨S1x64x64x16, .f32⟩
  | .hbm, ⟨26, _⟩ => ⟨S_, .f32⟩
  | .hbm, ⟨27, _⟩ => ⟨S1x64x64x16, .f32⟩
  | .hbm, ⟨28, _⟩ => ⟨S1x64x64x16, .f32⟩
  | .hbm, ⟨29, _⟩ => ⟨S1x64x64x16, .f32⟩
  | .hbm, ⟨30, _⟩ => ⟨S_, .f32⟩
  | .hbm, ⟨31, _⟩ => ⟨S1x64x64x16, .f32⟩
  | .hbm, ⟨32, _⟩ => ⟨S1x64x64x16, .f32⟩
  | .hbm, ⟨33, _⟩ => ⟨S1x64x64x16, .f32⟩
  | .hbm, ⟨34, _⟩ => ⟨S_, .f32⟩
  | .hbm, ⟨35, _⟩ => ⟨S1x64x64x16, .f32⟩
  | .hbm, ⟨36, _⟩ => ⟨S1x64x64x16, .f32⟩
  | _, _ => ⟨S1x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamC.lean ====
abbrev S1x64x16x64 : Shape := ⟨4, ![1, 64, 16, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S1x64x16x64, .f32⟩
  | .hbm, ⟨5, _⟩ => ⟨S1x64x16x64, .f32⟩
  | .hbm, ⟨6, _⟩ => ⟨S1x64x16x64, .f32⟩
  | .local _ .vmem, ⟨0, _⟩ => ⟨S1x64x16x64, .f32⟩
  | .local _ .vmem, ⟨1, _⟩ => ⟨S1x64x16x64, .f32⟩
  | .local _ .vmem, ⟨2, _⟩ => ⟨S1x64x16x64, .f32⟩
  | .local _ .vmem, ⟨3, _⟩ => ⟨S1x64x16x64, .f32⟩
  | .local _ .vmem, ⟨4, _⟩ => ⟨S1x64x16x64, .f32⟩
  | .local _ .vmem, ⟨5, _⟩ => ⟨S1x64x16x64, .f32⟩
  | .local _ .vmem, ⟨6, _⟩ => ⟨S1x64x16x64, .f32⟩
  | _, _ => ⟨S1x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamCIdeal.lean ====
abbrev S1x64x16x64 : Shape := ⟨4, ![1, 64, 16, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S1x64x16x64, .f32⟩
  | .hbm, ⟨5, _⟩ => ⟨S1x64x16x64, .f32⟩
  | .hbm, ⟨6, _⟩ => ⟨S1x64x16x64, .f32⟩
  | .local _ .vmem, ⟨0, _⟩ => ⟨S1x64x16x64, .f32⟩
  | .local _ .vmem, ⟨1, _⟩ => ⟨S1x64x16x64, .f32⟩
  | .local _ .vmem, ⟨2, _⟩ => ⟨S1x64x16x64, .f32⟩
  | .local _ .vmem, ⟨3, _⟩ => ⟨S1x64x16x64, .f32⟩
  | .local _ .vmem, ⟨4, _⟩ => ⟨S1x64x16x64, .f32⟩
  | .local _ .vmem, ⟨5, _⟩ => ⟨S1x64x16x64, .f32⟩
  | .local _ .vmem, ⟨6, _⟩ => ⟨S1x64x16x64, .f32⟩
  | _, _ => ⟨S1x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64x16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64x16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamCIdeal.lean ====
abbrev S1x64x16x64 : Shape := ⟨4, ![1, 64, 16, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x16x64, .f32⟩
  | .hbm, ⟨1, _⟩ => ⟨S1x64x16x64, .f32⟩
  | .hbm, ⟨2, _⟩ => ⟨S1x64x16x64, .f32⟩
  | .hbm, ⟨3, _⟩ => ⟨S1x64x16x64, .f32⟩
  | .hbm, ⟨4, _⟩ => ⟨S_, .f32⟩
  | .hbm, ⟨5, _⟩ => ⟨S1x64x16x64, .f32⟩
  | .hbm, ⟨6, _⟩ => ⟨S1x64x16x64, .f32⟩
  | .hbm, ⟨7, _⟩ => ⟨S_, .f32⟩
  | .hbm, ⟨8, _⟩ => ⟨S1x64x16x64, .f32⟩
  | .hbm, ⟨9, _⟩ => ⟨S1x64x16x64, .f32⟩
  | .hbm, ⟨10, _⟩ => ⟨S1x64x16x64, .f32⟩
  | .hbm, ⟨11, _⟩ => ⟨S_, .f32⟩
  | .hbm, ⟨12, _⟩ => ⟨S1x64x16x64, .f32⟩
  | .hbm, ⟨13, _⟩ => ⟨S1x64x16x64, .f32⟩
  | .hbm, ⟨14, _⟩ => ⟨S1x64x16x64, .f32⟩
  | .hbm, ⟨15, _⟩ => ⟨S_, .f32⟩
  | .hbm, ⟨16, _⟩ => ⟨S1x64x16x64, .f32⟩
  | .hbm, ⟨17, _⟩ => ⟨S1x64x16x64, .f32⟩
  | .hbm, ⟨18, _⟩ => ⟨S1x64x16x64, .f32⟩
  | .hbm, ⟨19, _⟩ => ⟨S_, .f32⟩
  | .hbm, ⟨20, _⟩ => ⟨S1x64x16x64, .f32⟩
  | .hbm, ⟨21, _⟩ => ⟨S1x64x16x64, .f32⟩
  | .hbm, ⟨22, _⟩ => ⟨S_, .f32⟩
  | .hbm, ⟨23, _⟩ => ⟨S1x64x16x64, .f32⟩
  | .hbm, ⟨24, _⟩ => ⟨S1x64x16x64, .f32⟩
  | .hbm, ⟨25, _⟩ => ⟨S1x64x16x64, .f32⟩
  | .hbm, ⟨26, _⟩ => ⟨S_, .f32⟩
  | .hbm, ⟨27, _⟩ => ⟨S1x64x16x64, .f32⟩
  | .hbm, ⟨28, _⟩ => ⟨S1x64x16x64, .f32⟩
  | .hbm, ⟨29, _⟩ => ⟨S1x64x16x64, .f32⟩
  | .hbm, ⟨30, _⟩ => ⟨S_, .f32⟩
  | .hbm, ⟨31, _⟩ => ⟨S1x64x16x64, .f32⟩
  | .hbm, ⟨32, _⟩ => ⟨S1x64x16x64, .f32⟩
  | .hbm, ⟨33, _⟩ => ⟨S1x64x16x64, .f32⟩
  | .hbm, ⟨34, _⟩ => ⟨S_, .f32⟩
  | .hbm, ⟨35, _⟩ => ⟨S1x64x16x64, .f32⟩
  | .hbm, ⟨36, _⟩ => ⟨S1x64x16x64, .f32⟩
  | _, _ => ⟨S1x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamD.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamDIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamDIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLogStep.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLogStepIdeal.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamLogStepIdeal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSinksIdeal.lean ====
abbrev S1x16 : Shape := ⟨2, ![1, 16]⟩

abbrev nBuf : Space → Nat
  | .hbm => 7
  | .vmem => 7
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamSinksIdeal.lean ====
abbrev S1x16 : Shape := ⟨2, ![1, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16, .f32⟩
  | .hbm, ⟨1, _⟩ => ⟨S1x16, .f32⟩
  | .hbm, ⟨2, _⟩ => ⟨S1x16, .f32⟩
  | .hbm, ⟨3, _⟩ => ⟨S1x16, .f32⟩
  | .hbm, ⟨4, _⟩ => ⟨S_, .f32⟩
  | .hbm, ⟨5, _⟩ => ⟨S1x16, .f32⟩
  | .hbm, ⟨6, _⟩ => ⟨S1x16, .f32⟩
  | .hbm, ⟨7, _⟩ => ⟨S_, .f32⟩
  | .hbm, ⟨8, _⟩ => ⟨S1x16, .f32⟩
  | .hbm, ⟨9, _⟩ => ⟨S1x16, .f32⟩
  | .hbm, ⟨10, _⟩ => ⟨S1x16, .f32⟩
  | .hbm, ⟨11, _⟩ => ⟨S_, .f32⟩
  | .hbm, ⟨12, _⟩ => ⟨S1x16, .f32⟩
  | .hbm, ⟨13, _⟩ => ⟨S1x16, .f32⟩
  | .hbm, ⟨14, _⟩ => ⟨S1x16, .f32⟩
  | .hbm, ⟨15, _⟩ => ⟨S_, .f32⟩
  | .hbm, ⟨16, _⟩ => ⟨S1x16, .f32⟩
  | .hbm, ⟨17, _⟩ => ⟨S1x16, .f32⟩
  | .hbm, ⟨18, _⟩ => ⟨S1x16, .f32⟩
  | .hbm, ⟨19, _⟩ => ⟨S_, .f32⟩
  | .hbm, ⟨20, _⟩ => ⟨S1x16, .f32⟩
  | .hbm, ⟨21, _⟩ => ⟨S1x16, .f32⟩
  | .hbm, ⟨22, _⟩ => ⟨S_, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S_, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x16, .f32⟩
  | .hbm, ⟨34, _⟩ => ⟨S_, .f32⟩
  | .hbm, ⟨35, _⟩ => ⟨S1x16, .f32⟩
  | .hbm, ⟨36, _⟩ => ⟨S1x16, .f32⟩
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTable.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamTableIdeal.lean ====
abbrev S32x16 : Shape := ⟨2, ![32, 16]⟩

abbrev nBuf : Space → Nat
  | .hbm => 7
  | .vmem => 7
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S32x16, .f32⟩
  | .hbm, ⟨5, _⟩ => ⟨S32x16, .f32⟩
  | .hbm, ⟨6, _⟩ => ⟨S32x16, .f32⟩
  | .local _ .vmem, ⟨0, _⟩ => ⟨S32x16, .f32⟩
  | .local _ .vmem, ⟨1, _⟩ => ⟨S32x16, .f32⟩
  | .local _ .vmem, ⟨2, _⟩ => ⟨S32x16, .f32⟩
  | .local _ .vmem, ⟨3, _⟩ => ⟨S32x16, .f32⟩
  | .local _ .vmem, ⟨4, _⟩ => ⟨S32x16, .f32⟩
  | .local _ .vmem, ⟨5, _⟩ => ⟨S32x16, .f32⟩
  | .local _ .vmem, ⟨6, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamTableIdeal.lean ====
abbrev S32x16 : Shape := ⟨2, ![32, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S32x16, .f32⟩
  | .hbm, ⟨2, _⟩ => ⟨S32x16, .f32⟩
  | .hbm, ⟨3, _⟩ => ⟨S32x16, .f32⟩
  | .hbm, ⟨4, _⟩ => ⟨S_, .f32⟩
  | .hbm, ⟨5, _⟩ => ⟨S32x16, .f32⟩
  | .hbm, ⟨6, _⟩ => ⟨S32x16, .f32⟩
  | .hbm, ⟨7, _⟩ => ⟨S_, .f32⟩
  | .hbm, ⟨8, _⟩ => ⟨S32x16, .f32⟩
  | .hbm, ⟨9, _⟩ => ⟨S32x16, .f32⟩
  | .hbm, ⟨10, _⟩ => ⟨S32x16, .f32⟩
  | .hbm, ⟨11, _⟩ => ⟨S_, .f32⟩
  | .hbm, ⟨12, _⟩ => ⟨S32x16, .f32⟩
  | .hbm, ⟨13, _⟩ => ⟨S32x16, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S32x16, .f32⟩
  | .hbm, ⟨19, _⟩ => ⟨S_, .f32⟩
  | .hbm, ⟨20, _⟩ => ⟨S32x16, .f32⟩
  | .hbm, ⟨21, _⟩ => ⟨S32x16, .f32⟩
  | .hbm, ⟨22, _⟩ => ⟨S_, .f32⟩
  | .hbm, ⟨23, _⟩ => ⟨S32x16, .f32⟩
  | .hbm, ⟨24, _⟩ => ⟨S32x16, .f32⟩
  | .hbm, ⟨25, _⟩ => ⟨S32x16, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S32x16, .f32⟩
  | .hbm, ⟨30, _⟩ => ⟨S_, .f32⟩
  | .hbm, ⟨31, _⟩ => ⟨S32x16, .f32⟩
  | .hbm, ⟨32, _⟩ => ⟨S32x16, .f32⟩
  | .hbm, ⟨33, _⟩ => ⟨S32x16, .f32⟩
  | .hbm, ⟨34, _⟩ => ⟨S_, .f32⟩
  | .hbm, ⟨35, _⟩ => ⟨S32x16, .f32⟩
  | .hbm, ⟨36, _⟩ => ⟨S32x16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamNormIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Softmax.lean ====
/- Hand-written, untrusted. ONE ROW OF THE ATTENTION, over the reals: the masked softmax with a sink in its denominator,
   the gradient of its logits, and the two ways in which they are computed over the extended reals from finite inputs:
   the kernel's (`p = e * (1 / (Σ e + e_sink))`, `p * (dp - Σ p dp)`) and the chain rule's, operation by operation,
   through the quotient, the exponential and the row maximum. -/
module

public import Idealize.ShloMosaic.PureOps.Ideal
public import Idealize.ShloMosaic.PureOps.Ideal.Laws
public import Mathlib.Data.EReal.Inv

@[expose] public section

noncomputable section

namespace Cert.Row

open Idealize.ShloMosaic

/-! ## The row over the reals -/

section Real
variable {N : Nat} (M : Fin N → Bool) (l : Fin N → ℝ) (b : ℝ) (dp : Fin N → ℝ)

/-- The weight of key `s`: `exp` of its logit, zero outside the mask. -/
def wt (s : Fin N) : ℝ := if M s then Real.exp (l s) else 0
/-- The softmax's denominator: all weights and the sink's. -/
def den : ℝ := ∑ s, wt M l s + Real.exp b
/-- The probability of key `s`. -/
def prob (s : Fin N) : ℝ := wt M l s / den M l b
/-- The mean of the probabilities' gradient. -/
def delta : ℝ := ∑ s, prob M l b s * dp s
/-- The gradient of logit `s`. -/
def dlog (s : Fin N) : ℝ := prob M l b s * (dp s - delta M l b dp)

theorem wt_nonneg (s : Fin N) : 0 ≤ wt M l s := by
  unfold wt; split
  · exact (Real.exp_pos _).le
  · exact le_refl _

theorem den_pos : 0 < den M l b :=
  add_pos_of_nonneg_of_pos (Finset.sum_nonneg fun s _ => wt_nonneg M l s) (Real.exp_pos b)

theorem prob_off {s : Fin N} (h : M s = false) : prob M l b s = 0 := by
  unfold prob wt; rw [h]; simp

theorem dlog_off {s : Fin N} (h : M s = false) : dlog M l b dp s = 0 := by
  unfold dlog; rw [prob_off M l b h, zero_mul]

theorem wt_congr {l' : Fin N → ℝ} (h : ∀ s, M s = true → l s = l' s) : wt M l = wt M l' := by
  funext s; unfold wt; split
  next hs => rw [h s hs]
  next => rfl

theorem prob_congr {l' : Fin N → ℝ} (h : ∀ s, M s = true → l s = l' s) : prob M l b = prob M l' b := by
  funext s; unfold prob den; rw [wt_congr M l h]

theorem delta_congr {l' dp' : Fin N → ℝ} (h : ∀ s, M s = true → l s = l' s) (hd : ∀ s, M s = true → dp s = dp' s) :
    delta M l b dp = delta M l' b dp' := by
  unfold delta; rw [prob_congr M l b h]
  refine Finset.sum_congr rfl fun s _ => ?_
  cases hs : M s
  · rw [prob_off M l' b hs, zero_mul, zero_mul]
  · rw [hd s hs]

theorem dlog_congr {l' dp' : Fin N → ℝ} (h : ∀ s, M s = true → l s = l' s) (hd : ∀ s, M s = true → dp s = dp' s) :
    dlog M l b dp = dlog M l' b dp' := by
  funext s
  cases hs : M s
  · rw [dlog_off M l b dp hs, dlog_off M l' b dp' hs]
  · unfold dlog; rw [prob_congr M l b h, delta_congr M l b dp h hd, hd s hs]

end Real

/-! ## Extended reals that are reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem zero_div {y : EReal} (hy : y ≠ 0) : Ideal.div 0 y = 0 := by
  unfold Ideal.div; rw [if_neg hy, zero_mul]

/-- The maximum of finitely many extended reals below `⊤` and one real is a real. -/
theorem max_real {ι : Type*} (s : Finset ι) (L : ι → EReal) (hL : ∀ i, L i ≠ ⊤) (b : ℝ) :
    ∃ r : ℝ, max (s.fold max ⊥ L) (b : EReal) = r := by
  classical
  have ht : s.fold max ⊥ L ≠ ⊤ := by
    induction s using Finset.induction_on with
    | empty => simp
    | insert a s h ih =>
      rw [Finset.fold_insert h]
      intro hh
      rcases max_choice (L a) (s.fold max ⊥ L) with e | e
      · exact hL a (e.symm.trans hh)
      · exact ih (e.symm.trans hh)
  have h1 : max (s.fold max ⊥ L) (b : EReal) ≠ ⊤ := by
    intro hh
    rcases max_choice (s.fold max ⊥ L) (b : EReal) with e | e
    · exact ht (e.symm.trans hh)
    · exact EReal.coe_ne_top b (e.symm.trans hh)
  have h2 : max (s.fold max ⊥ L) (b : EReal) ≠ ⊥ := by
    intro hh
    have := le_max_right (s.fold max ⊥ L) (b : EReal)
    rw [hh, le_bot_iff] at this
    exact EReal.coe_ne_bot b this
  exact ⟨_, (EReal.coe_toReal h1 h2).symm⟩

/-- The maximum of a nonempty finite family is one of its members. -/
theorem fold_max_mem {N : Nat} (L : Fin (N + 1) → EReal) : ∃ i, (Finset.univ : Finset (Fin (N + 1))).fold max ⊥ L = L i := by
  classical
  have key : ∀ s : Finset (Fin (N + 1)), s.Nonempty → ∃ i, s.fold max ⊥ L = L i := by
    intro s hs
    induction hs using Finset.Nonempty.cons_induction with
    | singleton a => exact ⟨a, by simp⟩
    | cons a s h hs ih =>
      obtain ⟨i, hi⟩ := ih
      rw [Finset.fold_cons]
      rcases max_choice (L a) (s.fold max ⊥ L) with e | e
      · exact ⟨a, e⟩
      · exact ⟨i, e.trans hi⟩
  exact key _ Finset.univ_nonempty

/-! ## The row over the extended reals -/

section Ext
variable {N : Nat} (M : Fin N → Bool) (l : Fin N → ℝ) (b : ℝ) (dp : Fin N → ℝ)

/-- The masked logits as extended reals: `-∞` outside the mask. -/
def logit (s : Fin N) : EReal := if M s then (l s : EReal) else ⊥

theorem logit_ne_top (s : Fin N) : logit M l s ≠ ⊤ := by
  unfold logit; split
  · exact EReal.coe_ne_top _
  · exact bot_ne_top

theorem exp_logit (r : ℝ) (s : Fin N) :
    Ideal.exp (logit M l s - (r : EReal)) = ((wt M l s * Real.exp (-r) : ℝ) : EReal) := by
  unfold logit wt
  split
  · rw [← EReal.coe_sub, Ideal.exp_coe, ← Real.exp_add, sub_eq_add_neg]
  · rw [EReal.bot_sub, Ideal.exp_bot, zero_mul, EReal.coe_zero]

theorem exp_sink (r : ℝ) : Ideal.exp ((b : EReal) - (r : EReal)) = ((Real.exp b * Real.exp (-r) : ℝ) : EReal) := by
  rw [← EReal.coe_sub, Ideal.exp_coe, ← Real.exp_add, sub_eq_add_neg]

/-- The denominator at any shift. -/
theorem den_shift (r : ℝ) :
    (∑ s, Ideal.exp (logit M l s - (r : EReal))) + Ideal.exp ((b : EReal) - (r : EReal))
      = ((den M l b * Real.exp (-r) : ℝ) : EReal) := by
  simp only [exp_logit, exp_sink]
  rw [← coe_sum, ← EReal.coe_add, den, add_mul, Finset.sum_mul]

theorem den_shift_ne (r : ℝ) : den M l b * Real.exp (-r) ≠ 0 :=
  mul_ne_zero (den_pos M l b).ne' (Real.exp_pos _).ne'

/-- The quotient form of a probability. -/
theorem prob_quot (r : ℝ) (s : Fin N) :
    Ideal.div (Ideal.exp (logit M l s - (r : EReal)))
      ((∑ s, Ideal.exp (logit M l s - (r : EReal))) + Ideal.exp ((b : EReal) - (r : EReal)))
      = ((prob M l b s : ℝ) : EReal) := by
  rw [den_shift, exp_logit, div_coe _ (den_shift_ne M l b r), mul_div_mul_right _ _ (Real.exp_pos _).ne']; rfl

/-- The reciprocal form of a probability. -/
theorem prob_recip (r : ℝ) (s : Fin N) :
    Ideal.exp (logit M l s - (r : EReal))
      * Ideal.div 1 ((∑ s, Ideal.exp (logit M l s - (r : EReal))) + Ideal.exp ((b : EReal) - (r : EReal)))
      = ((prob M l b s : ℝ) : EReal) := by
  rw [den_shift, exp_logit, show (1 : EReal) = ((1 : ℝ) : EReal) from rfl, div_coe _ (den_shift_ne M l b r), ← EReal.coe_mul,
    mul_one_div, mul_div_mul_right _ _ (Real.exp_pos _).ne']; rfl

/-- The gradient of the logits in closed form. -/
theorem dlog_closed (s : Fin N) :
    ((prob M l b s : ℝ) : EReal) * ((dp s : EReal) - ∑ k, ((prob M l b k : ℝ) : EReal) * (dp k : EReal))
      = ((dlog M l b dp s : ℝ) : EReal) := by
  simp only [← EReal.coe_mul]
  rw [← coe_sum, ← EReal.coe_sub, ← EReal.coe_mul]; rfl

variable (r : ℝ)

/-- The gradient that reaches the denominator through the quotient. -/
theorem dden_chain :
    -(∑ s, (dp s : EReal) * Ideal.div 1 (((den M l b * Real.exp (-r) : ℝ) : EReal) * ((den M l b * Real.exp (-r) : ℝ) : EReal))
        * ((wt M l s * Real.exp (-r) : ℝ) : EReal))
      = ((-(delta M l b dp) / (den M l b * Real.exp (-r)) : ℝ) : EReal) := by
  have hd := den_shift_ne M l b r
  rw [← EReal.coe_mul, show (1 : EReal) = ((1 : ℝ) : EReal) from rfl, div_coe _ (mul_ne_zero hd hd)]
  simp only [← EReal.coe_mul]
  rw [← coe_sum, ← EReal.coe_neg]
  congr 1
  have he := (Real.exp_pos (-r)).ne'
  have hn := (den_pos M l b).ne'
  rw [neg_div, delta, Finset.sum_div]
  congr 1
  refine Finset.sum_congr rfl fun s _ => ?_
  unfold prob
  field_simp

/-- The gradient of logit `s` along the exponential. -/
theorem dlog_chain (s : Fin N) :
    (Ideal.div (dp s : EReal) ((den M l b * Real.exp (-r) : ℝ) : EReal) + ((-(delta M l b dp) / (den M l b * Real.exp (-r)) : ℝ) : EReal))
        * ((wt M l s * Real.exp (-r) : ℝ) : EReal)
      = ((dlog M l b dp s : ℝ) : EReal) := by
  have he := (Real.exp_pos (-r)).ne'
  have hn := (den_pos M l b).ne'
  rw [div_coe _ (den_shift_ne M l b r), ← EReal.coe_add, ← EReal.coe_mul]
  congr 1
  unfold dlog prob
  field_simp
  ring

/-- What reaches the row maximum is zero: the quotient does not depend on the shift. -/
theorem dmax_chain :
    -(((-(delta M l b dp) / (den M l b * Real.exp (-r)) : ℝ) : EReal) * ((Real.exp b * Real.exp (-r) : ℝ) : EReal))
      + ∑ s, -(((dlog M l b dp s : ℝ) : EReal)) = 0 := by
  rw [← EReal.coe_mul, ← EReal.coe_neg]
  simp only [← EReal.coe_neg]
  rw [← coe_sum, ← EReal.coe_add, ← EReal.coe_zero]
  congr 1
  have he := (Real.exp_pos (-r)).ne'
  have hn := (den_pos M l b).ne'
  have h1 : ∑ s, prob M l b s = (den M l b - Real.exp b) / den M l b := by
    unfold prob; rw [← Finset.sum_div]; congr 1; unfold den; ring
  have h2 : ∑ s, -dlog M l b dp s = -(delta M l b dp) * (1 - ∑ s, prob M l b s) := by
    unfold dlog
    rw [Finset.sum_neg_distrib]
    simp only [mul_sub]
    rw [Finset.sum_sub_distrib, ← Finset.sum_mul]
    show -(delta M l b dp - _) = _
    ring
  rw [h2, h1]
  field_simp
  ring

end Ext

end Cert.Row

end
-- ==== Proof.Bucket.lean ====
module

public import proofs.«01_k».proof.Proof.Softmax
public import Idealize.ShloMosaic.Lib.Pointwise
public import Idealize.ShloMosaic.Lib.WordArith

/-! # The distance bucket

The bias of a pair (query, key) is a row of the table chosen by their distance `D`.  Under sixteen the row
is the distance itself, above it grows with the logarithm.  Both programs compute the row as a 32-bit word
with the same operations; here the word is shown to lie between 0 and 31 for every distance in the band. -/

@[expose] public section

noncomputable section
open Idealize.ShloMosaic

namespace Cert.Bucket

/-- The row of the table as the programs compute it from the word of a distance. -/
def word (D : BitVec 32) : BitVec 32 :=
  Scalar.select (IntOp.cmpi .slt D 16#32) D
    (IntOp.minsi (IntOp.addi 16#32 (Ideal.fptosi 32
      (Ideal.div (Ideal.log (Ideal.div (((IntOp.maxsi D 1#32).toInt : ℝ) : EReal) (Ideal.ofBits .f32 0x41800000#32)))
        (Ideal.ofBits .f32 0x40051592#32) * Ideal.ofBits .f32 0x41800000#32))) 31#32)

/-- The row of the table for distance `D`. -/
def bucket (D : ℕ) : Fin 32 := ⟨min 31 (word (BitVec.ofNat 32 D)).toNat, by omega⟩

theorem sixteen_f32 : Ideal.ofBits .f32 0x41800000#32 = ((16 : ℝ) : EReal) := by
  simp [Ideal.ofBits, Ideal.ieee, -EReal.coe_mul]; norm_num

theorem scale_f32 : Ideal.ofBits .f32 0x40051592#32 = ((8721810 / 4194304 : ℝ) : EReal) := by
  simp [Ideal.ofBits, Ideal.ieee, -EReal.coe_mul]; norm_num

theorem toInt_small (D : ℕ) (h : D < 128) : (BitVec.ofNat 32 D).toInt = D := by
  rw [BitVec.toInt_ofNat']; simp [Int.bmod_def]; omega

theorem select_true {α : Type} {b : Bool} (h : b = true) (x y : α) : Scalar.select (BitVec.ofBool b) x y = x := by
  subst h; rfl
theorem select_false {α : Type} {b : Bool} (h : b = false) (x y : α) : Scalar.select (BitVec.ofBool b) x y = y := by
  subst h; rfl

/-- The logarithmic part of the row is an integer between 0 and 128. -/
theorem log_part (D : ℕ) (h : D < 128) (hD : 16 ≤ D) : ∃ n : ℕ, n ≤ 128 ∧
    Ideal.fptosi 32
      (Ideal.div (Ideal.log (Ideal.div (((IntOp.maxsi (BitVec.ofNat 32 D) 1#32).toInt : ℝ) : EReal)
        (Ideal.ofBits .f32 0x41800000#32)))
        (Ideal.ofBits .f32 0x40051592#32) * Ideal.ofBits .f32 0x41800000#32) = BitVec.ofNat 32 n := by
  have hm : IntOp.maxsi (BitVec.ofNat 32 D) 1#32 = BitVec.ofNat 32 D := by
    unfold IntOp.maxsi
    rw [if_pos]
    rw [BitVec.slt_iff_toInt_lt, toInt_small D h]
    show (1 : ℤ) < D
    omega
  have hx : (16 : ℝ) ≤ D := by exact_mod_cast hD
  have hx' : (D : ℝ) < 128 := by exact_mod_cast h
  have hlo : 0 ≤ Real.log (D / 16) := Real.log_nonneg (by rw [le_div_iff₀ (by norm_num)]; linarith)
  have hhi : Real.log (D / 16) ≤ 7 :=
    (Real.log_le_sub_one_of_pos (by positivity)).trans (by rw [sub_le_iff_le_add, div_le_iff₀ (by norm_num)]; linarith)
  rw [hm, toInt_small D h, sixteen_f32, scale_f32, Int.cast_natCast, Row.div_coe _ (by norm_num), Ideal.log_coe,
    if_neg (by rw [not_le]; positivity), Row.div_coe _ (by norm_num), ← EReal.coe_mul]
  set r : ℝ := Real.log (D / 16) / (8721810 / 4194304) * 16 with hr
  have h0 : 0 ≤ r := by positivity
  have h1 : r ≤ 128 := by
    rw [hr, div_mul_eq_mul_div, div_le_iff₀ (by norm_num)]; linarith
  have f0 : 0 ≤ ⌊r⌋ := Int.floor_nonneg.2 h0
  have f1 : ⌊r⌋ ≤ 128 := by
    have := Int.floor_le r
    exact_mod_cast this.trans h1
  refine ⟨⌊r⌋.toNat, by omega, ?_⟩
  rw [Ideal.fptosi, Ideal.toIntClamped_coe, if_pos h0, max_eq_right, min_eq_right, ← BitVec.ofInt_natCast,
    Int.toNat_of_nonneg f0]
  · norm_num; omega
  · rw [min_eq_right] <;> norm_num <;> omega

/-- The word lies between 0 and 31. -/
theorem word_small (D : ℕ) (h : D < 128) : (word (BitVec.ofNat 32 D)).toNat ≤ 31 := by
  unfold word IntOp.cmpi
  by_cases hD : D < 16
  · rw [select_true]
    · rw [BitVec.toNat_ofNat]; omega
    · show BitVec.slt _ _ = true
      rw [BitVec.slt_iff_toInt_lt, toInt_small D h]
      show (D : ℤ) < 16
      omega
  · rw [select_false]
    · obtain ⟨n, hn, e⟩ := log_part D h (by omega)
      rw [e]
      unfold IntOp.minsi IntOp.addi
      have e2 : (16#32 + BitVec.ofNat 32 n) = BitVec.ofNat 32 (16 + n) := by rw [BitVec.ofNat_add]
      rw [e2]
      split
      · rename_i hs
        rw [BitVec.slt_iff_toInt_lt, BitVec.toInt_ofNat'] at hs
        have : (31#32).toInt = 31 := rfl
        rw [this] at hs
        simp [Int.bmod_def] at hs
        rw [BitVec.toNat_ofNat]
        omega
      · decide
    · show BitVec.slt _ _ = false
      rw [Bool.eq_false_iff, ne_eq, BitVec.slt_iff_toInt_lt, toInt_small D h]
      show ¬ (D : ℤ) < 16
      omega

theorem word_eq (D : ℕ) (h : D < 128) : word (BitVec.ofNat 32 D) = BitVec.ofNat 32 (bucket D).val := by
  have := word_small D h
  have e : (bucket D).val = (word (BitVec.ofNat 32 D)).toNat := min_eq_right this
  rw [e, BitVec.ofNat_toNat, BitVec.setWidth_eq]

end Cert.Bucket
end
-- ==== Proof.Block.lean ====
/- Hand-written, untrusted. WHAT ONE GRID POINT OF THE ATTENTION COMPUTES, as vector functions of the blocks it loads:
   the halves of the stacked keys and values, the logits of the four heads of a key head, the softmax with its sink, the
   probabilities spread over the four stacked blocks, and of the backward pass the gradient of the logits and the
   products with it. Stated over any float arithmetic; each is read at an index over the reals in the modules after. -/
module

public import proofs.«01_k».proof.Proof.Gen.AttnIdeal

@[expose] public section

set_option synthInstance.maxSize 4096

noncomputable section

namespace Cert.Block

open Idealize.ShloMosaic Cert.AttnIdeal Cert.AttnIdeal.Gen

variable {F : FTy → Type} [FloatOps F] [Named F]

/-! ## Keys and values: one head's lanes, moved to the low or the high half -/

/-- The lanes of the first head of a pair. -/
def low : IVec S128x128 1 := cmpi .slt (iota .tc S128x128 32 [1] iota_S128x128_d1_w32) (broadcast S128x128 64#32)
def zeros : FVec F S128x128 .f32 := broadcast S128x128 (Scalar.ofBits .f32 0x00000000#32)
/-- The two heads of a pair exchanged. -/
def swap (x : FVec F S128x128 .f32) : FVec F S128x128 .f32 := dynamicRotate 1 64#32 none x rotates_S128x128_d1
/-- Head `0` of the pair in the low lanes. -/
def half00 (x : FVec F S128x128 .f32) : FVec F S128x128 .bf16 := truncf .bf16 (select low x (zeros (F := F))) bitsLt_bf16_f32
/-- Head `0` of the pair in the high lanes. -/
def half01 (x : FVec F S128x128 .f32) : FVec F S128x128 .bf16 := truncf .bf16 (select low (zeros (F := F)) (swap x)) bitsLt_bf16_f32
/-- Head `1` of the pair in the low lanes. -/
def half10 (x : FVec F S128x128 .f32) : FVec F S128x128 .bf16 := truncf .bf16 (select low (swap x) (zeros (F := F))) bitsLt_bf16_f32
/-- Head `1` of the pair in the high lanes. -/
def half11 (x : FVec F S128x128 .f32) : FVec F S128x128 .bf16 := truncf .bf16 (select low (zeros (F := F)) x) bitsLt_bf16_f32
/-- Four blocks one below the other. -/
def four (a b c d : FVec F S128x128 .bf16) : FVec F S512x128 .bf16 :=
  concatenate S512x128 0 [⟨S128x128, a⟩, ⟨S128x128, b⟩, ⟨S128x128, c⟩, ⟨S128x128, d⟩] concatenates_S128x128_S128x128_S128x128_S128x128_S512x128_d0
/-- Head `0` of the pair: the block before and the own block, each in the low and in the high lanes. -/
def stack0 (xp xc : FVec F S128x128 .f32) : FVec F S512x128 .bf16 := four (half00 xp) (half01 xp) (half00 xc) (half01 xc)
/-- Head `1` of the pair, likewise. -/
def stack1 (xp xc : FVec F S128x128 .f32) : FVec F S512x128 .bf16 := four (half10 xp) (half11 xp) (half10 xc) (half11 xc)

/-! ## The logits -/

/-- Two blocks one below the other. -/
def two (x y : FVec F S128x128 .f32) : FVec F S256x128 .f32 :=
  concatenate S256x128 0 [⟨S128x128, x⟩, ⟨S128x128, y⟩] concatenates_S128x128_S128x128_S256x128_d0
def two16 (x y : FVec F S128x128 .f32) : FVec F S256x128 .bf16 := truncf .bf16 (two x y) bitsLt_bf16_f32
/-- The key columns that belong to the block before: those after the query's own. -/
def prev : IVec S128x128 1 := cmpi .sgt (iota .tc S128x128 32 [1] iota_S128x128_d1_w32) (iota .tc S128x128 32 [0] iota_S128x128_d0_w32)
def prev2 : IVec S256x128 1 := concatenate S256x128 0 [⟨S128x128, prev⟩, ⟨S128x128, prev⟩] concatenates_S128x128_S128x128_S256x128_d0
/-- What the first block adds to its logits: there is no block before it. -/
def edge (n : BitVec 32) : FVec F S128x128 .f32 :=
  select (andi (broadcast S128x128 (Scalar.cmpi .eq n 0#32)) prev) (broadcast S128x128 (Named.named (F := F) κ "mask" 0xF149F2CA#32))
    (broadcast S128x128 (Scalar.ofBits (F := F) .f32 0x00000000#32))
/-- The rows' products with all four stacked blocks. -/
def prod4 (q : FVec F S256x128 .bf16) (ks : FVec F S512x128 .bf16) : FVec F S256x512 .f32 :=
  matmul dot_S256x128_S512x128_S256x512_1_1_0_0_n_n none q ks (constant S256x512 .f32 0x00000000#32)
/-- Of the four, those of the head in the low lanes: the block before's where the key lies there, else the own block's. -/
def pick0 (x : FVec F S256x512 .f32) : FVec F S256x128 .f32 :=
  select prev2 (extractStridedSlice S256x128 ![0, 0] x slices_S256x512_o0_0_S256x128) (extractStridedSlice S256x128 ![0, 256] x slices_S256x512_o0_256_S256x128)
def pick1 (x : FVec F S256x512 .f32) : FVec F S256x128 .f32 :=
  select prev2 (extractStridedSlice S256x128 ![0, 128] x slices_S256x512_o0_128_S256x128) (extractStridedSlice S256x128 ![0, 384] x slices_S256x512_o0_384_S256x128)
def rows0 (x : FVec F S256x128 .f32) : FVec F S128x128 .f32 := extractStridedSlice S128x128 ![0, 0] x slices_S256x128_o0_0_S128x128
def rows1 (x : FVec F S256x128 .f32) : FVec F S128x128 .f32 := extractStridedSlice S128x128 ![128, 0] x slices_S256x128_o128_0_S128x128
/-- One head's logits: the products scaled, the bias and the edge added. -/
def logits (s : FVec F S128x128 .f32) (bias : FVec F S1x128x128 .f32) (ed : FVec F S128x128 .f32) : FVec F S128x128 .f32 :=
  addf (addf (mulf s (broadcast S128x128 (Scalar.ofBits .f32 0x3E000000#32))) (shapeCast S128x128 bias shapeCasts_S1x128x128_S128x128)) ed

/-! ## The softmax with a sink -/

def smax (l : FVec F S128x128 .f32) (b : F .f32) : FVec F S128x1 .f32 :=
  maximumf (shapeCast S128x1 (multiReduction .maximumf [1] S128 l 0xFF800000#32 reduces_S128x128_S128 (.inl rfl) rfl) shapeCasts_S128_S128x1) (broadcast S128x1 b)
def sexp (l : FVec F S128x128 .f32) (b : F .f32) : FVec F S128x128 .f32 :=
  exp (subf l (broadcastTo S128x128 (smax l b) broadcasts_S128x1_S128x128))
def ssink (l : FVec F S128x128 .f32) (b : F .f32) : FVec F S128x1 .f32 := exp (subf (broadcast S128x1 b) (smax l b))
def rowSum (x : FVec F S128x128 .f32) : FVec F S128x1 .f32 :=
  shapeCast S128x1 (multiReduction .add [1] S128 x 0x00000000#32 reduces_S128x128_S128 (.inl rfl) rfl) shapeCasts_S128_S128x1
def sinv (l : FVec F S128x128 .f32) (b : F .f32) : FVec F S128x1 .f32 :=
  divf (broadcast S128x1 (Scalar.ofBits .f32 0x3F800000#32)) (addf (rowSum (sexp l b)) (ssink l b))
def probs (l : FVec F S128x128 .f32) (b : F .f32) : FVec F S128x128 .f32 :=
  mulf (sexp l b) (broadcastTo S128x128 (sinv l b) broadcasts_S128x1_S128x128)

/-! ## The probabilities spread over the four stacked blocks, and the heads' values -/

def zeros2 : FVec F S256x128 .f32 := broadcast S256x128 (Scalar.ofBits .f32 0x00000000#32)
def spread (x0 x1 : FVec F S256x128 .f32) : FVec F S256x512 .bf16 :=
  truncf .bf16 (concatenate S256x512 1 [⟨S256x128, select prev2 x0 (zeros2 (F := F))⟩, ⟨S256x128, select prev2 x1 (zeros2 (F := F))⟩,
    ⟨S256x128, select prev2 (zeros2 (F := F)) x0⟩, ⟨S256x128, select prev2 (zeros2 (F := F)) x1⟩] concatenates_S256x128_S256x128_S256x128_S256x128_S256x512_d1) bitsLt_bf16_f32
def gather4 (p : FVec F S256x512 .bf16) (vs : FVec F S512x128 .bf16) : FVec F S256x128 .f32 :=
  matmul dot_S256x512_S512x128_S256x128_1_0_0_1_n_n none p vs (constant S256x128 .f32 0x00000000#32)
def silu (z : FVec F S128x128 .f32) : FVec F S128x128 .f32 :=
  mulf z (divf (broadcast S128x128 (Scalar.ofBits .f32 0x3F800000#32)) (addf (broadcast S128x128 (Scalar.ofBits .f32 0x3F800000#32)) (exp (subf (zeros (F := F)) z))))
def gated (o z : FVec F S128x128 .f32) : FVec F S128x128 .bf16 := truncf .bf16 (mulf o (silu z)) bitsLt_bf16_f32

/-! ## The same by the numbers of slab, lane half and key head

Of a block's four query slabs the first two belong to key head `0` of the pair, the last two to key head `1`; a slab's two
lane halves are two heads. -/

/-- The slab of key head `a`'s `r`-th. -/
def slab : Fin 2 → Fin 2 → Fin 4
  | 0, 0 => 0
  | 0, 1 => 1
  | 1, 0 => 2
  | 1, 1 => 3
/-- Of the point's eight heads, the one in lane half `e` of that slab. -/
def head : Fin 2 → Fin 2 → Fin 2 → Fin 8
  | 0, 0, 0 => 0
  | 0, 0, 1 => 1
  | 0, 1, 0 => 2
  | 0, 1, 1 => 3
  | 1, 0, 0 => 4
  | 1, 0, 1 => 5
  | 1, 1, 0 => 6
  | 1, 1, 1 => 7

def stack : Fin 2 → FVec F S128x128 .f32 → FVec F S128x128 .f32 → FVec F S512x128 .bf16
  | 0 => stack0
  | 1 => stack1
def pick : Fin 2 → FVec F S256x512 .f32 → FVec F S256x128 .f32
  | 0 => pick0
  | 1 => pick1
def rows : Fin 2 → FVec F S256x128 .f32 → FVec F S128x128 .f32
  | 0 => rows0
  | 1 => rows1
/-- Four heads' blocks, slab `r` and lane half `e`, spread. -/
def spread4 (x : Fin 2 → Fin 2 → FVec F S128x128 .f32) : FVec F S256x512 .bf16 := spread (two (x 0 0) (x 1 0)) (two (x 0 1) (x 1 1))

/-! ## The backward pass -/

/-- `silu`'s derivative. -/
def dsilu (z : FVec F S128x128 .f32) : FVec F S128x128 .f32 :=
  mulf (divf (broadcast S128x128 (Scalar.ofBits .f32 0x3F800000#32)) (addf (broadcast S128x128 (Scalar.ofBits .f32 0x3F800000#32)) (exp (subf (zeros (F := F)) z))))
    (addf (broadcast S128x128 (Scalar.ofBits .f32 0x3F800000#32)) (mulf z (subf (broadcast S128x128 (Scalar.ofBits .f32 0x3F800000#32))
      (divf (broadcast S128x128 (Scalar.ofBits .f32 0x3F800000#32)) (addf (broadcast S128x128 (Scalar.ofBits .f32 0x3F800000#32)) (exp (subf (zeros (F := F)) z)))))))
/-- The gradient of the gate's input. -/
def dgate (dh o z : FVec F S128x128 .f32) : FVec F S128x128 .bf16 :=
  truncf .bf16 (mulf (mulf dh (shapeCast S128x128 o shapeCasts_S128x128_S128x128)) (dsilu z)) bitsLt_bf16_f32
/-- The gradient of one head's logits from its probabilities and their gradient. -/
def dlogits (p dp : FVec F S128x128 .f32) : FVec F S128x128 .f32 :=
  mulf p (subf dp (broadcastTo S128x128 (rowSum (mulf p dp)) broadcasts_S128x1_S128x128))
/-- The gradient of the queries. -/
def dquery (ds : FVec F S256x512 .bf16) (ks : FVec F S512x128 .bf16) : FVec F S256x128 .f32 :=
  mulf (gather4 ds ks) (broadcast S256x128 (Scalar.ofBits .f32 0x3E000000#32))
/-- The products down the columns of the spread form, with the rows `y`. -/
def down (x : FVec F S256x512 .bf16) (y : FVec F S256x128 .bf16) : FVec F S512x128 .f32 :=
  matmul dot_S256x512_S256x128_S512x128_0_0_1_1_n_n none x y (constant S512x128 .f32 0x00000000#32)
/-- Of the four, the block before's: each head in its own lanes. -/
def before (x : FVec F S512x128 .f32) : FVec F S128x128 .f32 :=
  select low (extractStridedSlice S128x128 ![0, 0] x slices_S512x128_o0_0_S128x128) (extractStridedSlice S128x128 ![128, 0] x slices_S512x128_o128_0_S128x128)
/-- Of the four, the own block's. -/
def own (x : FVec F S512x128 .f32) : FVec F S128x128 .f32 :=
  select low (extractStridedSlice S128x128 ![256, 0] x slices_S512x128_o256_0_S128x128) (extractStridedSlice S128x128 ![384, 0] x slices_S512x128_o384_0_S128x128)
/-- The two lane halves summed, key head by key head. -/
def fold (x0 x1 : FVec F S128x128 .f32) : FVec F S128x128 .f32 := select low (addf x0 (swap x0)) (addf x1 (swap x1))
def foldScaled (x0 x1 : FVec F S128x128 .f32) : FVec F S128x128 .f32 :=
  mulf (fold x0 x1) (broadcast S128x128 (Scalar.ofBits .f32 0x3E000000#32))

/-- The sums down the columns that belong to the block before (`0`) and to the own block (`1`). -/
def part : Fin 2 → FVec F S512x128 .f32 → FVec F S128x128 .f32
  | 0 => before
  | 1 => own

/-! ## A grid point -/

/-- What one grid point loads: four slabs of queries, the keys and values of the block before and of the own block, eight
    heads' biases and sinks, what the first block adds, and four slabs of the gate's input, of the gradient and of the
    heads' values that the forward pass saved. -/
structure Blk (F : FTy → Type) where
  q : Fin 4 → FVec F S128x128 .f32
  kp : FVec F S128x128 .f32
  kc : FVec F S128x128 .f32
  vp : FVec F S128x128 .f32
  vc : FVec F S128x128 .f32
  bias : Fin 8 → FVec F S1x128x128 .f32
  sink : Fin 8 → F .f32
  edge : FVec F S128x128 .f32
  z : Fin 4 → FVec F S128x128 .f32
  dh : Fin 4 → FVec F S128x128 .f32
  o : Fin 4 → FVec F S128x128 .f32

namespace Blk
variable (B : Blk F)

def queries : Fin 2 → FVec F S256x128 .bf16
  | 0 => two16 (B.q 0) (B.q 1)
  | 1 => two16 (B.q 2) (B.q 3)
/-- The logits of key head `a`'s query head in slab `r`, lane half `e`. -/
def L (a r e : Fin 2) : FVec F S128x128 .f32 :=
  logits (rows r (pick e (prod4 (B.queries a) (stack a B.kp B.kc)))) (B.bias (head a r e)) B.edge
def P (a r e : Fin 2) : FVec F S128x128 .f32 := probs (B.L a r e) (B.sink (head a r e))
/-- The heads' values. -/
def O (a : Fin 2) : FVec F S256x128 .f32 := gather4 (spread4 (B.P a)) (stack a B.vp B.vc)
def H (a r : Fin 2) : FVec F S128x128 .bf16 := gated (rows r (B.O a)) (B.z (slab a r))
def dO : Fin 2 → FVec F S256x128 .bf16
  | 0 => two16 (mulf (B.dh 0) (silu (B.z 0))) (mulf (B.dh 1) (silu (B.z 1)))
  | 1 => two16 (mulf (B.dh 2) (silu (B.z 2))) (mulf (B.dh 3) (silu (B.z 3)))
def dP (a r e : Fin 2) : FVec F S128x128 .f32 := rows r (pick e (prod4 (B.dO a) (stack a B.vp B.vc)))
def dL (a r e : Fin 2) : FVec F S128x128 .f32 := dlogits (B.P a r e) (B.dP a r e)
def dQ (a r : Fin 2) : FVec F S128x128 .bf16 := truncf .bf16 (rows r (dquery (spread4 (B.dL a)) (stack a B.kp B.kc))) bitsLt_bf16_f32
def dZ (s : Fin 4) : FVec F S128x128 .bf16 := dgate (B.dh s) (B.o s) (B.z s)
/-- What the point adds to the gradient of the keys of the block before (`0`) and of its own (`1`). -/
def dK (w : Fin 2) : FVec F S128x128 .f32 :=
  foldScaled (part w (down (spread4 (B.dL 0)) (B.queries 0))) (part w (down (spread4 (B.dL 1)) (B.queries 1)))
def dV (w : Fin 2) : FVec F S128x128 .f32 :=
  fold (part w (down (spread4 (B.P 0)) (B.dO 0))) (part w (down (spread4 (B.P 1)) (B.dO 1)))
end Blk

end Cert.Block
-- ==== Proof.Loads.lean ====
/- Hand-written, untrusted. WHAT THE BODIES LOAD: a slab of 128 lanes, a whole block, one head's bias. -/
module

public import proofs.«01_k».proof.Proof.Gen.AttnIdeal
public import Idealize.ShloMosaic.Lib.Pipeline.FrameBody
public import Idealize.ShloMosaic.Lib.Pointwise
public import proofs.«01_k».proof.Proof.Block

@[expose] public section

set_option maxRecDepth 16384

noncomputable section

namespace Cert.AttnIdeal.Gen

open Idealize.ShloMosaic Idealize.ShloMosaic.TcCoe Idealize.ShloMosaic.Pointwise Cert.Block

variable {F : FTy → Type} [FloatOps F] [Named F]

/-- Slab `s` of a block of 512 lanes, as the body loads it. -/
def slabOf (arg : Memref sig .tc .vmem S128x512 .f32) (harg : arg.IsWhole) (x : Vec F S128x512 .f32) : Fin 4 → FVec F S128x128 .f32
  | 0 => View.readAt (Elt F) arg.view (Rect.unit (s := S128x512) ![0, 0] S128x128.size inb_S128x512_S128x128_0_0).toLoadRect (harg.unread x)
  | 1 => View.readAt (Elt F) arg.view (Rect.unit (s := S128x512) ![0, 128] S128x128.size inb_S128x512_S128x128_0_128).toLoadRect (harg.unread x)
  | 2 => View.readAt (Elt F) arg.view (Rect.unit (s := S128x512) ![0, 256] S128x128.size inb_S128x512_S128x128_0_256).toLoadRect (harg.unread x)
  | 3 => View.readAt (Elt F) arg.view (Rect.unit (s := S128x512) ![0, 384] S128x128.size inb_S128x512_S128x128_0_384).toLoadRect (harg.unread x)
/-- A block of 128 lanes, as the body loads it. -/
def wholeOf (arg : Memref sig .tc .vmem S128x128 .f32) (harg : arg.IsWhole) (x : Vec F S128x128 .f32) : FVec F S128x128 .f32 :=
  View.readAt (Elt F) arg.view (Rect.unit (s := S128x128) ![0, 0] S128x128.size inb_S128x128_S128x128_0_0).toLoadRect (harg.unread x)
/-- Head `h`'s bias, as the body loads it. -/
def headOf (arg : Memref sig .tc .vmem S8x128x128 .f32) (harg : arg.IsWhole) (x : Vec F S8x128x128 .f32) : Fin 8 → FVec F S1x128x128 .f32
  | 0 => View.readAt (Elt F) arg.view (Rect.unit (s := S8x128x128) ![0, 0, 0] S1x128x128.size inb_S8x128x128_S1x128x128_0_0_0).toLoadRect (harg.unread x)
  | 1 => View.readAt (Elt F) arg.view (Rect.unit (s := S8x128x128) ![1, 0, 0] S1x128x128.size inb_S8x128x128_S1x128x128_1_0_0).toLoadRect (harg.unread x)
  | 2 => View.readAt (Elt F) arg.view (Rect.unit (s := S8x128x128) ![2, 0, 0] S1x128x128.size inb_S8x128x128_S1x128x128_2_0_0).toLoadRect (harg.unread x)
  | 3 => View.readAt (Elt F) arg.view (Rect.unit (s := S8x128x128) ![3, 0, 0] S1x128x128.size inb_S8x128x128_S1x128x128_3_0_0).toLoadRect (harg.unread x)
  | 4 => View.readAt (Elt F) arg.view (Rect.unit (s := S8x128x128) ![4, 0, 0] S1x128x128.size inb_S8x128x128_S1x128x128_4_0_0).toLoadRect (harg.unread x)
  | 5 => View.readAt (Elt F) arg.view (Rect.unit (s := S8x128x128) ![5, 0, 0] S1x128x128.size inb_S8x128x128_S1x128x128_5_0_0).toLoadRect (harg.unread x)
  | 6 => View.readAt (Elt F) arg.view (Rect.unit (s := S8x128x128) ![6, 0, 0] S1x128x128.size inb_S8x128x128_S1x128x128_6_0_0).toLoadRect (harg.unread x)
  | 7 => View.readAt (Elt F) arg.view (Rect.unit (s := S8x128x128) ![7, 0, 0] S1x128x128.size inb_S8x128x128_S1x128x128_7_0_0).toLoadRect (harg.unread x)

theorem slabOf_apply (arg : Memref sig .tc .vmem S128x512 .f32) (harg : arg.IsWhole) (x : Vec F S128x512 .f32) (s : Fin 4) (i l : Fin 128) :
    slabOf arg harg x s (ix2 i l) = x (ix2 i ⟨128 * s.val + l.val, by omega⟩) := by
  fin_cases s
  all_goals
    refine (congrFun (harg.read_unread x) _).trans ?_
    refine congrArg x (funext fun a => ?_)
    fin_cases a <;> (ext; simp [LoadRect.idx, Rect.unit, Rect.toLoadRect])

theorem wholeOf_eq (arg : Memref sig .tc .vmem S128x128 .f32) (harg : arg.IsWhole) (x : Vec F S128x128 .f32) : wholeOf arg harg x = x := by
  funext j
  refine (congrFun (harg.read_unread x) _).trans ?_
  refine congrArg x (funext fun a => ?_)
  fin_cases a <;> (ext; simp [LoadRect.idx, Rect.unit, Rect.toLoadRect])

theorem headOf_apply (arg : Memref sig .tc .vmem S8x128x128 .f32) (harg : arg.IsWhole) (x : Vec F S8x128x128 .f32) (h : Fin 8) (i c : Fin 128) :
    headOf arg harg x h (ix3 0 i c) = x (ix3 h i c) := by
  fin_cases h
  all_goals
    refine (congrFun (harg.read_unread x) _).trans ?_
    refine congrArg x (funext fun a => ?_)
    fin_cases a <;> (ext; simp [LoadRect.idx, Rect.unit, Rect.toLoadRect])

end Cert.AttnIdeal.Gen

end
-- ==== Proof.Pieces0.lean ====
/- Hand-written, untrusted. WHAT THE FORWARD BODY STORES, in the words of Block.lean: per key head the heads' values, slab
   by slab, and their product with the gate. -/
module

public import proofs.«01_k».proof.Proof.Gen.AttnIdeal.Frame.Region0
public import proofs.«01_k».proof.Proof.Loads

@[expose] public section

set_option maxRecDepth 16384

noncomputable section

namespace Cert.AttnIdeal.Gen

open Idealize.ShloMosaic Idealize.ShloMosaic.TcCoe Cert.Block

variable {F : FTy → Type} [FloatOps F] [Named F]
section
variable (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x512 .f32) (harg9 : arg9.IsWhole)
    (x0 : Vec F S16 .f32) (x1 : Vec F S128x512 .f32) (x2 : Vec F S128x128 .f32) (x3 : Vec F S128x128 .f32) (x4 : Vec F S128x128 .f32) (x5 : Vec F S128x128 .f32) (x6 : Vec F S8x128x128 .f32) (x7 : Vec F S128x512 .f32)

/-- The sink of one head: a cell of the array of sinks. -/
def cellOf0 (u v : BitVec 32) (h : ∀ a, k0_off1 i u v a + S1.size a ≤ S16.size a) : F .f32 :=
  View.readAt (Elt F) arg2.view (Rect.unit (s := S16) (k0_off1 i u v) S1.size h).toLoadRect (harg2.unread x0) (Shape.Idx.first (by show 0 < S1.numel; rw [numel1_S1]; exact Nat.one_pos))

def sinkOf0 : Fin 8 → F .f32
  | 0 => cellOf0 i arg2 harg2 x0 0#32 0#32 (k0_off1_inb i 0 0)
  | 1 => cellOf0 i arg2 harg2 x0 0#32 1#32 (k0_off1_inb i 0 1)
  | 2 => cellOf0 i arg2 harg2 x0 2#32 0#32 (k0_off1_inb i 1 0)
  | 3 => cellOf0 i arg2 harg2 x0 2#32 1#32 (k0_off1_inb i 1 1)
  | 4 => cellOf0 i arg2 harg2 x0 4#32 0#32 (k0_off1_inb i 2 0)
  | 5 => cellOf0 i arg2 harg2 x0 4#32 1#32 (k0_off1_inb i 2 1)
  | 6 => cellOf0 i arg2 harg2 x0 6#32 0#32 (k0_off1_inb i 3 0)
  | 7 => cellOf0 i arg2 harg2 x0 6#32 1#32 (k0_off1_inb i 3 1)
/-- What the forward body loads (the last two fields are not used there). -/
def blk0 : Blk F where
  q := slabOf arg3 harg3 x1
  kp := wholeOf arg4 harg4 x2
  kc := wholeOf arg5 harg5 x3
  vp := wholeOf arg6 harg6 x4
  vc := wholeOf arg7 harg7 x5
  bias := headOf arg8 harg8 x6
  sink := sinkOf0 i arg2 harg2 x0
  edge := edge (BitVec.ofNat 32 (i 1).val)
  z := slabOf arg9 harg9 x7
  dh := slabOf arg9 harg9 x7
  o := slabOf arg9 harg9 x7

theorem pieces0_8 (c : Dev nD) (arg10 : Memref sig .tc .vmem S128x512 .f32) (harg10 : arg10.IsWhole) (arg11 : Memref sig .tc .vmem S128x512 .bf16) (harg11 : arg11.IsWhole) :
   (kernelRun0_A c i arg2 harg2 arg3 harg3 arg4 harg4 arg5 harg5 arg6 harg6 arg7 harg7 arg8 harg8 arg9 harg9 arg10 harg10 arg11 harg11 x0 x1 x2 x3 x4 x5 x6 x7).1 =
     (let B := (blk0 i arg2 harg2 arg3 harg3 arg4 harg4 arg5 harg5 arg6 harg6 arg7 harg7 arg8 harg8 arg9 harg9 x0 x1 x2 x3 x4 x5 x6 x7)
     [⟨Rect.unit (s := S128x512) ![0, 384] ![128, 128] inb_S128x512_S128x128_0_384, rows1 (B.O 1)⟩,
      ⟨Rect.unit (s := S128x512) ![0, 256] ![128, 128] inb_S128x512_S128x128_0_256, rows0 (B.O 1)⟩,
      ⟨Rect.unit (s := S128x512) ![0, 128] ![128, 128] inb_S128x512_S128x128_0_128, rows1 (B.O 0)⟩,
      ⟨Rect.unit (s := S128x512) ![0, 0] ![128, 128] inb_S128x512_S128x128_0_0, rows0 (B.O 0)⟩]) := by
  sl_kernel_rfl

theorem pieces0_9 (c : Dev nD) (arg10 : Memref sig .tc .vmem S128x512 .f32) (harg10 : arg10.IsWhole) (arg11 : Memref sig .tc .vmem S128x512 .bf16) (harg11 : arg11.IsWhole) :
   (kernelRun0_A c i arg2 harg2 arg3 harg3 arg4 harg4 arg5 harg5 arg6 harg6 arg7 harg7 arg8 harg8 arg9 harg9 arg10 harg10 arg11 harg11 x0 x1 x2 x3 x4 x5 x6 x7).2.1 =
     (let B := (blk0 i arg2 harg2 arg3 harg3 arg4 harg4 arg5 harg5 arg6 harg6 arg7 harg7 arg8 harg8 arg9 harg9 x0 x1 x2 x3 x4 x5 x6 x7)
     [⟨Rect.unit (s := S128x512) ![0, 384] ![128, 128] inb_S128x512_S128x128_0_384, B.H 1 1⟩,
      ⟨Rect.unit (s := S128x512) ![0, 256] ![128, 128] inb_S128x512_S128x128_0_256, B.H 1 0⟩,
      ⟨Rect.unit (s := S128x512) ![0, 128] ![128, 128] inb_S128x512_S128x128_0_128, B.H 0 1⟩,
      ⟨Rect.unit (s := S128x512) ![0, 0] ![128, 128] inb_S128x512_S128x128_0_0, B.H 0 0⟩]) := by sl_kernel_rfl
end
end Cert.AttnIdeal.Gen

end
-- ==== Proof.BlockRead.lean ====
/- Hand-written, untrusted. THE BLOCK'S VECTOR FUNCTIONS (Block.lean) READ AT AN INDEX over the extended reals: the
   products with the stacked keys or values are sums over the 64 lanes of one head, of the block before where the key
   lies there and of the own block elsewhere; the spread form's products sum over the 128 key columns. -/
module

public import proofs.«01_k».proof.Proof.Block
public import proofs.«01_k».proof.Proof.Softmax
public import Idealize.ShloMosaic.Lib.Pointwise
public import Idealize.ShloMosaic.Lib.WordCmp

@[expose] public section

set_option maxRecDepth 16384

noncomputable section

namespace Cert.Block

open Idealize.ShloMosaic Idealize.ShloMosaic.TcCoe Cert.AttnIdeal Cert.AttnIdeal.Gen
open Idealize.ShloMosaic.Pointwise

/-- Row `i` of block `r` of two. -/
abbrev at2 (r : Fin 2) (i : Fin 128) : Fin 256 := ⟨128 * r.val + i.val, by omega⟩
/-- Row `c` of block `u` of four. -/
abbrev at4 (u : Fin 4) (c : Fin 128) : Fin 512 := ⟨128 * u.val + c.val, by omega⟩
/-- Lane `d` of half `e`. -/
abbrev lane (e : Fin 2) (d : Fin 64) : Fin 128 := ⟨64 * e.val + d.val, by omega⟩
abbrev laneHalf (l : Fin 128) : Fin 2 := ⟨l.val / 64, by omega⟩
abbrev laneIn (l : Fin 128) : Fin 64 := ⟨l.val % 64, by omega⟩

theorem ofNat_slt (a b : ℕ) (ha : a < 2 ^ 31) (hb : b < 2 ^ 31) :
    IntOp.cmpi CmpIPredicate.slt (BitVec.ofNat 32 a) (BitVec.ofNat 32 b) = if a < b then 1#1 else 0#1 := by
  unfold IntOp.cmpi
  have h : (BitVec.ofNat 32 a).slt (BitVec.ofNat 32 b) = decide (a < b) := by
    rw [BitVec.slt_eq_decide]
    have e1 : (BitVec.ofNat 32 a).toInt = a := by rw [BitVec.toInt_eq_toNat_of_lt] <;> simp <;> omega
    have e2 : (BitVec.ofNat 32 b).toInt = b := by rw [BitVec.toInt_eq_toNat_of_lt] <;> simp <;> omega
    rw [e1, e2]; simp
  simp only [h]
  by_cases hh : a < b <;> simp [hh]

theorem ofNat_sgt (a b : ℕ) (ha : a < 2 ^ 31) (hb : b < 2 ^ 31) :
    IntOp.cmpi CmpIPredicate.sgt (BitVec.ofNat 32 a) (BitVec.ofNat 32 b) = if b < a then 1#1 else 0#1 := by
  have := ofNat_slt b a hb ha
  unfold IntOp.cmpi at this ⊢
  exact this

theorem low_apply (r l : Fin 128) : low (ix2 r l) = if l.val < 64 then 1#1 else 0#1 := by
  pointwise [low]
  exact ofNat_slt l.val 64 (by omega) (by omega)

theorem prev_apply (i c : Fin 128) : prev (ix2 i c) = if i.val < c.val then 1#1 else 0#1 := by
  pointwise [prev]
  exact ofNat_sgt c.val i.val (by omega) (by omega)

theorem select_if {α : Type} (p : Prop) [Decidable p] (x y : α) :
    Scalar.select (if p then 1#1 else 0#1) x y = if p then x else y := by
  by_cases h : p <;> simp [h, Scalar.select]

theorem prev2_read (r : Fin 256) (c : Fin 128) :
    prev2 (ix2 r c) = if h : r.val < 128 then prev (ix2 ⟨r.val, h⟩ c) else prev (ix2 ⟨r.val - 128, by omega⟩ c) := by
  pointwise [prev2]

theorem prev2_apply (r : Fin 2) (i c : Fin 128) : prev2 (ix2 (at2 r i) c) = if i.val < c.val then 1#1 else 0#1 := by
  rw [prev2_read, ← prev_apply]
  fin_cases r <;> simp

theorem two_read (x y : FVec Ideal S128x128 .f32) (r : Fin 256) (l : Fin 128) :
    two x y (ix2 r l) = if h : r.val < 128 then x (ix2 ⟨r.val, h⟩ l) else y (ix2 ⟨r.val - 128, by omega⟩ l) := by
  pointwise [two]

theorem two_apply (x : Fin 2 → FVec Ideal S128x128 .f32) (r : Fin 2) (i l : Fin 128) :
    two (x 0) (x 1) (ix2 (at2 r i) l) = x r (ix2 i l) := by
  rw [two_read]
  fin_cases r <;> simp

theorem rows0_read (x : FVec Ideal S256x128 .f32) (i l : Fin 128) : rows0 x (ix2 i l) = x (ix2 ⟨i.val, by omega⟩ l) := by
  pointwise [rows0]
theorem rows1_read (x : FVec Ideal S256x128 .f32) (i l : Fin 128) : rows1 x (ix2 i l) = x (ix2 ⟨128 + i.val, by omega⟩ l) := by
  pointwise [rows1]

theorem rows_apply (x : FVec Ideal S256x128 .f32) (r : Fin 2) (i l : Fin 128) : rows r x (ix2 i l) = x (ix2 (at2 r i) l) := by
  fin_cases r
  · exact (rows0_read x i l).trans (by congr 2; ext; simp)
  · exact (rows1_read x i l).trans (by congr 2)

/-! ## The stacked blocks -/

theorem four_read (x y z w : FVec Ideal S128x128 .bf16) (r : Fin 512) (l : Fin 128) :
    four x y z w (ix2 r l) = if h : r.val < 128 then x (ix2 ⟨r.val, h⟩ l) else if h : r.val - 128 < 128 then y (ix2 ⟨r.val - 128, h⟩ l)
      else if h : r.val - 128 - 128 < 128 then z (ix2 ⟨r.val - 128 - 128, h⟩ l) else w (ix2 ⟨r.val - 128 - 128 - 128, by omega⟩ l) := by
  pointwise [four]

theorem four_apply (x : Fin 4 → FVec Ideal S128x128 .bf16) (u : Fin 4) (c l : Fin 128) :
    four (x 0) (x 1) (x 2) (x 3) (ix2 (at4 u c) l) = x u (ix2 c l) := by
  rw [four_read]
  have h2 : ∀ c : Fin 128, 256 + c.val - 128 - 128 = c.val := fun c => by omega
  have h3 : ∀ c : Fin 128, 384 + c.val - 128 - 128 - 128 = c.val := fun c => by omega
  have h4 : ∀ c : Fin 128, ¬ (256 + c.val - 128 < 128) := fun c => by omega
  have h5 : ∀ c : Fin 128, ¬ (384 + c.val - 128 < 128) := fun c => by omega
  have h6 : ∀ c : Fin 128, ¬ (384 + c.val - 128 - 128 < 128) := fun c => by omega
  have h7 : ∀ c : Fin 128, ¬ (256 + c.val < 128) := fun c => by omega
  have h8 : ∀ c : Fin 128, ¬ (384 + c.val < 128) := fun c => by omega
  fin_cases u <;> simp [h2, h3, h4, h5, h6, h7, h8]

/-- One head of a pair in the lanes of half `e`, nothing elsewhere. -/
def headAt (a e : Fin 2) (x : FVec Ideal S128x128 .f32) (c l : Fin 128) : EReal :=
  if laneHalf l = e then x (ix2 c (lane a (laneIn l))) else 0

theorem half00_apply (x : FVec Ideal S128x128 .f32) (c l : Fin 128) : half00 x (ix2 c l) = headAt 0 0 x c l := by
  have h := low_apply c l
  pointwise [half00, zeros]
  rw [h, select_if]
  unfold headAt
  by_cases hl : l.val < 64
  · rw [if_pos hl, if_pos (by ext; simp; omega)]
    congr 2; ext; simp; omega
  · rw [if_neg hl, if_neg (by intro e; have := congrArg Fin.val e; simp at this; omega)]

theorem half01_apply (x : FVec Ideal S128x128 .f32) (c l : Fin 128) : half01 x (ix2 c l) = headAt 0 1 x c l := by
  have h := low_apply c l
  pointwise [half01, zeros, swap]
  rw [h, select_if]
  unfold headAt
  by_cases hl : l.val < 64
  · rw [if_pos hl, if_neg (by intro e; have := congrArg Fin.val e; simp at this; omega)]
  · rw [if_neg hl, if_pos (by ext; simp; omega)]
    congr 2; ext; simp; omega

theorem half10_apply (x : FVec Ideal S128x128 .f32) (c l : Fin 128) : half10 x (ix2 c l) = headAt 1 0 x c l := by
  have h := low_apply c l
  pointwise [half10, zeros, swap]
  rw [h, select_if]
  unfold headAt
  by_cases hl : l.val < 64
  · rw [if_pos hl, if_pos (by ext; simp; omega)]
    congr 2; ext; simp; omega
  · rw [if_neg hl, if_neg (by intro e; have := congrArg Fin.val e; simp at this; omega)]

theorem half11_apply (x : FVec Ideal S128x128 .f32) (c l : Fin 128) : half11 x (ix2 c l) = headAt 1 1 x c l := by
  have h := low_apply c l
  pointwise [half11, zeros]
  rw [h, select_if]
  unfold headAt
  by_cases hl : l.val < 64
  · rw [if_pos hl, if_neg (by intro e; have := congrArg Fin.val e; simp at this; omega)]
  · rw [if_neg hl, if_pos (by ext; simp; omega)]
    congr 2; ext; simp; omega

/-- Block `u` of a stack: of the block before (`u < 2`) or the own, the head in the lanes of half `u % 2`. -/
theorem stack_apply (a : Fin 2) (xp xc : FVec Ideal S128x128 .f32) (s e : Fin 2) (c l : Fin 128) :
    stack a xp xc (ix2 (at4 ⟨2 * s.val + e.val, by omega⟩ c) l) = headAt a e (if s = 0 then xp else xc) c l := by
  fin_cases a
  · show stack0 xp xc _ = _
    unfold stack0
    refine (four_apply ![half00 xp, half01 xp, half00 xc, half01 xc] _ c l).trans ?_
    fin_cases s <;> fin_cases e <;> simp [half00_apply, half01_apply]
  · show stack1 xp xc _ = _
    unfold stack1
    refine (four_apply ![half10 xp, half11 xp, half10 xc, half11 xc] _ c l).trans ?_
    fin_cases s <;> fin_cases e <;> simp [half10_apply, half11_apply]

/-! ## Sums over lanes and over stacked rows -/

theorem sum_lanes {α : Type*} [AddCommMonoid α] (f : Fin 128 → α) : ∑ l, f l = ∑ d, f (lane 0 d) + ∑ d, f (lane 1 d) := by
  rw [show (∑ l, f l) = ∑ l : Fin (64 + 64), f ⟨l.val, l.isLt⟩ from rfl, Fin.sum_univ_add]
  refine congrArg₂ _ (Finset.sum_congr rfl fun d _ => congrArg f ?_) (Finset.sum_congr rfl fun d _ => congrArg f ?_) <;>
    ext <;> simp <;> omega

theorem sum_two {α : Type*} [AddCommMonoid α] (f : Fin 256 → α) : ∑ l, f l = ∑ d, f (at2 0 d) + ∑ d, f (at2 1 d) := by
  rw [show (∑ l, f l) = ∑ l : Fin (128 + 128), f ⟨l.val, l.isLt⟩ from rfl, Fin.sum_univ_add]
  refine congrArg₂ _ (Finset.sum_congr rfl fun d _ => congrArg f ?_) (Finset.sum_congr rfl fun d _ => congrArg f ?_) <;>
    ext <;> simp <;> omega

theorem sum_four {α : Type*} [AddCommMonoid α] (f : Fin 512 → α) :
    ∑ l, f l = (∑ d, f (at4 0 d) + ∑ d, f (at4 1 d)) + (∑ d, f (at4 2 d) + ∑ d, f (at4 3 d)) := by
  rw [show (∑ l, f l) = ∑ l : Fin (256 + 256), f ⟨l.val, l.isLt⟩ from rfl, Fin.sum_univ_add, sum_two, sum_two]
  refine congrArg₂ _ (congrArg₂ _ ?_ ?_) (congrArg₂ _ ?_ ?_) <;>
    refine Finset.sum_congr rfl fun d _ => congrArg f ?_ <;> ext <;> simp <;> try omega

/-- A row's product with the lanes of one head. -/
theorem sum_headAt (a e : Fin 2) (x : FVec Ideal S128x128 .f32) (c : Fin 128) (f : Fin 128 → EReal) :
    ∑ l, f l * headAt a e x c l = ∑ d : Fin 64, f (lane e d) * x (ix2 c (lane a d)) := by
  have hh : ∀ (e' : Fin 2) (d : Fin 64), laneHalf (lane e' d) = e' := fun e' d => by ext; simp; omega
  have hi : ∀ (e' : Fin 2) (d : Fin 64), laneIn (lane e' d) = d := fun e' d => by ext; simp
  rw [sum_lanes]
  simp only [headAt, hh, hi]
  fin_cases e <;> simp

/-! ## The products -/

theorem prod4_read (q : FVec Ideal S256x128 .bf16) (ks : FVec Ideal S512x128 .bf16) (r : Fin 256) (k : Fin 512) :
    prod4 q ks (ix2 r k) = ∑ l : Fin 128, q (ix2 r l) * ks (ix2 k l) := by
  pointwise [prod4]

theorem two16_eq (x y : FVec Ideal S128x128 .f32) (j : S256x128.Idx) : two16 x y j = two x y j := rfl

theorem pick0_read (x : FVec Ideal S256x512 .f32) (r : Fin 256) (c : Fin 128) :
    pick0 x (ix2 r c) = Scalar.select (prev2 (ix2 r c)) (x (ix2 r ⟨c.val, by omega⟩)) (x (ix2 r ⟨256 + c.val, by omega⟩)) := by
  pointwise [pick0]
theorem pick1_read (x : FVec Ideal S256x512 .f32) (r : Fin 256) (c : Fin 128) :
    pick1 x (ix2 r c) = Scalar.select (prev2 (ix2 r c)) (x (ix2 r ⟨128 + c.val, by omega⟩)) (x (ix2 r ⟨384 + c.val, by omega⟩)) := by
  pointwise [pick1]

theorem pick_apply (x : FVec Ideal S256x512 .f32) (e r : Fin 2) (i c : Fin 128) :
    pick e x (ix2 (at2 r i) c) = if i.val < c.val then x (ix2 (at2 r i) (at4 ⟨2 * (0 : Fin 2).val + e.val, by omega⟩ c))
      else x (ix2 (at2 r i) (at4 ⟨2 * (1 : Fin 2).val + e.val, by omega⟩ c)) := by
  fin_cases e
  · show pick0 x _ = _
    rw [pick0_read, prev2_apply, select_if]
    congr 3 <;> ext <;> simp
  · show pick1 x _ = _
    rw [pick1_read, prev2_apply, select_if]
    congr 3

/-- A row's products with one head's keys: of the block before where the key lies there, else of the own block. -/
theorem keyProd (q : Fin 2 → FVec Ideal S128x128 .f32) (a e r : Fin 2) (kp kc : FVec Ideal S128x128 .f32) (i c : Fin 128) :
    rows r (pick e (prod4 (two16 (q 0) (q 1)) (stack a kp kc))) (ix2 i c)
      = ∑ d : Fin 64, q r (ix2 i (lane e d)) * (if i.val < c.val then kp else kc) (ix2 c (lane a d)) := by
  rw [rows_apply, pick_apply]
  simp only [prod4_read, two16_eq, two_apply, stack_apply, sum_headAt]
  split <;> simp

theorem spread_read (x0 x1 : FVec Ideal S256x128 .f32) (r : Fin 256) (k : Fin 512) :
    spread x0 x1 (ix2 r k) = if h : k.val < 128 then Scalar.select (prev2 (ix2 r ⟨k.val, h⟩)) (x0 (ix2 r ⟨k.val, h⟩)) 0
      else if h : k.val - 128 < 128 then Scalar.select (prev2 (ix2 r ⟨k.val - 128, h⟩)) (x1 (ix2 r ⟨k.val - 128, h⟩)) 0
      else if h : k.val - 128 - 128 < 128 then Scalar.select (prev2 (ix2 r ⟨k.val - 128 - 128, h⟩)) 0 (x0 (ix2 r ⟨k.val - 128 - 128, h⟩))
      else Scalar.select (prev2 (ix2 r ⟨k.val - 128 - 128 - 128, by omega⟩)) 0 (x1 (ix2 r ⟨k.val - 128 - 128 - 128, by omega⟩)) := by
  pointwise [spread, zeros2]

theorem spread4_apply (x : Fin 2 → Fin 2 → FVec Ideal S128x128 .f32) (r : Fin 2) (i : Fin 128) (s e : Fin 2) (c : Fin 128) :
    spread4 x (ix2 (at2 r i) (at4 ⟨2 * s.val + e.val, by omega⟩ c))
      = if (i.val < c.val ↔ s = 0) then x r e (ix2 i c) else 0 := by
  unfold spread4
  have h2 : ∀ c : Fin 128, 256 + c.val - 128 - 128 = c.val := fun c => by omega
  have h3 : ∀ c : Fin 128, 384 + c.val - 128 - 128 - 128 = c.val := fun c => by omega
  have h4 : ∀ c : Fin 128, ¬ (256 + c.val - 128 < 128) := fun c => by omega
  have h5 : ∀ c : Fin 128, ¬ (384 + c.val - 128 < 128) := fun c => by omega
  have h6 : ∀ c : Fin 128, ¬ (384 + c.val - 128 - 128 < 128) := fun c => by omega
  have h7 : ∀ c : Fin 128, ¬ (256 + c.val < 128) := fun c => by omega
  have h8 : ∀ c : Fin 128, ¬ (384 + c.val < 128) := fun c => by omega
  rw [spread_read]
  by_cases hh : i.val < c.val <;> fin_cases s <;> fin_cases e <;>
    simp [prev2_apply, two_apply (fun r => x r 0), two_apply (fun r => x r 1), h2, h3, h4, h5, h6, h7, h8, Scalar.select, hh]

theorem gather4_read (p : FVec Ideal S256x512 .bf16) (vs : FVec Ideal S512x128 .bf16) (r : Fin 256) (l : Fin 128) :
    gather4 p vs (ix2 r l) = ∑ k : Fin 512, p (ix2 r k) * vs (ix2 k l) := by
  pointwise [gather4]

/-- The spread rows' products with the stacked blocks: a sum over the 128 key columns. -/
theorem keySum (x : Fin 2 → Fin 2 → FVec Ideal S128x128 .f32) (a r : Fin 2) (kp kc : FVec Ideal S128x128 .f32) (i l : Fin 128) :
    gather4 (spread4 x) (stack a kp kc) (ix2 (at2 r i) l)
      = ∑ c : Fin 128, x r (laneHalf l) (ix2 i c) * (if i.val < c.val then kp else kc) (ix2 c (lane a (laneIn l))) := by
  have hs := fun s e c => spread4_apply x r i s e c
  have hk := fun s e c => stack_apply a kp kc s e c l
  have s00 := hs 0 0; have s01 := hs 0 1; have s10 := hs 1 0; have s11 := hs 1 1
  have k00 := hk 0 0; have k01 := hk 0 1; have k10 := hk 1 0; have k11 := hk 1 1
  simp only [Fin.isValue, Fin.val_zero, Fin.val_one, mul_zero, mul_one, zero_add, add_zero] at s00 s01 s10 s11 k00 k01 k10 k11
  rw [gather4_read, sum_four]
  rw [show (0 : Fin 4) = ⟨0, by omega⟩ from rfl, show (1 : Fin 4) = ⟨1, by omega⟩ from rfl, show (2 : Fin 4) = ⟨2, by omega⟩ from rfl,
    show (3 : Fin 4) = ⟨2 + 1, by omega⟩ from rfl]
  simp only [s00, s01, s10, s11, k00, k01, k10, k11, ← Finset.sum_add_distrib]
  refine Finset.sum_congr rfl fun c _ => ?_
  unfold headAt
  have : laneHalf l = 0 ∨ laneHalf l = 1 := by
    rcases laneHalf l with ⟨v, hv⟩
    interval_cases v
    · exact Or.inl rfl
    · exact Or.inr rfl
  by_cases hh : i.val < c.val <;> rcases this with e | e <;> simp [e, hh]

theorem down_read (x : FVec Ideal S256x512 .bf16) (y : FVec Ideal S256x128 .bf16) (k : Fin 512) (l : Fin 128) :
    down x y (ix2 k l) = ∑ r : Fin 256, x (ix2 r k) * y (ix2 r l) := by
  pointwise [down]

end Cert.Block

end
-- ==== Proof.BlockValue.lean ====
/- Hand-written, untrusted. ONE GRID POINT OVER THE REALS: when everything a grid point loads is a real number, every
   vector it computes is the real one written here: the masked softmax with a sink over the 128 key columns, the heads'
   values and their gate, and of the backward pass the gradients of logits, queries, gate input, keys and values. -/
module

public import proofs.«01_k».proof.Proof.BlockRead
public import Idealize.ShloMosaic.Lib.IdealHost

@[expose] public section

set_option maxRecDepth 16384

noncomputable section

namespace Cert.Block

open Idealize.ShloMosaic Idealize.ShloMosaic.TcCoe Cert.AttnIdeal Cert.AttnIdeal.Gen
open Idealize.ShloMosaic.Pointwise

/-! ## Constants -/

theorem eighth_f32 : Ideal.ofBits .f32 1040187392#32 = (((1 : ℝ) / 8 : ℝ) : EReal) := by
  simp [Ideal.ofBits, Ideal.ieee, -EReal.coe_mul]; norm_num

theorem neg_inf_f32 : Ideal.ofBits .f32 4286578688#32 = ⊥ := by
  simp [Ideal.ofBits, Ideal.ieee]

theorem mask_named : Named.named (F := Ideal) κ "mask" (φ := .f32) 4048155338#32 = (⊥ : EReal) := by
  show (κ "mask").getD (Ideal.ofBits .f32 4048155338#32) = ⊥
  rfl

/-! ## The gate -/

/-- The logistic function. -/
def sig (z : ℝ) : ℝ := 1 / (1 + Real.exp (-z))

theorem sig_ideal (z : ℝ) : Ideal.div 1 (1 + Ideal.exp (0 - (z : EReal))) = ((sig z : ℝ) : EReal) := by
  rw [show (0 : EReal) = ((0 : ℝ) : EReal) from rfl, ← EReal.coe_sub, Ideal.exp_coe, zero_sub,
    show (1 : EReal) = ((1 : ℝ) : EReal) from rfl, ← EReal.coe_add, Row.div_coe _ (by positivity)]
  rfl

theorem silu_read (z : FVec Ideal S128x128 .f32) (i l : Fin 128) :
    silu z (ix2 i l) = z (ix2 i l) * Ideal.div 1 (1 + Ideal.exp (0 - z (ix2 i l))) := by
  pointwise [silu, zeros]
theorem dsilu_read (z : FVec Ideal S128x128 .f32) (i l : Fin 128) :
    dsilu z (ix2 i l) = Ideal.div 1 (1 + Ideal.exp (0 - z (ix2 i l)))
      * (1 + z (ix2 i l) * (1 - Ideal.div 1 (1 + Ideal.exp (0 - z (ix2 i l))))) := by
  pointwise [dsilu, zeros]
theorem gated_read (o z : FVec Ideal S128x128 .f32) (i l : Fin 128) : gated o z (ix2 i l) = o (ix2 i l) * silu z (ix2 i l) := by
  pointwise [gated]
theorem dgate_read (dh o z : FVec Ideal S128x128 .f32) (i l : Fin 128) :
    dgate dh o z (ix2 i l) = dh (ix2 i l) * o (ix2 i l) * dsilu z (ix2 i l) := by
  pointwise [dgate]

/-! ## Rows -/

theorem logits_read (s : FVec Ideal S128x128 .f32) (bias : FVec Ideal S1x128x128 .f32) (ed : FVec Ideal S128x128 .f32) (i c : Fin 128) :
    logits s bias ed (ix2 i c) = s (ix2 i c) * (((1 : ℝ) / 8 : ℝ) : EReal) + bias (ix3 0 i c) + ed (ix2 i c) := by
  rw [← eighth_f32]; pointwise [logits]

theorem edge_read (n : BitVec 32) (i c : Fin 128) :
    edge (F := Ideal) n (ix2 i c) = if n = 0#32 ∧ i.val < c.val then ⊥ else 0 := by
  have h := prev_apply i c
  have hm := mask_named
  pointwise [edge]
  rw [h, hm]
  have hc : Scalar.cmpi CmpIPredicate.eq n 0#32 = if n = 0#32 then 1#1 else 0#1 := by
    unfold Scalar.cmpi IntOp.cmpi
    by_cases hn : n = 0#32
    · simp [hn]
    · have : (n == 0#32) = false := beq_eq_false_iff_ne.mpr hn
      simp [hn, this]
  rw [hc]
  by_cases hn : n = 0#32 <;> by_cases hc : i.val < c.val <;> simp [hn, hc, IntOp.andi, Scalar.select]

theorem probs_read (L : FVec Ideal S128x128 .f32) (b : EReal) (i c : Fin 128) :
    ∃ m : EReal, m = max (Finset.univ.fold max ⊥ fun x => L (ix2 i x)) b ∧
      probs (F := Ideal) L b (ix2 i c) = Ideal.exp (L (ix2 i c) - m) *
        Ideal.div 1 ((∑ x, Ideal.exp (L (ix2 i x) - m)) + Ideal.exp (b - m)) := by
  refine ⟨_, rfl, ?_⟩
  rw [← neg_inf_f32]
  pointwise [probs, sinv, ssink, rowSum, sexp, smax]

theorem probs_real (L : FVec Ideal S128x128 .f32) (M : Fin 128 → Bool) (l : Fin 128 → ℝ) (b : ℝ) (i c : Fin 128)
    (hL : ∀ x, L (ix2 i x) = Row.logit M l x) : probs (F := Ideal) L (b : EReal) (ix2 i c) = ((Row.prob M l b c : ℝ) : EReal) := by
  obtain ⟨m, hm, hp⟩ := probs_read L (b : EReal) i c
  simp only [hL] at hm hp
  obtain ⟨r, hr⟩ := Row.max_real Finset.univ (fun x => Row.logit M l x) (Row.logit_ne_top M l) b
  rw [hp, hm, hr, Row.prob_recip]

theorem dlogits_read (p dp : FVec Ideal S128x128 .f32) (i c : Fin 128) :
    dlogits (F := Ideal) p dp (ix2 i c) = p (ix2 i c) * (dp (ix2 i c) - ∑ x, p (ix2 i x) * dp (ix2 i x)) := by
  pointwise [dlogits, rowSum]

theorem dquery_read (ds : FVec Ideal S256x512 .bf16) (ks : FVec Ideal S512x128 .bf16) (r : Fin 256) (l : Fin 128) :
    dquery ds ks (ix2 r l) = gather4 ds ks (ix2 r l) * (((1 : ℝ) / 8 : ℝ) : EReal) := by
  rw [← eighth_f32]; pointwise [dquery]

theorem mulf_read (x y : FVec Ideal S128x128 .f32) (i l : Fin 128) : mulf x y (ix2 i l) = x (ix2 i l) * y (ix2 i l) := by
  pointwise []

/-! ## Sums down the columns -/

theorem before_read (x : FVec Ideal S512x128 .f32) (c l : Fin 128) :
    before x (ix2 c l) = Scalar.select (low (ix2 c l)) (x (ix2 ⟨c.val, by omega⟩ l)) (x (ix2 ⟨128 + c.val, by omega⟩ l)) := by
  pointwise [before]
theorem own_read (x : FVec Ideal S512x128 .f32) (c l : Fin 128) :
    own x (ix2 c l) = Scalar.select (low (ix2 c l)) (x (ix2 ⟨256 + c.val, by omega⟩ l)) (x (ix2 ⟨384 + c.val, by omega⟩ l)) := by
  pointwise [own]

theorem part_apply (w e : Fin 2) (x : FVec Ideal S512x128 .f32) (c : Fin 128) (d : Fin 64) :
    part w x (ix2 c (lane e d)) = x (ix2 (at4 ⟨2 * w.val + e.val, by omega⟩ c) (lane e d)) := by
  fin_cases w
  · show before x _ = _
    rw [before_read, low_apply, select_if]
    fin_cases e <;> simp <;> congr 2 <;> ext <;> simp
  · show own x _ = _
    rw [own_read, low_apply, select_if]
    fin_cases e <;> simp <;> congr 2 <;> ext <;> simp

/-- The rows' products down the columns of the spread form. -/
theorem colSum (x : Fin 2 → Fin 2 → FVec Ideal S128x128 .f32) (y : Fin 2 → FVec Ideal S128x128 .f32) (w e : Fin 2) (c : Fin 128) (d : Fin 64) :
    part w (down (spread4 x) (two16 (y 0) (y 1))) (ix2 c (lane e d))
      = ∑ r : Fin 2, ∑ i : Fin 128, (if (i.val < c.val ↔ w = 0) then x r e (ix2 i c) else 0) * y r (ix2 i (lane e d)) := by
  rw [part_apply, down_read, sum_two, Fin.sum_univ_two]
  simp only [spread4_apply, two16_eq, two_apply]

theorem fold_read (x0 x1 : FVec Ideal S128x128 .f32) (c l : Fin 128) :
    fold x0 x1 (ix2 c l) = Scalar.select (low (ix2 c l)) (x0 (ix2 c l) + x0 (ix2 c ⟨(l.val + 128 - 64) % 128, Nat.mod_lt _ (by omega)⟩))
      (x1 (ix2 c l) + x1 (ix2 c ⟨(l.val + 128 - 64) % 128, Nat.mod_lt _ (by omega)⟩)) := by
  pointwise [fold, swap]

theorem fold_apply (x : Fin 2 → FVec Ideal S128x128 .f32) (a : Fin 2) (c : Fin 128) (d : Fin 64) :
    fold (x 0) (x 1) (ix2 c (lane a d)) = ∑ e : Fin 2, x a (ix2 c (lane e d)) := by
  rw [fold_read, low_apply, select_if, Fin.sum_univ_two]
  fin_cases a
  · rw [if_pos (by show 64 * 0 + d.val < 64; omega)]
    congr 3; ext; show (64 * 0 + d.val + 128 - 64) % 128 = 64 * 1 + d.val; omega
  · rw [if_neg (by show ¬ (64 * 1 + d.val < 64); omega), add_comm]
    congr 3; ext; show (64 * 1 + d.val + 128 - 64) % 128 = 64 * 0 + d.val; omega

theorem foldScaled_read (x0 x1 : FVec Ideal S128x128 .f32) (c l : Fin 128) :
    foldScaled x0 x1 (ix2 c l) = fold x0 x1 (ix2 c l) * (((1 : ℝ) / 8 : ℝ) : EReal) := by
  rw [← eighth_f32]; pointwise [foldScaled]

/-! ## The grid point over the reals -/

/-- What a grid point loads, as real numbers, and whether it is the first block of its pair of heads. -/
structure RBlk where
  q : Fin 4 → Fin 128 → Fin 128 → ℝ
  kp : Fin 128 → Fin 128 → ℝ
  kc : Fin 128 → Fin 128 → ℝ
  vp : Fin 128 → Fin 128 → ℝ
  vc : Fin 128 → Fin 128 → ℝ
  bias : Fin 8 → Fin 128 → Fin 128 → ℝ
  sink : Fin 8 → ℝ
  first : Bool
  z : Fin 4 → Fin 128 → Fin 128 → ℝ
  dh : Fin 4 → Fin 128 → Fin 128 → ℝ
  o : Fin 4 → Fin 128 → Fin 128 → ℝ

namespace RBlk
variable (R : RBlk)

/-- Query row `i` attends key column `c`. -/
def M (i c : Fin 128) : Bool := !(R.first && decide (i.val < c.val))
/-- The key's row: of the block before after the query's own column. -/
def key (xp xc : Fin 128 → Fin 128 → ℝ) (i c l : Fin 128) : ℝ := if i.val < c.val then xp c l else xc c l
def l (a r e : Fin 2) (i c : Fin 128) : ℝ :=
  (∑ d : Fin 64, R.q (slab a r) i (lane e d) * key R.kp R.kc i c (lane a d)) * (1 / 8) + R.bias (head a r e) i c
def P (a r e : Fin 2) (i c : Fin 128) : ℝ := Row.prob (R.M i) (R.l a r e i) (R.sink (head a r e)) c
def O (a r : Fin 2) (i l : Fin 128) : ℝ := ∑ c : Fin 128, R.P a r (laneHalf l) i c * key R.vp R.vc i c (lane a (laneIn l))
def H (a r : Fin 2) (i l : Fin 128) : ℝ := R.O a r i l * (R.z (slab a r) i l * sig (R.z (slab a r) i l))
def dO (s : Fin 4) (i l : Fin 128) : ℝ := R.dh s i l * (R.z s i l * sig (R.z s i l))
def dP (a r e : Fin 2) (i c : Fin 128) : ℝ := ∑ d : Fin 64, R.dO (slab a r) i (lane e d) * key R.vp R.vc i c (lane a d)
def dL (a r e : Fin 2) (i c : Fin 128) : ℝ := Row.dlog (R.M i) (R.l a r e i) (R.sink (head a r e)) (R.dP a r e i) c
def dQ (a r : Fin 2) (i l : Fin 128) : ℝ := (∑ c : Fin 128, R.dL a r (laneHalf l) i c * key R.kp R.kc i c (lane a (laneIn l))) * (1 / 8)
def dZ (s : Fin 4) (i l : Fin 128) : ℝ := R.dh s i l * R.o s i l * (sig (R.z s i l) * (1 + R.z s i l * (1 - sig (R.z s i l))))
/-- What the point adds to the gradient of the keys of the block before (`w = 0`) and of its own (`w = 1`). -/
def dK (w a : Fin 2) (c : Fin 128) (d : Fin 64) : ℝ :=
  (∑ e : Fin 2, ∑ r : Fin 2, ∑ i : Fin 128, (if (i.val < c.val ↔ w = 0) then R.dL a r e i c else 0) * R.q (slab a r) i (lane e d)) * (1 / 8)
def dV (w a : Fin 2) (c : Fin 128) (d : Fin 64) : ℝ :=
  ∑ e : Fin 2, ∑ r : Fin 2, ∑ i : Fin 128, (if (i.val < c.val ↔ w = 0) then R.P a r e i c else 0) * R.dO (slab a r) i (lane e d)
end RBlk

/-- Everything the grid point loads is the real number `R` says. -/
structure Blk.Is (B : Blk Ideal) (R : RBlk) : Prop where
  q : ∀ s i l, B.q s (ix2 i l) = (R.q s i l : EReal)
  kp : ∀ i l, B.kp (ix2 i l) = (R.kp i l : EReal)
  kc : ∀ i l, B.kc (ix2 i l) = (R.kc i l : EReal)
  vp : ∀ i l, B.vp (ix2 i l) = (R.vp i l : EReal)
  vc : ∀ i l, B.vc (ix2 i l) = (R.vc i l : EReal)
  bias : ∀ h i c, B.bias h (ix3 0 i c) = (R.bias h i c : EReal)
  sink : ∀ h, B.sink h = (R.sink h : EReal)
  edge : ∀ i c : Fin 128, B.edge (ix2 i c) = if R.first = true ∧ i.val < c.val then ⊥ else 0
  z : ∀ s i l, B.z s (ix2 i l) = (R.z s i l : EReal)
  dh : ∀ s i l, B.dh s (ix2 i l) = (R.dh s i l : EReal)

namespace Blk.Is
variable {B : Blk Ideal} {R : RBlk} (h : B.Is R)
include h

theorem key_k (i c l : Fin 128) : (if i.val < c.val then B.kp else B.kc) (ix2 c l) = (RBlk.key R.kp R.kc i c l : EReal) := by
  unfold RBlk.key; split
  · exact h.kp c l
  · exact h.kc c l
theorem key_v (i c l : Fin 128) : (if i.val < c.val then B.vp else B.vc) (ix2 c l) = (RBlk.key R.vp R.vc i c l : EReal) := by
  unfold RBlk.key; split
  · exact h.vp c l
  · exact h.vc c l

omit h in
theorem queries_eq (a : Fin 2) : B.queries a = two16 ((fun r => B.q (slab a r)) 0) ((fun r => B.q (slab a r)) 1) := by
  fin_cases a <;> rfl
omit h in
theorem dO_eq (a : Fin 2) : B.dO a = two16 ((fun r => mulf (B.dh (slab a r)) (silu (B.z (slab a r)))) 0)
    ((fun r => mulf (B.dh (slab a r)) (silu (B.z (slab a r)))) 1) := by
  fin_cases a <;> rfl

theorem L (a r e : Fin 2) (i c : Fin 128) : B.L a r e (ix2 i c) = Row.logit (R.M i) (R.l a r e i) c := by
  unfold Blk.L
  rw [logits_read, queries_eq, keyProd (fun r => B.q (slab a r)), h.bias, h.edge]
  simp only [h.q, h.key_k, ← EReal.coe_mul]
  rw [← Row.coe_sum, ← EReal.coe_mul, ← EReal.coe_add]
  unfold Row.logit RBlk.M
  cases hf : R.first <;> by_cases hc : i.val < c.val <;> simp [hc, RBlk.l]

theorem P (a r e : Fin 2) (i c : Fin 128) : B.P a r e (ix2 i c) = (R.P a r e i c : EReal) := by
  unfold Blk.P
  rw [h.sink]
  exact probs_real _ _ _ _ i c (h.L a r e i)

theorem O (a r : Fin 2) (i l : Fin 128) : B.O a (ix2 (at2 r i) l) = (R.O a r i l : EReal) := by
  unfold Blk.O
  rw [keySum]
  simp only [h.P, h.key_v, ← EReal.coe_mul]
  rw [← Row.coe_sum]; rfl

theorem silu (s : Fin 4) (i l : Fin 128) : Block.silu (B.z s) (ix2 i l) = ((R.z s i l * sig (R.z s i l) : ℝ) : EReal) := by
  rw [silu_read, h.z, sig_ideal, ← EReal.coe_mul]

theorem H (a r : Fin 2) (i l : Fin 128) : B.H a r (ix2 i l) = (R.H a r i l : EReal) := by
  unfold Blk.H
  rw [gated_read, rows_apply, h.O, h.silu, ← EReal.coe_mul]; rfl

theorem gate (s : Fin 4) (i l : Fin 128) : mulf (B.dh s) (Block.silu (B.z s)) (ix2 i l) = (R.dO s i l : EReal) := by
  rw [mulf_read, h.dh, h.silu, ← EReal.coe_mul]; rfl

theorem dP (a r e : Fin 2) (i c : Fin 128) : B.dP a r e (ix2 i c) = (R.dP a r e i c : EReal) := by
  unfold Blk.dP
  rw [dO_eq, keyProd (fun r => mulf (B.dh (slab a r)) (Block.silu (B.z (slab a r))))]
  simp only [h.gate, h.key_v, ← EReal.coe_mul]
  rw [← Row.coe_sum]; rfl

theorem dL (a r e : Fin 2) (i c : Fin 128) : B.dL a r e (ix2 i c) = (R.dL a r e i c : EReal) := by
  unfold Blk.dL
  rw [dlogits_read]
  simp only [h.P, h.dP]
  exact Row.dlog_closed _ _ _ _ c

theorem dQ (a r : Fin 2) (i l : Fin 128) : B.dQ a r (ix2 i l) = (R.dQ a r i l : EReal) := by
  show rows r (dquery (spread4 (B.dL a)) (stack a B.kp B.kc)) (ix2 i l) = _
  rw [rows_apply, dquery_read, keySum]
  simp only [h.dL, h.key_k, ← EReal.coe_mul]
  rw [← Row.coe_sum, ← EReal.coe_mul]; rfl

theorem dZ (s : Fin 4) (i l : Fin 128) (ho : B.o s (ix2 i l) = (R.o s i l : EReal)) : B.dZ s (ix2 i l) = (R.dZ s i l : EReal) := by
  unfold Blk.dZ
  rw [dgate_read, dsilu_read, h.dh, ho, h.z, sig_ideal, show (1 : EReal) = ((1 : ℝ) : EReal) from rfl, ← EReal.coe_sub,
    ← EReal.coe_mul, ← EReal.coe_mul, ← EReal.coe_add, ← EReal.coe_mul, ← EReal.coe_mul]
  rfl

omit h in
theorem coe_zero_if (p : Prop) [Decidable p] (x : ℝ) : (if p then (x : EReal) else 0) = ((if p then x else 0 : ℝ) : EReal) := by
  split <;> rfl

theorem dK (w a : Fin 2) (c : Fin 128) (d : Fin 64) : B.dK w (ix2 c (lane a d)) = (R.dK w a c d : EReal) := by
  unfold Blk.dK
  rw [foldScaled_read, fold_apply (fun a => part w (down (spread4 (B.dL a)) (B.queries a)))]
  simp only [queries_eq, colSum (B.dL a) (fun r => B.q (slab a r)), h.dL, h.q, coe_zero_if, ← EReal.coe_mul, ← Row.coe_sum]
  rfl

theorem dV (w a : Fin 2) (c : Fin 128) (d : Fin 64) : B.dV w (ix2 c (lane a d)) = (R.dV w a c d : EReal) := by
  unfold Blk.dV
  rw [fold_apply (fun a => part w (down (spread4 (B.P a)) (B.dO a)))]
  simp only [dO_eq, colSum (B.P a) (fun r => mulf (B.dh (slab a r)) (Block.silu (B.z (slab a r)))), h.P, h.gate, coe_zero_if,
    ← EReal.coe_mul, ← Row.coe_sum]
  rfl

end Blk.Is

end Cert.Block

end
-- ==== Proof.Model.lean ====
/- Hand-written, untrusted. THE ATTENTION AND ITS GRADIENTS OVER THE REALS, written as the mathematics has them: per block of
   128 queries a band of 256 keys, the causal window as a mask, sixteen query heads on four key heads; and that the kernel's
   grid points, which keep 128 key columns each, compute them. -/
module

public import proofs.«01_k».proof.Proof.BlockValue

@[expose] public section

noncomputable section

namespace Cert.Row

/-! ## A softmax whose mask lies in the image of fewer keys -/

section
variable {N N' : Nat} (σ : Fin N → Fin N') (M : Fin N → Bool) (M' : Fin N' → Bool) (hσ : Function.Injective σ)
  (hM : ∀ c, M c = M' (σ c)) (hc : ∀ s, M' s = true → ∃ c, σ c = s)
include hσ hM hc

/-- A sum over the keys of a family zero outside the mask. -/
theorem sum_slot (f : Fin N → ℝ) (f' : Fin N' → ℝ) (hf : ∀ c, M c = true → f c = f' (σ c)) (h0 : ∀ c, M c = false → f c = 0)
    (h0' : ∀ s, M' s = false → f' s = 0) : ∑ c, f c = ∑ s, f' s := by
  classical
  refine Finset.sum_of_injOn σ hσ.injOn (fun _ _ => Finset.mem_coe.mpr (Finset.mem_univ _)) (fun s _ hs => ?_) (fun c _ => ?_)
  · cases h : M' s
    · exact h0' s h
    · obtain ⟨c, rfl⟩ := hc s h
      exact absurd ⟨c, Finset.mem_coe.mpr (Finset.mem_univ _), rfl⟩ hs
  · cases h : M c
    · rw [h0 c h, h0' _ ((hM c).symm.trans h)]
    · exact hf c h

variable (l : Fin N → ℝ) (l' : Fin N' → ℝ) (hl : ∀ c, M c = true → l c = l' (σ c)) (b : ℝ)
include hl

theorem wt_slot (c : Fin N) : wt M l c = wt M' l' (σ c) := by
  unfold wt; rw [← hM]; split
  next h => rw [hl c h]
  next => rfl

theorem den_slot : den M l b = den M' l' b := by
  unfold den
  rw [sum_slot σ M M' hσ hM hc (wt M l) (wt M' l') (fun c _ => wt_slot σ M M' hσ hM hc l l' hl c)
    (fun c h => by unfold wt; rw [h]; rfl) (fun c h => by unfold wt; rw [h]; rfl)]

theorem prob_slot (c : Fin N) : prob M l b c = prob M' l' b (σ c) := by
  unfold prob
  rw [wt_slot σ M M' hσ hM hc l l' hl c, den_slot σ M M' hσ hM hc l l' hl b]

theorem sum_prob_slot (x : Fin N → ℝ) (x' : Fin N' → ℝ) (hx : ∀ c, M c = true → x c = x' (σ c)) :
    ∑ c, prob M l b c * x c = ∑ s, prob M' l' b s * x' s :=
  sum_slot σ M M' hσ hM hc _ _ (fun c h => by rw [prob_slot σ M M' hσ hM hc l l' hl b c, hx c h])
    (fun c h => by rw [prob_off M l b h, zero_mul]) (fun s h => by rw [prob_off M' l' b h, zero_mul])

theorem dlog_slot (dp : Fin N → ℝ) (dp' : Fin N' → ℝ) (hd : ∀ c, M c = true → dp c = dp' (σ c)) (c : Fin N) :
    dlog M l b dp c = dlog M' l' b dp' (σ c) := by
  cases h : M c
  · rw [dlog_off M l b dp h, dlog_off M' l' b dp' ((hM c).symm.trans h)]
  · unfold dlog
    rw [prob_slot σ M M' hσ hM hc l l' hl b c, hd c h]
    unfold delta
    rw [sum_prob_slot σ M M' hσ hM hc l l' hl b dp dp' hd]

theorem sum_dlog_slot (dp : Fin N → ℝ) (dp' : Fin N' → ℝ) (hd : ∀ c, M c = true → dp c = dp' (σ c))
    (x : Fin N → ℝ) (x' : Fin N' → ℝ) (hx : ∀ c, M c = true → x c = x' (σ c)) :
    ∑ c, dlog M l b dp c * x c = ∑ s, dlog M' l' b dp' s * x' s :=
  sum_slot σ M M' hσ hM hc _ _ (fun c h => by rw [dlog_slot σ M M' hσ hM hc l l' hl b dp dp' hd c, hx c h])
    (fun c h => by rw [dlog_off M l b dp h, zero_mul]) (fun s h => by rw [dlog_off M' l' b dp' h, zero_mul])
end

end Cert.Row

namespace Cert.Model

open Cert.Block

/-- Row `i` of block `n`. -/
abbrev row (n : Fin 64) (i : Fin 128) : Fin 8192 := ⟨128 * n.val + i.val, by omega⟩
/-- Query head `g` of key head `k`. -/
abbrev hd (k g : Fin 4) : Fin 16 := ⟨4 * k.val + g.val, by omega⟩
/-- A query head's column among the heads' 1024. -/
abbrev hcol (k g : Fin 4) (d : Fin 64) : Fin 1024 := ⟨256 * k.val + 64 * g.val + d.val, by omega⟩
/-- A key head's column among the 256. -/
abbrev kvcol (k : Fin 4) (d : Fin 64) : Fin 256 := ⟨64 * k.val + d.val, by omega⟩
abbrev qcol (k g : Fin 4) (d : Fin 64) : Fin 8704 := ⟨2048 + (256 * k.val + 64 * g.val + d.val), by omega⟩
abbrev kcol (k : Fin 4) (d : Fin 64) : Fin 8704 := ⟨3072 + (64 * k.val + d.val), by omega⟩
abbrev vcol (k : Fin 4) (d : Fin 64) : Fin 8704 := ⟨3328 + (64 * k.val + d.val), by omega⟩
abbrev zcol (k g : Fin 4) (d : Fin 64) : Fin 8704 := ⟨3584 + (256 * k.val + 64 * g.val + d.val), by omega⟩

/-- The attention's inputs: the projection, a sink per head, a bias per distance and head, and the gradient of the result. -/
structure Inp where
  pr : Fin 8192 → Fin 8704 → ℝ
  sk : Fin 16 → ℝ
  bi : ℕ → Fin 16 → ℝ
  dh : Fin 8192 → Fin 1024 → ℝ

namespace Inp
variable (I : Inp)

def q (n : Fin 64) (k g : Fin 4) (i : Fin 128) (d : Fin 64) : ℝ := I.pr (row n i) (qcol k g d)
def z (n : Fin 64) (k g : Fin 4) (i : Fin 128) (d : Fin 64) : ℝ := I.pr (row n i) (zcol k g d)
def dH (n : Fin 64) (k g : Fin 4) (i : Fin 128) (d : Fin 64) : ℝ := I.dh (row n i) (hcol k g d)
/-- Key `s` of block `n`'s band: the block before, then the own block; before the first block there is nothing. -/
def band (col : Fin 4 → Fin 64 → Fin 8704) (n : Fin 64) (k : Fin 4) (s : Fin 256) (d : Fin 64) : ℝ :=
  if h : 128 ≤ 128 * n.val + s.val then I.pr ⟨128 * n.val + s.val - 128, by omega⟩ (col k d) else 0
/-- Query `i` of block `n` attends key `s` of the band: the window's 128 keys up to its own, where there are any. -/
def M (n : Fin 64) (i : Fin 128) (s : Fin 256) : Bool := decide (i.val < s.val ∧ s.val ≤ i.val + 128 ∧ 128 ≤ 128 * n.val + s.val)
def logit (n : Fin 64) (k g : Fin 4) (i : Fin 128) (s : Fin 256) : ℝ :=
  (∑ d : Fin 64, I.q n k g i d * I.band kcol n k s d) * (1 / 8) + I.bi (128 + i.val - s.val) (hd k g)
def P (n : Fin 64) (k g : Fin 4) (i : Fin 128) (s : Fin 256) : ℝ := Row.prob (M n i) (I.logit n k g i) (I.sk (hd k g)) s
/-- A head's value. -/
def O (n : Fin 64) (k g : Fin 4) (i : Fin 128) (d : Fin 64) : ℝ := ∑ s : Fin 256, I.P n k g i s * I.band vcol n k s d
/-- The gated value: the forward pass's result. -/
def H (n : Fin 64) (k g : Fin 4) (i : Fin 128) (d : Fin 64) : ℝ := I.O n k g i d * (I.z n k g i d * sig (I.z n k g i d))
def dO (n : Fin 64) (k g : Fin 4) (i : Fin 128) (d : Fin 64) : ℝ := I.dH n k g i d * (I.z n k g i d * sig (I.z n k g i d))
def dP (n : Fin 64) (k g : Fin 4) (i : Fin 128) (s : Fin 256) : ℝ := ∑ d : Fin 64, I.dO n k g i d * I.band vcol n k s d
def dL (n : Fin 64) (k g : Fin 4) (i : Fin 128) (s : Fin 256) : ℝ :=
  Row.dlog (M n i) (I.logit n k g i) (I.sk (hd k g)) (I.dP n k g i) s
/-- The gradient of the queries. -/
def dQ (n : Fin 64) (k g : Fin 4) (i : Fin 128) (d : Fin 64) : ℝ := (∑ s : Fin 256, I.dL n k g i s * I.band kcol n k s d) * (1 / 8)
/-- The gradient of the gate's input. -/
def dZ (n : Fin 64) (k g : Fin 4) (i : Fin 128) (d : Fin 64) : ℝ :=
  I.dH n k g i d * I.O n k g i d * (sig (I.z n k g i d) * (1 + I.z n k g i d * (1 - sig (I.z n k g i d))))
/-- The gradients of a band's keys and values. -/
def dKb (n : Fin 64) (k : Fin 4) (s : Fin 256) (d : Fin 64) : ℝ := (∑ g : Fin 4, ∑ i : Fin 128, I.dL n k g i s * I.q n k g i d) * (1 / 8)
def dVb (n : Fin 64) (k : Fin 4) (s : Fin 256) (d : Fin 64) : ℝ := ∑ g : Fin 4, ∑ i : Fin 128, I.P n k g i s * I.dO n k g i d

/-- Column `c` of the block before (`w = 0`) or of the own block (`w = 1`) in the band. -/
abbrev half (w : Fin 2) (c : Fin 128) : Fin 256 := ⟨128 * w.val + c.val, by omega⟩
/-- What the bands of blocks `n` and `n + 1` give block `n`'s row `c`. -/
def shift (f : Fin 64 → Fin 4 → Fin 256 → Fin 64 → ℝ) (n : Fin 64) (k : Fin 4) (c : Fin 128) (d : Fin 64) : ℝ :=
  f n k (half 1 c) d + if h : n.val + 1 < 64 then f ⟨n.val + 1, h⟩ k (half 0 c) d else 0
/-- The gradients of the keys and of the values. -/
def dK : Fin 64 → Fin 4 → Fin 128 → Fin 64 → ℝ := shift I.dKb
def dV : Fin 64 → Fin 4 → Fin 128 → Fin 64 → ℝ := shift I.dVb

/-! ## The kernel's grid points -/

/-- Key head `a` of pair `m`, and query head `(r, e)` of a key head. -/
abbrev kh (m a : Fin 2) : Fin 4 := ⟨2 * m.val + a.val, by omega⟩
abbrev gh (r e : Fin 2) : Fin 4 := ⟨2 * r.val + e.val, by omega⟩
/-- The block before, the first block's being itself. -/
abbrev back (n : Fin 64) : Fin 64 := ⟨n.val - 1, by omega⟩
/-- The band's key in column `c`. -/
def slot (i c : Fin 128) : Fin 256 := if i.val < c.val then half 0 c else half 1 c

/-- What grid point `(m, n)` loads. -/
def blk (m : Fin 2) (n : Fin 64) : RBlk where
  q s i l := I.pr (row n i) ⟨2048 + 512 * m.val + 128 * s.val + l.val, by omega⟩
  kp c l := I.pr (row (back n) c) ⟨3072 + 128 * m.val + l.val, by omega⟩
  kc c l := I.pr (row n c) ⟨3072 + 128 * m.val + l.val, by omega⟩
  vp c l := I.pr (row (back n) c) ⟨3328 + 128 * m.val + l.val, by omega⟩
  vc c l := I.pr (row n c) ⟨3328 + 128 * m.val + l.val, by omega⟩
  bias h i c := I.bi (if i.val < c.val then 128 + i.val - c.val else i.val - c.val) ⟨8 * m.val + h.val, by omega⟩
  sink h := I.sk ⟨8 * m.val + h.val, by omega⟩
  first := decide (n.val = 0)
  z s i l := I.pr (row n i) ⟨3584 + 512 * m.val + 128 * s.val + l.val, by omega⟩
  dh s i l := I.dh (row n i) ⟨512 * m.val + 128 * s.val + l.val, by omega⟩
  o s i l := I.O n ⟨2 * m.val + s.val / 2, by omega⟩ ⟨2 * (s.val % 2) + l.val / 64, by omega⟩ i ⟨l.val % 64, by omega⟩

variable (m : Fin 2) (n : Fin 64) (a r e : Fin 2) (i c : Fin 128) (d : Fin 64)

theorem slab_val : (slab a r).val = 2 * a.val + r.val := by fin_cases a <;> fin_cases r <;> rfl
theorem head_val : (head a r e).val = 4 * a.val + 2 * r.val + e.val := by fin_cases a <;> fin_cases r <;> fin_cases e <;> rfl

theorem blk_q : (I.blk m n).q (slab a r) i (lane e d) = I.q n (kh m a) (gh r e) i d := by
  unfold blk q; dsimp only
  congr 1; ext; simp only [slab_val]; omega
theorem blk_z : (I.blk m n).z (slab a r) i (lane e d) = I.z n (kh m a) (gh r e) i d := by
  unfold blk z; dsimp only
  congr 1; ext; simp only [slab_val]; omega
theorem blk_dh : (I.blk m n).dh (slab a r) i (lane e d) = I.dH n (kh m a) (gh r e) i d := by
  unfold blk dH; dsimp only
  congr 1; ext; simp only [slab_val]; omega
theorem blk_sink : (I.blk m n).sink (head a r e) = I.sk (hd (kh m a) (gh r e)) := by
  unfold blk; dsimp only
  congr 1; ext; simp only [head_val]; omega

theorem blk_M : (I.blk m n).M i c = M n i (slot i c) := by
  unfold RBlk.M M slot blk; dsimp only
  by_cases h : i.val < c.val
  · rw [if_pos h]
    by_cases hn : n.val = 0
    · simp [h, hn]
    · simp [h, hn]; omega
  · rw [if_neg h]; simp [h]; omega

theorem slot_inj : Function.Injective (slot i) := by
  intro c c' h
  unfold slot at h
  ext
  by_cases h1 : i.val < c.val <;> by_cases h2 : i.val < c'.val <;> simp [h1, h2] at h <;> omega

theorem slot_cover (s : Fin 256) (h : M n i s = true) : ∃ c, slot i c = s := by
  unfold M at h
  have h := of_decide_eq_true h
  by_cases hs : s.val < 128
  · exact ⟨⟨s.val, hs⟩, by unfold slot; rw [if_pos h.1]; ext; simp⟩
  · refine ⟨⟨s.val - 128, by omega⟩, ?_⟩
    unfold slot
    rw [if_neg (by dsimp only; omega)]; ext; simp; omega

theorem blk_key_k (h : (I.blk m n).M i c = true) :
    RBlk.key (I.blk m n).kp (I.blk m n).kc i c (lane a d) = I.band kcol n (kh m a) (slot i c) d := by
  rw [blk_M] at h
  unfold M at h
  have h := of_decide_eq_true h
  unfold band
  rw [dif_pos h.2.2]
  unfold RBlk.key slot blk at *
  dsimp only
  by_cases hc : i.val < c.val
  · simp only [if_pos hc] at h ⊢
    congr 1 <;> ext <;> simp at h ⊢ <;> omega
  · simp only [if_neg hc] at h ⊢
    congr 1 <;> ext <;> simp at h ⊢ <;> omega

theorem blk_key_v (h : (I.blk m n).M i c = true) :
    RBlk.key (I.blk m n).vp (I.blk m n).vc i c (lane a d) = I.band vcol n (kh m a) (slot i c) d := by
  rw [blk_M] at h
  unfold M at h
  have h := of_decide_eq_true h
  unfold band
  rw [dif_pos h.2.2]
  unfold RBlk.key slot blk at *
  dsimp only
  by_cases hc : i.val < c.val
  · simp only [if_pos hc] at h ⊢
    congr 1 <;> ext <;> simp at h ⊢ <;> omega
  · simp only [if_neg hc] at h ⊢
    congr 1 <;> ext <;> simp at h ⊢ <;> omega

theorem blk_bias : (I.blk m n).bias (head a r e) i c = I.bi (128 + i.val - (slot i c).val) (hd (kh m a) (gh r e)) := by
  unfold blk slot; dsimp only
  by_cases hc : i.val < c.val
  · rw [if_pos hc, if_pos hc]
    congr 1
    · simp
    · ext; simp only [head_val]; omega
  · rw [if_neg hc, if_neg hc]
    congr 1
    · simp; omega
    · ext; simp only [head_val]; omega

theorem blk_l (h : (I.blk m n).M i c = true) : (I.blk m n).l a r e i c = I.logit n (kh m a) (gh r e) i (slot i c) := by
  unfold RBlk.l logit
  rw [blk_bias]
  simp only [blk_q, I.blk_key_k m n a i c _ h]

theorem blk_P : (I.blk m n).P a r e i c = I.P n (kh m a) (gh r e) i (slot i c) := by
  unfold RBlk.P P
  rw [blk_sink]
  exact Row.prob_slot (slot i) _ _ (slot_inj i) (blk_M I m n i) (slot_cover n i) _ _ (fun c h => I.blk_l m n a r e i c h) _ c

theorem lane_half : laneHalf (lane e d) = e := by ext; simp; omega
theorem lane_in : laneIn (lane e d) = d := by ext; simp

theorem blk_O : (I.blk m n).O a r i (lane e d) = I.O n (kh m a) (gh r e) i d := by
  unfold RBlk.O O
  rw [lane_half, lane_in]
  simp only [RBlk.P, P, blk_sink]
  exact Row.sum_prob_slot (slot i) _ _ (slot_inj i) (blk_M I m n i) (slot_cover n i) _ _ (fun c h => I.blk_l m n a r e i c h) _
    _ _ (fun c h => I.blk_key_v m n a i c d h)

theorem blk_H : (I.blk m n).H a r i (lane e d) = I.H n (kh m a) (gh r e) i d := by
  unfold RBlk.H H
  rw [blk_O, blk_z]

theorem blk_o : (I.blk m n).o (slab a r) i (lane e d) = I.O n (kh m a) (gh r e) i d := by
  show I.O n _ _ i _ = _
  congr 1 <;> ext <;> simp only [slab_val] <;> omega

theorem blk_dO : (I.blk m n).dO (slab a r) i (lane e d) = I.dO n (kh m a) (gh r e) i d := by
  unfold RBlk.dO dO
  rw [blk_dh, blk_z]

theorem blk_dP (h : (I.blk m n).M i c = true) : (I.blk m n).dP a r e i c = I.dP n (kh m a) (gh r e) i (slot i c) := by
  unfold RBlk.dP dP
  simp only [blk_dO, I.blk_key_v m n a i c _ h]

theorem blk_dL : (I.blk m n).dL a r e i c = I.dL n (kh m a) (gh r e) i (slot i c) := by
  unfold RBlk.dL dL
  rw [blk_sink]
  exact Row.dlog_slot (slot i) _ _ (slot_inj i) (blk_M I m n i) (slot_cover n i) _ _ (fun c h => I.blk_l m n a r e i c h) _
    _ _ (fun c h => I.blk_dP m n a r e i c h) c

theorem blk_dQ : (I.blk m n).dQ a r i (lane e d) = I.dQ n (kh m a) (gh r e) i d := by
  unfold RBlk.dQ dQ
  rw [lane_half, lane_in]
  simp only [RBlk.dL, dL, blk_sink]
  congr 1
  exact Row.sum_dlog_slot (slot i) _ _ (slot_inj i) (blk_M I m n i) (slot_cover n i) _ _ (fun c h => I.blk_l m n a r e i c h) _
    _ _ (fun c h => I.blk_dP m n a r e i c h) _ _ (fun c h => I.blk_key_k m n a i c d h)

theorem blk_dZ : (I.blk m n).dZ (slab a r) i (lane e d) = I.dZ n (kh m a) (gh r e) i d := by
  unfold RBlk.dZ dZ
  rw [blk_dh, blk_z, blk_o]

/-- Column `c` belongs to half `w` for the queries before it (`w = 0`) or from it on (`w = 1`); the others do not attend it. -/
theorem col_half (f : Fin 256 → ℝ) (w : Fin 2) (h0 : ∀ s, M n i s = false → f s = 0) :
    (if (i.val < c.val ↔ w = 0) then f (slot i c) else 0) = f (half w c) := by
  unfold slot
  have hz : ∀ s : Fin 256, ¬ (i.val < s.val ∧ s.val ≤ i.val + 128) → f s = 0 := fun s hs =>
    h0 s (decide_eq_false fun h => hs ⟨h.1, h.2.1⟩)
  by_cases hc : i.val < c.val <;> fin_cases w <;> simp [hc]
  · exact (hz _ (by dsimp only; omega)).symm
  · exact (hz _ (by dsimp only; omega)).symm

theorem sum_gh (f : Fin 4 → ℝ) : ∑ e : Fin 2, ∑ r : Fin 2, f (gh r e) = ∑ g, f g := by
  rw [Fin.sum_univ_four, Fin.sum_univ_two]
  simp only [Fin.sum_univ_two]
  show (f 0 + f 2) + (f 1 + f 3) = _
  ring

theorem blk_dV (w : Fin 2) : (I.blk m n).dV w a c d = I.dVb n (kh m a) (half w c) d := by
  unfold RBlk.dV dVb
  rw [← sum_gh]
  refine Finset.sum_congr rfl fun e _ => Finset.sum_congr rfl fun r _ => Finset.sum_congr rfl fun i _ => ?_
  rw [blk_dO, blk_P, col_half n i c (I.P n (kh m a) (gh r e) i) w (fun s h => Row.prob_off _ _ _ h)]

theorem blk_dK (w : Fin 2) : (I.blk m n).dK w a c d = I.dKb n (kh m a) (half w c) d := by
  unfold RBlk.dK dKb
  rw [← sum_gh]
  congr 1
  refine Finset.sum_congr rfl fun e _ => Finset.sum_congr rfl fun r _ => Finset.sum_congr rfl fun i _ => ?_
  rw [blk_q, blk_dL, col_half n i c (I.dL n (kh m a) (gh r e) i) w (fun s h => Row.dlog_off _ _ _ _ h)]

end Inp

end Cert.Model

end
-- ==== Proof.Tiles.lean ====
/- Hand-written, untrusted. BLOCKS STORED SLAB BY SLAB, and the arrays they are blocks of. -/
module

public import Idealize.ShloMosaic.Lib.Pipeline.ValueKit
public import proofs.«01_k».proof.Proof.Loads
public import proofs.«01_k».proof.Proof.Model

@[expose] public section

set_option maxRecDepth 16384

noncomputable section

namespace Cert.Model

/-- An array over rows and the heads' columns, from one over blocks, heads, rows and lanes. -/
def flat (f : Fin 64 → Fin 4 → Fin 4 → Fin 128 → Fin 64 → ℝ) (R : Fin 8192) (C : Fin 1024) : ℝ :=
  f ⟨R.val / 128, by omega⟩ ⟨C.val / 256, by omega⟩ ⟨C.val / 64 % 4, by omega⟩ ⟨R.val % 128, by omega⟩ ⟨C.val % 64, by omega⟩
/-- An array over rows and the key heads' columns. -/
def flatKV (f : Fin 64 → Fin 4 → Fin 128 → Fin 64 → ℝ) (R : Fin 8192) (C : Fin 256) : ℝ :=
  f ⟨R.val / 128, by omega⟩ ⟨C.val / 64, by omega⟩ ⟨R.val % 128, by omega⟩ ⟨C.val % 64, by omega⟩

theorem flat_at (f : Fin 64 → Fin 4 → Fin 4 → Fin 128 → Fin 64 → ℝ) (m : Fin 2) (n : Fin 64) (a r e : Fin 2) (i : Fin 128) (d : Fin 64)
    (R : Fin 8192) (C : Fin 1024) (hR : R.val = 128 * n.val + i.val)
    (hC : C.val = 512 * m.val + 256 * a.val + 128 * r.val + 64 * e.val + d.val) :
    flat f R C = f n (Inp.kh m a) (Inp.gh r e) i d := by
  unfold flat
  congr 1 <;> ext <;> dsimp only <;> omega

theorem flatKV_at (f : Fin 64 → Fin 4 → Fin 128 → Fin 64 → ℝ) (m : Fin 2) (n : Fin 64) (a : Fin 2) (i : Fin 128) (d : Fin 64)
    (R : Fin 8192) (C : Fin 256) (hR : R.val = 128 * n.val + i.val) (hC : C.val = 128 * m.val + 64 * a.val + d.val) :
    flatKV f R C = f n (Inp.kh m a) i d := by
  unfold flatKV
  congr 1 <;> ext <;> dsimp only <;> omega

end Cert.Model

namespace Cert.AttnIdeal.Gen

open Idealize.ShloMosaic Idealize.ShloMosaic.TcCoe Idealize.ShloMosaic.Pointwise Cert.Block Cert.Model

theorem ofNat64_eq_zero (n : Fin 64) : BitVec.ofNat 32 n.val = 0#32 ↔ n.val = 0 := by
  constructor
  · intro h
    have := congrArg BitVec.toNat h
    simp at this
    omega
  · intro h; rw [h]

theorem edge_at (n : Fin 64) (i j : Fin 128) (k : ℕ) (hk : k = n.val) :
    edge (F := Ideal) (BitVec.ofNat 32 k) (ix2 i j) = if decide (n.val = 0) = true ∧ i.val < j.val then ⊥ else 0 := by
  subst hk
  rw [edge_read]
  simp only [ofNat64_eq_zero, decide_eq_true_eq]

/-- A lane of a slab is a lane of one of its two heads. -/
theorem exists_lane (l : Fin 128) : ∃ e d, l = lane e d := ⟨⟨l.val / 64, by omega⟩, ⟨l.val % 64, by omega⟩, by ext; simp; omega⟩

/-- The block `(m, n)` of an array over rows and the heads' columns. -/
def blkOf (f : Fin 64 → Fin 4 → Fin 4 → Fin 128 → Fin 64 → ℝ) (m : Fin 2) (n : Fin 64) (y : S128x512.Idx) : EReal :=
  ((flat f (row n (y 0)) ⟨512 * m.val + (y 1).val, by have : (y 1).val < 512 := (y 1).isLt; omega⟩ : ℝ) : EReal)
/-- The block `(m, n)` of an array over rows and the key heads' columns. -/
def blkOfKV (f : Fin 64 → Fin 4 → Fin 128 → Fin 64 → ℝ) (m : Fin 2) (n : Fin 64) (y : S128x128.Idx) : EReal :=
  ((flatKV f (row n (y 0)) ⟨128 * m.val + (y 1).val, by have : (y 1).val < 128 := (y 1).isLt; omega⟩ : ℝ) : EReal)

/-- What a run's stores leave in a buffer, cell by cell. -/
theorem read_of_pieces {sp : Space} {s : Shape} {e : EltTy} (v : View sig .tc sp s e) (f : v.ty.Contents (Elt Ideal))
    (L L' : List (View.Piece (Elt Ideal) s e)) (hL : L = L') (G : s.Idx → Elt Ideal e) (y : s.Idx) (hc : ∃ p ∈ L, y ∈ p.1.set)
    (hG : ∀ p ∈ L', ∀ x, p.2 x = G (p.1.emb x)) : v.read (Elt Ideal) (v.writes (Elt Ideal) f L) y = G y := by
  subst hL
  exact (View.read_writes_apply_eq_canon v f y L hc).trans (View.canon_apply_of_pieces G L hG y hc)

/-- The four slabs of a block, the last stored first. -/
def slabs4 (x : Fin 2 → Fin 2 → FVec Ideal S128x128 .f32) : List (View.Piece (Elt Ideal) S128x512 .f32) :=
  [⟨Rect.unit (s := S128x512) ![0, 384] ![128, 128] inb_S128x512_S128x128_0_384, x 1 1⟩,
   ⟨Rect.unit (s := S128x512) ![0, 256] ![128, 128] inb_S128x512_S128x128_0_256, x 1 0⟩,
   ⟨Rect.unit (s := S128x512) ![0, 128] ![128, 128] inb_S128x512_S128x128_0_128, x 0 1⟩,
   ⟨Rect.unit (s := S128x512) ![0, 0] ![128, 128] inb_S128x512_S128x128_0_0, x 0 0⟩]

/-- The four half-width slabs of a block, the last stored first. -/
def slabs4h (x : Fin 2 → Fin 2 → FVec Ideal S128x128 .bf16) : List (View.Piece (Elt Ideal) S128x512 .bf16) :=
  [⟨Rect.unit (s := S128x512) ![0, 384] ![128, 128] inb_S128x512_S128x128_0_384, x 1 1⟩,
   ⟨Rect.unit (s := S128x512) ![0, 256] ![128, 128] inb_S128x512_S128x128_0_256, x 1 0⟩,
   ⟨Rect.unit (s := S128x512) ![0, 128] ![128, 128] inb_S128x512_S128x128_0_128, x 0 1⟩,
   ⟨Rect.unit (s := S128x512) ![0, 0] ![128, 128] inb_S128x512_S128x128_0_0, x 0 0⟩]

theorem slab_piece {e : FTy} (f : Fin 64 → Fin 4 → Fin 4 → Fin 128 → Fin 64 → ℝ) (m : Fin 2) (n : Fin 64) (a r : Fin 2) (off : Fin 2 → ℕ) (hi)
    (x : FVec Ideal S128x128 e) (hoff : off = ![0, 256 * a.val + 128 * r.val])
    (hx : ∀ (e : Fin 2) i d, x (ix2 i (lane e d)) = (f n (Inp.kh m a) (Inp.gh r e) i d : EReal)) (y : S128x128.Idx) :
    x y = blkOf f m n ((Rect.unit (s := S128x512) off ![128, 128] hi).emb y) := by
  subst hoff
  obtain ⟨i, l, rfl⟩ : ∃ (i l : Fin 128), y = ix2 i l := ⟨y 0, y 1, by funext a; fin_cases a <;> rfl⟩
  obtain ⟨e, d, rfl⟩ := exists_lane l
  rw [hx]
  refine congrArg _ (flat_at f m n a r e i d _ _ ?_ ?_).symm
  · simp [Rect.emb, Rect.unit]
  · simp [Rect.emb, Rect.unit]; omega

/-- A block of 512 columns stored slab by slab is the array's block. -/
theorem slabs4_pieces (x : Fin 2 → Fin 2 → FVec Ideal S128x128 .f32) (f : Fin 64 → Fin 4 → Fin 4 → Fin 128 → Fin 64 → ℝ)
    (m : Fin 2) (n : Fin 64) (hx : ∀ (a r e : Fin 2) i d, x a r (ix2 i (lane e d)) = (f n (Inp.kh m a) (Inp.gh r e) i d : EReal)) :
    ∀ p ∈ slabs4 x, ∀ y, p.2 y = blkOf f m n (p.1.emb y) := by
  intro p hp
  unfold slabs4 at hp
  simp only [List.mem_cons, List.not_mem_nil, or_false] at hp
  obtain rfl | rfl | rfl | rfl := hp
  · exact slab_piece f m n 1 1 _ inb_S128x512_S128x128_0_384 _ rfl (hx 1 1)
  · exact slab_piece f m n 1 0 _ inb_S128x512_S128x128_0_256 _ rfl (hx 1 0)
  · exact slab_piece f m n 0 1 _ inb_S128x512_S128x128_0_128 _ rfl (hx 0 1)
  · exact slab_piece f m n 0 0 _ inb_S128x512_S128x128_0_0 _ rfl (hx 0 0)

/-- A block of 512 columns stored slab by slab, half-width, is the array's block. -/
theorem slabs4h_pieces (x : Fin 2 → Fin 2 → FVec Ideal S128x128 .bf16) (f : Fin 64 → Fin 4 → Fin 4 → Fin 128 → Fin 64 → ℝ)
    (m : Fin 2) (n : Fin 64) (hx : ∀ (a r e : Fin 2) i d, x a r (ix2 i (lane e d)) = (f n (Inp.kh m a) (Inp.gh r e) i d : EReal)) :
    ∀ p ∈ slabs4h x, ∀ y, p.2 y = blkOf f m n (p.1.emb y) := by
  intro p hp
  unfold slabs4h at hp
  simp only [List.mem_cons, List.not_mem_nil, or_false] at hp
  obtain rfl | rfl | rfl | rfl := hp
  · exact slab_piece f m n 1 1 _ inb_S128x512_S128x128_0_384 _ rfl (hx 1 1)
  · exact slab_piece f m n 1 0 _ inb_S128x512_S128x128_0_256 _ rfl (hx 1 0)
  · exact slab_piece f m n 0 1 _ inb_S128x512_S128x128_0_128 _ rfl (hx 0 1)
  · exact slab_piece f m n 0 0 _ inb_S128x512_S128x128_0_0 _ rfl (hx 0 0)

/-- A block of 128 columns stored whole is the array's block. -/
theorem whole_pieces (x : FVec Ideal S128x128 .f32) (f : Fin 64 → Fin 4 → Fin 128 → Fin 64 → ℝ)
    (m : Fin 2) (n : Fin 64) (hx : ∀ (a : Fin 2) i d, x (ix2 i (lane a d)) = (f n (Inp.kh m a) i d : EReal)) :
    ∀ p ∈ ([⟨Rect.unit (s := S128x128) ![0, 0] ![128, 128] inb_S128x128_S128x128_0_0, x⟩] : List (View.Piece (Elt Ideal) S128x128 .f32)),
      ∀ y, p.2 y = blkOfKV f m n (p.1.emb y) := by
  intro p hp
  simp only [List.mem_cons, List.not_mem_nil, or_false] at hp
  subst hp
  intro y
  obtain ⟨i, l, rfl⟩ : ∃ (i l : Fin 128), y = ix2 i l := ⟨y 0, y 1, by funext a; fin_cases a <;> rfl⟩
  obtain ⟨a, d, rfl⟩ := exists_lane l
  refine (hx a i d).trans ?_
  refine congrArg _ (flatKV_at f m n a i d _ _ ?_ ?_).symm
  · simp [Rect.emb, Rect.unit]
  · simp [Rect.emb, Rect.unit]; omega

end Cert.AttnIdeal.Gen

end
-- ==== Proof.Arrays0.lean ====
/- Hand-written, untrusted. WHAT THE FORWARD CALL LOADS: at every grid point what the mathematics says, so that the point computes
   the heads' values and their gated values. -/
module

public import Idealize.ShloMosaic.Lib.Pipeline.ValueKit
public import proofs.«01_k».proof.Proof.Pieces0
public import proofs.«01_k».proof.Proof.Tiles

@[expose] public section

set_option maxRecDepth 16384

noncomputable section

namespace Cert.AttnIdeal.Gen

open Idealize.ShloMosaic Idealize.ShloMosaic.TcCoe Idealize.ShloMosaic.Pointwise Cert.Block Cert.Model
open Idealize.ShloMosaic.Pipeline (Dat Cfg Window)

/-! ## The grid -/

abbrev pm0 (t : Fin cfg0.N) : Fin 2 := ⟨t.val / 64, by have := t.isLt; have : cfg0.N = 128 := rfl; omega⟩
abbrev pn0 (t : Fin cfg0.N) : Fin 64 := ⟨t.val % 64, by omega⟩

theorem idx0_0 : ∀ t : Fin cfg0.N, win0_0.index t = ![0] := (by decide +kernel : ∀ t : Fin grid0.N, _)
theorem idx0_1 : ∀ t : Fin cfg0.N, win0_1.index t = ![t.val % 64, 4 + t.val / 64] := (by decide +kernel : ∀ t : Fin grid0.N, _)
theorem idx0_2 : ∀ t : Fin cfg0.N, win0_2.index t = ![t.val % 64 - 1, 24 + t.val / 64] := (by decide +kernel : ∀ t : Fin grid0.N, _)
theorem idx0_3 : ∀ t : Fin cfg0.N, win0_3.index t = ![t.val % 64, 24 + t.val / 64] := (by decide +kernel : ∀ t : Fin grid0.N, _)
theorem idx0_4 : ∀ t : Fin cfg0.N, win0_4.index t = ![t.val % 64 - 1, 26 + t.val / 64] := (by decide +kernel : ∀ t : Fin grid0.N, _)
theorem idx0_5 : ∀ t : Fin cfg0.N, win0_5.index t = ![t.val % 64, 26 + t.val / 64] := (by decide +kernel : ∀ t : Fin grid0.N, _)
theorem idx0_6 : ∀ t : Fin cfg0.N, win0_6.index t = ![t.val / 64, 0, 0] := (by decide +kernel : ∀ t : Fin grid0.N, _)
theorem idx0_7 : ∀ t : Fin cfg0.N, win0_7.index t = ![t.val % 64, 7 + t.val / 64] := (by decide +kernel : ∀ t : Fin grid0.N, _)
theorem idx0_8 : ∀ t : Fin cfg0.N, win0_8.index t = ![t.val % 64, t.val / 64] := (by decide +kernel : ∀ t : Fin grid0.N, _)
theorem idx0_9 : ∀ t : Fin cfg0.N, win0_9.index t = ![t.val % 64, t.val / 64] := (by decide +kernel : ∀ t : Fin grid0.N, _)
theorem coord0_0 : ∀ t : Fin cfg0.N, (grid0.coords t 0).val = t.val / 64 := (by decide +kernel : ∀ t : Fin grid0.N, _)
theorem coord0_1 : ∀ t : Fin cfg0.N, (grid0.coords t 1).val = t.val % 64 := (by decide +kernel : ∀ t : Fin grid0.N, _)

variable (I : Inp) (V : Dev nD → (b : Ref sig .tc) → b.ty.Contents (Elt Ideal)) (c : Dev nD)

/-- The forward call finds the projection, the sinks and the biases by distance. -/
structure In0 : Prop where
  pr : ∀ R C, V c main_arg0 (ix2 R C) = (I.pr R C : EReal)
  sk : ∀ h, V c main_arg1 (ix1 h) = (I.sk h : EReal)
  bi : ∀ (h : Fin 16) (i j : Fin 128), V c main_v41 (ix3 h i j) = (I.bi (if i.val < j.val then 128 + i.val - j.val else i.val - j.val) h : EReal)

variable {I V c} (h : In0 I V c) (t : Fin cfg0.N)
include h

theorem in0_1 (i : Fin 128) (l : Fin 512) : iblk0 (F := Ideal) V c 1 t (ix2 i l)
    = (I.pr (row (pn0 t) i) ⟨2048 + 512 * (pm0 t).val + l.val, by omega⟩ : EReal) := by
  rw [← h.pr]
  blk_simp [iblk0, idx0_1]
  refine congrArg (V c main_arg0) ?_
  blk_ext [idx0_1]

theorem in0_2 (i l : Fin 128) : iblk0 (F := Ideal) V c 2 t (ix2 i l)
    = (I.pr (row (Inp.back (pn0 t)) i) ⟨3072 + 128 * (pm0 t).val + l.val, by omega⟩ : EReal) := by
  rw [← h.pr]
  blk_simp [iblk0, idx0_2]
  refine congrArg (V c main_arg0) ?_
  blk_ext [idx0_2]

theorem in0_3 (i l : Fin 128) : iblk0 (F := Ideal) V c 3 t (ix2 i l)
    = (I.pr (row (pn0 t) i) ⟨3072 + 128 * (pm0 t).val + l.val, by omega⟩ : EReal) := by
  rw [← h.pr]
  blk_simp [iblk0, idx0_3]
  refine congrArg (V c main_arg0) ?_
  blk_ext [idx0_3]

theorem in0_4 (i l : Fin 128) : iblk0 (F := Ideal) V c 4 t (ix2 i l)
    = (I.pr (row (Inp.back (pn0 t)) i) ⟨3328 + 128 * (pm0 t).val + l.val, by omega⟩ : EReal) := by
  rw [← h.pr]
  blk_simp [iblk0, idx0_4]
  refine congrArg (V c main_arg0) ?_
  blk_ext [idx0_4]

theorem in0_5 (i l : Fin 128) : iblk0 (F := Ideal) V c 5 t (ix2 i l)
    = (I.pr (row (pn0 t) i) ⟨3328 + 128 * (pm0 t).val + l.val, by omega⟩ : EReal) := by
  rw [← h.pr]
  blk_simp [iblk0, idx0_5]
  refine congrArg (V c main_arg0) ?_
  blk_ext [idx0_5]

theorem in0_7 (i : Fin 128) (l : Fin 512) : iblk0 (F := Ideal) V c 7 t (ix2 i l)
    = (I.pr (row (pn0 t) i) ⟨3584 + 512 * (pm0 t).val + l.val, by omega⟩ : EReal) := by
  rw [← h.pr]
  blk_simp [iblk0, idx0_7]
  refine congrArg (V c main_arg0) ?_
  blk_ext [idx0_7]

theorem in0_6 (q : Fin 8) (i j : Fin 128) : iblk0 (F := Ideal) V c 6 t (ix3 q i j)
    = (I.bi (if i.val < j.val then 128 + i.val - j.val else i.val - j.val) ⟨8 * (pm0 t).val + q.val, by omega⟩ : EReal) := by
  rw [← h.bi]
  blk_simp [iblk0, idx0_6]
  refine congrArg (V c main_v41) ?_
  blk_ext [idx0_6]

theorem in0_0 (q : Fin 16) : iblk0 (F := Ideal) V c 0 t (ix1 q) = (I.sk q : EReal) := by
  rw [← h.sk]
  blk_simp [iblk0, idx0_0]
  refine congrArg (V c main_arg1) ?_
  blk_ext [idx0_0]

omit h in
theorem cell_apply (i : grid0.Coords) (arg2 : Memref sig .tc .smem S16 .f32) (harg2 : arg2.IsWhole) (x0 : Vec Ideal S16 .f32) (u v : BitVec 32)
    (hb : ∀ a, k0_off1 i u v a + S1.size a ≤ S16.size a) (q : Fin 16) (hq : k0_off1 i u v 0 = q.val) :
    cellOf0 i arg2 harg2 x0 u v hb = x0 (ix1 q) := by
  unfold cellOf0
  refine (congrFun (harg2.read_unread x0) _).trans ?_
  refine congrArg x0 (funext fun a => ?_)
  fin_cases a
  ext
  exact hq

omit h in
theorem sink_apply (i : grid0.Coords) (arg2 : Memref sig .tc .smem S16 .f32) (harg2 : arg2.IsWhole) (x0 : Vec Ideal S16 .f32) (s : Fin 8)
    (q : Fin 16) (hq : q.val = 8 * (i 0).val + s.val) : sinkOf0 i arg2 harg2 x0 s = x0 (ix1 q) := by
  fin_cases s
  · exact cell_apply i arg2 harg2 x0 _ _ _ q ((congrFun (k0_off1_eq i 0 0) 0).trans hq.symm)
  · exact cell_apply i arg2 harg2 x0 _ _ _ q ((congrFun (k0_off1_eq i 0 1) 0).trans hq.symm)
  · exact cell_apply i arg2 harg2 x0 _ _ _ q ((congrFun (k0_off1_eq i 1 0) 0).trans hq.symm)
  · exact cell_apply i arg2 harg2 x0 _ _ _ q ((congrFun (k0_off1_eq i 1 1) 0).trans hq.symm)
  · exact cell_apply i arg2 harg2 x0 _ _ _ q ((congrFun (k0_off1_eq i 2 0) 0).trans hq.symm)
  · exact cell_apply i arg2 harg2 x0 _ _ _ q ((congrFun (k0_off1_eq i 2 1) 0).trans hq.symm)
  · exact cell_apply i arg2 harg2 x0 _ _ _ q ((congrFun (k0_off1_eq i 3 0) 0).trans hq.symm)
  · exact cell_apply i arg2 harg2 x0 _ _ _ q ((congrFun (k0_off1_eq i 3 1) 0).trans hq.symm)

/-- What grid point `t` loads. -/
abbrev B0 (V : Dev nD → (b : Ref sig .tc) → b.ty.Contents (Elt Ideal)) (c : Dev nD) (t : Fin cfg0.N) : Blk Ideal :=
  blk0 (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (iblk0 V c 0 t) (iblk0 V c 1 t) (iblk0 V c 2 t) (iblk0 V c 3 t) (iblk0 V c 4 t) (iblk0 V c 5 t)
    (iblk0 V c 6 t) (iblk0 V c 7 t)

theorem isBlk0 : (B0 V c t).Is { I.blk (pm0 t) (pn0 t) with dh := (I.blk (pm0 t) (pn0 t)).z } where
  q s i l := by
    refine (slabOf_apply _ _ _ s i l).trans ((in0_1 h t i _).trans ?_)
    unfold Inp.blk; dsimp only
    congr 2; ext; dsimp only; omega
  kp i l := by
    refine (congrFun (wholeOf_eq _ _ _) _).trans (in0_2 h t i l)
  kc i l := by
    refine (congrFun (wholeOf_eq _ _ _) _).trans (in0_3 h t i l)
  vp i l := by
    refine (congrFun (wholeOf_eq _ _ _) _).trans (in0_4 h t i l)
  vc i l := by
    refine (congrFun (wholeOf_eq _ _ _) _).trans (in0_5 h t i l)
  bias q i j := (headOf_apply _ _ _ q i j).trans (in0_6 h t q i j)
  sink q := by
    refine (sink_apply _ _ _ _ q ⟨8 * (pm0 t).val + q.val, by omega⟩ ?_).trans (in0_0 h t _)
    rw [coord0_0]
  edge i j := edge_at (pn0 t) i j _ (coord0_1 t)
  z s i l := by
    refine (slabOf_apply _ _ _ s i l).trans ((in0_7 h t i _).trans ?_)
    unfold Inp.blk; dsimp only
    congr 2; ext; dsimp only; omega
  dh s i l := by
    refine (slabOf_apply _ _ _ s i l).trans ((in0_7 h t i _).trans ?_)
    unfold Inp.blk; dsimp only
    congr 2; ext; dsimp only; omega

theorem O0 (a r e : Fin 2) (i : Fin 128) (d : Fin 64) :
    (B0 V c t).O a (ix2 (at2 r i) (lane e d)) = (I.O (pn0 t) (Inp.kh (pm0 t) a) (Inp.gh r e) i d : EReal) :=
  ((isBlk0 h t).O a r i (lane e d)).trans (congrArg _ (I.blk_O (pm0 t) (pn0 t) a r e i d))
theorem H0 (a r e : Fin 2) (i : Fin 128) (d : Fin 64) :
    (B0 V c t).H a r (ix2 i (lane e d)) = (I.H (pn0 t) (Inp.kh (pm0 t) a) (Inp.gh r e) i d : EReal) :=
  ((isBlk0 h t).H a r i (lane e d)).trans (congrArg _ (I.blk_H (pm0 t) (pn0 t) a r e i d))

end Cert.AttnIdeal.Gen

end
-- ==== Proof.HostBias.lean ====
/- Hand-written, untrusted. THE BIASES BY DISTANCE that the host hands the calls: for slot `j` and query `i` the row of the table
   at their distance, read by a product with the bucket's indicator. -/
module

public import Idealize.ShloMosaic.Lib.StableHlo.ReadAt
public import proofs.«01_k».proof.Proof.Bucket
public import proofs.«01_k».proof.Proof.Arrays0
public import proofs.«01_k».proof.Proof.Gen.AttnIdeal.Frame

@[expose] public section

set_option maxRecDepth 16384

noncomputable section

namespace Cert.AttnIdeal.Gen

open Idealize.ShloMosaic Idealize.ShloMosaic.TcCoe Idealize.ShloMosaic.Pointwise Cert.Block Cert.Model

variable (m : (ℓ : Loc nD τ sig) → Buf (Elt Ideal) ℓ) (ρ : Dev nD → PrngReg) (c : Dev nD)

/-- The distance of slot `j` from query `i`: the slot holds a key of the block before, or of the own block. -/
abbrev dist (i j : Fin 128) : ℕ := if i.val < j.val then 128 + i.val - j.val else i.val - j.val

/-- The word of the distance. -/
theorem dist_word (i j : Fin 128) :
    Scalar.select (IntOp.cmpi .sgt (BitVec.ofNat 32 j.val) (BitVec.ofNat 32 i.val))
      (IntOp.subi (IntOp.addi 128#32 (BitVec.ofNat 32 i.val)) (BitVec.ofNat 32 j.val))
      (IntOp.subi (BitVec.ofNat 32 i.val) (BitVec.ofNat 32 j.val)) = BitVec.ofNat 32 (dist i j) := by
  have hi := i.isLt
  have hj := j.isLt
  have ei := Bucket.toInt_small i.val hi
  have ej := Bucket.toInt_small j.val hj
  by_cases h : i.val < j.val
  · have hb : (BitVec.ofNat 32 i.val).slt (BitVec.ofNat 32 j.val) = true := by
      rw [BitVec.slt_iff_toInt_lt, ei, ej]; exact_mod_cast h
    refine (Bucket.select_true hb _ _).trans ?_
    unfold dist; rw [if_pos h]
    apply BitVec.eq_of_toNat_eq
    show (128#32 + BitVec.ofNat 32 i.val - BitVec.ofNat 32 j.val).toNat = _
    simp only [BitVec.toNat_sub, BitVec.toNat_add, BitVec.toNat_ofNat]
    omega
  · have hb : (BitVec.ofNat 32 i.val).slt (BitVec.ofNat 32 j.val) = false := by
      rw [← Bool.not_eq_true, BitVec.slt_iff_toInt_lt, ei, ej]; exact_mod_cast h
    refine (Bucket.select_false hb _ _).trans ?_
    unfold dist; rw [if_neg h]
    apply BitVec.eq_of_toNat_eq
    show (BitVec.ofNat 32 i.val - BitVec.ofNat 32 j.val).toNat = _
    simp only [BitVec.toNat_sub, BitVec.toNat_ofNat]
    omega

theorem dist_lt (i j : Fin 128) : dist i j < 128 := by
  unfold dist; split <;> omega

/-- The indicator of a bucket as a number. -/
theorem indicator (b x : Fin 32) : ((FloatOps.uitofp (F := Ideal) .f32
    (IntOp.cmpi .eq (BitVec.ofNat 32 b.val) (BitVec.ofNat 32 x.val)) : EReal)) = (((if x = b then 1 else 0 : ℝ)) : EReal) := by
  have hb := b.isLt
  have hx := x.isLt
  have e : (BitVec.ofNat 32 b.val == BitVec.ofNat 32 x.val) = decide (x = b) := by
    rw [Bool.eq_iff_iff, beq_iff_eq, decide_eq_true_iff]
    constructor
    · intro h
      have := congrArg BitVec.toNat h
      simp only [BitVec.toNat_ofNat] at this
      exact Fin.ext (by omega)
    · rintro rfl; rfl
  show (((BitVec.ofBool (BitVec.ofNat 32 b.val == BitVec.ofNat 32 x.val)).toNat : ℝ) : EReal) = _
  rw [e]
  by_cases h : x = b
  · rw [if_pos h, decide_eq_true h]; simp
  · rw [if_neg h, decide_eq_false h]; simp

/-- The bias of slot `j` for query `i` and head `h`. -/
theorem v41_read (tab : Fin 32 → Fin 16 → ℝ) (ht : ∀ r h, W0 (F := Ideal) m ρ c main_arg2 (ix2 r h) = (tab r h : EReal))
    (h : Fin 16) (i j : Fin 128) :
    W5 (F := Ideal) m ρ c main_v41 (ix3 h i j) = (tab (Bucket.bucket (dist i j)) h : EReal) := by
  after_reads_at
  rw [dist_word]
  have hw := Bucket.word_eq (dist i j) (dist_lt i j)
  refine (Finset.sum_congr rfl fun x _ => (?_ : _ = ((tab x h * (if x = Bucket.bucket (dist i j) then 1 else 0) : ℝ) : EReal))).trans ?_
  · refine (congrArg₂ (fun a b : EReal => a * b) (ht x h) ((congrArg (fun w => FloatOps.uitofp (F := Ideal) .f32
      (IntOp.cmpi .eq w (BitVec.ofNat 32 x.val))) hw).trans (indicator _ x))).trans ?_
    exact (EReal.coe_mul _ _).symm
  · rw [← Row.coe_sum]
    simp

end Cert.AttnIdeal.Gen
end
-- ==== Proof.Result0.lean ====
/- Hand-written, untrusted. THE FORWARD CALL'S RESULTS: the heads' values and their gated values, as whole arrays. -/
module

public import proofs.«01_k».proof.Proof.Arrays0

@[expose] public section

set_option maxRecDepth 16384

noncomputable section

namespace Cert.AttnIdeal.Gen

open Idealize.ShloMosaic Idealize.ShloMosaic.TcCoe Idealize.ShloMosaic.Pointwise Cert.Block Cert.Model
open Idealize.ShloMosaic.Pipeline (Dat Cfg Window)

section
variable (i : grid0.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x512 .f32) (harg9 : arg9.IsWhole)
    (x0 : Vec Ideal S16 .f32) (x1 : Vec Ideal S128x512 .f32) (x2 : Vec Ideal S128x128 .f32) (x3 : Vec Ideal S128x128 .f32) (x4 : Vec Ideal S128x128 .f32) (x5 : Vec Ideal S128x128 .f32) (x6 : Vec Ideal S8x128x128 .f32) (x7 : Vec Ideal S128x512 .f32)
    (c : Dev nD) (arg10 : Memref sig .tc .vmem S128x512 .f32) (harg10 : arg10.IsWhole) (arg11 : Memref sig .tc .vmem S128x512 .bf16) (harg11 : arg11.IsWhole)
    (f : Fin 64 → Fin 4 → Fin 4 → Fin 128 → Fin 64 → ℝ) (m : Fin 2) (n : Fin 64) (y : S128x512.Idx)

theorem out0_8_of (hx : ∀ (a r e : Fin 2) i' d, (blk0 i arg2 harg2 arg3 harg3 arg4 harg4 arg5 harg5 arg6 harg6 arg7 harg7 arg8 harg8 arg9 harg9 x0 x1 x2 x3 x4 x5 x6 x7).O a (ix2 (at2 r i') (lane e d)) = (f n (Inp.kh m a) (Inp.gh r e) i' d : EReal)) :
    out0_A_8 c i arg2 harg2 arg3 harg3 arg4 harg4 arg5 harg5 arg6 harg6 arg7 harg7 arg8 harg8 arg9 harg9 arg10 harg10 arg11 harg11 x0 x1 x2 x3 x4 x5 x6 x7 y = blkOf f m n y :=
  read_of_pieces VO0_8 _ _ (slabs4 fun a r => rows r ((blk0 i arg2 harg2 arg3 harg3 arg4 harg4 arg5 harg5 arg6 harg6 arg7 harg7 arg8 harg8 arg9 harg9 x0 x1 x2 x3 x4 x5 x6 x7).O a)) (pieces0_8 i arg2 harg2 arg3 harg3 arg4 harg4 arg5 harg5 arg6 harg6 arg7 harg7 arg8 harg8 arg9 harg9 x0 x1 x2 x3 x4 x5 x6 x7 c arg10 harg10 arg11 harg11) (blkOf f m n) y
    (cover0_A_8 c i arg2 harg2 arg3 harg3 arg4 harg4 arg5 harg5 arg6 harg6 arg7 harg7 arg8 harg8 arg9 harg9 arg10 harg10 arg11 harg11 x0 x1 x2 x3 x4 x5 x6 x7 y) (slabs4_pieces _ f m n fun a r e i' d => (rows_apply _ r i' _).trans (hx a r e i' d))

theorem out0_9_of (hx : ∀ (a r e : Fin 2) i' d, (blk0 i arg2 harg2 arg3 harg3 arg4 harg4 arg5 harg5 arg6 harg6 arg7 harg7 arg8 harg8 arg9 harg9 x0 x1 x2 x3 x4 x5 x6 x7).H a r (ix2 i' (lane e d)) = (f n (Inp.kh m a) (Inp.gh r e) i' d : EReal)) :
    out0_A_9 c i arg2 harg2 arg3 harg3 arg4 harg4 arg5 harg5 arg6 harg6 arg7 harg7 arg8 harg8 arg9 harg9 arg10 harg10 arg11 harg11 x0 x1 x2 x3 x4 x5 x6 x7 y = blkOf f m n y :=
  read_of_pieces VO0_9 _ _ (slabs4h (blk0 i arg2 harg2 arg3 harg3 arg4 harg4 arg5 harg5 arg6 harg6 arg7 harg7 arg8 harg8 arg9 harg9 x0 x1 x2 x3 x4 x5 x6 x7).H) (pieces0_9 i arg2 harg2 arg3 harg3 arg4 harg4 arg5 harg5 arg6 harg6 arg7 harg7 arg8 harg8 arg9 harg9 x0 x1 x2 x3 x4 x5 x6 x7 c arg10 harg10 arg11 harg11) (blkOf f m n) y
    (cover0_A_9 c i arg2 harg2 arg3 harg3 arg4 harg4 arg5 harg5 arg6 harg6 arg7 harg7 arg8 harg8 arg9 harg9 arg10 harg10 arg11 harg11 x0 x1 x2 x3 x4 x5 x6 x7 y) (slabs4h_pieces _ f m n hx)
end

variable {I : Inp} {V : Dev nD → (b : Ref sig .tc) → b.ty.Contents (Elt Ideal)} {c : Dev nD} (h : In0 I V c)
include h

theorem outs0_8 (t : Fin cfg0.N) (y : S128x512.Idx) : (outsAt0 (F := Ideal) V c t).1 y = blkOf I.O (pm0 t) (pn0 t) y := by
  unfold outsAt0
  exact out0_8_of (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (iblk0 V c 6 t) (iblk0 V c 7 t)
    c (ms0_8 t) (hs0_8 t) (ms0_9 t) (hs0_9 t) _ _ _ _ (fun a r e i d => O0 h t a r e i d)

omit h in
theorem blkOf_emb0_8 (f : Fin 64 → Fin 4 → Fin 4 → Fin 128 → Fin 64 → ℝ) (t : Fin cfg0.N) (y : S128x512.Idx) :
    blkOf f (pm0 t) (pn0 t) y = ((flat f ((win0_8.blk t).view.emb y 0) ((win0_8.blk t).view.emb y 1) : ℝ) : EReal) := by
  have e : (win0_8.blk t).view.emb y = ix2 (row (pn0 t) (y 0))
      ⟨512 * (pm0 t).val + (y 1).val, by have : (y 1).val < 512 := (y 1).isLt; omega⟩ := by
    blk_ext [idx0_8]
  rw [e]; rfl

theorem arr0_8 : (dat0 (F := Ideal) V c).arrAt 8 cfg0.N = fun y => ((flat I.O (y 0) (y 1) : ℝ) : EReal) := by
  refine (dat0 (F := Ideal) V c).arrAt_eq_of_covers 8 _ (by decide +kernel) fun t hf y => ?_
  blk_simp
  rw [after0_8]
  exact (outs0_8 h t y).trans (blkOf_emb0_8 I.O t y)

theorem outs0_9 (t : Fin cfg0.N) (y : S128x512.Idx) : (outsAt0 (F := Ideal) V c t).2 y = blkOf I.H (pm0 t) (pn0 t) y := by
  unfold outsAt0
  exact out0_9_of (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) (iblk0 V c 5 t) (iblk0 V c 6 t) (iblk0 V c 7 t)
    c (ms0_8 t) (hs0_8 t) (ms0_9 t) (hs0_9 t) _ _ _ _ (fun a r e i d => H0 h t a r e i d)

omit h in
theorem blkOf_emb0_9 (f : Fin 64 → Fin 4 → Fin 4 → Fin 128 → Fin 64 → ℝ) (t : Fin cfg0.N) (y : S128x512.Idx) :
    blkOf f (pm0 t) (pn0 t) y = ((flat f ((win0_9.blk t).view.emb y 0) ((win0_9.blk t).view.emb y 1) : ℝ) : EReal) := by
  have e : (win0_9.blk t).view.emb y = ix2 (row (pn0 t) (y 0))
      ⟨512 * (pm0 t).val + (y 1).val, by have : (y 1).val < 512 := (y 1).isLt; omega⟩ := by
    blk_ext [idx0_9]
  rw [e]; rfl

theorem arr0_9 : (dat0 (F := Ideal) V c).arrAt 9 cfg0.N = fun y => ((flat I.H (y 0) (y 1) : ℝ) : EReal) := by
  refine (dat0 (F := Ideal) V c).arrAt_eq_of_covers 9 _ (by decide +kernel) fun t hf y => ?_
  blk_simp
  rw [after0_9]
  exact (outs0_9 h t y).trans (blkOf_emb0_9 I.H t y)

end Cert.AttnIdeal.Gen

end
-- ==== Proof.Pieces1.lean ====
/- Hand-written, untrusted. WHAT THE BACKWARD BODY STORES, in the words of Block.lean: the gradients of the queries and of
   the gate's input slab by slab, and what the point adds to the gradients of the keys and values of the block before and of
   its own; alike at a pair's first block and at the others. -/
module

public import proofs.«01_k».proof.Proof.Gen.AttnIdeal.Frame.Region1
public import proofs.«01_k».proof.Proof.Loads

@[expose] public section

set_option maxRecDepth 16384

noncomputable section

namespace Cert.AttnIdeal.Gen

open Idealize.ShloMosaic Idealize.ShloMosaic.TcCoe Cert.Block

variable {F : FTy → Type} [FloatOps F] [Named F]
section
variable (i : grid1.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole)
    (x0 : Vec F S16 .f32) (x1 : Vec F S128x512 .f32) (x2 : Vec F S128x128 .f32) (x3 : Vec F S128x128 .f32) (x4 : Vec F S128x128 .f32) (x5 : Vec F S128x128 .f32) (x6 : Vec F S8x128x128 .f32) (x7 : Vec F S128x512 .f32) (x8 : Vec F S128x512 .f32) (x9 : Vec F S128x512 .f32)

def cellOf1 (u : BitVec 32) (h : ∀ a, k1_off1 i u a + S1.size a ≤ S16.size a) : F .f32 :=
  View.readAt (Elt F) arg2.view (Rect.unit (s := S16) (k1_off1 i u) S1.size h).toLoadRect (harg2.unread x0) (Shape.Idx.first (by show 0 < S1.numel; rw [numel1_S1]; exact Nat.one_pos))

def sinkOf1 : Fin 8 → F .f32
  | 0 => cellOf1 i arg2 harg2 x0 0#32 (k1_off1_inb i 0)
  | 1 => cellOf1 i arg2 harg2 x0 1#32 (k1_off1_inb i 1)
  | 2 => cellOf1 i arg2 harg2 x0 2#32 (k1_off1_inb i 2)
  | 3 => cellOf1 i arg2 harg2 x0 3#32 (k1_off1_inb i 3)
  | 4 => cellOf1 i arg2 harg2 x0 4#32 (k1_off1_inb i 4)
  | 5 => cellOf1 i arg2 harg2 x0 5#32 (k1_off1_inb i 5)
  | 6 => cellOf1 i arg2 harg2 x0 6#32 (k1_off1_inb i 6)
  | 7 => cellOf1 i arg2 harg2 x0 7#32 (k1_off1_inb i 7)

/-- What the backward body loads. -/
def blk1 : Blk F where
  q := slabOf arg3 harg3 x1
  kp := wholeOf arg4 harg4 x2
  kc := wholeOf arg5 harg5 x3
  vp := wholeOf arg6 harg6 x4
  vc := wholeOf arg7 harg7 x5
  bias := headOf arg8 harg8 x6
  sink := sinkOf1 i arg2 harg2 x0
  edge := edge (BitVec.ofNat 32 (i 1).val)
  z := slabOf arg9 harg9 x7
  o := slabOf arg10 harg10 x8
  dh := slabOf arg11 harg11 x9

theorem pieces1_A_10 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x512) ![0, 384] ![128, 128] inb_S128x512_S128x128_0_384, B.dQ 1 1⟩,
      ⟨Rect.unit (s := S128x512) ![0, 256] ![128, 128] inb_S128x512_S128x128_0_256, B.dQ 1 0⟩,
      ⟨Rect.unit (s := S128x512) ![0, 128] ![128, 128] inb_S128x512_S128x128_0_128, B.dQ 0 1⟩,
      ⟨Rect.unit (s := S128x512) ![0, 0] ![128, 128] inb_S128x512_S128x128_0_0, B.dQ 0 0⟩]) := by
  sl_kernel_rfl

theorem pieces1_A_11 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x512) ![0, 384] ![128, 128] inb_S128x512_S128x128_0_384, B.dZ 3⟩,
      ⟨Rect.unit (s := S128x512) ![0, 256] ![128, 128] inb_S128x512_S128x128_0_256, B.dZ 2⟩,
      ⟨Rect.unit (s := S128x512) ![0, 128] ![128, 128] inb_S128x512_S128x128_0_128, B.dZ 1⟩,
      ⟨Rect.unit (s := S128x512) ![0, 0] ![128, 128] inb_S128x512_S128x128_0_0, B.dZ 0⟩]) := by
  sl_kernel_rfl

theorem pieces1_A_12 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dK 1⟩]) := by
  sl_kernel_rfl

theorem pieces1_A_13 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dK 0⟩]) := by
  sl_kernel_rfl

theorem pieces1_A_14 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dV 1⟩]) := by
  sl_kernel_rfl

theorem pieces1_A_15 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : cond1_0 i) :
    (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9).2.2.2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dV 0⟩]) := by
  sl_kernel_rfl

theorem pieces1_B_10 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x512) ![0, 384] ![128, 128] inb_S128x512_S128x128_0_384, B.dQ 1 1⟩,
      ⟨Rect.unit (s := S128x512) ![0, 256] ![128, 128] inb_S128x512_S128x128_0_256, B.dQ 1 0⟩,
      ⟨Rect.unit (s := S128x512) ![0, 128] ![128, 128] inb_S128x512_S128x128_0_128, B.dQ 0 1⟩,
      ⟨Rect.unit (s := S128x512) ![0, 0] ![128, 128] inb_S128x512_S128x128_0_0, B.dQ 0 0⟩]) := by
  sl_kernel_rfl

theorem pieces1_B_11 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x512) ![0, 384] ![128, 128] inb_S128x512_S128x128_0_384, B.dZ 3⟩,
      ⟨Rect.unit (s := S128x512) ![0, 256] ![128, 128] inb_S128x512_S128x128_0_256, B.dZ 2⟩,
      ⟨Rect.unit (s := S128x512) ![0, 128] ![128, 128] inb_S128x512_S128x128_0_128, B.dZ 1⟩,
      ⟨Rect.unit (s := S128x512) ![0, 0] ![128, 128] inb_S128x512_S128x128_0_0, B.dZ 0⟩]) := by
  sl_kernel_rfl

theorem pieces1_B_12 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dK 1⟩]) := by
  sl_kernel_rfl

theorem pieces1_B_13 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dK 0⟩]) := by
  sl_kernel_rfl

theorem pieces1_B_14 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).2.2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dV 1⟩]) := by
  sl_kernel_rfl

theorem pieces1_B_15 (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole) (hc0 : ¬ cond1_0 i) (y16 : Vec F S8x128x128 .f32) (y17 : Vec F S8x8x128 .f32) :
    (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17).2.2.2.2.2.1 =
    (let B := blk1 i arg2 harg2 arg3 harg3 arg4 harg4 arg5 harg5 arg6 harg6 arg7 harg7 arg8 harg8 arg9 harg9 arg10 harg10 arg11 harg11 x0 x1 x2 x3 x4 x5 x6 x7 x8 x9
     [⟨Rect.unit (s := S128x128) ![0, 0] ![128, 128] inb_S128x128_S128x128_0_0, B.dV 0⟩]) := by
  sl_kernel_rfl

end

end Cert.AttnIdeal.Gen

end
-- ==== Proof.Arrays1.lean ====
/- Hand-written, untrusted. WHAT THE BACKWARD CALL LOADS: at every grid point what the mathematics says, so that the point
   computes the gradients of its block. -/
module

public import Idealize.ShloMosaic.Lib.Pipeline.ValueKit
public import proofs.«01_k».proof.Proof.Pieces1
public import proofs.«01_k».proof.Proof.Tiles

@[expose] public section

set_option maxRecDepth 16384

noncomputable section

namespace Cert.AttnIdeal.Gen

open Idealize.ShloMosaic Idealize.ShloMosaic.TcCoe Idealize.ShloMosaic.Pointwise Cert.Block Cert.Model
open Idealize.ShloMosaic.Pipeline (Dat Cfg Window)

/-! ## The grid -/

abbrev pm1 (t : Fin cfg1.N) : Fin 2 := ⟨t.val / 64, by have := t.isLt; have : cfg1.N = 128 := rfl; omega⟩
abbrev pn1 (t : Fin cfg1.N) : Fin 64 := ⟨t.val % 64, by omega⟩

theorem idx1_0 : ∀ t : Fin cfg1.N, win1_0.index t = ![0] := (by decide +kernel : ∀ t : Fin grid1.N, _)
theorem idx1_1 : ∀ t : Fin cfg1.N, win1_1.index t = ![t.val % 64, 4 + t.val / 64] := (by decide +kernel : ∀ t : Fin grid1.N, _)
theorem idx1_2 : ∀ t : Fin cfg1.N, win1_2.index t = ![t.val % 64 - 1, 24 + t.val / 64] := (by decide +kernel : ∀ t : Fin grid1.N, _)
theorem idx1_3 : ∀ t : Fin cfg1.N, win1_3.index t = ![t.val % 64, 24 + t.val / 64] := (by decide +kernel : ∀ t : Fin grid1.N, _)
theorem idx1_4 : ∀ t : Fin cfg1.N, win1_4.index t = ![t.val % 64 - 1, 26 + t.val / 64] := (by decide +kernel : ∀ t : Fin grid1.N, _)
theorem idx1_5 : ∀ t : Fin cfg1.N, win1_5.index t = ![t.val % 64, 26 + t.val / 64] := (by decide +kernel : ∀ t : Fin grid1.N, _)
theorem idx1_6 : ∀ t : Fin cfg1.N, win1_6.index t = ![t.val / 64, 0, 0] := (by decide +kernel : ∀ t : Fin grid1.N, _)
theorem idx1_7 : ∀ t : Fin cfg1.N, win1_7.index t = ![t.val % 64, 7 + t.val / 64] := (by decide +kernel : ∀ t : Fin grid1.N, _)
theorem idx1_8 : ∀ t : Fin cfg1.N, win1_8.index t = ![t.val % 64, t.val / 64] := (by decide +kernel : ∀ t : Fin grid1.N, _)
theorem idx1_9 : ∀ t : Fin cfg1.N, win1_9.index t = ![t.val % 64, t.val / 64] := (by decide +kernel : ∀ t : Fin grid1.N, _)
theorem idx1_10 : ∀ t : Fin cfg1.N, win1_10.index t = ![t.val % 64, t.val / 64] := (by decide +kernel : ∀ t : Fin grid1.N, _)
theorem idx1_11 : ∀ t : Fin cfg1.N, win1_11.index t = ![t.val % 64, t.val / 64] := (by decide +kernel : ∀ t : Fin grid1.N, _)
theorem idx1_12 : ∀ t : Fin cfg1.N, win1_12.index t = ![t.val % 64, t.val / 64] := (by decide +kernel : ∀ t : Fin grid1.N, _)
theorem idx1_13 : ∀ t : Fin cfg1.N, win1_13.index t = ![t.val % 64, t.val / 64] := (by decide +kernel : ∀ t : Fin grid1.N, _)
theorem idx1_14 : ∀ t : Fin cfg1.N, win1_14.index t = ![t.val % 64, t.val / 64] := (by decide +kernel : ∀ t : Fin grid1.N, _)
theorem idx1_15 : ∀ t : Fin cfg1.N, win1_15.index t = ![t.val % 64, t.val / 64] := (by decide +kernel : ∀ t : Fin grid1.N, _)
theorem coord1_0 : ∀ t : Fin cfg1.N, (grid1.coords t 0).val = t.val / 64 := (by decide +kernel : ∀ t : Fin grid1.N, _)
theorem coord1_1 : ∀ t : Fin cfg1.N, (grid1.coords t 1).val = t.val % 64 := (by decide +kernel : ∀ t : Fin grid1.N, _)

variable (I : Inp) (V : Dev nD → (b : Ref sig .tc) → b.ty.Contents (Elt Ideal)) (c : Dev nD)

/-- The backward call finds what the forward call found, the gradient of the result, and the heads' values. -/
structure In1 : Prop where
  pr : ∀ R C, V c main_arg0 (ix2 R C) = (I.pr R C : EReal)
  dh : ∀ R C, V c main_arg3 (ix2 R C) = (I.dh R C : EReal)
  o : ∀ R C, V c main_v42_0 (ix2 R C) = (flat I.O R C : EReal)
  sk : ∀ h, V c main_arg1 (ix1 h) = (I.sk h : EReal)
  bi : ∀ (h : Fin 16) (i j : Fin 128), V c main_v41 (ix3 h i j) = (I.bi (if i.val < j.val then 128 + i.val - j.val else i.val - j.val) h : EReal)

variable {I V c} (h : In1 I V c) (t : Fin cfg1.N)
include h

theorem in1_1 (i : Fin 128) (l : Fin 512) : iblk1 (F := Ideal) V c 1 t (ix2 i l)
    = (I.pr (row (pn1 t) i) ⟨2048 + 512 * (pm1 t).val + l.val, by omega⟩ : EReal) := by
  rw [← h.pr]
  blk_simp [iblk1, idx1_1]
  refine congrArg (V c main_arg0) ?_
  blk_ext [idx1_1]

theorem in1_2 (i l : Fin 128) : iblk1 (F := Ideal) V c 2 t (ix2 i l)
    = (I.pr (row (Inp.back (pn1 t)) i) ⟨3072 + 128 * (pm1 t).val + l.val, by omega⟩ : EReal) := by
  rw [← h.pr]
  blk_simp [iblk1, idx1_2]
  refine congrArg (V c main_arg0) ?_
  blk_ext [idx1_2]

theorem in1_3 (i l : Fin 128) : iblk1 (F := Ideal) V c 3 t (ix2 i l)
    = (I.pr (row (pn1 t) i) ⟨3072 + 128 * (pm1 t).val + l.val, by omega⟩ : EReal) := by
  rw [← h.pr]
  blk_simp [iblk1, idx1_3]
  refine congrArg (V c main_arg0) ?_
  blk_ext [idx1_3]

theorem in1_4 (i l : Fin 128) : iblk1 (F := Ideal) V c 4 t (ix2 i l)
    = (I.pr (row (Inp.back (pn1 t)) i) ⟨3328 + 128 * (pm1 t).val + l.val, by omega⟩ : EReal) := by
  rw [← h.pr]
  blk_simp [iblk1, idx1_4]
  refine congrArg (V c main_arg0) ?_
  blk_ext [idx1_4]

theorem in1_5 (i l : Fin 128) : iblk1 (F := Ideal) V c 5 t (ix2 i l)
    = (I.pr (row (pn1 t) i) ⟨3328 + 128 * (pm1 t).val + l.val, by omega⟩ : EReal) := by
  rw [← h.pr]
  blk_simp [iblk1, idx1_5]
  refine congrArg (V c main_arg0) ?_
  blk_ext [idx1_5]

theorem in1_7 (i : Fin 128) (l : Fin 512) : iblk1 (F := Ideal) V c 7 t (ix2 i l)
    = (I.pr (row (pn1 t) i) ⟨3584 + 512 * (pm1 t).val + l.val, by omega⟩ : EReal) := by
  rw [← h.pr]
  blk_simp [iblk1, idx1_7]
  refine congrArg (V c main_arg0) ?_
  blk_ext [idx1_7]

theorem in1_8 (i : Fin 128) (l : Fin 512) : iblk1 (F := Ideal) V c 8 t (ix2 i l)
    = (flat I.O (row (pn1 t) i) ⟨512 * (pm1 t).val + l.val, by omega⟩ : EReal) := by
  rw [← h.o]
  blk_simp [iblk1, idx1_8]
  refine congrArg (V c main_v42_0) ?_
  blk_ext [idx1_8]

theorem in1_9 (i : Fin 128) (l : Fin 512) : iblk1 (F := Ideal) V c 9 t (ix2 i l)
    = (I.dh (row (pn1 t) i) ⟨512 * (pm1 t).val + l.val, by omega⟩ : EReal) := by
  rw [← h.dh]
  blk_simp [iblk1, idx1_9]
  refine congrArg (V c main_arg3) ?_
  blk_ext [idx1_9]

theorem in1_6 (q : Fin 8) (i j : Fin 128) : iblk1 (F := Ideal) V c 6 t (ix3 q i j)
    = (I.bi (if i.val < j.val then 128 + i.val - j.val else i.val - j.val) ⟨8 * (pm1 t).val + q.val, by omega⟩ : EReal) := by
  rw [← h.bi]
  blk_simp [iblk1, idx1_6]
  refine congrArg (V c main_v41) ?_
  blk_ext [idx1_6]

theorem in1_0 (q : Fin 16) : iblk1 (F := Ideal) V c 0 t (ix1 q) = (I.sk q : EReal) := by
  rw [← h.sk]
  blk_simp [iblk1, idx1_0]
  refine congrArg (V c main_arg1) ?_
  blk_ext [idx1_0]

omit h in
theorem cell1_apply (i : grid1.Coords) (arg2 : Memref sig .tc .smem S16 .f32) (harg2 : arg2.IsWhole) (x0 : Vec Ideal S16 .f32) (u : BitVec 32)
    (hb : ∀ a, k1_off1 i u a + S1.size a ≤ S16.size a) (q : Fin 16) (hq : k1_off1 i u 0 = q.val) :
    cellOf1 i arg2 harg2 x0 u hb = x0 (ix1 q) := by
  unfold cellOf1
  refine (congrFun (harg2.read_unread x0) _).trans ?_
  refine congrArg x0 (funext fun a => ?_)
  fin_cases a
  ext
  exact hq

omit h in
theorem sink1_apply (i : grid1.Coords) (arg2 : Memref sig .tc .smem S16 .f32) (harg2 : arg2.IsWhole) (x0 : Vec Ideal S16 .f32) (s : Fin 8)
    (q : Fin 16) (hq : q.val = 8 * (i 0).val + s.val) : sinkOf1 i arg2 harg2 x0 s = x0 (ix1 q) := by
  fin_cases s
  · exact cell1_apply i arg2 harg2 x0 _ _ q ((congrFun (k1_off1_eq i 0) 0).trans hq.symm)
  · exact cell1_apply i arg2 harg2 x0 _ _ q ((congrFun (k1_off1_eq i 1) 0).trans hq.symm)
  · exact cell1_apply i arg2 harg2 x0 _ _ q ((congrFun (k1_off1_eq i 2) 0).trans hq.symm)
  · exact cell1_apply i arg2 harg2 x0 _ _ q ((congrFun (k1_off1_eq i 3) 0).trans hq.symm)
  · exact cell1_apply i arg2 harg2 x0 _ _ q ((congrFun (k1_off1_eq i 4) 0).trans hq.symm)
  · exact cell1_apply i arg2 harg2 x0 _ _ q ((congrFun (k1_off1_eq i 5) 0).trans hq.symm)
  · exact cell1_apply i arg2 harg2 x0 _ _ q ((congrFun (k1_off1_eq i 6) 0).trans hq.symm)
  · exact cell1_apply i arg2 harg2 x0 _ _ q ((congrFun (k1_off1_eq i 7) 0).trans hq.symm)

/-- What grid point `t` loads. -/
abbrev B1 (V : Dev nD → (b : Ref sig .tc) → b.ty.Contents (Elt Ideal)) (c : Dev nD) (t : Fin cfg1.N) : Blk Ideal :=
  blk1 (grid1.coords t) (ms1_0 t) (hs1_0 t) (ms1_1 t) (hs1_1 t) (ms1_2 t) (hs1_2 t) (ms1_3 t) (hs1_3 t) (ms1_4 t) (hs1_4 t) (ms1_5 t) (hs1_5 t)
    (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)

theorem isBlk1 : (B1 V c t).Is (I.blk (pm1 t) (pn1 t)) where
  q s i l := by
    refine (slabOf_apply _ _ _ s i l).trans ((in1_1 h t i _).trans ?_)
    unfold Inp.blk; dsimp only
    congr 2; ext; dsimp only; omega
  kp i l := by
    refine (congrFun (wholeOf_eq _ _ _) _).trans (in1_2 h t i l)
  kc i l := by
    refine (congrFun (wholeOf_eq _ _ _) _).trans (in1_3 h t i l)
  vp i l := by
    refine (congrFun (wholeOf_eq _ _ _) _).trans (in1_4 h t i l)
  vc i l := by
    refine (congrFun (wholeOf_eq _ _ _) _).trans (in1_5 h t i l)
  bias q i j := (headOf_apply _ _ _ q i j).trans (in1_6 h t q i j)
  sink q := by
    refine (sink1_apply _ _ _ _ q ⟨8 * (pm1 t).val + q.val, by omega⟩ ?_).trans (in1_0 h t _)
    rw [coord1_0]
  edge i j := edge_at (pn1 t) i j _ (coord1_1 t)
  z s i l := by
    refine (slabOf_apply _ _ _ s i l).trans ((in1_7 h t i _).trans ?_)
    unfold Inp.blk; dsimp only
    congr 2; ext; dsimp only; omega
  dh s i l := by
    refine (slabOf_apply _ _ _ s i l).trans ((in1_9 h t i _).trans ?_)
    unfold Inp.blk; dsimp only
    congr 2; ext; dsimp only; omega

theorem o1 (s : Fin 4) (i l : Fin 128) : (B1 V c t).o s (ix2 i l) = ((I.blk (pm1 t) (pn1 t)).o s i l : EReal) := by
  refine (slabOf_apply _ _ _ s i l).trans ((in1_8 h t i _).trans ?_)
  unfold Inp.blk flat; dsimp only
  congr 2 <;> ext <;> dsimp only <;> omega

theorem dQ1 (a r e : Fin 2) (i : Fin 128) (d : Fin 64) :
    (B1 V c t).dQ a r (ix2 i (lane e d)) = (I.dQ (pn1 t) (Inp.kh (pm1 t) a) (Inp.gh r e) i d : EReal) :=
  ((isBlk1 h t).dQ a r i (lane e d)).trans (congrArg _ (I.blk_dQ (pm1 t) (pn1 t) a r e i d))
theorem dZ1 (a r e : Fin 2) (i : Fin 128) (d : Fin 64) :
    (B1 V c t).dZ (slab a r) (ix2 i (lane e d)) = (I.dZ (pn1 t) (Inp.kh (pm1 t) a) (Inp.gh r e) i d : EReal) :=
  ((isBlk1 h t).dZ (slab a r) i (lane e d) (o1 h t _ _ _)).trans (congrArg _ (I.blk_dZ (pm1 t) (pn1 t) a r e i d))
theorem dK1 (w a : Fin 2) (i : Fin 128) (d : Fin 64) :
    (B1 V c t).dK w (ix2 i (lane a d)) = (I.dKb (pn1 t) (Inp.kh (pm1 t) a) (Inp.half w i) d : EReal) :=
  ((isBlk1 h t).dK w a i d).trans (congrArg _ (I.blk_dK (pm1 t) (pn1 t) a i d w))
theorem dV1 (w a : Fin 2) (i : Fin 128) (d : Fin 64) :
    (B1 V c t).dV w (ix2 i (lane a d)) = (I.dVb (pn1 t) (Inp.kh (pm1 t) a) (Inp.half w i) d : EReal) :=
  ((isBlk1 h t).dV w a i d).trans (congrArg _ (I.blk_dV (pm1 t) (pn1 t) a i d w))

end Cert.AttnIdeal.Gen

end
-- ==== Proof.Result1.lean ====
/- Hand-written, untrusted. THE BACKWARD CALL'S RESULTS as whole arrays: the gradients of the queries and of the gate's input,
   and the two halves of the gradients of the keys and of the values. -/
module

public import proofs.«01_k».proof.Proof.Arrays1

@[expose] public section

set_option maxRecDepth 16384

noncomputable section

namespace Cert.AttnIdeal.Gen

open Idealize.ShloMosaic Idealize.ShloMosaic.TcCoe Idealize.ShloMosaic.Pointwise Cert.Block Cert.Model
open Idealize.ShloMosaic.Pipeline (Dat Cfg Window)

section
variable (i : grid1.Coords) (arg2 : Memref sig .tc .smem S16 .f32) (harg2 : arg2.IsWhole) (arg3 : Memref sig .tc .vmem S128x512 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S8x128x128 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole)
    (x0 : Vec Ideal S16 .f32) (x1 : Vec Ideal S128x512 .f32) (x2 : Vec Ideal S128x128 .f32) (x3 : Vec Ideal S128x128 .f32) (x4 : Vec Ideal S128x128 .f32) (x5 : Vec Ideal S128x128 .f32) (x6 : Vec Ideal S8x128x128 .f32) (x7 : Vec Ideal S128x512 .f32) (x8 : Vec Ideal S128x512 .f32) (x9 : Vec Ideal S128x512 .f32)
    (c : Dev nD) (arg12 : Memref sig .tc .vmem S128x512 .bf16) (harg12 : arg12.IsWhole) (arg13 : Memref sig .tc .vmem S128x512 .bf16) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S8x128x128 .f32) (harg18 : arg18.IsWhole) (arg19 : Memref sig .tc .vmem S8x8x128 .f32) (harg19 : arg19.IsWhole)
    (y16 : Vec Ideal S8x128x128 .f32) (y17 : Vec Ideal S8x8x128 .f32)
    (m : Fin 2) (n : Fin 64)

theorem out1_A_10_of (hc0 : cond1_0 i) (f : Fin 64 → Fin 4 → Fin 4 → Fin 128 → Fin 64 → ℝ) (y : S128x512.Idx)
    (hx : ∀ (a r e : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dQ a r (ix2 i' (lane e d)) = (f n (Inp.kh m a) (Inp.gh r e) i' d : EReal)) :
    out1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOf f m n y :=
  read_of_pieces VO1_10 _ _ (slabs4h (blk1 i arg2 harg2 arg3 harg3 arg4 harg4 arg5 harg5 arg6 harg6 arg7 harg7 arg8 harg8 arg9 harg9 arg10 harg10 arg11 harg11 x0 x1 x2 x3 x4 x5 x6 x7 x8 x9).dQ) (pieces1_A_10 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOf f m n) y
    (cover1_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (slabs4h_pieces _ f m n hx)

theorem out1_A_11_of (hc0 : cond1_0 i) (f : Fin 64 → Fin 4 → Fin 4 → Fin 128 → Fin 64 → ℝ) (y : S128x512.Idx)
    (hx : ∀ (a r e : Fin 2) i' d, (fun a r => (blk1 i arg2 harg2 arg3 harg3 arg4 harg4 arg5 harg5 arg6 harg6 arg7 harg7 arg8 harg8 arg9 harg9 arg10 harg10 arg11 harg11 x0 x1 x2 x3 x4 x5 x6 x7 x8 x9).dZ (slab a r)) a r (ix2 i' (lane e d)) = (f n (Inp.kh m a) (Inp.gh r e) i' d : EReal)) :
    out1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOf f m n y :=
  read_of_pieces VO1_11 _ _ (slabs4h (fun a r => (blk1 i arg2 harg2 arg3 harg3 arg4 harg4 arg5 harg5 arg6 harg6 arg7 harg7 arg8 harg8 arg9 harg9 arg10 harg10 arg11 harg11 x0 x1 x2 x3 x4 x5 x6 x7 x8 x9).dZ (slab a r))) (pieces1_A_11 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOf f m n) y
    (cover1_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (slabs4h_pieces _ f m n hx)

theorem out1_A_12_of (hc0 : cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dK 1 (ix2 i' (lane a d)) = (f n (Inp.kh m a) i' d : EReal)) :
    out1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOfKV f m n y :=
  read_of_pieces VO1_12 _ _ _ (pieces1_A_12 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOfKV f m n) y
    (cover1_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (whole_pieces _ f m n hx)

theorem out1_A_13_of (hc0 : cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dK 0 (ix2 i' (lane a d)) = (f n (Inp.kh m a) i' d : EReal)) :
    out1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOfKV f m n y :=
  read_of_pieces VO1_13 _ _ _ (pieces1_A_13 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOfKV f m n) y
    (cover1_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (whole_pieces _ f m n hx)

theorem out1_A_14_of (hc0 : cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dV 1 (ix2 i' (lane a d)) = (f n (Inp.kh m a) i' d : EReal)) :
    out1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOfKV f m n y :=
  read_of_pieces VO1_14 _ _ _ (pieces1_A_14 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOfKV f m n) y
    (cover1_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (whole_pieces _ f m n hx)

theorem out1_A_15_of (hc0 : cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dV 0 (ix2 i' (lane a d)) = (f n (Inp.kh m a) i' d : EReal)) :
    out1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y = blkOfKV f m n y :=
  read_of_pieces VO1_15 _ _ _ (pieces1_A_15 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0) (blkOfKV f m n) y
    (cover1_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y) (whole_pieces _ f m n hx)

theorem out1_B_10_of (hc0 : ¬cond1_0 i) (f : Fin 64 → Fin 4 → Fin 4 → Fin 128 → Fin 64 → ℝ) (y : S128x512.Idx)
    (hx : ∀ (a r e : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dQ a r (ix2 i' (lane e d)) = (f n (Inp.kh m a) (Inp.gh r e) i' d : EReal)) :
    out1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOf f m n y :=
  read_of_pieces VO1_10 _ _ (slabs4h (blk1 i arg2 harg2 arg3 harg3 arg4 harg4 arg5 harg5 arg6 harg6 arg7 harg7 arg8 harg8 arg9 harg9 arg10 harg10 arg11 harg11 x0 x1 x2 x3 x4 x5 x6 x7 x8 x9).dQ) (pieces1_B_10 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOf f m n) y
    (cover1_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (slabs4h_pieces _ f m n hx)

theorem out1_B_11_of (hc0 : ¬cond1_0 i) (f : Fin 64 → Fin 4 → Fin 4 → Fin 128 → Fin 64 → ℝ) (y : S128x512.Idx)
    (hx : ∀ (a r e : Fin 2) i' d, (fun a r => (blk1 i arg2 harg2 arg3 harg3 arg4 harg4 arg5 harg5 arg6 harg6 arg7 harg7 arg8 harg8 arg9 harg9 arg10 harg10 arg11 harg11 x0 x1 x2 x3 x4 x5 x6 x7 x8 x9).dZ (slab a r)) a r (ix2 i' (lane e d)) = (f n (Inp.kh m a) (Inp.gh r e) i' d : EReal)) :
    out1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOf f m n y :=
  read_of_pieces VO1_11 _ _ (slabs4h (fun a r => (blk1 i arg2 harg2 arg3 harg3 arg4 harg4 arg5 harg5 arg6 harg6 arg7 harg7 arg8 harg8 arg9 harg9 arg10 harg10 arg11 harg11 x0 x1 x2 x3 x4 x5 x6 x7 x8 x9).dZ (slab a r))) (pieces1_B_11 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOf f m n) y
    (cover1_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (slabs4h_pieces _ f m n hx)

theorem out1_B_12_of (hc0 : ¬cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dK 1 (ix2 i' (lane a d)) = (f n (Inp.kh m a) i' d : EReal)) :
    out1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOfKV f m n y :=
  read_of_pieces VO1_12 _ _ _ (pieces1_B_12 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOfKV f m n) y
    (cover1_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (whole_pieces _ f m n hx)

theorem out1_B_13_of (hc0 : ¬cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dK 0 (ix2 i' (lane a d)) = (f n (Inp.kh m a) i' d : EReal)) :
    out1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOfKV f m n y :=
  read_of_pieces VO1_13 _ _ _ (pieces1_B_13 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOfKV f m n) y
    (cover1_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (whole_pieces _ f m n hx)

theorem out1_B_14_of (hc0 : ¬cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dV 1 (ix2 i' (lane a d)) = (f n (Inp.kh m a) i' d : EReal)) :
    out1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOfKV f m n y :=
  read_of_pieces VO1_14 _ _ _ (pieces1_B_14 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOfKV f m n) y
    (cover1_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (whole_pieces _ f m n hx)

theorem out1_B_15_of (hc0 : ¬cond1_0 i) (f : Fin 64 → Fin 4 → Fin 128 → Fin 64 → ℝ) (y : S128x128.Idx)
    (hx : ∀ (a : Fin 2) i' d, (blk1 i arg2 harg2 arg3 harg3 arg4 harg4 arg5 harg5 arg6 harg6 arg7 harg7 arg8 harg8 arg9 harg9 arg10 harg10 arg11 harg11 x0 x1 x2 x3 x4 x5 x6 x7 x8 x9).dV 0 (ix2 i' (lane a d)) = (f n (Inp.kh m a) i' d : EReal)) :
    out1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y = blkOfKV f m n y :=
  read_of_pieces VO1_15 _ _ _ (pieces1_B_15 i arg2 harg2 arg3 harg3 arg4 harg4 arg5 harg5 arg6 harg6 arg7 harg7 arg8 harg8 arg9 harg9 arg10 harg10 arg11 harg11 x0 x1 x2 x3 x4 x5 x6 x7 x8 x9 c arg12 harg12 arg13 harg13 arg14 harg14 arg15 harg15 arg16 harg16 arg17 harg17 arg18 harg18 arg19 harg19 hc0 y16 y17) (blkOfKV f m n) y
    (cover1_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 y16 y17 y) (whole_pieces _ f m n hx)

end

/-! ## The components of a grid point's results -/

section
variable {α β γ δ ε ζ η : Type} {x : α × β × γ × δ × ε × ζ × η} {a : α} {b : β} {c : γ} {d : δ} {e : ε} {f : ζ} {g : η} (h : x = (a, b, c, d, e, f, g))
include h
theorem comp1 : x.1 = a := by rw [h]
theorem comp2 : x.2.1 = b := by rw [h]
theorem comp3 : x.2.2.1 = c := by rw [h]
theorem comp4 : x.2.2.2.1 = d := by rw [h]
theorem comp5 : x.2.2.2.2.1 = e := by rw [h]
theorem comp6 : x.2.2.2.2.2.1 = f := by rw [h]
end

variable {I : Inp} {V : Dev nD → (b : Ref sig .tc) → b.ty.Contents (Elt Ideal)} {c : Dev nD} (h : In1 I V c)
include h

theorem outs1_10 (t : Fin cfg1.N) (y : S128x512.Idx) :
    (outsAt1 (F := Ideal) V c t.val t.isLt).1 y = blkOf I.dQ (pm1 t) (pn1 t) y := by
  by_cases h0 : t.val % 64 = 0
  · refine (congrFun (comp1 (outsAt1_A (F := Ideal) V c t h0)) y).trans ?_
    exact out1_A_10_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) I.dQ y (fun a r e i d => dQ1 h t a r e i d)
  · refine (congrFun (comp1 (outsAt1_B (F := Ideal) V c t h0)) y).trans ?_
    exact out1_B_10_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) I.dQ y (fun a r e i d => dQ1 h t a r e i d)

omit h in
theorem blkOf_emb1_10 (f : Fin 64 → Fin 4 → Fin 4 → Fin 128 → Fin 64 → ℝ) (t : Fin cfg1.N) (y : S128x512.Idx) :
    blkOf f (pm1 t) (pn1 t) y = ((flat f ((win1_10.blk t).view.emb y 0) ((win1_10.blk t).view.emb y 1) : ℝ) : EReal) := by
  have e : (win1_10.blk t).view.emb y = ix2 (row (pn1 t) (y 0))
      ⟨512 * (pm1 t).val + (y 1).val, by have : (y 1).val < 512 := (y 1).isLt; omega⟩ := by
    blk_ext [idx1_10]
  rw [e]; rfl

theorem arr1_10 : (dat1 (F := Ideal) V c).arrAt 10 cfg1.N = fun y => ((flat I.dQ (y 0) (y 1) : ℝ) : EReal) := by
  refine (dat1 (F := Ideal) V c).arrAt_eq_of_covers 10 _ (by decide +kernel) fun t hf y => ?_
  blk_simp
  rw [after1_10]
  exact (outs1_10 h t y).trans (blkOf_emb1_10 I.dQ t y)

theorem outs1_11 (t : Fin cfg1.N) (y : S128x512.Idx) :
    (outsAt1 (F := Ideal) V c t.val t.isLt).2.1 y = blkOf I.dZ (pm1 t) (pn1 t) y := by
  by_cases h0 : t.val % 64 = 0
  · refine (congrFun (comp2 (outsAt1_A (F := Ideal) V c t h0)) y).trans ?_
    exact out1_A_11_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) I.dZ y (fun a r e i d => dZ1 h t a r e i d)
  · refine (congrFun (comp2 (outsAt1_B (F := Ideal) V c t h0)) y).trans ?_
    exact out1_B_11_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) I.dZ y (fun a r e i d => dZ1 h t a r e i d)

omit h in
theorem blkOf_emb1_11 (f : Fin 64 → Fin 4 → Fin 4 → Fin 128 → Fin 64 → ℝ) (t : Fin cfg1.N) (y : S128x512.Idx) :
    blkOf f (pm1 t) (pn1 t) y = ((flat f ((win1_11.blk t).view.emb y 0) ((win1_11.blk t).view.emb y 1) : ℝ) : EReal) := by
  have e : (win1_11.blk t).view.emb y = ix2 (row (pn1 t) (y 0))
      ⟨512 * (pm1 t).val + (y 1).val, by have : (y 1).val < 512 := (y 1).isLt; omega⟩ := by
    blk_ext [idx1_11]
  rw [e]; rfl

theorem arr1_11 : (dat1 (F := Ideal) V c).arrAt 11 cfg1.N = fun y => ((flat I.dZ (y 0) (y 1) : ℝ) : EReal) := by
  refine (dat1 (F := Ideal) V c).arrAt_eq_of_covers 11 _ (by decide +kernel) fun t hf y => ?_
  blk_simp
  rw [after1_11]
  exact (outs1_11 h t y).trans (blkOf_emb1_11 I.dZ t y)

theorem outs1_12 (t : Fin cfg1.N) (y : S128x128.Idx) :
    (outsAt1 (F := Ideal) V c t.val t.isLt).2.2.1 y = blkOfKV (fun n k i d => I.dKb n k (Inp.half 1 i) d) (pm1 t) (pn1 t) y := by
  by_cases h0 : t.val % 64 = 0
  · refine (congrFun (comp3 (outsAt1_A (F := Ideal) V c t h0)) y).trans ?_
    exact out1_A_12_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) (fun n k i d => I.dKb n k (Inp.half 1 i) d) y (fun a i d => dK1 h t 1 a i d)
  · refine (congrFun (comp3 (outsAt1_B (F := Ideal) V c t h0)) y).trans ?_
    exact out1_B_12_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) (fun n k i d => I.dKb n k (Inp.half 1 i) d) y (fun a i d => dK1 h t 1 a i d)

omit h in
theorem blkOf_emb1_12 (f : Fin 64 → Fin 4 → Fin 128 → Fin 64 → ℝ) (t : Fin cfg1.N) (y : S128x128.Idx) :
    blkOfKV f (pm1 t) (pn1 t) y = ((flatKV f ((win1_12.blk t).view.emb y 0) ((win1_12.blk t).view.emb y 1) : ℝ) : EReal) := by
  have e : (win1_12.blk t).view.emb y = ix2 (row (pn1 t) (y 0))
      ⟨128 * (pm1 t).val + (y 1).val, by have : (y 1).val < 128 := (y 1).isLt; omega⟩ := by
    blk_ext [idx1_12]
  rw [e]; rfl

theorem arr1_12 : (dat1 (F := Ideal) V c).arrAt 12 cfg1.N = fun y => ((flatKV (fun n k i d => I.dKb n k (Inp.half 1 i) d) (y 0) (y 1) : ℝ) : EReal) := by
  refine (dat1 (F := Ideal) V c).arrAt_eq_of_covers 12 _ (by decide +kernel) fun t hf y => ?_
  blk_simp
  rw [after1_12]
  exact (outs1_12 h t y).trans (blkOf_emb1_12 (fun n k i d => I.dKb n k (Inp.half 1 i) d) t y)

theorem outs1_13 (t : Fin cfg1.N) (y : S128x128.Idx) :
    (outsAt1 (F := Ideal) V c t.val t.isLt).2.2.2.1 y = blkOfKV (fun n k i d => I.dKb n k (Inp.half 0 i) d) (pm1 t) (pn1 t) y := by
  by_cases h0 : t.val % 64 = 0
  · refine (congrFun (comp4 (outsAt1_A (F := Ideal) V c t h0)) y).trans ?_
    exact out1_A_13_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) (fun n k i d => I.dKb n k (Inp.half 0 i) d) y (fun a i d => dK1 h t 0 a i d)
  · refine (congrFun (comp4 (outsAt1_B (F := Ideal) V c t h0)) y).trans ?_
    exact out1_B_13_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) (fun n k i d => I.dKb n k (Inp.half 0 i) d) y (fun a i d => dK1 h t 0 a i d)

omit h in
theorem blkOf_emb1_13 (f : Fin 64 → Fin 4 → Fin 128 → Fin 64 → ℝ) (t : Fin cfg1.N) (y : S128x128.Idx) :
    blkOfKV f (pm1 t) (pn1 t) y = ((flatKV f ((win1_13.blk t).view.emb y 0) ((win1_13.blk t).view.emb y 1) : ℝ) : EReal) := by
  have e : (win1_13.blk t).view.emb y = ix2 (row (pn1 t) (y 0))
      ⟨128 * (pm1 t).val + (y 1).val, by have : (y 1).val < 128 := (y 1).isLt; omega⟩ := by
    blk_ext [idx1_13]
  rw [e]; rfl

theorem arr1_13 : (dat1 (F := Ideal) V c).arrAt 13 cfg1.N = fun y => ((flatKV (fun n k i d => I.dKb n k (Inp.half 0 i) d) (y 0) (y 1) : ℝ) : EReal) := by
  refine (dat1 (F := Ideal) V c).arrAt_eq_of_covers 13 _ (by decide +kernel) fun t hf y => ?_
  blk_simp
  rw [after1_13]
  exact (outs1_13 h t y).trans (blkOf_emb1_13 (fun n k i d => I.dKb n k (Inp.half 0 i) d) t y)

theorem outs1_14 (t : Fin cfg1.N) (y : S128x128.Idx) :
    (outsAt1 (F := Ideal) V c t.val t.isLt).2.2.2.2.1 y = blkOfKV (fun n k i d => I.dVb n k (Inp.half 1 i) d) (pm1 t) (pn1 t) y := by
  by_cases h0 : t.val % 64 = 0
  · refine (congrFun (comp5 (outsAt1_A (F := Ideal) V c t h0)) y).trans ?_
    exact out1_A_14_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) (fun n k i d => I.dVb n k (Inp.half 1 i) d) y (fun a i d => dV1 h t 1 a i d)
  · refine (congrFun (comp5 (outsAt1_B (F := Ideal) V c t h0)) y).trans ?_
    exact out1_B_14_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) (fun n k i d => I.dVb n k (Inp.half 1 i) d) y (fun a i d => dV1 h t 1 a i d)

omit h in
theorem blkOf_emb1_14 (f : Fin 64 → Fin 4 → Fin 128 → Fin 64 → ℝ) (t : Fin cfg1.N) (y : S128x128.Idx) :
    blkOfKV f (pm1 t) (pn1 t) y = ((flatKV f ((win1_14.blk t).view.emb y 0) ((win1_14.blk t).view.emb y 1) : ℝ) : EReal) := by
  have e : (win1_14.blk t).view.emb y = ix2 (row (pn1 t) (y 0))
      ⟨128 * (pm1 t).val + (y 1).val, by have : (y 1).val < 128 := (y 1).isLt; omega⟩ := by
    blk_ext [idx1_14]
  rw [e]; rfl

theorem arr1_14 : (dat1 (F := Ideal) V c).arrAt 14 cfg1.N = fun y => ((flatKV (fun n k i d => I.dVb n k (Inp.half 1 i) d) (y 0) (y 1) : ℝ) : EReal) := by
  refine (dat1 (F := Ideal) V c).arrAt_eq_of_covers 14 _ (by decide +kernel) fun t hf y => ?_
  blk_simp
  rw [after1_14]
  exact (outs1_14 h t y).trans (blkOf_emb1_14 (fun n k i d => I.dVb n k (Inp.half 1 i) d) t y)

theorem outs1_15 (t : Fin cfg1.N) (y : S128x128.Idx) :
    (outsAt1 (F := Ideal) V c t.val t.isLt).2.2.2.2.2.1 y = blkOfKV (fun n k i d => I.dVb n k (Inp.half 0 i) d) (pm1 t) (pn1 t) y := by
  by_cases h0 : t.val % 64 = 0
  · refine (congrFun (comp6 (outsAt1_A (F := Ideal) V c t h0)) y).trans ?_
    exact out1_A_15_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (pm1 t) (pn1 t) ((hcond1_0 t).mpr h0) (fun n k i d => I.dVb n k (Inp.half 0 i) d) y (fun a i d => dV1 h t 0 a i d)
  · refine (congrFun (comp6 (outsAt1_B (F := Ideal) V c t h0)) y).trans ?_
    exact out1_B_15_of (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
      c (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) _ _ (pm1 t) (pn1 t) (fun h1 => h0 ((hcond1_0 t).mp h1)) (fun n k i d => I.dVb n k (Inp.half 0 i) d) y (fun a i d => dV1 h t 0 a i d)

omit h in
theorem blkOf_emb1_15 (f : Fin 64 → Fin 4 → Fin 128 → Fin 64 → ℝ) (t : Fin cfg1.N) (y : S128x128.Idx) :
    blkOfKV f (pm1 t) (pn1 t) y = ((flatKV f ((win1_15.blk t).view.emb y 0) ((win1_15.blk t).view.emb y 1) : ℝ) : EReal) := by
  have e : (win1_15.blk t).view.emb y = ix2 (row (pn1 t) (y 0))
      ⟨128 * (pm1 t).val + (y 1).val, by have : (y 1).val < 128 := (y 1).isLt; omega⟩ := by
    blk_ext [idx1_15]
  rw [e]; rfl

theorem arr1_15 : (dat1 (F := Ideal) V c).arrAt 15 cfg1.N = fun y => ((flatKV (fun n k i d => I.dVb n k (Inp.half 0 i) d) (y 0) (y 1) : ℝ) : EReal) := by
  refine (dat1 (F := Ideal) V c).arrAt_eq_of_covers 15 _ (by decide +kernel) fun t hf y => ?_
  blk_simp
  rw [after1_15]
  exact (outs1_15 h t y).trans (blkOf_emb1_15 (fun n k i d => I.dVb n k (Inp.half 0 i) d) t y)

end Cert.AttnIdeal.Gen

end
-- ==== Proof.RefBias.lean ====
module

public import proofs.«01_k».proof.Proof.Bucket
public import proofs.«01_k».proof.Proof.Model
public import proofs.«01_k».proof.Proof.Gen.ReferenceIdeal.Read
public import Idealize.ShloMosaic.Lib.Pointwise

/-! # The reference's mask and bias

Distance of query `i` and key `s` of a band is `128 + i − s`.  The mask keeps the distances from 0 to 127
whose key lies in the sequence; the bias is the table's row at the distance's bucket. -/

@[expose] public section

set_option maxRecDepth 16384
noncomputable section
open Idealize.ShloMosaic Idealize.ShloMosaic.Pointwise Cert.Model

namespace Cert.Ref
open Cert.ReferenceIdeal Cert.ReferenceIdeal.Gen Cert.ReferenceIdeal.Read Cert.Bucket

theorem dist_word (i : Fin 128) (s : Fin 256) :
    val_main_v32 (F := Ideal) (ix2 i s) = 128#32 + BitVec.ofNat 32 i.val - BitVec.ofNat 32 s.val := by
  simp only [val_main_v32_apply, val_main_v31_apply, val_main_v30_apply, val_main_v29_apply, val_main_v28_apply,
    val_main_v27_apply, val_main_v26_apply, val_main_v25_apply, val_main_v24_apply]
  rfl

theorem dist_toInt (i : Fin 128) (s : Fin 256) :
    (128#32 + BitVec.ofNat 32 i.val - BitVec.ofNat 32 s.val).toInt = 128 + (i.val : ℤ) - s.val := by
  have hi : (BitVec.ofNat 32 i.val).toInt = i.val := by rw [BitVec.toInt_ofNat']; simp [Int.bmod_def]; omega
  have hs : (BitVec.ofNat 32 s.val).toInt = s.val := by rw [BitVec.toInt_ofNat']; simp [Int.bmod_def]; omega
  rw [BitVec.toInt_sub, BitVec.toInt_add, hs, hi]
  simp [Int.bmod_def]
  omega

theorem near_read (i : Fin 128) (s : Fin 256) :
    val_main_v37 (F := Ideal) (ix2 i s) = BitVec.ofBool (decide (i.val < s.val ∧ s.val ≤ i.val + 128)) := by
  have e := dist_toInt i s
  simp only [val_main_v37_apply, val_main_v34_apply, val_main_v36_apply, val_main_v33_apply, val_main_v35_apply, dist_word]
  show IntOp.andi (BitVec.ofBool (BitVec.sle 0#32 _)) (BitVec.ofBool (BitVec.slt _ 128#32)) = _
  rw [WordArith.andi_ofBool]
  congr 1
  rw [Bool.eq_iff_iff, Bool.and_eq_true, decide_eq_true_iff, BitVec.sle_iff_toInt_le, BitVec.slt_iff_toInt_lt, e]
  have h0 : (0#32 : BitVec 32).toInt = 0 := rfl
  have h1 : (128#32 : BitVec 32).toInt = 128 := rfl
  omega

theorem key_word (n : Fin 64) (s : Fin 256) :
    val_main_v75 (F := Ideal) (ix3 n 0 s) = BitVec.ofNat 32 n.val * 128#32 - 128#32 + BitVec.ofNat 32 s.val := by
  simp only [val_main_v75_apply, val_main_v73_apply, val_main_v74_apply, val_main_v72_apply, val_main_v71_apply, val_main_v70_apply,
    val_main_v69_apply, val_main_v68_apply, val_main_v67_apply, val_main_v66_apply, val_main_v27_apply, val_main_v26_apply]
  rfl

theorem key_toInt (n : Fin 64) (s : Fin 256) :
    (BitVec.ofNat 32 n.val * 128#32 - 128#32 + BitVec.ofNat 32 s.val).toInt = (n.val : ℤ) * 128 - 128 + s.val := by
  have := n.isLt; have := s.isLt
  have hs : (BitVec.ofNat 32 s.val).toInt = s.val := by rw [BitVec.toInt_ofNat']; simp [Int.bmod_def]; omega
  have hn : (BitVec.ofNat 32 n.val).toInt = n.val := by rw [BitVec.toInt_ofNat']; simp [Int.bmod_def]; omega
  rw [BitVec.toInt_add, BitVec.toInt_sub, BitVec.toInt_mul, hs, hn]
  simp [Int.bmod_def]
  omega

theorem inside_read (n : Fin 64) (s : Fin 256) :
    val_main_v78 (F := Ideal) (ix3 n 0 s) = BitVec.ofBool (decide (128 ≤ 128 * n.val + s.val)) := by
  have e := key_toInt n s
  simp only [val_main_v78_apply, val_main_v77_apply, key_word]
  show BitVec.ofBool (BitVec.sle 0#32 _) = _
  congr 1
  rw [Bool.eq_iff_iff, decide_eq_true_iff, BitVec.sle_iff_toInt_le, e]
  have h0 : (0#32 : BitVec 32).toInt = 0 := rfl
  omega

/-- The reference's mask. -/
theorem mask_read (n : Fin 64) (k g : Fin 4) (i : Fin 128) (s : Fin 256) :
    val_main_v90_1 (F := Ideal) (ix5 n k g i s) = BitVec.ofBool (Inp.M n i s) := by
  simp only [val_main_v90_1_apply, val_main_v82_apply, val_main_v81_apply, val_main_v79_apply, val_main_v80_apply, val_main_v76_apply]
  refine (congrArg₂ IntOp.andi (near_read i s) (inside_read n s)).trans ?_
  rw [WordArith.andi_ofBool]
  congr 1
  unfold Inp.M
  rw [Bool.eq_iff_iff, Bool.and_eq_true, decide_eq_true_iff, decide_eq_true_iff, decide_eq_true_iff]
  tauto

theorem row_word (i : Fin 128) (s : Fin 256) :
    val_main_v56 (F := Ideal) (ix2 i s)
      = word (IntOp.maxsi 0#32 (128#32 + BitVec.ofNat 32 i.val - BitVec.ofNat 32 s.val)) := by
  simp only [val_main_v56_apply, val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, dist_word]
  rfl

/-- Where the pair is kept, the row is the bucket of its distance. -/
theorem row_near (i : Fin 128) (s : Fin 256) (h : i.val < s.val ∧ s.val ≤ i.val + 128) :
    val_main_v56 (F := Ideal) (ix2 i s) = BitVec.ofNat 32 (bucket (128 + i.val - s.val)).val := by
  have hi := i.isLt; have hs := s.isLt
  have e : 128#32 + BitVec.ofNat 32 i.val - BitVec.ofNat 32 s.val = BitVec.ofNat 32 (128 + i.val - s.val) := by
    apply BitVec.eq_of_toInt_eq
    rw [dist_toInt, toInt_small _ (by omega)]
    omega
  have m : IntOp.maxsi 0#32 (BitVec.ofNat 32 (128 + i.val - s.val)) = BitVec.ofNat 32 (128 + i.val - s.val) := by
    unfold IntOp.maxsi
    split
    · rename_i hl
      rw [BitVec.slt_iff_toInt_lt, toInt_small _ (by omega)] at hl
      have h0 : (0#32 : BitVec 32).toInt = 0 := rfl
      omega
    · rfl
  rw [row_word, e, m, word_eq _ (by omega)]

theorem zero_word (i : Fin 128) (s : Fin 256) : val_main_v57 (F := Ideal) (ix2 i s) = 0#32 := by
  rw [val_main_v57_apply]; rfl

/-- A row that is not negative is not counted from the table's end. -/
theorem not_negative (B : ℕ) (h : B < 128) (y : BitVec 32) :
    Scalar.select (IntOp.cmpi .slt (BitVec.ofNat 32 B) 0#32) y (BitVec.ofNat 32 B) = BitVec.ofNat 32 B := by
  unfold IntOp.cmpi
  dsimp only
  rw [select_false]
  rw [Bool.eq_false_iff, ne_eq, BitVec.slt_iff_toInt_lt, toInt_small _ h]
  have h0 : (0#32 : BitVec 32).toInt = 0 := rfl
  omega

/-- The gathered row: the table at the start index, clamped into the table. -/
theorem gather_read (x : S32x16.Idx → EReal) (idx : IVec S128x256x1 32) (i : Fin 128) (s : Fin 256) (h : Fin 16) :
    Host.gather gather_S32x16_S128x256x1_S128x256x16_2_0_n_n_0_2_116 x idx (ix3 i s h)
      = x (ix2 ⟨min (idx (ix3 i s 0)).toInt.toNat 31, by omega⟩ h) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 i s h)
        ⟨List.idxOf (0 : Fin 2) gather_S32x16_S128x256x1_S128x256x16_2_0_n_n_0_2_116.startIndexMap, List.idxOf_lt_length_iff.2 (List.mem_singleton.mpr rfl)⟩ = ix3 i s 0 := by
      funext b; refine Fin.ext ?_
      match b with
      | ⟨0, _⟩ => rfl
      | ⟨1, _⟩ => rfl
      | ⟨2, _⟩ => rfl
    show min (idx (gather_S32x16_S128x256x1_S128x256x16_2_0_n_n_0_2_116.siIdx (ix3 i s h) _)).toInt.toNat _ = _
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show ¬ (1 : Fin 2) ∈ gather_S32x16_S128x256x1_S128x256x16_2_0_n_n_0_2_116.startIndexMap by decide)]
    simp only [Nat.zero_add]
    rfl

/-- The arguments as real numbers: the projections, the sinks, the table (whose rows the model's bias reads
    by the bucket) and the gradient of the output. -/
structure Args (I : Inp) (tab : Fin 32 → Fin 16 → ℝ) (x0 : S8192x8704.Idx → EReal) (x1 : S16.Idx → EReal)
    (x2 : S32x16.Idx → EReal) (x3 : S8192x1024.Idx → EReal) : Prop where
  pr : ∀ R C, x0 (ix2 R C) = (I.pr R C : EReal)
  sk : ∀ h, x1 (ix1 h) = (I.sk h : EReal)
  tb : ∀ r h, x2 (ix2 r h) = (tab r h : EReal)
  bi : ∀ D h, I.bi D h = tab (bucket D) h
  dh : ∀ R C, x3 (ix2 R C) = (I.dh R C : EReal)

variable {I : Inp} {tab : Fin 32 → Fin 16 → ℝ} {x0 : S8192x8704.Idx → EReal} {x1 : S16.Idx → EReal}
  {x2 : S32x16.Idx → EReal} {x3 : S8192x1024.Idx → EReal} (A : Args I tab x0 x1 x2 x3)
include A

/-- The bias is a real number everywhere, and the model's where the pair is kept. -/
theorem bias_read (n : Fin 64) (k g : Fin 4) (i : Fin 128) (s : Fin 256) :
    ∃ b : ℝ, val_main_v88 (F := Ideal) x2 (ix5 n k g i s) = (b : EReal)
      ∧ (Inp.M n i s = true → b = I.bi (128 + i.val - s.val) (hd k g)) := by
  have hi := i.isLt; have hs := s.isLt; have hk := k.isLt; have hg := g.isLt
  have e1 : val_main_v88 (F := Ideal) x2 (ix5 n k g i s) = val_main_v63 (F := Ideal) x2 (ix3 i s (hd k g)) := by
    simp only [val_main_v88_apply, val_main_v87_apply, val_main_v65_apply, val_main_v64_apply]
    congr 1
    funext a
    fin_cases a <;> ext <;> simp [hd] <;> omega
  refine ⟨tab ⟨min (val_main_v62 (F := Ideal) (ix3 i s 0)).toInt.toNat 31, by omega⟩ (hd k g), ?_, fun hM => ?_⟩
  · rw [e1]
    exact (gather_read x2 _ i s (hd k g)).trans (A.tb _ _)
  · unfold Inp.M at hM
    rw [decide_eq_true_iff] at hM
    have e2 : val_main_v62 (F := Ideal) (ix3 i s 0) = BitVec.ofNat 32 (bucket (128 + i.val - s.val)).val := by
      have hb := (bucket (128 + i.val - s.val)).isLt
      have ei : idx_main_v62 (ix3 i s 0) = ix2 i s := by funext a; fin_cases a <;> rfl
      rw [val_main_v62_apply, ei, val_main_v61_apply, val_main_v58_apply, row_near i s ⟨hM.1, hM.2.1⟩, zero_word]
      generalize val_main_v60 (F := Ideal) (ix2 i s) = y
      generalize (bucket (128 + i.val - s.val)).val = B at hb ⊢
      rw [not_negative B (by omega) y]
    have hb := (bucket (128 + i.val - s.val)).isLt
    rw [A.bi]
    refine congrArg (fun r => tab r (hd k g)) (Fin.ext ?_)
    show min (val_main_v62 (F := Ideal) (ix3 i s 0)).toInt.toNat 31 = _
    generalize val_main_v62 (F := Ideal) (ix3 i s 0) = w at e2
    generalize bucket (128 + i.val - s.val) = B at e2 hb ⊢
    rw [e2, toInt_small _ (by omega)]
    omega

end Cert.Ref
end
-- ==== Proof.RefBand.lean ====
module

public import proofs.«01_k».proof.Proof.RefBias

/-! # The reference's queries, bands and logits -/

@[expose] public section

set_option maxRecDepth 16384
noncomputable section
open Idealize.ShloMosaic Idealize.ShloMosaic.Pointwise Cert.Model

namespace Cert.Ref
open Cert.ReferenceIdeal Cert.ReferenceIdeal.Gen Cert.ReferenceIdeal.Read Cert.Bucket

theorem zero_f32 : Ideal.ofBits .f32 0x00000000#32 = ((0 : ℝ) : EReal) := Ideal.ofBits_zero .f32

variable {I : Inp} {tab : Fin 32 → Fin 16 → ℝ} {x0 : S8192x8704.Idx → EReal} {x1 : S16.Idx → EReal}
  {x2 : S32x16.Idx → EReal} {x3 : S8192x1024.Idx → EReal} (A : Args I tab x0 x1 x2 x3)
include A

theorem q_read (n : Fin 64) (i : Fin 128) (k g : Fin 4) (d : Fin 64) :
    val_main_v7 (F := Ideal) x0 (ix5 n i k g d) = (I.q n k g i d : EReal) := by
  have e : idx_main_v2 (idx_main_v7 (ix5 n i k g d)) = ix2 (row n i) (qcol k g d) := by
    funext a; fin_cases a <;> ext <;> simp <;> omega
  rw [val_main_v7_apply, val_main_v2_apply, e, A.pr]
  rfl

theorem keys_read (R : Fin 8192) (k : Fin 4) (d : Fin 64) :
    val_main_v8 (F := Ideal) x0 (ix3 R k d) = (I.pr R (kcol k d) : EReal) := by
  have e : idx_main_v3 (idx_main_v8 (ix3 R k d)) = ix2 R (kcol k d) := by
    funext a; fin_cases a <;> ext <;> simp <;> omega
  rw [val_main_v8_apply, val_main_v3_apply, e, A.pr]

theorem vals_read (R : Fin 8192) (k : Fin 4) (d : Fin 64) :
    val_main_v16 (F := Ideal) x0 (ix3 R k d) = (I.pr R (vcol k d) : EReal) := by
  have e : idx_main_v4 (idx_main_v16 (ix3 R k d)) = ix2 R (vcol k d) := by
    funext a; fin_cases a <;> ext <;> simp <;> omega
  rw [val_main_v16_apply, val_main_v4_apply, e, A.pr]

/-- The keys with a block of zeros before the first. -/
theorem keys_padded (R : Fin 8320) (k : Fin 4) (d : Fin 64) :
    val_main_v10 (F := Ideal) x0 (ix3 R k d)
      = ((if h : 128 ≤ R.val then I.pr ⟨R.val - 128, by omega⟩ (kcol k d) else 0 : ℝ) : EReal) := by
  unfold val_main_v10
  by_cases h : 128 ≤ R.val
  · rw [dif_pos h, ← keys_read A]
    generalize val_main_v8 (F := Ideal) x0 = y
    refine concatenate_pair_apply_right (t := S8320x4x64) (s₁ := S128x4x64) (s₂ := S8192x4x64) 0 _ y _ _ rfl rfl (ix3 (⟨R.val - 128, by omega⟩ : Fin 8192) k d) (fun b hb => ?_) ?_
    · fin_cases b
      · exact absurd rfl hb
      · rfl
      · rfl
    · show R.val - 128 + 128 = R.val; omega
  · rw [dif_neg h]
    refine (concatenate_pair_apply_left (t := S8320x4x64) (s₁ := S128x4x64) (s₂ := S8192x4x64) 0 _ _ _ _ rfl (ix3 (⟨R.val, by omega⟩ : Fin 128) k d) (fun b => ?_)).trans ?_
    · fin_cases b <;> rfl
    · rw [val_main_v9_apply]; exact zero_f32

theorem vals_padded (R : Fin 8320) (k : Fin 4) (d : Fin 64) :
    val_main_v18 (F := Ideal) x0 (ix3 R k d)
      = ((if h : 128 ≤ R.val then I.pr ⟨R.val - 128, by omega⟩ (vcol k d) else 0 : ℝ) : EReal) := by
  unfold val_main_v18
  by_cases h : 128 ≤ R.val
  · rw [dif_pos h, ← vals_read A]
    generalize val_main_v16 (F := Ideal) x0 = y
    refine concatenate_pair_apply_right (t := S8320x4x64) (s₁ := S128x4x64) (s₂ := S8192x4x64) 0 _ y _ _ rfl rfl (ix3 (⟨R.val - 128, by omega⟩ : Fin 8192) k d) (fun b hb => ?_) ?_
    · fin_cases b
      · exact absurd rfl hb
      · rfl
      · rfl
    · show R.val - 128 + 128 = R.val; omega
  · rw [dif_neg h]
    refine (concatenate_pair_apply_left (t := S8320x4x64) (s₁ := S128x4x64) (s₂ := S8192x4x64) 0 _ _ _ _ rfl (ix3 (⟨R.val, by omega⟩ : Fin 128) k d) (fun b => ?_)).trans ?_
    · fin_cases b <;> rfl
    · rw [val_main_v17_apply]; exact zero_f32

theorem band_key (n : Fin 64) (s : Fin 256) (k : Fin 4) (d : Fin 64) :
    val_main_v15 (F := Ideal) x0 (ix4 n s k d) = (I.band kcol n k s d : EReal) := by
  have hn := n.isLt; have hs := s.isLt
  have e : val_main_v15 (F := Ideal) x0 (ix4 n s k d)
      = val_main_v10 (F := Ideal) x0 (ix3 ⟨128 * n.val + s.val, by omega⟩ k d) := by
    unfold val_main_v15
    by_cases h : s.val < 128
    · refine (concatenate_pair_apply_left (t := S64x256x4x64) (s₁ := S64x128x4x64) (s₂ := S64x128x4x64) 1 _ _ _ _ rfl (ix4 n (⟨s.val, h⟩ : Fin 128) k d) (fun b => ?_)).trans ?_
      · fin_cases b <;> rfl
      · rw [val_main_v13_apply, val_main_v12_apply]
        congr 1
        funext a; fin_cases a <;> ext <;> simp <;> omega
    · refine (concatenate_pair_apply_right (t := S64x256x4x64) (s₁ := S64x128x4x64) (s₂ := S64x128x4x64) 1 _ _ _ _ rfl rfl (ix4 n (⟨s.val - 128, by omega⟩ : Fin 128) k d) (fun b hb => ?_) ?_).trans ?_
      · fin_cases b
        · rfl
        · exact absurd rfl hb
        · rfl
        · rfl
      · show s.val - 128 + 128 = s.val; omega
      · rw [val_main_v14_apply, val_main_v12_apply]
        congr 1
        funext a; fin_cases a <;> ext <;> simp <;> omega
  rw [e, keys_padded A]
  rfl

theorem band_val (n : Fin 64) (s : Fin 256) (k : Fin 4) (d : Fin 64) :
    val_main_v23 (F := Ideal) x0 (ix4 n s k d) = (I.band vcol n k s d : EReal) := by
  have hn := n.isLt; have hs := s.isLt
  have e : val_main_v23 (F := Ideal) x0 (ix4 n s k d)
      = val_main_v18 (F := Ideal) x0 (ix3 ⟨128 * n.val + s.val, by omega⟩ k d) := by
    unfold val_main_v23
    by_cases h : s.val < 128
    · refine (concatenate_pair_apply_left (t := S64x256x4x64) (s₁ := S64x128x4x64) (s₂ := S64x128x4x64) 1 _ _ _ _ rfl (ix4 n (⟨s.val, h⟩ : Fin 128) k d) (fun b => ?_)).trans ?_
      · fin_cases b <;> rfl
      · rw [val_main_v21_apply, val_main_v20_apply]
        congr 1
        funext a; fin_cases a <;> ext <;> simp <;> omega
    · refine (concatenate_pair_apply_right (t := S64x256x4x64) (s₁ := S64x128x4x64) (s₂ := S64x128x4x64) 1 _ _ _ _ rfl rfl (ix4 n (⟨s.val - 128, by omega⟩ : Fin 128) k d) (fun b hb => ?_) ?_).trans ?_
      · fin_cases b
        · rfl
        · exact absurd rfl hb
        · rfl
        · rfl
      · show s.val - 128 + 128 = s.val; omega
      · rw [val_main_v22_apply, val_main_v20_apply]
        congr 1
        funext a; fin_cases a <;> ext <;> simp <;> omega
  rw [e, vals_padded A]
  rfl

theorem score_read (n : Fin 64) (k g : Fin 4) (i : Fin 128) (s : Fin 256) :
    val_main_v86 (F := Ideal) x0 (ix5 n k g i s)
      = (((∑ d : Fin 64, I.q n k g i d * I.band kcol n k s d) * (1 / 8) : ℝ) : EReal) := by
  have e : idx_main_v84 (ix5 n k g i s) = ix5 n k s i g := by funext a; fin_cases a <;> rfl
  have er : ∀ d, ridx_main_v83 (ix5 n k s i g) d = ix5 n i k g d := fun d => by funext a; fin_cases a <;> rfl
  have el : ∀ d, lidx_main_v83 (ix5 n k s i g) d = ix4 n s k d := fun d => by funext a; fin_cases a <;> rfl
  rw [val_main_v86_apply, val_main_v84_apply, e, val_main_v83_apply, val_main_v85_apply]
  simp only [er, el, q_read A, band_key A, Ideal.mulf_def, ← EReal.coe_mul]
  rw [← Row.coe_sum, show val_main_cst_18 (F := Ideal) _ = (((1 : ℝ) / 8 : ℝ) : EReal) from Block.eighth_f32, ← EReal.coe_mul]
  simp only [mul_comm (I.band kcol n k s _)]

theorem masked_read (n : Fin 64) (k g : Fin 4) (i : Fin 128) (s : Fin 256) :
    val_main_v90_0 (F := Ideal) x0 x2 (ix5 n k g i s)
      = if Inp.M n i s = true then (I.logit n k g i s : EReal) else ⊥ := by
  obtain ⟨b, hb, hM⟩ := bias_read A n k g i s
  rw [val_main_v90_0_apply, mask_read, val_main_v89_apply, score_read A, hb]
  by_cases h : Inp.M n i s = true
  · rw [if_pos h, select_true h, hM h]
    simp only [Ideal.addf_def, ← EReal.coe_add]
    rfl
  · rw [if_neg h, select_false (by simpa using h)]
    exact Block.neg_inf_f32

end Cert.Ref
end
-- ==== Proof.RefRow.lean ====
module

public import proofs.«01_k».proof.Proof.RefBand

/-! # A row of the reference's softmax and its derivative

At query `i` of block `n` and head `(k, g)`: whatever finite shift `r` the row maximum gives, the
probabilities are those of the model, and the derivative taken operation by operation is the closed form:
the part that goes through the maximum vanishes. -/

@[expose] public section

set_option maxRecDepth 16384
noncomputable section
open Idealize.ShloMosaic Idealize.ShloMosaic.Pointwise Cert.Model

namespace Cert.Ref
open Cert.ReferenceIdeal Cert.ReferenceIdeal.Gen Cert.ReferenceIdeal.Read Cert.Bucket

variable {I : Inp} {tab : Fin 32 → Fin 16 → ℝ} {x0 : S8192x8704.Idx → EReal} {x1 : S16.Idx → EReal}
  {x2 : S32x16.Idx → EReal} {x3 : S8192x1024.Idx → EReal} (A : Args I tab x0 x1 x2 x3)
include A

theorem sink_read (k g : Fin 4) : val_main_v92 (F := Ideal) x1 (ix5 0 k g 0 0) = (I.sk (hd k g) : EReal) := by
  have e : idx_main_v91 (idx_main_v92 (ix5 0 k g 0 0)) = ix1 (hd k g) := by
    funext a; fin_cases a <;> ext <;> simp [hd] <;> omega
  rw [val_main_v92_apply, val_main_v91_apply, e, A.sk]

omit A in
theorem red_row : S64x4x4x128x256.Reduces [4] S64x4x4x128 := by decide

theorem max_read (n : Fin 64) (k g : Fin 4) (i : Fin 128) :
    val_main_v93 (F := Ideal) x0 x2 (ix4 n k g i)
      = (Finset.univ : Finset (Fin 256)).fold max ⊥ (Row.logit (Inp.M n i) (I.logit n k g i)) := by
  unfold val_main_v93
  have hm : ∀ s, val_main_v90_0 (F := Ideal) x0 x2 (ix5 n k g i s) = Row.logit (Inp.M n i) (I.logit n k g i) s :=
    fun s => masked_read A n k g i s
  generalize val_main_v90_0 (F := Ideal) x0 x2 = y at hm ⊢
  refine (Host.reduce_eq_fold_single (α := EReal) (s := S64x4x4x128x256) (t := S64x4x4x128) (a := (4 : Fin 5))
    (max : EReal → EReal → EReal) y (val_main_cst_20 (F := Ideal)) reducesTo_S64x4x4x128x256_S64x4x4x128_d4
    red_row h_S_ (ix4 n k g i)).trans ?_
  have hl : (y ∘ red_row.lift (ix4 n k g i) : Fin 256 → EReal) = Row.logit (Inp.M n i) (I.logit n k g i) := by
    funext s
    refine Eq.trans (congrArg y ?_) (hm s)
    funext a
    fin_cases a <;> rfl
  have hb : val_main_cst_20 (F := Ideal) (Shape.Idx.first h_S_) = (⊥ : EReal) := Block.neg_inf_f32
  rw [hb]
  exact congrArg (fun f : Fin 256 → EReal => (Finset.univ : Finset (Fin 256)).fold max ⊥ f) hl

/-- The shift is a real number. -/
theorem shift_read (n : Fin 64) (k g : Fin 4) (i : Fin 128) :
    ∃ r : ℝ, val_main_v101 (F := Ideal) x0 x1 x2 (ix5 n k g i 0) = (r : EReal) := by
  obtain ⟨r, hr⟩ := Row.max_real (Finset.univ : Finset (Fin 256)) (Row.logit (Inp.M n i) (I.logit n k g i))
    (Row.logit_ne_top _ _) (I.sk (hd k g))
  refine ⟨r, ?_⟩
  have e1 : idx_main_v99 (ix5 n k g i 0) = ix4 n k g i := by funext a; fin_cases a <;> rfl
  have e2 : idx_main_v100 (ix5 n k g i 0) = ix5 0 k g 0 0 := by funext a; fin_cases a <;> rfl
  rw [val_main_v101_apply, val_main_v99_apply, e1, max_read A, val_main_v100_apply, e2, sink_read A]
  exact hr

/-- Some key attains the maximum, so the count of those that do is not zero. -/
theorem count_ne_zero (n : Fin 64) (k g : Fin 4) (i : Fin 128) :
    val_main_v98 (F := Ideal) x0 x2 (ix4 n k g i) ≠ 0 := by
  obtain ⟨s, hs⟩ := Row.fold_max_mem (Row.logit (Inp.M n i) (I.logit n k g i))
  have e0 : ∀ t, idx_main_v98 (ix4 n k g i) t = ix5 n k g i t := fun t => by funext a; fin_cases a <;> rfl
  have e1 : idx_main_v94 (idx_main_v95 (ix5 n k g i s)) = ix4 n k g i := by
    funext a; fin_cases a <;> ext <;> simp <;> omega
  have h1 : val_main_v97 (F := Ideal) x0 x2 (ix5 n k g i s) = 1 := by
    rw [val_main_v97_apply, val_main_v96_apply, val_main_v95_apply, val_main_v94_apply, e1, max_read A, masked_read A, hs]
    show (((BitVec.ofBool (decide (Row.logit (Inp.M n i) (I.logit n k g i) s = Row.logit (Inp.M n i) (I.logit n k g i) s))).toNat : ℝ) : EReal) = 1
    simp
  have h0 : ∀ t, 0 ≤ val_main_v97 (F := Ideal) x0 x2 (ix5 n k g i t) := fun t => by
    rw [val_main_v97_apply]
    show (0 : EReal) ≤ (((val_main_v96 (F := Ideal) x0 x2 (ix5 n k g i t)).toNat : ℝ) : EReal)
    exact_mod_cast Nat.zero_le _
  rw [val_main_v98_apply]
  simp only [e0]
  rw [show val_main_cst_21 (F := Ideal) (Shape.Idx.first h_S_) = (0 : EReal) from zero_f32, zero_add]
  have : (1 : EReal) ≤ ∑ t : Fin 256, val_main_v97 (F := Ideal) x0 x2 (ix5 n k g i t) := by
    rw [← h1]
    exact Finset.single_le_sum (f := fun t => val_main_v97 (F := Ideal) x0 x2 (ix5 n k g i t)) (fun t _ => h0 t) (Finset.mem_univ s)
  exact (lt_of_lt_of_le zero_lt_one this).ne'

section
variable {n : Fin 64} {k g : Fin 4} {i : Fin 128} {r : ℝ} (hr : val_main_v101 (F := Ideal) x0 x1 x2 (ix5 n k g i 0) = (r : EReal))
include hr

theorem exp_read (s : Fin 256) : val_main_v113 (F := Ideal) x0 x1 x2 (ix5 n k g i s)
    = ((Row.wt (Inp.M n i) (I.logit n k g i) s * Real.exp (-r) : ℝ) : EReal) := by
  have e1 : idx_main_v111 (ix5 n k g i s) = ix5 n k g i 0 := by funext a; fin_cases a <;> rfl
  rw [val_main_v113_apply, val_main_v112_apply, val_main_v111_apply, e1, hr, masked_read A, ← Row.exp_logit]
  rfl

theorem exp_sink_read : val_main_v118 (F := Ideal) x0 x1 x2 (ix5 n k g i 0)
    = ((Real.exp (I.sk (hd k g)) * Real.exp (-r) : ℝ) : EReal) := by
  have e1 : idx_main_v116 (ix5 n k g i 0) = ix5 0 k g 0 0 := by funext a; fin_cases a <;> rfl
  rw [val_main_v118_apply, val_main_v117_apply, val_main_v116_apply, e1, hr, sink_read A, ← Row.exp_sink]
  rfl

theorem den_read : val_main_v119 (F := Ideal) x0 x1 x2 (ix5 n k g i 0)
    = ((Row.den (Inp.M n i) (I.logit n k g i) (I.sk (hd k g)) * Real.exp (-r) : ℝ) : EReal) := by
  have e1 : idx_main_v115 (ix5 n k g i 0) = ix4 n k g i := by funext a; fin_cases a <;> rfl
  have e2 : ∀ t, idx_main_v114 (ix4 n k g i) t = ix5 n k g i t := fun t => by funext a; fin_cases a <;> rfl
  rw [val_main_v119_apply, val_main_v115_apply, e1, val_main_v114_apply, exp_sink_read A hr]
  simp only [e2, exp_read A hr]
  rw [show val_main_cst_25 (F := Ideal) (Shape.Idx.first h_S_) = (0 : EReal) from zero_f32, zero_add, ← Row.coe_sum]
  simp only [Ideal.addf_def, ← EReal.coe_add]
  rw [Row.den, add_mul, Finset.sum_mul]

theorem prob_read' (s : Fin 256) : val_main_v121 (F := Ideal) x0 x1 x2 (ix5 n k g i s) = (I.P n k g i s : EReal) := by
  have e1 : idx_main_v120 (ix5 n k g i s) = ix5 n k g i 0 := by funext a; fin_cases a <;> rfl
  rw [val_main_v121_apply, val_main_v120_apply, e1, den_read A hr, exp_read A hr]
  refine (Row.div_coe _ (Row.den_shift_ne _ _ _ r)).trans ?_
  rw [mul_div_mul_right _ _ (Real.exp_pos _).ne']; rfl

end

theorem prob_read (n : Fin 64) (k g : Fin 4) (i : Fin 128) (s : Fin 256) :
    val_main_v121 (F := Ideal) x0 x1 x2 (ix5 n k g i s) = (I.P n k g i s : EReal) := by
  obtain ⟨r, hr⟩ := shift_read A n k g i
  exact prob_read' A hr s

/-! ## The gate -/

theorem z_read (n : Fin 64) (k g : Fin 4) (i : Fin 128) (d : Fin 64) :
    val_main_v5 (F := Ideal) x0 (ix2 (row n i) (hcol k g d)) = (I.z n k g i d : EReal) := by
  have e : idx_main_v5 (ix2 (row n i) (hcol k g d)) = ix2 (row n i) (zcol k g d) := by
    funext a; fin_cases a <;> ext <;> simp <;> omega
  rw [val_main_v5_apply, e, A.pr]
  rfl

omit A in
theorem one_f32 : Ideal.ofBits .f32 0x3F800000#32 = ((1 : ℝ) : EReal) := by
  simp [Ideal.ofBits, Ideal.ieee, -EReal.coe_mul]
  norm_num

theorem sig_read (n : Fin 64) (k g : Fin 4) (i : Fin 128) (d : Fin 64) :
    val_main_v128_2 (F := Ideal) x0 (ix2 (row n i) (hcol k g d)) = ((Block.sig (I.z n k g i d) : ℝ) : EReal) := by
  rw [val_main_v128_2_apply, val_main_call3_v3_apply, val_main_call3_v1_apply, val_main_call3_v0_apply, z_read A,
    val_main_call3_v4_apply, val_main_call3_v2_apply,
    show val_main_call3_cst (F := Ideal) _ = ((1 : ℝ) : EReal) from one_f32,
    show val_main_call3_cst_0 (F := Ideal) _ = ((1 : ℝ) : EReal) from one_f32]
  show Ideal.div ((1 : ℝ) : EReal) (((1 : ℝ) : EReal) + Ideal.exp (-((I.z n k g i d : ℝ) : EReal))) = _
  rw [← EReal.coe_neg, Ideal.exp_coe, ← EReal.coe_add, Row.div_coe _ (by positivity)]
  rfl

theorem silu_read (n : Fin 64) (k g : Fin 4) (i : Fin 128) (d : Fin 64) :
    val_main_v128_0 (F := Ideal) x0 (ix2 (row n i) (hcol k g d)) = ((I.z n k g i d * Block.sig (I.z n k g i d) : ℝ) : EReal) := by
  rw [val_main_v128_0_apply, sig_read A, z_read A]
  simp only [Ideal.mulf_def, ← EReal.coe_mul]

theorem dO_read (n : Fin 64) (k g : Fin 4) (i : Fin 128) (d : Fin 64) :
    val_main_v134 (F := Ideal) x0 x3 (ix5 n k d g i) = (I.dO n k g i d : EReal) := by
  have e : idx_main_v133 (idx_main_v134 (ix5 n k d g i)) = ix2 (row n i) (hcol k g d) := by
    funext a; fin_cases a <;> ext <;> simp <;> omega
  rw [val_main_v134_apply, val_main_v133_apply, e, val_main_v131_apply, silu_read A, A.dh]
  simp only [Ideal.mulf_def, ← EReal.coe_mul]
  rfl

theorem dP_read (n : Fin 64) (k g : Fin 4) (i : Fin 128) (s : Fin 256) :
    val_main_v135 (F := Ideal) x0 x3 (ix5 n k g i s) = (I.dP n k g i s : EReal) := by
  have el : ∀ d, lidx_main_v135 (ix5 n k g i s) d = ix5 n k d g i := fun d => by funext a; fin_cases a <;> rfl
  have er : ∀ d, ridx_main_v135 (ix5 n k g i s) d = ix4 n s k d := fun d => by funext a; fin_cases a <;> rfl
  rw [val_main_v135_apply]
  simp only [el, er, dO_read A, band_val A, ← EReal.coe_mul]
  rw [← Row.coe_sum]
  rfl

/-! ## The derivative of the row -/

section
variable {n : Fin 64} {k g : Fin 4} {i : Fin 128} {r : ℝ} (hr : val_main_v101 (F := Ideal) x0 x1 x2 (ix5 n k g i 0) = (r : EReal))
include hr

theorem dden_read : val_main_v143 (F := Ideal) x0 x1 x2 x3 (ix5 n k g i 0)
    = ((-(Row.delta (Inp.M n i) (I.logit n k g i) (I.sk (hd k g)) (I.dP n k g i))
        / (Row.den (Inp.M n i) (I.logit n k g i) (I.sk (hd k g)) * Real.exp (-r)) : ℝ) : EReal) := by
  have e1 : idx_main_v142 (ix5 n k g i 0) = ix4 n k g i := by
    funext a; fin_cases a <;> ext <;> simp <;> omega
  have e2 : ∀ t, idx_main_v141 (ix4 n k g i) t = ix5 n k g i t := fun t => by funext a; fin_cases a <;> rfl
  have e3 : ∀ t, idx_main_v138 (ix5 n k g i t) = ix5 n k g i 0 := fun t => by funext a; fin_cases a <;> rfl
  have h : ∀ t, val_main_v140 (F := Ideal) x0 x1 x2 x3 (ix5 n k g i t)
      = (I.dP n k g i t : EReal) * Ideal.div 1
          (((Row.den (Inp.M n i) (I.logit n k g i) (I.sk (hd k g)) * Real.exp (-r) : ℝ) : EReal)
            * ((Row.den (Inp.M n i) (I.logit n k g i) (I.sk (hd k g)) * Real.exp (-r) : ℝ) : EReal))
        * ((Row.wt (Inp.M n i) (I.logit n k g i) t * Real.exp (-r) : ℝ) : EReal) := fun t => by
    rw [val_main_v140_apply, val_main_v139_apply, val_main_v138_apply, e3, val_main_v124_apply, val_main_v123_apply,
      val_main_v122_apply, den_read A hr, exp_read A hr, dP_read A,
      show val_main_cst_26 (F := Ideal) _ = ((1 : ℝ) : EReal) from one_f32]
    rfl
  rw [val_main_v143_apply, val_main_v142_apply, e1, val_main_v141_apply]
  simp only [e2, h]
  rw [show val_main_cst_27 (F := Ideal) (Shape.Idx.first h_S_) = (0 : EReal) from zero_f32, zero_add]
  exact Row.dden_chain _ _ _ _ r

theorem dexp_read (s : Fin 256) : val_main_v151 (F := Ideal) x0 x1 x2 x3 (ix5 n k g i s) = (I.dL n k g i s : EReal) := by
  have e1 : idx_main_v149 (ix5 n k g i s) = ix4 n k g i := by funext a; fin_cases a <;> rfl
  have e2 : idx_main_v148 (ix4 n k g i) 0 = ix5 n k g i 0 := by funext a; fin_cases a <;> rfl
  have e3 : idx_main_v144 (ix5 n k g i s) = ix5 n k g i 0 := by funext a; fin_cases a <;> rfl
  rw [val_main_v151_apply, val_main_v150_apply, val_main_v149_apply, e1, val_main_v148_apply, Fin.sum_univ_one, e2,
    dden_read A hr, val_main_v145_apply, val_main_v144_apply, e3, den_read A hr, exp_read A hr, dP_read A,
    show val_main_cst_28 (F := Ideal) (Shape.Idx.first h_S_) = (0 : EReal) from zero_f32, zero_add]
  exact Row.dlog_chain _ _ _ _ r s

theorem dmax_read : val_main_v155 (F := Ideal) x0 x1 x2 x3 (ix5 n k g i 0) = 0 := by
  have e1 : idx_main_v154 (ix5 n k g i 0) = ix4 n k g i := by
    funext a; fin_cases a <;> ext <;> simp <;> omega
  have e2 : ∀ t, idx_main_v153 (ix4 n k g i) t = ix5 n k g i t := fun t => by funext a; fin_cases a <;> rfl
  rw [val_main_v155_apply, val_main_v154_apply, e1, val_main_v153_apply, val_main_v147_apply, val_main_v146_apply,
    dden_read A hr, exp_sink_read A hr]
  simp only [e2, val_main_v152_apply, dexp_read A hr]
  rw [show val_main_cst_29 (F := Ideal) (Shape.Idx.first h_S_) = (0 : EReal) from zero_f32, zero_add]
  exact Row.dmax_chain _ _ _ _ r

theorem dlog_read' (s : Fin 256) : val_main_v164 (F := Ideal) x0 x1 x2 x3 (ix5 n k g i s)
    = ((I.dL n k g i s * (1 / 8) : ℝ) : EReal) := by
  have e1 : idx_main_v159 (ix5 n k g i s) = ix4 n k g i := by funext a; fin_cases a <;> rfl
  have e2 : idx_main_v157 (ix4 n k g i) 0 = ix5 n k g i 0 := by funext a; fin_cases a <;> rfl
  have h : val_main_v161 (F := Ideal) x0 x1 x2 x3 (ix5 n k g i s) = (I.dL n k g i s : EReal) := by
    rw [val_main_v161_apply, val_main_v160_apply, val_main_v159_apply, e1, val_main_v158_apply, val_main_v157_apply,
      Fin.sum_univ_one, e2, val_main_v156_apply, dmax_read A hr, dexp_read A hr,
      show val_main_cst_30 (F := Ideal) (Shape.Idx.first h_S_) = (0 : EReal) from zero_f32]
    simp only [Ideal.mulf_def, Ideal.addf_def, Ideal.hostDivf_def, zero_mul, zero_add]
    rw [Row.zero_div (count_ne_zero A n k g i), zero_mul, add_zero]
  rw [val_main_v164_apply, val_main_v163_apply, val_main_v162_apply, mask_read, h,
    show val_main_cst_31 (F := Ideal) _ = (((1 : ℝ) / 8 : ℝ) : EReal) from Block.eighth_f32]
  by_cases hM : Inp.M n i s = true
  · rw [select_true hM]
    simp only [Ideal.mulf_def, ← EReal.coe_mul]
  · have hM' : Inp.M n i s = false := by simpa using hM
    have hz : I.dL n k g i s = 0 := Row.dlog_off _ _ _ _ hM'
    rw [select_false hM', val_main_call5_v0_apply, hz,
      show val_main_call5_cst (F := Ideal) _ = ((0 : ℝ) : EReal) from zero_f32]
    simp only [Ideal.mulf_def, ← EReal.coe_mul]

end

theorem dlog_read (n : Fin 64) (k g : Fin 4) (i : Fin 128) (s : Fin 256) :
    val_main_v164 (F := Ideal) x0 x1 x2 x3 (ix5 n k g i s) = ((I.dL n k g i s * (1 / 8) : ℝ) : EReal) := by
  obtain ⟨r, hr⟩ := shift_read A n k g i
  exact dlog_read' A hr s

end Cert.Ref
end
-- ==== Proof.RefGrad.lean ====
module

public import proofs.«01_k».proof.Proof.RefRow
public import proofs.«01_k».proof.Proof.Tiles
public import Idealize.ShloMosaic.Lib.TwoAxisContraction
public import Idealize.ShloMosaic.Lib.KernelVsHost

/-! # The reference's five results -/

@[expose] public section

set_option maxRecDepth 16384
noncomputable section
open Idealize.ShloMosaic Idealize.ShloMosaic.Pointwise Cert.Model

namespace Cert.Ref
open Cert.ReferenceIdeal Cert.ReferenceIdeal.Gen Cert.ReferenceIdeal.Read Cert.Bucket

/-! ## Products contracted over two axes -/

theorem two_axes_val (y0 : S64x4x64x4x128.Idx → EReal) (y1 : S64x4x4x128x256.Idx → EReal) (n : Fin 64) (k : Fin 4) (d : Fin 64) (s : Fin 256) :
    (Host.dotGeneral (F := Ideal) (φ₁ := .f32) (φ₂ := .f32) dot_S64x4x64x4x128_S64x4x4x128x256_S64x4x64x256_34_23_2_4_01_01 none y0 y1 : S64x4x64x256.Idx → EReal) (ix4 n k d s)
      = ∑ g : Fin 4, ∑ i : Fin 128, y0 (ix5 n k d g i) * y1 (ix5 n k g i s) := by
  simp only [Host.dotGeneral]
  rw [Ideal.dotGeneral_apply, ValueIdx.sum_contr2 _ 4 128 rfl rfl rfl]
  refine Finset.sum_congr rfl fun g _ => Finset.sum_congr rfl fun i _ => ?_
  congr 2
  · funext a; fin_cases a <;> rfl
  · funext a; fin_cases a <;> rfl

theorem two_axes_key (y0 : S64x4x256x128x4.Idx → EReal) (y1 : S64x128x4x4x64.Idx → EReal) (n : Fin 64) (k : Fin 4) (d : Fin 64) (s : Fin 256) :
    (Host.dotGeneral (F := Ideal) (φ₁ := .f32) (φ₂ := .f32) dot_S64x4x256x128x4_S64x128x4x4x64_S64x4x256x64_34_13_2_4_01_02 none y0 y1 : S64x4x256x64.Idx → EReal) (ix4 n k s d)
      = ∑ i : Fin 128, ∑ g : Fin 4, y0 (ix5 n k s i g) * y1 (ix5 n i k g d) := by
  simp only [Host.dotGeneral]
  rw [Ideal.dotGeneral_apply, ValueIdx.sum_contr2 _ 128 4 rfl rfl rfl]
  refine Finset.sum_congr rfl fun i _ => Finset.sum_congr rfl fun g _ => ?_
  congr 2
  · funext a; fin_cases a <;> rfl
  · funext a; fin_cases a <;> rfl

variable {I : Inp} {tab : Fin 32 → Fin 16 → ℝ} {x0 : S8192x8704.Idx → EReal} {x1 : S16.Idx → EReal}
  {x2 : S32x16.Idx → EReal} {x3 : S8192x1024.Idx → EReal} (A : Args I tab x0 x1 x2 x3)
include A

/-! ## The forward result and the gate's gradient -/

theorem O_read (n : Fin 64) (k g : Fin 4) (i : Fin 128) (d : Fin 64) :
    val_main_v127 (F := Ideal) x0 x1 x2 (ix2 (row n i) (hcol k g d)) = (I.O n k g i d : EReal) := by
  have e : idx_main_v126 (idx_main_v127 (ix2 (row n i) (hcol k g d))) = ix5 n k d g i := by
    funext a; fin_cases a <;> ext <;> simp <;> omega
  have el : ∀ s, lidx_main_v125 (ix5 n k d g i) s = ix4 n s k d := fun s => by funext a; fin_cases a <;> rfl
  have er : ∀ s, ridx_main_v125 (ix5 n k d g i) s = ix5 n k g i s := fun s => by funext a; fin_cases a <;> rfl
  rw [val_main_v127_apply, val_main_v126_apply, e, val_main_v125_apply]
  simp only [el, er, band_val A, prob_read A, ← EReal.coe_mul]
  rw [← Row.coe_sum]
  congr 1
  exact Finset.sum_congr rfl fun s _ => mul_comm _ _

theorem H_read (n : Fin 64) (k g : Fin 4) (i : Fin 128) (d : Fin 64) :
    val_main_v129 (F := Ideal) x0 x1 x2 (ix2 (row n i) (hcol k g d)) = (I.H n k g i d : EReal) := by
  rw [val_main_v129_apply, O_read A, silu_read A]
  simp only [Ideal.mulf_def, ← EReal.coe_mul]
  rfl

theorem dZ_read (n : Fin 64) (k g : Fin 4) (i : Fin 128) (d : Fin 64) :
    val_main_v132 (F := Ideal) x0 x1 x2 x3 (ix2 (row n i) (hcol k g d)) = (I.dZ n k g i d : EReal) := by
  rw [val_main_v132_apply, val_main_call4_v1_apply, val_main_call4_v2_apply, val_main_call4_v0_apply, val_main_v130_apply,
    val_main_v128_1_apply, val_main_call3_v7_apply, O_read A, sig_read A, z_read A, A.dh, val_main_call3_v6_apply,
    show val_main_call3_cst_1 (F := Ideal) _ = ((1 : ℝ) : EReal) from one_f32]
  simp only [Ideal.mulf_def, Ideal.addf_def, Ideal.subf_def, ← EReal.coe_mul, ← EReal.coe_add, ← EReal.coe_sub]
  congr 1
  unfold Inp.dZ Inp.dH
  ring

/-! ## The gradients of queries, keys and values -/

theorem dlogT_read (n : Fin 64) (k g : Fin 4) (i : Fin 128) (s : Fin 256) :
    val_main_v165 (F := Ideal) x0 x1 x2 x3 (ix5 n k s i g) = ((I.dL n k g i s * (1 / 8) : ℝ) : EReal) := by
  have e : idx_main_v165 (ix5 n k s i g) = ix5 n k g i s := by funext a; fin_cases a <;> rfl
  rw [val_main_v165_apply, e, dlog_read A]

theorem dQ_read (n : Fin 64) (k g : Fin 4) (i : Fin 128) (d : Fin 64) :
    val_main_v188 (F := Ideal) x0 x1 x2 x3 (ix2 (row n i) (hcol k g d)) = (I.dQ n k g i d : EReal) := by
  have e : idx_main_v167 (idx_main_v188 (ix2 (row n i) (hcol k g d))) = ix5 n k i g d := by
    funext a; fin_cases a <;> ext <;> simp <;> omega
  have el : ∀ s, lidx_main_v166 (ix5 n k i g d) s = ix5 n k s i g := fun s => by funext a; fin_cases a <;> rfl
  have er : ∀ s, ridx_main_v166 (ix5 n k i g d) s = ix4 n s k d := fun s => by funext a; fin_cases a <;> rfl
  rw [val_main_v188_apply, val_main_v167_apply, e, val_main_v166_apply]
  simp only [el, er, band_key A, dlogT_read A, ← EReal.coe_mul]
  rw [← Row.coe_sum]
  congr 1
  unfold Inp.dQ
  rw [Finset.sum_mul]
  exact Finset.sum_congr rfl fun s _ => by ring

theorem dVb_read (n : Fin 64) (k : Fin 4) (s : Fin 256) (d : Fin 64) :
    val_main_v137 (F := Ideal) x0 x1 x2 x3 (ix4 n s k d) = (I.dVb n k s d : EReal) := by
  have e : idx_main_v137 (ix4 n s k d) = ix4 n k d s := by funext a; fin_cases a <;> rfl
  rw [val_main_v137_apply, e]
  unfold val_main_v136
  refine (two_axes_val _ _ n k d s).trans ?_
  simp only [dO_read A, prob_read A, ← EReal.coe_mul, ← Row.coe_sum]
  congr 1
  exact Finset.sum_congr rfl fun g _ => Finset.sum_congr rfl fun i _ => mul_comm _ _

theorem dKb_read (n : Fin 64) (k : Fin 4) (s : Fin 256) (d : Fin 64) :
    val_main_v169 (F := Ideal) x0 x1 x2 x3 (ix4 n s k d) = (I.dKb n k s d : EReal) := by
  have e : idx_main_v169 (ix4 n s k d) = ix4 n k s d := by funext a; fin_cases a <;> rfl
  rw [val_main_v169_apply, e]
  unfold val_main_v168
  refine (two_axes_key _ _ n k d s).trans ?_
  simp only [dlogT_read A, q_read A, ← EReal.coe_mul, ← Row.coe_sum]
  congr 1
  rw [Finset.sum_comm]
  unfold Inp.dKb
  simp only [Finset.sum_mul]
  exact Finset.sum_congr rfl fun g _ => Finset.sum_congr rfl fun i _ => by ring

/-! ## A key's gradient is the sum over the two bands it lies in -/

theorem dV_read (n : Fin 64) (k : Fin 4) (c : Fin 128) (d : Fin 64) :
    val_main_v178 (F := Ideal) x0 x1 x2 x3 (ix2 (row n c) (kvcol k d)) = (I.dV n k c d : EReal) := by
  have hn := n.isLt
  have e : idx_main_v175 (idx_main_v177 (idx_main_v178 (ix2 (row n c) (kvcol k d)))) = ix4 (⟨n.val + 1, by omega⟩ : Fin 65) c k d := by
    funext a; fin_cases a <;> ext <;> simp <;> omega
  have e1 : idx_main_v171 (ix4 n c k d) = ix4 n (Inp.half 1 c) k d := by
    funext a; fin_cases a <;> ext <;> simp <;> omega
  rw [val_main_v178_apply, val_main_v177_apply, val_main_v175_apply, e, val_main_v174_apply]
  have h1 : val_main_v172 (F := Ideal) x0 x1 x2 x3 (ix4 (⟨n.val + 1, by omega⟩ : Fin 65) c k d) = (I.dVb n k (Inp.half 1 c) d : EReal) := by
    unfold val_main_v172
    refine (pad_apply_of_inside (s := S64x128x4x64) (t := S65x128x4x64) _ _ _ _ _ _ _ _ (ix4 n c k d) ?_).trans ?_
    · intro a; fin_cases a <;> simp <;> omega
    · rw [val_main_v171_apply, e1, dVb_read A]
  have h2 : val_main_v173 (F := Ideal) x0 x1 x2 x3 (ix4 (⟨n.val + 1, by omega⟩ : Fin 65) c k d)
      = ((if h : n.val + 1 < 64 then I.dVb ⟨n.val + 1, h⟩ k (Inp.half 0 c) d else 0 : ℝ) : EReal) := by
    unfold val_main_v173
    by_cases h : n.val + 1 < 64
    · have e2 : idx_main_v170 (ix4 (⟨n.val + 1, h⟩ : Fin 64) c k d) = ix4 ⟨n.val + 1, h⟩ (Inp.half 0 c) k d := by
        funext a; fin_cases a <;> ext <;> simp <;> omega
      rw [dif_pos h]
      refine (pad_apply_of_inside (s := S64x128x4x64) (t := S65x128x4x64) _ _ _ _ _ _ _ _ (ix4 (⟨n.val + 1, h⟩ : Fin 64) c k d) ?_).trans ?_
      · intro a; fin_cases a <;> simp <;> omega
      · rw [val_main_v170_apply, e2, dVb_read A]
    · rw [dif_neg h]
      refine (pad_apply_of_not_inside (s := S64x128x4x64) (t := S65x128x4x64) _ _ _ _ _ _ _ _ 0 ?_).trans zero_f32
      simp; omega
  rw [h1, h2]
  simp only [Ideal.addf_def, ← EReal.coe_add]
  rfl

theorem dK_read (n : Fin 64) (k : Fin 4) (c : Fin 128) (d : Fin 64) :
    val_main_v187 (F := Ideal) x0 x1 x2 x3 (ix2 (row n c) (kvcol k d)) = (I.dK n k c d : EReal) := by
  have hn := n.isLt
  have e : idx_main_v184 (idx_main_v186 (idx_main_v187 (ix2 (row n c) (kvcol k d)))) = ix4 (⟨n.val + 1, by omega⟩ : Fin 65) c k d := by
    funext a; fin_cases a <;> ext <;> simp <;> omega
  have e1 : idx_main_v180 (ix4 n c k d) = ix4 n (Inp.half 1 c) k d := by
    funext a; fin_cases a <;> ext <;> simp <;> omega
  rw [val_main_v187_apply, val_main_v186_apply, val_main_v184_apply, e, val_main_v183_apply]
  have h1 : val_main_v181 (F := Ideal) x0 x1 x2 x3 (ix4 (⟨n.val + 1, by omega⟩ : Fin 65) c k d) = (I.dKb n k (Inp.half 1 c) d : EReal) := by
    unfold val_main_v181
    refine (pad_apply_of_inside (s := S64x128x4x64) (t := S65x128x4x64) _ _ _ _ _ _ _ _ (ix4 n c k d) ?_).trans ?_
    · intro a; fin_cases a <;> simp <;> omega
    · rw [val_main_v180_apply, e1, dKb_read A]
  have h2 : val_main_v182 (F := Ideal) x0 x1 x2 x3 (ix4 (⟨n.val + 1, by omega⟩ : Fin 65) c k d)
      = ((if h : n.val + 1 < 64 then I.dKb ⟨n.val + 1, h⟩ k (Inp.half 0 c) d else 0 : ℝ) : EReal) := by
    unfold val_main_v182
    by_cases h : n.val + 1 < 64
    · have e2 : idx_main_v179 (ix4 (⟨n.val + 1, h⟩ : Fin 64) c k d) = ix4 ⟨n.val + 1, h⟩ (Inp.half 0 c) k d := by
        funext a; fin_cases a <;> ext <;> simp <;> omega
      rw [dif_pos h]
      refine (pad_apply_of_inside (s := S64x128x4x64) (t := S65x128x4x64) _ _ _ _ _ _ _ _ (ix4 (⟨n.val + 1, h⟩ : Fin 64) c k d) ?_).trans ?_
      · intro a; fin_cases a <;> simp <;> omega
      · rw [val_main_v179_apply, e2, dKb_read A]
    · rw [dif_neg h]
      refine (pad_apply_of_not_inside (s := S64x128x4x64) (t := S65x128x4x64) _ _ _ _ _ _ _ _ 0 ?_).trans zero_f32
      simp; omega
  rw [h1, h2]
  simp only [Ideal.addf_def, ← EReal.coe_add]
  rfl

/-! ## The results as whole arrays -/

omit A in
theorem flat_of (f : Fin 64 → Fin 4 → Fin 4 → Fin 128 → Fin 64 → ℝ) (y : S8192x1024.Idx → EReal)
    (h : ∀ n k g i d, y (ix2 (row n i) (hcol k g d)) = (f n k g i d : EReal)) :
    y = fun j => ((flat f (j 0) (j 1) : ℝ) : EReal) := by
  funext j
  obtain ⟨R, C, rfl⟩ : ∃ (R : Fin 8192) (C : Fin 1024), j = ix2 R C := ⟨j 0, j 1, by funext a; fin_cases a <;> rfl⟩
  have hR := R.isLt; have hC := C.isLt
  have e : ix2 R C = ix2 (row ⟨R.val / 128, by omega⟩ ⟨R.val % 128, by omega⟩)
      (hcol ⟨C.val / 256, by omega⟩ ⟨C.val / 64 % 4, by omega⟩ ⟨C.val % 64, by omega⟩) := by
    funext a; fin_cases a <;> ext <;> simp <;> omega
  rw [e, h]
  rw [← e]
  rfl

omit A in
theorem flatKV_of (f : Fin 64 → Fin 4 → Fin 128 → Fin 64 → ℝ) (y : S8192x256.Idx → EReal)
    (h : ∀ n k i d, y (ix2 (row n i) (kvcol k d)) = (f n k i d : EReal)) :
    y = fun j => ((flatKV f (j 0) (j 1) : ℝ) : EReal) := by
  funext j
  obtain ⟨R, C, rfl⟩ : ∃ (R : Fin 8192) (C : Fin 256), j = ix2 R C := ⟨j 0, j 1, by funext a; fin_cases a <;> rfl⟩
  have hR := R.isLt; have hC := C.isLt
  have e : ix2 R C = ix2 (row ⟨R.val / 128, by omega⟩ ⟨R.val % 128, by omega⟩)
      (kvcol ⟨C.val / 64, by omega⟩ ⟨C.val % 64, by omega⟩) := by
    funext a; fin_cases a <;> ext <;> simp <;> omega
  rw [e, h]
  rw [← e]
  rfl

theorem res_H : val_main_v189 (F := Ideal) x0 x1 x2 = fun j => ((flat I.H (j 0) (j 1) : ℝ) : EReal) :=
  flat_of I.H _ fun n k g i d => H_read A n k g i d
theorem res_dQ : val_main_v190 (F := Ideal) x0 x1 x2 x3 = fun j => ((flat I.dQ (j 0) (j 1) : ℝ) : EReal) :=
  flat_of I.dQ _ fun n k g i d => dQ_read A n k g i d
theorem res_dK : val_main_v191 (F := Ideal) x0 x1 x2 x3 = fun j => ((flatKV I.dK (j 0) (j 1) : ℝ) : EReal) :=
  flatKV_of I.dK _ fun n k i d => dK_read A n k i d
theorem res_dV : val_main_v192 (F := Ideal) x0 x1 x2 x3 = fun j => ((flatKV I.dV (j 0) (j 1) : ℝ) : EReal) :=
  flatKV_of I.dV _ fun n k i d => dV_read A n k i d
theorem res_dZ : val_main_v193 (F := Ideal) x0 x1 x2 x3 = fun j => ((flat I.dZ (j 0) (j 1) : ℝ) : EReal) :=
  flat_of I.dZ _ fun n k g i d => dZ_read A n k g i d

end Cert.Ref
end
-- ==== Proof.HostTail.lean ====
/- Hand-written, untrusted. THE KERNEL'S RESULTS AS NUMBERS: what the host hands each call, and what it makes of the backward call's
   partial gradients: the own block's part plus the next block's part, moved up by a block. -/
module

public import proofs.«01_k».proof.Proof.HostBias
public import proofs.«01_k».proof.Proof.Result0
public import proofs.«01_k».proof.Proof.Result1
public import proofs.«01_k».proof.Proof.RefGrad

@[expose] public section

set_option maxRecDepth 16384

noncomputable section

namespace Cert.AttnIdeal.Gen

open Idealize.ShloMosaic Idealize.ShloMosaic.TcCoe Idealize.ShloMosaic.Pointwise Cert.Block Cert.Model

theorem flatKV_row (f : Fin 64 → Fin 4 → Fin 128 → Fin 64 → ℝ) (n : Fin 64) (k : Fin 4) (i : Fin 128) (d : Fin 64)
    (R : Fin 8192) (C : Fin 256) (hR : R.val = 128 * n.val + i.val) (hC : C.val = 64 * k.val + d.val) :
    flatKV f R C = f n k i d := by
  unfold flatKV
  congr 1 <;> ext <;> dsimp only <;> omega

variable (m : (ℓ : Loc nD τ sig) → Buf (Elt Ideal) ℓ) (ρ : Dev nD → PrngReg) (c : Dev nD)

/-- The launch's arguments are the numbers `I` says, the biases the rows of the table `tab`. -/
structure At (I : Inp) (tab : Fin 32 → Fin 16 → ℝ) : Prop where
  pr : ∀ R C, W0 (F := Ideal) m ρ c main_arg0 (ix2 R C) = (I.pr R C : EReal)
  sk : ∀ h, W0 (F := Ideal) m ρ c main_arg1 (ix1 h) = (I.sk h : EReal)
  tb : ∀ r h, W0 (F := Ideal) m ρ c main_arg2 (ix2 r h) = (tab r h : EReal)
  bi : ∀ D h, I.bi D h = tab (Bucket.bucket D) h
  dh : ∀ R C, W0 (F := Ideal) m ρ c main_arg3 (ix2 R C) = (I.dh R C : EReal)

variable {m ρ c} {I : Inp} {tab : Fin 32 → Fin 16 → ℝ} (A : At m ρ c I tab)
include A

/-- The forward call finds its inputs. -/
theorem in0 : In0 I (V5 (F := Ideal) m ρ) c where
  pr R C := (congrFun (W5_args (F := Ideal) m ρ c main_arg0 (by decide)) (ix2 R C)).trans (A.pr R C)
  sk h := (congrFun (W5_args (F := Ideal) m ρ c main_arg1 (by decide)) (ix1 h)).trans (A.sk h)
  bi h i j := (v41_read m ρ c tab A.tb h i j).trans (by rw [A.bi])

/-- The backward call finds its inputs. -/
theorem in1 : In1 I (V6 (F := Ideal) m ρ) c where
  pr R C := (congrFun (W6_args (F := Ideal) m ρ c main_arg0 (by decide)) (ix2 R C)).trans (A.pr R C)
  dh R C := (congrFun (W6_args (F := Ideal) m ρ c main_arg3 (by decide)) (ix2 R C)).trans (A.dh R C)
  sk h := (congrFun (W6_args (F := Ideal) m ρ c main_arg1 (by decide)) (ix1 h)).trans (A.sk h)
  o R C := (congrFun (W6_arr (F := Ideal) m ρ c 8) (ix2 R C)).trans (congrFun (arr0_8 (in0 A)) (ix2 R C))
  bi h i j := (congrFun (W6_of (F := Ideal) m ρ c main_v41 (by decide)) (ix3 h i j)).trans
    ((v41_read m ρ c tab A.tb h i j).trans (by rw [A.bi]))

theorem W8_h : W8 (F := Ideal) m ρ c main_v42_1 = fun y => ((flat I.H (y 0) (y 1) : ℝ) : EReal) :=
  (W8_of (F := Ideal) m ρ c main_v42_1 (by decide)).trans ((W7_of (F := Ideal) m ρ c main_v42_1 (by decide)).trans
    ((W6_arr (F := Ideal) m ρ c 9).trans (arr0_9 (in0 A))))

theorem W8_dq : W8 (F := Ideal) m ρ c main_v43_0 = fun y => ((flat I.dQ (y 0) (y 1) : ℝ) : EReal) :=
  (W8_of (F := Ideal) m ρ c main_v43_0 (by decide)).trans ((W7_arr (F := Ideal) m ρ c 10).trans (arr1_10 (in1 A)))

theorem W8_dz : W8 (F := Ideal) m ρ c main_v43_1 = fun y => ((flat I.dZ (y 0) (y 1) : ℝ) : EReal) :=
  (W8_of (F := Ideal) m ρ c main_v43_1 (by decide)).trans ((W7_arr (F := Ideal) m ρ c 11).trans (arr1_11 (in1 A)))

theorem W8_dk_at (n : Fin 64) (k : Fin 4) (i : Fin 128) (d : Fin 64) :
    W8 (F := Ideal) m ρ c main_v49 (ix2 (row n i) (kvcol k d)) = (I.dK n k i d : EReal) := by
  have e1 : ∀ R C, W7 (F := Ideal) m ρ c main_v43_2 (ix2 R C) = ((flatKV (fun n k i d => I.dKb n k (Inp.half 1 i) d) R C : ℝ) : EReal) :=
    fun R C => congrFun ((W7_arr (F := Ideal) m ρ c 12).trans (arr1_12 (in1 A))) (ix2 R C)
  have e0 : ∀ R C, W7 (F := Ideal) m ρ c main_v43_3 (ix2 R C) = ((flatKV (fun n k i d => I.dKb n k (Inp.half 0 i) d) R C : ℝ) : EReal) :=
    fun R C => congrFun ((W7_arr (F := Ideal) m ρ c 13).trans (arr1_13 (in1 A))) (ix2 R C)
  have hn := n.isLt
  have hi := i.isLt
  after_reads_at
  refine (congrArg₂ (fun a b : EReal => a + b) ((e1 _ _).trans (congrArg _ (flatKV_row _ n k i d _ _ rfl rfl))) (?_ : _ =
    ((if h : n.val + 1 < 64 then I.dKb ⟨n.val + 1, h⟩ k (Inp.half 0 i) d else 0 : ℝ) : EReal))).trans
    (EReal.coe_add _ _).symm
  by_cases h : n.val + 1 < 64
  · rw [dif_pos h, dif_pos (by omega)]
    after_reads_at
    refine (e0 _ _).trans (congrArg _ (flatKV_row _ ⟨n.val + 1, h⟩ k i d _ _ ?_ rfl))
    show 128 + (128 * n.val + i.val) = 128 * (n.val + 1) + i.val
    omega
  · rw [dif_neg h, dif_neg (by omega)]
    after_reads_at
    exact EReal.coe_zero.symm

theorem W8_dk : W8 (F := Ideal) m ρ c main_v49 = fun y => ((flatKV I.dK (y 0) (y 1) : ℝ) : EReal) :=
  Ref.flatKV_of I.dK _ (W8_dk_at A)

theorem W8_dv_at (n : Fin 64) (k : Fin 4) (i : Fin 128) (d : Fin 64) :
    W8 (F := Ideal) m ρ c main_v55 (ix2 (row n i) (kvcol k d)) = (I.dV n k i d : EReal) := by
  have e1 : ∀ R C, W7 (F := Ideal) m ρ c main_v43_4 (ix2 R C) = ((flatKV (fun n k i d => I.dVb n k (Inp.half 1 i) d) R C : ℝ) : EReal) :=
    fun R C => congrFun ((W7_arr (F := Ideal) m ρ c 14).trans (arr1_14 (in1 A))) (ix2 R C)
  have e0 : ∀ R C, W7 (F := Ideal) m ρ c main_v43_5 (ix2 R C) = ((flatKV (fun n k i d => I.dVb n k (Inp.half 0 i) d) R C : ℝ) : EReal) :=
    fun R C => congrFun ((W7_arr (F := Ideal) m ρ c 15).trans (arr1_15 (in1 A))) (ix2 R C)
  have hn := n.isLt
  have hi := i.isLt
  after_reads_at
  refine (congrArg₂ (fun a b : EReal => a + b) ((e1 _ _).trans (congrArg _ (flatKV_row _ n k i d _ _ rfl rfl))) (?_ : _ =
    ((if h : n.val + 1 < 64 then I.dVb ⟨n.val + 1, h⟩ k (Inp.half 0 i) d else 0 : ℝ) : EReal))).trans
    (EReal.coe_add _ _).symm
  by_cases h : n.val + 1 < 64
  · rw [dif_pos h, dif_pos (by omega)]
    after_reads_at
    refine (e0 _ _).trans (congrArg _ (flatKV_row _ ⟨n.val + 1, h⟩ k i d _ _ ?_ rfl))
    show 128 + (128 * n.val + i.val) = 128 * (n.val + 1) + i.val
    omega
  · rw [dif_neg h, dif_neg (by omega)]
    after_reads_at
    exact EReal.coe_zero.symm

theorem W8_dv : W8 (F := Ideal) m ρ c main_v55 = fun y => ((flatKV I.dV (y 0) (y 1) : ℝ) : EReal) :=
  Ref.flatKV_of I.dV _ (W8_dv_at A)

end Cert.AttnIdeal.Gen
end
-- ==== Proof.RunAll.lean ====
/- Hand-written, untrusted. THE RUN WITH ITS FINAL CONTENTS: from any launch every execution ends with every buffer outside the
   regions' own memory at the contents the last stretch of host operations leaves. -/
module

public import proofs.«01_k».proof.Proof.Gen.AttnIdeal.Frame

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

local notation "𝕄" => MT nD τ sig Unit (Elt Ideal) ℕ (UR sig nD τ) ℕ

/-- What the launch's ghost state starts from: the pipelines' tokens. -/
theorem tokens_start : (ownU (initOf (Pipeline.cells cfgs cellOf_inj) (Pipeline.launchToks cfgs cellOf_inj)) : sProp 𝕄)
    ⊢ iprop(|={Set.univ}=> (BI.own (emb₁ (initOf (Pipeline.cells cfgs cellOf_inj) (Pipeline.launchToks cfgs cellOf_inj)))
        ∗ bigSep Finset.univ (fun _ : Dev nD => (BI.emp : sProp 𝕄)))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by rw [BI.bigSep_emp_const])
    iempintro

set_option backward.isDefEq.respectTransparency.types false in
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens_start)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c => h c)

end Cert.AttnIdeal.Gen
end
-- ==== Proof.Finite.lean ====
/- Hand-written, untrusted. THE PRECONDITION: every argument is a real number. -/
module

public import Idealize.ShloMosaic.Lib.Pointwise
public import proofs.«01_k».proof.Defs
public import proofs.«01_k».proof.Proof.Gen.Pre_finite

@[expose] public section

noncomputable section

namespace Cert.Finite

open Idealize.ShloMosaic

theorem pos_inf : Ideal.ofBits .f32 0x7F800000#32 = ⊤ := by simp [Ideal.ofBits, Ideal.ieee]
theorem neg_inf : Ideal.ofBits .f32 0xFF800000#32 = ⊥ := by simp [Ideal.ofBits, Ideal.ieee]

theorem and_ones {p q : Bool} (h : BitVec.ofBool p &&& BitVec.ofBool q = 1#1) : p = true ∧ q = true := by
  revert h; cases p <;> cases q <;> decide

/-- An element below `+∞` and above `−∞` is a real number. -/
theorem real_of (x : EReal) (h : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : x = ((x.toReal : ℝ) : EReal) := by
  rw [pos_inf, neg_inf] at h
  have h' := and_ones h
  have h1 : x < ⊤ := by simpa using h'.1
  have h2 : ⊥ < x := by simpa using h'.2
  exact (EReal.coe_toReal h1.ne h2.ne').symm

open Cert.Pre_finite in
theorem fn_real (x0 : FVec Ideal S8192x8704 .f32) (x1 : FVec Ideal S16 .f32) (x2 : FVec Ideal S32x16 .f32) (x3 : FVec Ideal S8192x1024 .f32)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2.1 = (fun _ => 1#1)
      ∧ (Cert.Pre_finite.fn (F := Ideal) x0 x1 x2 x3).2.2.2 = (fun _ => 1#1)) :
    (∀ j, x0 j = (((x0 j : EReal).toReal : ℝ) : EReal)) ∧ (∀ j, x1 j = (((x1 j : EReal).toReal : ℝ) : EReal))
      ∧ (∀ j, x2 j = (((x2 j : EReal).toReal : ℝ) : EReal)) ∧ (∀ j, x3 j = (((x3 j : EReal).toReal : ℝ) : EReal)) :=
  ⟨fun j => real_of _ (congrFun h.1 j), fun j => real_of _ (congrFun h.2.1 j),
    fun j => real_of _ (congrFun h.2.2.1 j), fun j => real_of _ (congrFun h.2.2.2 j)⟩

end Cert.Finite
end
-- ==== Proof.Values.lean ====
/- Hand-written, untrusted. THE VALUE CLAIM: on real arguments the kernel's five results are the reference's, as real numbers. -/
module

public import proofs.«01_k».proof.Proof.HostTail
public import proofs.«01_k».proof.Proof.RunAll
public import proofs.«01_k».proof.Proof.Finite
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.ShloMosaic.TcCoe Idealize.SL.Sem Cert.Model

/-- The numbers that a launch's argument arrays hold. -/
abbrev table (x2 : FVec Ideal Cert.Pre_finite.S32x16 .f32) : Fin 32 → Fin 16 → ℝ := fun r h => (x2 (ix2 r h) : EReal).toReal
abbrev inputs (x0 : FVec Ideal Cert.Pre_finite.S8192x8704 .f32) (x1 : FVec Ideal Cert.Pre_finite.S16 .f32)
    (x2 : FVec Ideal Cert.Pre_finite.S32x16 .f32) (x3 : FVec Ideal Cert.Pre_finite.S8192x1024 .f32) : Inp where
  pr R C := (x0 (ix2 R C) : EReal).toReal
  sk h := (x1 (ix1 h) : EReal).toReal
  bi D h := table x2 (Cert.Bucket.bucket D) h
  dh R C := (x3 (ix2 R C) : EReal).toReal

section kernel
open Cert.AttnIdeal Cert.AttnIdeal.Gen
variable (m : (ℓ : Loc nD τ sig) → Buf (Elt Ideal) ℓ) (ρ : Dev nD → PrngReg)

/-- Device `c`'s inputs. -/
abbrev inputsOf (c : Dev nD) : Inp := inputs (m ((c.tc : Thread nD τ).loc main_arg0)) (m ((c.tc : Thread nD τ).loc main_arg1))
  (m ((c.tc : Thread nD τ).loc main_arg2)) (m ((c.tc : Thread nD τ).loc main_arg3))

theorem kernel_at (hp : Cert.Pre_AttnIdeal_finite (hPre_finite := Cert.Pre_finite.Gen.facts) m) (c : Dev nD) :
    At m ρ c (inputsOf m c) (table (m ((c.tc : Thread nD τ).loc main_arg2))) := by
  have h := Cert.Finite.fn_real _ _ _ _ (hp c)
  exact ⟨fun R C => h.1 _, fun i => h.2.1 _, fun r i => h.2.2.1 _, fun D i => rfl, fun R C => h.2.2.2 _⟩

theorem kernel_run (hp : Cert.Pre_AttnIdeal_finite (hPre_finite := Cert.Pre_finite.Gen.facts) m) :
    θ_run (defs (F := Ideal)) (onTc (τ := τ) (main (F := Ideal))) ⟨m, fun _ => 0, ρ⟩ (fun r => ∀ c : Dev nD,
      r.2.mem ((c.tc : Thread nD τ).loc main_v42_1) = (fun y => ((flat (inputsOf m c).H (y 0) (y 1) : ℝ) : EReal))
      ∧ r.2.mem ((c.tc : Thread nD τ).loc main_v43_0) = (fun y => ((flat (inputsOf m c).dQ (y 0) (y 1) : ℝ) : EReal))
      ∧ r.2.mem ((c.tc : Thread nD τ).loc main_v49) = (fun y => ((flatKV (inputsOf m c).dK (y 0) (y 1) : ℝ) : EReal))
      ∧ r.2.mem ((c.tc : Thread nD τ).loc main_v55) = (fun y => ((flatKV (inputsOf m c).dV (y 0) (y 1) : ℝ) : EReal))
      ∧ r.2.mem ((c.tc : Thread nD τ).loc main_v43_1) = (fun y => ((flat (inputsOf m c).dZ (y 0) (y 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have A := kernel_at m ρ hp c
    ⟨(h c _ (mem_uc main_v42_1 (by decide))).trans (W8_h A), (h c _ (mem_uc main_v43_0 (by decide))).trans (W8_dq A),
      (h c _ (mem_uc main_v49 (by decide))).trans (W8_dk A), (h c _ (mem_uc main_v55 (by decide))).trans (W8_dv A),
      (h c _ (mem_uc main_v43_1 (by decide))).trans (W8_dz A),
      (h c _ (mem_uc main_arg0 (by decide))).trans (W8_main_arg0 m ρ c), (h c _ (mem_uc main_arg1 (by decide))).trans (W8_main_arg1 m ρ c),
      (h c _ (mem_uc main_arg2 (by decide))).trans (W8_main_arg2 m ρ c), (h c _ (mem_uc main_arg3 (by decide))).trans (W8_main_arg3 m ρ c)⟩)
    (run_all m ρ)
end kernel

section reference
open Idealize.ShloMosaic.StableHlo Cert.ReferenceIdeal Cert.ReferenceIdeal.Read Cert.ReferenceIdeal.Value
variable (m : (ℓ : Loc nD τ sig) → Buf (Elt Ideal) ℓ) (ρ : Dev nD → PrngReg)
  (I : Dev nD → Inp) (tab : Dev nD → Fin 32 → Fin 16 → ℝ)

theorem reference_run (A : ∀ c : Dev nD, Cert.Ref.Args (I c) (tab c) (m ((c.tc : Thread nD τ).loc main_arg0)) (m ((c.tc : Thread nD τ).loc main_arg1))
      (m ((c.tc : Thread nD τ).loc main_arg2)) (m ((c.tc : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v189) = (fun y => ((flat (I c).H (y 0) (y 1) : ℝ) : EReal))
      ∧ r.2.mem ((c.tc : Thread nD τ).loc main_v190) = (fun y => ((flat (I c).dQ (y 0) (y 1) : ℝ) : EReal))
      ∧ r.2.mem ((c.tc : Thread nD τ).loc main_v191) = (fun y => ((flatKV (I c).dK (y 0) (y 1) : ℝ) : EReal))
      ∧ r.2.mem ((c.tc : Thread nD τ).loc main_v192) = (fun y => ((flatKV (I c).dV (y 0) (y 1) : ℝ) : EReal))
      ∧ r.2.mem ((c.tc : Thread nD τ).loc main_v193) = (fun y => ((flat (I c).dZ (y 0) (y 1) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => by
    obtain ⟨h0, h1, h2, h3, h4, h5⟩ := h c
    exact ⟨h0.trans ((val_main_v189_eq (launchContents m c)).trans (Cert.Ref.res_H (A c))),
      h1.trans ((val_main_v190_eq (launchContents m c)).trans (Cert.Ref.res_dQ (A c))),
      h2.trans ((val_main_v191_eq (launchContents m c)).trans (Cert.Ref.res_dK (A c))),
      h3.trans ((val_main_v192_eq (launchContents m c)).trans (Cert.Ref.res_dV (A c))),
      h4.trans ((val_main_v193_eq (launchContents m c)).trans (Cert.Ref.res_dZ (A c))), h5⟩)
    (run m ρ)

theorem reference_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2.2, sem_eq_zero_of_no_sems (by decide) r.2⟩) (run m ρ)
end reference

theorem algebraic : Cert.algebraic_AttnIdeal_ReferenceIdeal_pre_finite (hAttnIdeal := Cert.AttnIdeal.Gen.facts)
    (hReferenceIdeal := Cert.ReferenceIdeal.Gen.facts) (hPre_finite := Cert.Pre_finite.Gen.facts) := by
  intro m g m' g' hp hm
  refine ⟨_, _, _, _, _, kernel_run m g hp, reference_run m' g' (fun c => inputsOf m c)
    (fun c => table (m ((c.tc : Thread Cert.AttnIdeal.nD Cert.AttnIdeal.τ).loc Cert.AttnIdeal.main_arg2))) fun c => ?_⟩
  obtain ⟨e0, e1, e2, e3⟩ := hm c
  rw [e0, e1, e2, e3]
  have A := kernel_at m g hp c
  exact ⟨A.pr, A.sk, A.tb, A.bi, A.dh⟩

end Cert.Proof
end
-- ==== Proof.InProj.lean ====
/- Hand-written, untrusted. THE INPUT PROJECTION (`in_proj`): each point multiplies a block of rows, whole, by a block of columns; the
   blocks of the result tile it, so the array is the reference's product. -/
module

public import proofs.«01_k».proof.Defs
public import proofs.«01_k».proof.Proof.Gen.InProjIdeal.Value
public import proofs.«01_k».proof.Proof.Gen.RefInProjIdeal.Run
public import proofs.«01_k».proof.Proof.Gen.RefInProjIdeal.Read
public import Idealize.ShloMosaic.Lib.Pipeline.ValueKit

@[expose] public section

set_option maxRecDepth 16384

noncomputable section

namespace Cert.InProjIdeal.Value

open Cert.InProjIdeal Cert.InProjIdeal.Gen Idealize.ShloMosaic Idealize.ShloMosaic.TcCoe Idealize.SL.Sem
open Cert.RefInProjIdeal.Read
open Idealize.ShloMosaic.Pipeline (Dat)

variable (m : (ℓ : Loc nD τ sig) → Buf (Elt Ideal) ℓ)

theorem maps : ∀ t : Fin cfg0.N, win0_0.index t = ![0, t.val / 17, 0] ∧ win0_1.index t = ![0, 0, t.val % 17]
    ∧ win0_2.index t = ![0, t.val / 17, t.val % 17] :=
  (by decide +kernel : ∀ t : Fin grid0.N, _)

/-- What a point stores at a place of its block is the product's element where the block's place lies. -/
theorem point (c : Dev nD) (t : Fin cfg0.N) (y) : k0_pay1 (iblk m c 0 t) (iblk m c 1 t) y
    = val_main_v1 (F := Ideal) (m ((c : Thread nD τ).loc main_arg0)) (m ((c : Thread nD τ).loc main_arg1)) (((cfg0.win 2).blk t).view.emb y) := by
  pointwise [k0_pay1, val_main_v1, val_main_v0]
  blk_point [iblk, V, maps t]

/-- The reference's product over the kernel's own arguments. -/
def R2 (c : Dev nD) : Buf (Elt Ideal) ((c : Thread nD τ).loc main_v4) :=
  val_main_v1 (F := Ideal) (m ((c : Thread nD τ).loc main_arg0)) (m ((c : Thread nD τ).loc main_arg1))

theorem result2 (c : Dev nD) : (dats m 0 c).arrAt 2 cfg0.N = R2 m c := by
  refine (dats m 0 c).arrAt_eq_of_covers 2 _ (by decide +kernel) fun t _ y => ?_
  blk_simp
  rw [after0_2]; unfold outsAt0; frame_out
  exact point m c t y

end Cert.InProjIdeal.Value

namespace Cert.InProj.Claims
open Cert Idealize.ShloMosaic Idealize.ShloMosaic.TcCoe Idealize.SL.Sem

theorem reference_frame : Cert.quiescent_RefInProjIdeal (hRefInProjIdeal := Cert.RefInProjIdeal.Gen.facts) := fun m ρ _ =>
  (θ_run _ _ _).mono (fun r h => ⟨fun c => (h c).2, sem_eq_zero_of_no_sems (by decide) r.2⟩) (Cert.RefInProjIdeal.Value.run m ρ)

theorem algebraic : Cert.algebraic_InProjIdeal_RefInProjIdeal (hInProjIdeal := Cert.InProjIdeal.Gen.facts)
    (hRefInProjIdeal := Cert.RefInProjIdeal.Gen.facts) := by
  intro m g m' g' _ hm
  refine ⟨_, Cert.InProjIdeal.Value.run_blocks m g, (θ_run _ _ _).mono (fun r h c => ⟨(h c).1.trans ?_, (h c).2⟩) (Cert.RefInProjIdeal.Value.run m' g')⟩
  obtain ⟨e0, e1⟩ := hm c
  rw [Cert.InProjIdeal.Value.result2 m c, Cert.RefInProjIdeal.Read.val_main_v1_eq, e0, e1]
  rfl

end Cert.InProj.Claims
end
-- ==== Proof.Cut.lean ====
/- Hand-written, untrusted. A SUM CUT INTO EQUAL STRETCHES: a sum over `Fin N` is the sum, in order, of its sums over two or four
   stretches of the same length (what a kernel that adds up a contraction block by block has at the end). -/
module

public import Idealize.ShloMosaic.PureOps.Ideal

@[expose] public section

namespace Cert.Cut

theorem sum_two {n N : ℕ} (hN : n + n = N) (f : Fin N → EReal) (a b : Fin n → EReal)
    (ha : ∀ (k : Fin n) (h : k.val < N), a k = f ⟨k.val, h⟩) (hb : ∀ (k : Fin n) (h : n + k.val < N), b k = f ⟨n + k.val, h⟩) :
    ∑ k, a k + ∑ k, b k = ∑ l, f l := by
  subst hN
  rw [Fin.sum_univ_add]
  exact congrArg₂ (fun x y : EReal => x + y) (Finset.sum_congr rfl fun k _ => ha k _) (Finset.sum_congr rfl fun k _ => hb k _)

/-- The same with one more term after the sums on one side, before them on the other. -/
theorem sum_two_add {n N : ℕ} (hN : n + n = N) (f : Fin N → EReal) (a b : Fin n → EReal) {r r' : EReal} (hr : r = r')
    (ha : ∀ (k : Fin n) (h : k.val < N), a k = f ⟨k.val, h⟩) (hb : ∀ (k : Fin n) (h : n + k.val < N), b k = f ⟨n + k.val, h⟩) :
    ∑ k, a k + ∑ k, b k + r = r' + ∑ l, f l := by
  rw [sum_two hN f a b ha hb, hr, add_comm]

theorem sum_four {n N : ℕ} (hN : n + n + n + n = N) (f : Fin N → EReal) (a b c d : Fin n → EReal)
    (ha : ∀ (k : Fin n) (h : k.val < N), a k = f ⟨k.val, h⟩) (hb : ∀ (k : Fin n) (h : n + k.val < N), b k = f ⟨n + k.val, h⟩)
    (hc : ∀ (k : Fin n) (h : n + n + k.val < N), c k = f ⟨n + n + k.val, h⟩)
    (hd : ∀ (k : Fin n) (h : n + n + n + k.val < N), d k = f ⟨n + n + n + k.val, h⟩) :
    ∑ k, a k + ∑ k, b k + ∑ k, c k + ∑ k, d k = ∑ l, f l := by
  subst hN
  rw [Fin.sum_univ_add, Fin.sum_univ_add, Fin.sum_univ_add]
  exact congrArg₂ (fun x y : EReal => x + y) (congrArg₂ (fun x y : EReal => x + y) (congrArg₂ (fun x y : EReal => x + y)
    (Finset.sum_congr rfl fun k _ => ha k _) (Finset.sum_congr rfl fun k _ => hb k _))
    (Finset.sum_congr rfl fun k _ => hc k _)) (Finset.sum_congr rfl fun k _ => hd k _)

/-- The same, the other side being written as a sum over one place of such a sum. -/
theorem sum_four_one {n N : ℕ} (hN : n + n + n + n = N) (f : Fin 1 → Fin N → EReal) (a b c d : Fin n → EReal)
    (ha : ∀ (u : Fin 1) (k : Fin n) (h : k.val < N), a k = f u ⟨k.val, h⟩)
    (hb : ∀ (u : Fin 1) (k : Fin n) (h : n + k.val < N), b k = f u ⟨n + k.val, h⟩)
    (hc : ∀ (u : Fin 1) (k : Fin n) (h : n + n + k.val < N), c k = f u ⟨n + n + k.val, h⟩)
    (hd : ∀ (u : Fin 1) (k : Fin n) (h : n + n + n + k.val < N), d k = f u ⟨n + n + n + k.val, h⟩) :
    ∑ k, a k + ∑ k, b k + ∑ k, c k + ∑ k, d k = ∑ u, ∑ l, f u l := by
  rw [Fin.sum_univ_one, sum_four hN (f 0) a b c d (ha 0) (hb 0) (hc 0) (hd 0)]

end Cert.Cut

end
-- ==== Proof.Gate.lean ====
/- Hand-written, untrusted. GATES, over the extended reals: what the sigmoid's products are on the kernels' side, where it is written
   `1 / (1 + exp (0 - x))`, and on the reference's, `1 / (1 + exp (-x))` — the same factors in another order. -/
module

public import Idealize.ShloMosaic.PureOps.Ideal

@[expose] public section

open Idealize.ShloMosaic

namespace Cert.Gate

theorem neg_arg (x : EReal) : (0 : EReal) - x = -x := by rw [sub_eq_add_neg, zero_add]

theorem swap {p q r : EReal} (h : q * p = r) : p * q = r := (mul_comm p q).trans h

variable {P P' Q Q' a a' b b' z z' w w' : EReal}

/-- The gated linear unit under its gate. -/
theorem unit (hP : P = P') (hQ : Q = Q') (hz : z = z') :
    P * Ideal.div 1 (1 + Ideal.exp (0 - Q)) * (z * Ideal.div 1 (1 + Ideal.exp (0 - z)))
      = P' * Ideal.div 1 (1 + Ideal.exp (-Q')) * (z' * Ideal.div 1 (1 + Ideal.exp (-z'))) := by
  subst hP hQ hz; rw [neg_arg, neg_arg]

/-- Two products under their gates, added. -/
theorem merge (hz : z = z') (hP : P = P') (hw : w = w') (hQ : Q = Q') :
    Ideal.div 1 (1 + Ideal.exp (0 - z)) * P + Ideal.div 1 (1 + Ideal.exp (0 - w)) * Q
      = Ideal.div 1 (1 + Ideal.exp (-z')) * P' + Ideal.div 1 (1 + Ideal.exp (-w')) * Q' := by
  subst hP hQ hz hw; rw [neg_arg, neg_arg]

/-- What a gated operand gets. -/
theorem operand (hP : P = P') (hz : z = z') :
    P * Ideal.div 1 (1 + Ideal.exp (0 - z)) = Ideal.div 1 (1 + Ideal.exp (-z')) * P' := by
  subst hP hz; rw [neg_arg, mul_comm]

/-- What the gate gets. -/
theorem gate (hP : P = P') (ha : a = a') (hz : z = z') :
    P * a * Ideal.div 1 (1 + Ideal.exp (0 - z)) * (1 - Ideal.div 1 (1 + Ideal.exp (0 - z)))
      = P' * a' * (Ideal.div 1 (1 + Ideal.exp (-z')) * (1 - Ideal.div 1 (1 + Ideal.exp (-z')))) := by
  subst hP ha hz; rw [neg_arg, mul_assoc (P * a)]

/-- What the unit's first half gets. -/
theorem first (hP : P = P') (hz : z = z') (hb : b = b') :
    P * (z * Ideal.div 1 (1 + Ideal.exp (0 - z))) * Ideal.div 1 (1 + Ideal.exp (0 - b))
      = P' * (z' * Ideal.div 1 (1 + Ideal.exp (-z'))) * Ideal.div 1 (1 + Ideal.exp (-b')) := by
  subst hP hz hb; rw [neg_arg, neg_arg]

/-- What the unit's second half gets. -/
theorem second (hP : P = P') (hz : z = z') (ha : a = a') (hb : b = b') :
    P * (z * Ideal.div 1 (1 + Ideal.exp (0 - z))) * a * Ideal.div 1 (1 + Ideal.exp (0 - b)) * (1 - Ideal.div 1 (1 + Ideal.exp (0 - b)))
      = a' * (P' * (z' * Ideal.div 1 (1 + Ideal.exp (-z')))) * (Ideal.div 1 (1 + Ideal.exp (-b')) * (1 - Ideal.div 1 (1 + Ideal.exp (-b')))) := by
  subst hP hz ha hb; rw [neg_arg, neg_arg, mul_assoc (_ * a), mul_comm _ a]

end Cert.Gate

end
-- ==== Proof.GradW.lean ====
/- Hand-written, untrusted. THE INPUT PROJECTION'S WEIGHT GRADIENT (`grad_w_in`): four points in a row share a block of the result, each over a quarter of the
   rows that are contracted; the scratch adds them up, and the last point stores. -/
module

public import proofs.«01_k».proof.Defs
public import proofs.«01_k».proof.Proof.Gen.GradWIdeal.Value
public import proofs.«01_k».proof.Proof.Gen.RefGradWIdeal.Run
public import proofs.«01_k».proof.Proof.Gen.RefGradWIdeal.Read
public import Idealize.ShloMosaic.Lib.Pipeline.ValueKit
public import Idealize.ShloMosaic.Lib.Pipeline.ReadBack
public import proofs.«01_k».proof.Proof.Cut
public import proofs.«01_k».proof.Proof.Gate

@[expose] public section

set_option maxRecDepth 16384

noncomputable section

namespace Cert.GradWIdeal.Value

open Cert.GradWIdeal Cert.GradWIdeal.Gen Idealize.ShloMosaic Idealize.ShloMosaic.TcCoe Idealize.SL.Sem
open Cert.RefGradWIdeal.Read
open Idealize.ShloMosaic.Pipeline (Dat)

variable (m : (ℓ : Loc nD τ sig) → Buf (Elt Ideal) ℓ)

theorem maps : ∀ t : Fin cfg0.N, win0_0.index t = ![0, t.val % 4, 0]
    ∧ win0_1.index t = ![0, t.val % 4, t.val / 4]
    ∧ win0_2.index t = ![0, 0, t.val / 4] :=
  (by decide +kernel : ∀ t : Fin grid0.N, _)

/-- The reference's array `v8` over the kernel's own arguments. -/
def R2 (c : Dev nD) : Buf (Elt Ideal) ((c : Thread nD τ).loc main_v3) :=
  val_main_v8 (F := Ideal) (m ((c : Thread nD τ).loc main_arg0)) (m ((c : Thread nD τ).loc main_arg1))

/-- The point `k` before. -/
abbrev back (t : Fin cfg0.N) (k : ℕ) : Fin cfg0.N := ⟨t.val - k, Nat.lt_of_le_of_lt (Nat.sub_le _ _) t.isLt⟩

/-- The scratch after the first point of a run of four. -/
theorem scratch_first (c : Dev nD) (t : Fin cfg0.N) (h : t.val % 4 = 0) : (outsAt0 m c t.val t.isLt).2 =
    k0_pay2 (iblk m c 0 t) (iblk m c 1 t) := by
  rw [outsAt0_A m c t h (by omega) (by omega)]
  frame_out

/-- The scratch after a middle point, over what the point before left in it. -/
theorem scratch_next (c : Dev nD) (t : Fin cfg0.N) (h : 1 ≤ t.val % 4 ∧ t.val % 4 ≤ 2) {X}
    (hX : (outsAt0 m c (back t 1).val (back t 1).isLt).2 = X) : (outsAt0 m c t.val t.isLt).2 =
    k0_pay3 (iblk m c 0 t) (iblk m c 1 t) X := by
  rw [outsAt0_B m c t (by omega) h (by omega)]
  frame_out
  rw [read_unread_whole, ← hX]

/-- What the last point of a run stores, over what the point before left in the scratch. -/
theorem stored (c : Dev nD) (t : Fin cfg0.N) (h : t.val % 4 = 3) {X}
    (hX : (outsAt0 m c (back t 1).val (back t 1).isLt).2 = X) : (outsAt0 m c t.val t.isLt).1 =
    k0_pay4 (iblk m c 0 t) (iblk m c 1 t) X := by
  rw [outsAt0_C m c t (by omega) (by omega) h]
  frame_out
  rw [read_unread_whole, ← hX]

/-- The four points of a run together. -/
theorem stored_run (c : Dev nD) (t : Fin cfg0.N) (h : t.val % 4 = 3) : (outsAt0 m c t.val t.isLt).1 =
    k0_pay4 (iblk m c 0 t) (iblk m c 1 t) (k0_pay3 (iblk m c 0 (back t 1)) (iblk m c 1 (back t 1))
      (k0_pay3 (iblk m c 0 (back (back t 1) 1)) (iblk m c 1 (back (back t 1) 1))
        (k0_pay2 (iblk m c 0 (back (back (back t 1) 1) 1)) (iblk m c 1 (back (back (back t 1) 1) 1))))) :=
  stored m c t h (scratch_next m c (back t 1) (by show 1 ≤ (t.val - 1) % 4 ∧ (t.val - 1) % 4 ≤ 2; omega)
    (scratch_next m c (back (back t 1) 1) (by show 1 ≤ (t.val - 1 - 1) % 4 ∧ (t.val - 1 - 1) % 4 ≤ 2; omega)
      (scratch_first m c (back (back (back t 1) 1) 1) (by show (t.val - 1 - 1 - 1) % 4 = 0; omega))))

theorem result2 (c : Dev nD) : (dats m 0 c).arrAt 2 cfg0.N = R2 m c := by
  refine (dats m 0 c).arrAt_eq_of_covers 2 _ (by decide +kernel) fun t hf y => ?_
  have h1 : t.val % 4 = 3 := (flush0_2 t).mp hf
  blk_simp
  rw [after0_2, stored_run m c t h1]
  pointwise [R2, k0_pay1, k0_pay2, k0_pay3, k0_pay4, val_main_cst, val_main_v0, val_main_v1, val_main_v2, val_main_v3, val_main_v4, val_main_v5, val_main_v6, val_main_v7, val_main_v8]
  refine Cut.sum_four_one (n := 2048) (N := 8192) (by norm_num) _ _ _ _ _ (fun u k h => ?_) (fun u k h => ?_) (fun u k h => ?_) (fun u k h => ?_)
  · refine Gate.swap ?_; blk_point [iblk, V, maps t, maps (back (back (back t 1) 1) 1)]
  · refine Gate.swap ?_; blk_point [iblk, V, maps t, maps (back (back t 1) 1)]
  · refine Gate.swap ?_; blk_point [iblk, V, maps t, maps (back t 1)]
  · refine Gate.swap ?_; blk_point [iblk, V, maps t]

end Cert.GradWIdeal.Value

namespace Cert.GradW.Claims
open Cert Idealize.ShloMosaic Idealize.ShloMosaic.TcCoe Idealize.SL.Sem

theorem reference_frame : Cert.quiescent_RefGradWIdeal (hRefGradWIdeal := Cert.RefGradWIdeal.Gen.facts) := fun m ρ _ =>
  (θ_run _ _ _).mono (fun r h => ⟨fun c => (h c).2, sem_eq_zero_of_no_sems (by decide) r.2⟩) (Cert.RefGradWIdeal.Value.run m ρ)

theorem algebraic : Cert.algebraic_GradWIdeal_RefGradWIdeal (hGradWIdeal := Cert.GradWIdeal.Gen.facts)
    (hRefGradWIdeal := Cert.RefGradWIdeal.Gen.facts) := by
  intro m g m' g' _ hm
  refine ⟨_, Cert.GradWIdeal.Value.run_blocks m g, (θ_run _ _ _).mono (fun r h c => ⟨(h c).1.trans ?_, (h c).2⟩) (Cert.RefGradWIdeal.Value.run m' g')⟩
  · obtain ⟨e0, e1⟩ := hm c
    rw [Cert.GradWIdeal.Value.result2 m c, Cert.RefGradWIdeal.Read.val_main_v8_eq, e0, e1]
    rfl

end Cert.GradW.Claims
end
-- ==== Proof.GradX.lean ====
/- Hand-written, untrusted. THE GRADIENT ON THE INPUT (`grad_x`): two points in a row share a block of the result, each over one half of
   the contraction; the first leaves its half in the scratch, the second adds its own and the residual's share and stores. -/
module

public import proofs.«01_k».proof.Defs
public import proofs.«01_k».proof.Proof.Gen.GradXIdeal.Value
public import proofs.«01_k».proof.Proof.Gen.RefGradXIdeal.Run
public import proofs.«01_k».proof.Proof.Gen.RefGradXIdeal.Read
public import Idealize.ShloMosaic.Lib.Pipeline.ValueKit
public import Idealize.ShloMosaic.Lib.Pipeline.ReadBack
public import proofs.«01_k».proof.Proof.Cut

@[expose] public section

set_option maxRecDepth 16384

noncomputable section

namespace Cert.GradXIdeal.Value

open Cert.GradXIdeal Cert.GradXIdeal.Gen Idealize.ShloMosaic Idealize.ShloMosaic.TcCoe Idealize.SL.Sem
open Cert.RefGradXIdeal.Read
open Idealize.ShloMosaic.Pipeline (Dat)

variable (m : (ℓ : Loc nD τ sig) → Buf (Elt Ideal) ℓ)

theorem maps : ∀ t : Fin cfg0.N, win0_0.index t = ![0, t.val / 8, t.val % 2]
    ∧ win0_1.index t = ![0, t.val / 2 % 4, t.val % 2]
    ∧ win0_2.index t = ![0, t.val / 8, t.val / 2 % 4]
    ∧ win0_3.index t = ![0, t.val / 8, t.val / 2 % 4] :=
  (by decide +kernel : ∀ t : Fin grid0.N, _)

/-- The reference's array `v10` over the kernel's own arguments. -/
def R3 (c : Dev nD) : Buf (Elt Ideal) ((c : Thread nD τ).loc main_v4) :=
  val_main_v10 (F := Ideal) (m ((c : Thread nD τ).loc main_arg0)) (m ((c : Thread nD τ).loc main_arg1)) (m ((c : Thread nD τ).loc main_arg2))

/-- The point before, of a point that is not the first. -/
abbrev back (t : Fin cfg0.N) (k : ℕ) : Fin cfg0.N := ⟨t.val - k, Nat.lt_of_le_of_lt (Nat.sub_le _ _) t.isLt⟩

/-- What a storing point stores: its own payload over what the point before left in the scratch. -/
theorem stored (c : Dev nD) (t : Fin cfg0.N) (h : t.val % 2 = 1) (y) : (outsAt0 m c t.val t.isLt).1 y =
    k0_pay4 (iblk m c 0 t) (iblk m c 1 t) (k0_pay2 (iblk m c 0 (back t 1)) (iblk m c 1 (back t 1))) (iblk m c 2 t) y := by
  rw [outsAt0_B m c t (by omega) h, show outsAt0 m c (t.val - 1) _ = _ from outsAt0_A m c (back t 1)
    (by show (t.val - 1) % 2 = 0; omega) (by show ¬ (t.val - 1) % 2 = 1; omega)]
  frame_out
  rw [read_unread_whole]

theorem result3 (c : Dev nD) : (dats m 0 c).arrAt 3 cfg0.N = R3 m c := by
  refine (dats m 0 c).arrAt_eq_of_covers 3 _ (by decide +kernel) fun t hf y => ?_
  have h1 : t.val % 2 = 1 := (flush0_3 t).mp hf
  blk_simp
  rw [after0_3, stored m c t h1]
  pointwise [R3, k0_pay1, k0_pay2, k0_pay3, k0_pay4, val_main_cst, val_main_v0, val_main_v1, val_main_cst_0, val_main_v2, val_main_v3, val_main_v4, val_main_v5, val_main_v6, val_main_cst_1, val_main_v7, val_main_v8, val_main_v9, val_main_v10]
  refine Cut.sum_two_add (n := 4352) (N := 8704) (by norm_num) _ _ _ ?_ (fun k h => ?_) (fun k h => ?_)
  · blk_point [iblk, V, maps t]
  · blk_point [iblk, V, maps t, maps (back t 1)]
  · blk_point [iblk, V, maps t]

end Cert.GradXIdeal.Value

namespace Cert.GradX.Claims
open Cert Idealize.ShloMosaic Idealize.ShloMosaic.TcCoe Idealize.SL.Sem

theorem reference_frame : Cert.quiescent_RefGradXIdeal (hRefGradXIdeal := Cert.RefGradXIdeal.Gen.facts) := fun m ρ _ =>
  (θ_run _ _ _).mono (fun r h => ⟨fun c => (h c).2, sem_eq_zero_of_no_sems (by decide) r.2⟩) (Cert.RefGradXIdeal.Value.run m ρ)

theorem algebraic : Cert.algebraic_GradXIdeal_RefGradXIdeal (hGradXIdeal := Cert.GradXIdeal.Gen.facts)
    (hRefGradXIdeal := Cert.RefGradXIdeal.Gen.facts) := by
  intro m g m' g' _ hm
  refine ⟨_, Cert.GradXIdeal.Value.run_blocks m g, (θ_run _ _ _).mono (fun r h c => ⟨(h c).1.trans ?_, (h c).2⟩) (Cert.RefGradXIdeal.Value.run m' g')⟩
  · obtain ⟨e0, e1, e2⟩ := hm c
    rw [Cert.GradXIdeal.Value.result3 m c, Cert.RefGradXIdeal.Read.val_main_v10_eq, e0, e1, e2]
    rfl

end Cert.GradX.Claims
end
-- ==== Proof.OutProj.lean ====
/- Hand-written, untrusted. THE OUTPUT PROJECTION (`out_proj`): each point multiplies a block of rows, whole, by a block of columns; the
   blocks of the result tile it, so the array is the reference's product. -/
module

public import proofs.«01_k».proof.Defs
public import proofs.«01_k».proof.Proof.Gen.OutProjIdeal.Value
public import proofs.«01_k».proof.Proof.Gen.RefOutProjIdeal.Run
public import proofs.«01_k».proof.Proof.Gen.RefOutProjIdeal.Read
public import Idealize.ShloMosaic.Lib.Pipeline.ValueKit

@[expose] public section

set_option maxRecDepth 16384

noncomputable section

namespace Cert.OutProjIdeal.Value

open Cert.OutProjIdeal Cert.OutProjIdeal.Gen Idealize.ShloMosaic Idealize.ShloMosaic.TcCoe Idealize.SL.Sem
open Cert.RefOutProjIdeal.Read
open Idealize.ShloMosaic.Pipeline (Dat)

variable (m : (ℓ : Loc nD τ sig) → Buf (Elt Ideal) ℓ)

theorem maps : ∀ t : Fin cfg0.N, win0_0.index t = ![0, t.val / 4, 0]
    ∧ win0_1.index t = ![0, 0, t.val % 4]
    ∧ win0_2.index t = ![0, t.val / 4, t.val % 4] :=
  (by decide +kernel : ∀ t : Fin grid0.N, _)

/-- The reference's array `v2` over the kernel's own arguments. -/
def R2 (c : Dev nD) : Buf (Elt Ideal) ((c : Thread nD τ).loc main_v3) :=
  val_main_v2 (F := Ideal) (m ((c : Thread nD τ).loc main_arg0)) (m ((c : Thread nD τ).loc main_arg1))

theorem result2 (c : Dev nD) : (dats m 0 c).arrAt 2 cfg0.N = R2 m c := by
  refine (dats m 0 c).arrAt_eq_of_covers 2 _ (by decide +kernel) fun t _ y => ?_
  blk_simp
  rw [after0_2]; unfold outsAt0; frame_out
  pointwise [R2, k0_pay1, val_main_v0, val_main_v1, val_main_v2]
  blk_point [iblk, V, maps t]

end Cert.OutProjIdeal.Value

namespace Cert.OutProj.Claims
open Cert Idealize.ShloMosaic Idealize.ShloMosaic.TcCoe Idealize.SL.Sem

theorem reference_frame : Cert.quiescent_RefOutProjIdeal (hRefOutProjIdeal := Cert.RefOutProjIdeal.Gen.facts) := fun m ρ _ =>
  (θ_run _ _ _).mono (fun r h => ⟨fun c => (h c).2, sem_eq_zero_of_no_sems (by decide) r.2⟩) (Cert.RefOutProjIdeal.Value.run m ρ)

theorem algebraic : Cert.algebraic_OutProjIdeal_RefOutProjIdeal (hOutProjIdeal := Cert.OutProjIdeal.Gen.facts)
    (hRefOutProjIdeal := Cert.RefOutProjIdeal.Gen.facts) := by
  intro m g m' g' _ hm
  refine ⟨_, Cert.OutProjIdeal.Value.run_blocks m g, (θ_run _ _ _).mono (fun r h c => ⟨(h c).1.trans ?_, (h c).2⟩) (Cert.RefOutProjIdeal.Value.run m' g')⟩
  · obtain ⟨e0, e1⟩ := hm c
    rw [Cert.OutProjIdeal.Value.result2 m c, Cert.RefOutProjIdeal.Read.val_main_v2_eq, e0, e1]
    rfl

end Cert.OutProj.Claims
end
-- ==== Proof.GradWOut.lean ====
/- Hand-written, untrusted. THE OUTPUT PROJECTION'S WEIGHT GRADIENT (`grad_w_out`): four points in a row share a block of the result, each over a quarter of the
   rows that are contracted; the scratch adds them up, and the last point stores. -/
module

public import proofs.«01_k».proof.Defs
public import proofs.«01_k».proof.Proof.Gen.GradWOutIdeal.Value
public import proofs.«01_k».proof.Proof.Gen.RefGradWOutIdeal.Run
public import proofs.«01_k».proof.Proof.Gen.RefGradWOutIdeal.Read
public import Idealize.ShloMosaic.Lib.Pipeline.ValueKit
public import Idealize.ShloMosaic.Lib.Pipeline.ReadBack
public import proofs.«01_k».proof.Proof.Cut
public import proofs.«01_k».proof.Proof.Gate

@[expose] public section

set_option maxRecDepth 16384

noncomputable section

namespace Cert.GradWOutIdeal.Value

open Cert.GradWOutIdeal Cert.GradWOutIdeal.Gen Idealize.ShloMosaic Idealize.ShloMosaic.TcCoe Idealize.SL.Sem
open Cert.RefGradWOutIdeal.Read
open Idealize.ShloMosaic.Pipeline (Dat)

variable (m : (ℓ : Loc nD τ sig) → Buf (Elt Ideal) ℓ)

theorem maps : ∀ t : Fin cfg0.N, win0_0.index t = ![0, t.val % 4, 0]
    ∧ win0_1.index t = ![0, t.val % 4, t.val / 4]
    ∧ win0_2.index t = ![0, 0, t.val / 4] :=
  (by decide +kernel : ∀ t : Fin grid0.N, _)

/-- The reference's array `v8` over the kernel's own arguments. -/
def R2 (c : Dev nD) : Buf (Elt Ideal) ((c : Thread nD τ).loc main_v3) :=
  val_main_v8 (F := Ideal) (m ((c : Thread nD τ).loc main_arg0)) (m ((c : Thread nD τ).loc main_arg1))

/-- The point `k` before. -/
abbrev back (t : Fin cfg0.N) (k : ℕ) : Fin cfg0.N := ⟨t.val - k, Nat.lt_of_le_of_lt (Nat.sub_le _ _) t.isLt⟩

/-- The scratch after the first point of a run of four. -/
theorem scratch_first (c : Dev nD) (t : Fin cfg0.N) (h : t.val % 4 = 0) : (outsAt0 m c t.val t.isLt).2 =
    k0_pay2 (iblk m c 0 t) (iblk m c 1 t) := by
  rw [outsAt0_A m c t h (by omega) (by omega)]
  frame_out

/-- The scratch after a middle point, over what the point before left in it. -/
theorem scratch_next (c : Dev nD) (t : Fin cfg0.N) (h : 1 ≤ t.val % 4 ∧ t.val % 4 ≤ 2) {X}
    (hX : (outsAt0 m c (back t 1).val (back t 1).isLt).2 = X) : (outsAt0 m c t.val t.isLt).2 =
    k0_pay3 (iblk m c 0 t) (iblk m c 1 t) X := by
  rw [outsAt0_B m c t (by omega) h (by omega)]
  frame_out
  rw [read_unread_whole, ← hX]

/-- What the last point of a run stores, over what the point before left in the scratch. -/
theorem stored (c : Dev nD) (t : Fin cfg0.N) (h : t.val % 4 = 3) {X}
    (hX : (outsAt0 m c (back t 1).val (back t 1).isLt).2 = X) : (outsAt0 m c t.val t.isLt).1 =
    k0_pay4 (iblk m c 0 t) (iblk m c 1 t) X := by
  rw [outsAt0_C m c t (by omega) (by omega) h]
  frame_out
  rw [read_unread_whole, ← hX]

/-- The four points of a run together. -/
theorem stored_run (c : Dev nD) (t : Fin cfg0.N) (h : t.val % 4 = 3) : (outsAt0 m c t.val t.isLt).1 =
    k0_pay4 (iblk m c 0 t) (iblk m c 1 t) (k0_pay3 (iblk m c 0 (back t 1)) (iblk m c 1 (back t 1))
      (k0_pay3 (iblk m c 0 (back (back t 1) 1)) (iblk m c 1 (back (back t 1) 1))
        (k0_pay2 (iblk m c 0 (back (back (back t 1) 1) 1)) (iblk m c 1 (back (back (back t 1) 1) 1))))) :=
  stored m c t h (scratch_next m c (back t 1) (by show 1 ≤ (t.val - 1) % 4 ∧ (t.val - 1) % 4 ≤ 2; omega)
    (scratch_next m c (back (back t 1) 1) (by show 1 ≤ (t.val - 1 - 1) % 4 ∧ (t.val - 1 - 1) % 4 ≤ 2; omega)
      (scratch_first m c (back (back (back t 1) 1) 1) (by show (t.val - 1 - 1 - 1) % 4 = 0; omega))))

theorem result2 (c : Dev nD) : (dats m 0 c).arrAt 2 cfg0.N = R2 m c := by
  refine (dats m 0 c).arrAt_eq_of_covers 2 _ (by decide +kernel) fun t hf y => ?_
  have h1 : t.val % 4 = 3 := (flush0_2 t).mp hf
  blk_simp
  rw [after0_2, stored_run m c t h1]
  pointwise [R2, k0_pay1, k0_pay2, k0_pay3, k0_pay4, val_main_cst, val_main_v0, val_main_v1, val_main_v2, val_main_v3, val_main_v4, val_main_v5, val_main_v6, val_main_v7, val_main_v8]
  refine Cut.sum_four_one (n := 2048) (N := 8192) (by norm_num) _ _ _ _ _ (fun u k h => ?_) (fun u k h => ?_) (fun u k h => ?_) (fun u k h => ?_)
  · refine Gate.swap ?_; blk_point [iblk, V, maps t, maps (back (back (back t 1) 1) 1)]
  · refine Gate.swap ?_; blk_point [iblk, V, maps t, maps (back (back t 1) 1)]
  · refine Gate.swap ?_; blk_point [iblk, V, maps t, maps (back t 1)]
  · refine Gate.swap ?_; blk_point [iblk, V, maps t]

end Cert.GradWOutIdeal.Value

namespace Cert.GradWOut.Claims
open Cert Idealize.ShloMosaic Idealize.ShloMosaic.TcCoe Idealize.SL.Sem

theorem reference_frame : Cert.quiescent_RefGradWOutIdeal (hRefGradWOutIdeal := Cert.RefGradWOutIdeal.Gen.facts) := fun m ρ _ =>
  (θ_run _ _ _).mono (fun r h => ⟨fun c => (h c).2, sem_eq_zero_of_no_sems (by decide) r.2⟩) (Cert.RefGradWOutIdeal.Value.run m ρ)

theorem algebraic : Cert.algebraic_GradWOutIdeal_RefGradWOutIdeal (hGradWOutIdeal := Cert.GradWOutIdeal.Gen.facts)
    (hRefGradWOutIdeal := Cert.RefGradWOutIdeal.Gen.facts) := by
  intro m g m' g' _ hm
  refine ⟨_, Cert.GradWOutIdeal.Value.run_blocks m g, (θ_run _ _ _).mono (fun r h c => ⟨(h c).1.trans ?_, (h c).2⟩) (Cert.RefGradWOutIdeal.Value.run m' g')⟩
  · obtain ⟨e0, e1⟩ := hm c
    rw [Cert.GradWOutIdeal.Value.result2 m c, Cert.RefGradWOutIdeal.Read.val_main_v8_eq, e0, e1]
    rfl

end Cert.GradWOut.Claims
end
-- ==== Proof.DHAttn.lean ====
/- Hand-written, untrusted. THE GRADIENT ON THE ATTENTION'S OUTPUT (`d_h_attn`): each point multiplies a block of rows, whole, by a block of
   rows of the weight, whole; the blocks of the result tile it, so the array is what the reference's derivative gives. -/
module

public import proofs.«01_k».proof.Defs
public import proofs.«01_k».proof.Proof.Gen.DHAttnIdeal.Value
public import proofs.«01_k».proof.Proof.Gen.RefDHAttnIdeal.Run
public import proofs.«01_k».proof.Proof.Gen.RefDHAttnIdeal.Read
public import Idealize.ShloMosaic.Lib.Pipeline.ValueKit

@[expose] public section

set_option maxRecDepth 16384

noncomputable section

namespace Cert.DHAttnIdeal.Value

open Cert.DHAttnIdeal Cert.DHAttnIdeal.Gen Idealize.ShloMosaic Idealize.ShloMosaic.TcCoe Idealize.SL.Sem
open Cert.RefDHAttnIdeal.Read
open Idealize.ShloMosaic.Pipeline (Dat)

variable (m : (ℓ : Loc nD τ sig) → Buf (Elt Ideal) ℓ)

theorem maps : ∀ t : Fin cfg0.N, win0_0.index t = ![0, t.val / 2, 0]
    ∧ win0_1.index t = ![0, t.val % 2, 0]
    ∧ win0_2.index t = ![0, t.val / 2, t.val % 2] :=
  (by decide +kernel : ∀ t : Fin grid0.N, _)

/-- The reference's array `v4` over the kernel's own arguments. -/
def R2 (c : Dev nD) : Buf (Elt Ideal) ((c : Thread nD τ).loc main_v3) :=
  val_main_v4 (F := Ideal) (m ((c : Thread nD τ).loc main_arg0)) (m ((c : Thread nD τ).loc main_arg1))

theorem result2 (c : Dev nD) : (dats m 0 c).arrAt 2 cfg0.N = R2 m c := by
  refine (dats m 0 c).arrAt_eq_of_covers 2 _ (by decide +kernel) fun t _ y => ?_
  blk_simp
  rw [after0_2]; unfold outsAt0; frame_out
  pointwise [R2, k0_pay1, val_main_cst, val_main_v0, val_main_v1, val_main_v2, val_main_v3, val_main_v4]
  blk_point [iblk, V, maps t]

end Cert.DHAttnIdeal.Value

namespace Cert.DHAttn.Claims
open Cert Idealize.ShloMosaic Idealize.ShloMosaic.TcCoe Idealize.SL.Sem

theorem reference_frame : Cert.quiescent_RefDHAttnIdeal (hRefDHAttnIdeal := Cert.RefDHAttnIdeal.Gen.facts) := fun m ρ _ =>
  (θ_run _ _ _).mono (fun r h => ⟨fun c => (h c).2, sem_eq_zero_of_no_sems (by decide) r.2⟩) (Cert.RefDHAttnIdeal.Value.run m ρ)

theorem algebraic : Cert.algebraic_DHAttnIdeal_RefDHAttnIdeal (hDHAttnIdeal := Cert.DHAttnIdeal.Gen.facts)
    (hRefDHAttnIdeal := Cert.RefDHAttnIdeal.Gen.facts) := by
  intro m g m' g' _ hm
  refine ⟨_, Cert.DHAttnIdeal.Value.run_blocks m g, (θ_run _ _ _).mono (fun r h c => ⟨(h c).1.trans ?_, (h c).2⟩) (Cert.RefDHAttnIdeal.Value.run m' g')⟩
  · obtain ⟨e0, e1⟩ := hm c
    rw [Cert.DHAttnIdeal.Value.result2 m c, Cert.RefDHAttnIdeal.Read.val_main_v4_eq, e0, e1]
    rfl

end Cert.DHAttn.Claims
end
-- ==== Proof.GradWBranch.lean ====
/- Hand-written, untrusted. A BRANCH PROJECTION'S WEIGHT GRADIENT (`grad_w_branch`): four points in a row share a block of the result, each over a quarter of the
   rows that are contracted; the scratch adds them up, and the last point stores. -/
module

public import proofs.«01_k».proof.Defs
public import proofs.«01_k».proof.Proof.Gen.GradWBranchIdeal.Value
public import proofs.«01_k».proof.Proof.Gen.RefGradWBranchIdeal.Run
public import proofs.«01_k».proof.Proof.Gen.RefGradWBranchIdeal.Read
public import Idealize.ShloMosaic.Lib.Pipeline.ValueKit
public import Idealize.ShloMosaic.Lib.Pipeline.ReadBack
public import proofs.«01_k».proof.Proof.Cut
public import proofs.«01_k».proof.Proof.Gate

@[expose] public section

set_option maxRecDepth 16384

noncomputable section

namespace Cert.GradWBranchIdeal.Value

open Cert.GradWBranchIdeal Cert.GradWBranchIdeal.Gen Idealize.ShloMosaic Idealize.ShloMosaic.TcCoe Idealize.SL.Sem
open Cert.RefGradWBranchIdeal.Read
open Idealize.ShloMosaic.Pipeline (Dat)

variable (m : (ℓ : Loc nD τ sig) → Buf (Elt Ideal) ℓ)

theorem maps : ∀ t : Fin cfg0.N, win0_0.index t = ![0, t.val % 4, 0]
    ∧ win0_1.index t = ![0, t.val % 4, t.val / 4]
    ∧ win0_2.index t = ![0, 0, t.val / 4] :=
  (by decide +kernel : ∀ t : Fin grid0.N, _)

/-- The reference's array `v9` over the kernel's own arguments. -/
def R2 (c : Dev nD) : Buf (Elt Ideal) ((c : Thread nD τ).loc main_v2) :=
  val_main_v9 (F := Ideal) (m ((c : Thread nD τ).loc main_arg0)) (m ((c : Thread nD τ).loc main_arg1))

/-- The point `k` before. -/
abbrev back (t : Fin cfg0.N) (k : ℕ) : Fin cfg0.N := ⟨t.val - k, Nat.lt_of_le_of_lt (Nat.sub_le _ _) t.isLt⟩

/-- The scratch after the first point of a run of four. -/
theorem scratch_first (c : Dev nD) (t : Fin cfg0.N) (h : t.val % 4 = 0) : (outsAt0 m c t.val t.isLt).2 =
    k0_pay2 (iblk m c 0 t) (iblk m c 1 t) := by
  rw [outsAt0_A m c t h (by omega) (by omega)]
  frame_out

/-- The scratch after a middle point, over what the point before left in it. -/
theorem scratch_next (c : Dev nD) (t : Fin cfg0.N) (h : 1 ≤ t.val % 4 ∧ t.val % 4 ≤ 2) {X}
    (hX : (outsAt0 m c (back t 1).val (back t 1).isLt).2 = X) : (outsAt0 m c t.val t.isLt).2 =
    k0_pay3 (iblk m c 0 t) (iblk m c 1 t) X := by
  rw [outsAt0_B m c t (by omega) h (by omega)]
  frame_out
  rw [read_unread_whole, ← hX]

/-- What the last point of a run stores, over what the point before left in the scratch. -/
theorem stored (c : Dev nD) (t : Fin cfg0.N) (h : t.val % 4 = 3) {X}
    (hX : (outsAt0 m c (back t 1).val (back t 1).isLt).2 = X) : (outsAt0 m c t.val t.isLt).1 =
    k0_pay4 (iblk m c 0 t) (iblk m c 1 t) X := by
  rw [outsAt0_C m c t (by omega) (by omega) h]
  frame_out
  rw [read_unread_whole, ← hX]

/-- The four points of a run together. -/
theorem stored_run (c : Dev nD) (t : Fin cfg0.N) (h : t.val % 4 = 3) : (outsAt0 m c t.val t.isLt).1 =
    k0_pay4 (iblk m c 0 t) (iblk m c 1 t) (k0_pay3 (iblk m c 0 (back t 1)) (iblk m c 1 (back t 1))
      (k0_pay3 (iblk m c 0 (back (back t 1) 1)) (iblk m c 1 (back (back t 1) 1))
        (k0_pay2 (iblk m c 0 (back (back (back t 1) 1) 1)) (iblk m c 1 (back (back (back t 1) 1) 1))))) :=
  stored m c t h (scratch_next m c (back t 1) (by show 1 ≤ (t.val - 1) % 4 ∧ (t.val - 1) % 4 ≤ 2; omega)
    (scratch_next m c (back (back t 1) 1) (by show 1 ≤ (t.val - 1 - 1) % 4 ∧ (t.val - 1 - 1) % 4 ≤ 2; omega)
      (scratch_first m c (back (back (back t 1) 1) 1) (by show (t.val - 1 - 1 - 1) % 4 = 0; omega))))

theorem result2 (c : Dev nD) : (dats m 0 c).arrAt 2 cfg0.N = R2 m c := by
  refine (dats m 0 c).arrAt_eq_of_covers 2 _ (by decide +kernel) fun t hf y => ?_
  have h1 : t.val % 4 = 3 := (flush0_2 t).mp hf
  blk_simp
  rw [after0_2, stored_run m c t h1]
  pointwise [R2, k0_pay1, k0_pay2, k0_pay3, k0_pay4, val_main_cst, val_main_v0, val_main_v1, val_main_v2, val_main_v3, val_main_v4, val_main_v5, val_main_v6, val_main_v7, val_main_v8, val_main_v9]
  refine Cut.sum_four_one (n := 2048) (N := 8192) (by norm_num) _ _ _ _ _ (fun u k h => ?_) (fun u k h => ?_) (fun u k h => ?_) (fun u k h => ?_)
  · refine Gate.swap ?_; blk_point [iblk, V, maps t, maps (back (back (back t 1) 1) 1)]
  · refine Gate.swap ?_; blk_point [iblk, V, maps t, maps (back (back t 1) 1)]
  · refine Gate.swap ?_; blk_point [iblk, V, maps t, maps (back t 1)]
  · refine Gate.swap ?_; blk_point [iblk, V, maps t]

end Cert.GradWBranchIdeal.Value

namespace Cert.GradWBranch.Claims
open Cert Idealize.ShloMosaic Idealize.ShloMosaic.TcCoe Idealize.SL.Sem

theorem reference_frame : Cert.quiescent_RefGradWBranchIdeal (hRefGradWBranchIdeal := Cert.RefGradWBranchIdeal.Gen.facts) := fun m ρ _ =>
  (θ_run _ _ _).mono (fun r h => ⟨fun c => (h c).2, sem_eq_zero_of_no_sems (by decide) r.2⟩) (Cert.RefGradWBranchIdeal.Value.run m ρ)

theorem algebraic : Cert.algebraic_GradWBranchIdeal_RefGradWBranchIdeal (hGradWBranchIdeal := Cert.GradWBranchIdeal.Gen.facts)
    (hRefGradWBranchIdeal := Cert.RefGradWBranchIdeal.Gen.facts) := by
  intro m g m' g' _ hm
  refine ⟨_, Cert.GradWBranchIdeal.Value.run_blocks m g, (θ_run _ _ _).mono (fun r h c => ⟨(h c).1.trans ?_, (h c).2⟩) (Cert.RefGradWBranchIdeal.Value.run m' g')⟩
  · obtain ⟨e0, e1⟩ := hm c
    rw [Cert.GradWBranchIdeal.Value.result2 m c, Cert.RefGradWBranchIdeal.Read.val_main_v9_eq, e0, e1]
    rfl

end Cert.GradWBranch.Claims
end
-- ==== Proof.GluGate.lean ====
/- Hand-written, untrusted. THE GATED LINEAR UNIT OF THE STATE-SPACE BRANCH (`glu_gate`): each point forms both halves' products over a
   block of rows, whole, and the gate times them, element by element. -/
module

public import proofs.«01_k».proof.Defs
public import proofs.«01_k».proof.Proof.Gen.GluGateIdeal.Value
public import proofs.«01_k».proof.Proof.Gen.RefGluGateIdeal.Run
public import proofs.«01_k».proof.Proof.Gen.RefGluGateIdeal.Read
public import Idealize.ShloMosaic.Lib.Pipeline.ValueKit
public import proofs.«01_k».proof.Proof.Gate

@[expose] public section

set_option maxRecDepth 16384

noncomputable section

namespace Cert.GluGateIdeal.Value

open Cert.GluGateIdeal Cert.GluGateIdeal.Gen Idealize.ShloMosaic Idealize.ShloMosaic.TcCoe Idealize.SL.Sem
open Cert.RefGluGateIdeal.Read
open Idealize.ShloMosaic.Pipeline (Dat)

variable (m : (ℓ : Loc nD τ sig) → Buf (Elt Ideal) ℓ)

theorem maps : ∀ t : Fin cfg0.N, win0_0.index t = ![t.val / 4, 0]
    ∧ win0_1.index t = ![0, t.val % 4]
    ∧ win0_2.index t = ![t.val / 4, 0]
    ∧ win0_3.index t = ![0, t.val % 4]
    ∧ win0_4.index t = ![t.val / 4, 4 + t.val % 4]
    ∧ win0_5.index t = ![t.val / 4, t.val % 4]
    ∧ win0_6.index t = ![t.val / 4, t.val % 4]
    ∧ win0_7.index t = ![t.val / 4, t.val % 4] :=
  (by decide +kernel : ∀ t : Fin grid0.N, _)

/-- The reference's array `v9` over the kernel's own arguments. -/
def R5 (c : Dev nD) : Buf (Elt Ideal) ((c : Thread nD τ).loc main_v3_0) :=
  val_main_v9 (F := Ideal) (m ((c : Thread nD τ).loc main_arg0)) (m ((c : Thread nD τ).loc main_arg1))

/-- The reference's array `v10` over the kernel's own arguments. -/
def R6 (c : Dev nD) : Buf (Elt Ideal) ((c : Thread nD τ).loc main_v3_1) :=
  val_main_v10 (F := Ideal) (m ((c : Thread nD τ).loc main_arg0)) (m ((c : Thread nD τ).loc main_arg1))

/-- The reference's array `v20` over the kernel's own arguments. -/
def R7 (c : Dev nD) : Buf (Elt Ideal) ((c : Thread nD τ).loc main_v3_2) :=
  val_main_v20 (F := Ideal) (m ((c : Thread nD τ).loc main_arg0)) (m ((c : Thread nD τ).loc main_arg1)) (m ((c : Thread nD τ).loc main_arg2))

theorem result5 (c : Dev nD) : (dats m 0 c).arrAt 5 cfg0.N = R5 m c := by
  refine (dats m 0 c).arrAt_eq_of_covers 5 _ (by decide +kernel) fun t _ y => ?_
  blk_simp
  rw [after0_5]; frame_out
  pointwise [R5, k0_pay1, k0_pay2, k0_pay3, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_call0_v0, val_main_call0_v1, val_main_call0_cst, val_main_call0_v2, val_main_call0_v3, val_main_call0_cst_0, val_main_call0_v4, val_main_call0_v5, val_main_v18, val_main_v19, val_main_v20]
  blk_point [iblk, V, maps t]

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_call0_v0, val_main_call0_v1, val_main_call0_cst, val_main_call0_v2, val_main_call0_v3, val_main_call0_cst_0, val_main_call0_v4, val_main_call0_v5, val_main_v18, val_main_v19, val_main_v20]
  blk_point [iblk, V, maps t]

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_call0_v0, val_main_call0_v1, val_main_call0_cst, val_main_call0_v2, val_main_call0_v3, val_main_call0_cst_0, val_main_call0_v4, val_main_call0_v5, val_main_v18, val_main_v19, val_main_v20]
  refine Gate.unit ?_ ?_ ?_
  · blk_point [iblk, V, maps t]
  · blk_point [iblk, V, maps t]
  · blk_point [iblk, V, maps t]

end Cert.GluGateIdeal.Value

namespace Cert.GluGate.Claims
open Cert Idealize.ShloMosaic Idealize.ShloMosaic.TcCoe Idealize.SL.Sem

theorem reference_frame : Cert.quiescent_RefGluGateIdeal (hRefGluGateIdeal := Cert.RefGluGateIdeal.Gen.facts) := fun m ρ _ =>
  (θ_run _ _ _).mono (fun r h => ⟨fun c => (h c).2.2.2, sem_eq_zero_of_no_sems (by decide) r.2⟩) (Cert.RefGluGateIdeal.Value.run m ρ)

theorem algebraic : Cert.algebraic_GluGateIdeal_RefGluGateIdeal (hGluGateIdeal := Cert.GluGateIdeal.Gen.facts)
    (hRefGluGateIdeal := Cert.RefGluGateIdeal.Gen.facts) := by
  intro m g m' g' _ hm
  refine ⟨_, _, _, Cert.GluGateIdeal.Value.run_blocks m g, (θ_run _ _ _).mono (fun r h c => ⟨(h c).1.trans ?_, (h c).2.1.trans ?_, (h c).2.2.1.trans ?_, (h c).2.2.2⟩) (Cert.RefGluGateIdeal.Value.run m' g')⟩
  · obtain ⟨e0, e1, e2⟩ := hm c
    rw [Cert.GluGateIdeal.Value.result5 m c, Cert.RefGluGateIdeal.Read.val_main_v9_eq, e0, e1]
    rfl
  · obtain ⟨e0, e1, e2⟩ := hm c
    rw [Cert.GluGateIdeal.Value.result6 m c, Cert.RefGluGateIdeal.Read.val_main_v10_eq, e0, e1]
    rfl
  · obtain ⟨e0, e1, e2⟩ := hm c
    rw [Cert.GluGateIdeal.Value.result7 m c, Cert.RefGluGateIdeal.Read.val_main_v20_eq, e0, e1, e2]
    rfl

end Cert.GluGate.Claims
end
-- ==== Proof.BranchMerge.lean ====
/- Hand-written, untrusted. THE TWO BRANCHES' PROJECTIONS AND THEIR GATED SUM (`branch_merge`): each point forms both products over a block of
   rows, whole, and adds them up under their gates, element by element. -/
module

public import proofs.«01_k».proof.Defs
public import proofs.«01_k».proof.Proof.Gen.BranchMergeIdeal.Value
public import proofs.«01_k».proof.Proof.Gen.RefBranchMergeIdeal.Run
public import proofs.«01_k».proof.Proof.Gen.RefBranchMergeIdeal.Read
public import Idealize.ShloMosaic.Lib.Pipeline.ValueKit
public import proofs.«01_k».proof.Proof.Gate

@[expose] public section

set_option maxRecDepth 16384

noncomputable section

namespace Cert.BranchMergeIdeal.Value

open Cert.BranchMergeIdeal Cert.BranchMergeIdeal.Gen Idealize.ShloMosaic Idealize.ShloMosaic.TcCoe Idealize.SL.Sem
open Cert.RefBranchMergeIdeal.Read
open Idealize.ShloMosaic.Pipeline (Dat)

variable (m : (ℓ : Loc nD τ sig) → Buf (Elt Ideal) ℓ)

theorem maps : ∀ t : Fin cfg0.N, win0_0.index t = ![t.val / 8, 0]
    ∧ win0_1.index t = ![0, t.val % 8]
    ∧ win0_2.index t = ![t.val / 8, 0]
    ∧ win0_3.index t = ![0, t.val % 8]
    ∧ win0_4.index t = ![t.val / 8, 18 + t.val % 8]
    ∧ win0_5.index t = ![t.val / 8, 26 + t.val % 8]
    ∧ win0_6.index t = ![t.val / 8, t.val % 8]
    ∧ win0_7.index t = ![t.val / 8, t.val % 8]
    ∧ win0_8.index t = ![t.val / 8, t.val % 8] :=
  (by decide +kernel : ∀ t : Fin grid0.N, _)

/-- The reference's array `v10` over the kernel's own arguments. -/
def R6 (c : Dev nD) : Buf (Elt Ideal) ((c : Thread nD τ).loc main_v2_0) :=
  val_main_v10 (F := Ideal) (m ((c : Thread nD τ).loc main_arg0)) (m ((c : Thread nD τ).loc main_arg2))

/-- The reference's array `v12` over the kernel's own arguments. -/
def R7 (c : Dev nD) : Buf (Elt Ideal) ((c : Thread nD τ).loc main_v2_1) :=
  val_main_v12 (F := Ideal) (m ((c : Thread nD τ).loc main_arg1)) (m ((c : Thread nD τ).loc main_arg3))

/-- The reference's array `v28` over the kernel's own arguments. -/
def R8 (c : Dev nD) : Buf (Elt Ideal) ((c : Thread nD τ).loc main_v2_2) :=
  val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28]
  blk_point [iblk, V, maps t]

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28]
  blk_point [iblk, V, maps t]

theorem result8 (c : Dev nD) : (dats m 0 c).arrAt 8 cfg0.N = R8 m c := by
  refine (dats m 0 c).arrAt_eq_of_covers 8 _ (by decide +kernel) fun t _ y => ?_
  blk_simp
  rw [after0_8]; frame_out
  pointwise [R8, k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_cst, val_main_v15, val_main_v16, val_main_cst_0, val_main_v17, val_main_v18, val_main_v19, val_main_v20, val_main_v21, val_main_cst_1, val_main_v22, val_main_v23, val_main_cst_2, val_main_v24, val_main_v25, val_main_v26, val_main_v27, val_main_v28]
  refine Gate.merge ?_ ?_ ?_ ?_
  · blk_point [iblk, V, maps t]
  · blk_point [iblk, V, maps t]
  · blk_point [iblk, V, maps t]
  · blk_point [iblk, V, maps t]

end Cert.BranchMergeIdeal.Value

namespace Cert.BranchMerge.Claims
open Cert Idealize.ShloMosaic Idealize.ShloMosaic.TcCoe Idealize.SL.Sem

theorem reference_frame : Cert.quiescent_RefBranchMergeIdeal (hRefBranchMergeIdeal := Cert.RefBranchMergeIdeal.Gen.facts) := fun m ρ _ =>
  (θ_run _ _ _).mono (fun r h => ⟨fun c => (h c).2.2.2, sem_eq_zero_of_no_sems (by decide) r.2⟩) (Cert.RefBranchMergeIdeal.Value.run m ρ)

theorem algebraic : Cert.algebraic_BranchMergeIdeal_RefBranchMergeIdeal (hBranchMergeIdeal := Cert.BranchMergeIdeal.Gen.facts)
    (hRefBranchMergeIdeal := Cert.RefBranchMergeIdeal.Gen.facts) := by
  intro m g m' g' _ hm
  refine ⟨_, _, _, Cert.BranchMergeIdeal.Value.run_blocks m g, (θ_run _ _ _).mono (fun r h c => ⟨(h c).1.trans ?_, (h c).2.1.trans ?_, (h c).2.2.1.trans ?_, (h c).2.2.2⟩) (Cert.RefBranchMergeIdeal.Value.run m' g')⟩
  · obtain ⟨e0, e1, e2, e3, e4⟩ := hm c
    rw [Cert.BranchMergeIdeal.Value.result6 m c, Cert.RefBranchMergeIdeal.Read.val_main_v10_eq, e0, e2]
    rfl
  · obtain ⟨e0, e1, e2, e3, e4⟩ := hm c
    rw [Cert.BranchMergeIdeal.Value.result7 m c, Cert.RefBranchMergeIdeal.Read.val_main_v12_eq, e1, e3]
    rfl
  · obtain ⟨e0, e1, e2, e3, e4⟩ := hm c
    rw [Cert.BranchMergeIdeal.Value.result8 m c, Cert.RefBranchMergeIdeal.Read.val_main_v28_eq, e0, e1, e2, e3, e4]
    rfl

end Cert.BranchMerge.Claims
end
-- ==== Proof.MergeBwd.lean ====
/- Hand-written, untrusted. THE MERGE, BACKWARDS (`merge_bwd`): each point forms the gradient on the merged branches over a block of rows,
   whole, and what the two branches and their two gates get of it, element by element. -/
module

public import proofs.«01_k».proof.Defs
public import proofs.«01_k».proof.Proof.Gen.MergeBwdIdeal.Value
public import proofs.«01_k».proof.Proof.Gen.RefMergeBwdIdeal.Run
public import proofs.«01_k».proof.Proof.Gen.RefMergeBwdIdeal.Read
public import Idealize.ShloMosaic.Lib.Pipeline.ValueKit
public import proofs.«01_k».proof.Proof.Gate

@[expose] public section

set_option maxRecDepth 16384

noncomputable section

namespace Cert.MergeBwdIdeal.Value

open Cert.MergeBwdIdeal Cert.MergeBwdIdeal.Gen Idealize.ShloMosaic Idealize.ShloMosaic.TcCoe Idealize.SL.Sem
open Cert.RefMergeBwdIdeal.Read
open Idealize.ShloMosaic.Pipeline (Dat)

variable (m : (ℓ : Loc nD τ sig) → Buf (Elt Ideal) ℓ)

theorem maps : ∀ t : Fin cfg0.N, win0_0.index t = ![t.val / 8, 0]
    ∧ win0_1.index t = ![t.val % 8, 0]
    ∧ win0_2.index t = ![t.val / 8, t.val % 8]
    ∧ win0_3.index t = ![t.val / 8, t.val % 8]
    ∧ win0_4.index t = ![t.val / 8, 18 + t.val % 8]
    ∧ win0_5.index t = ![t.val / 8, 26 + t.val % 8]
    ∧ win0_6.index t = ![t.val / 8, t.val % 8]
    ∧ win0_7.index t = ![t.val / 8, t.val % 8]
    ∧ win0_8.index t = ![t.val / 8, t.val % 8]
    ∧ win0_9.index t = ![t.val / 8, t.val % 8] :=
  (by decide +kernel : ∀ t : Fin grid0.N, _)

/-- The reference's array `v38` over the kernel's own arguments. -/
def R6 (c : Dev nD) : Buf (Elt Ideal) ((c : Thread nD τ).loc main_v2_0) :=
  val_main_v38 (F := Ideal) (m ((c : Thread nD τ).loc main_arg0)) (m ((c : Thread nD τ).loc main_arg1)) (m ((c : Thread nD τ).loc main_arg4))

/-- The reference's array `v39` over the kernel's own arguments. -/
def R7 (c : Dev nD) : Buf (Elt Ideal) ((c : Thread nD τ).loc main_v2_1) :=
  val_main_v39 (F := Ideal) (m ((c : Thread nD τ).loc main_arg0)) (m ((c : Thread nD τ).loc main_arg1)) (m ((c : Thread nD τ).loc main_arg4))

/-- The reference's array `v40` over the kernel's own arguments. -/
def R8 (c : Dev nD) : Buf (Elt Ideal) ((c : Thread nD τ).loc main_v2_2) :=
  val_main_v40 (F := Ideal) (m ((c : Thread nD τ).loc main_arg0)) (m ((c : Thread nD τ).loc main_arg1)) (m ((c : Thread nD τ).loc main_arg2)) (m ((c : Thread nD τ).loc main_arg4))

/-- The reference's array `v41` over the kernel's own arguments. -/
def R9 (c : Dev nD) : Buf (Elt Ideal) ((c : Thread nD τ).loc main_v2_3) :=
  val_main_v41 (F := Ideal) (m ((c : Thread nD τ).loc main_arg0)) (m ((c : Thread nD τ).loc main_arg1)) (m ((c : Thread nD τ).loc main_arg3)) (m ((c : Thread nD τ).loc main_arg4))

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, k0_pay4, k0_pay5, k0_pay6, k0_pay7, k0_pay8, k0_pay9, k0_pay10, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41]
  refine Gate.operand ?_ ?_
  · blk_point [iblk, V, maps t]
  · blk_point [iblk, V, maps t]

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, k0_pay4, k0_pay5, k0_pay6, k0_pay7, k0_pay8, k0_pay9, k0_pay10, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41]
  refine Gate.operand ?_ ?_
  · blk_point [iblk, V, maps t]
  · blk_point [iblk, V, maps t]

theorem result8 (c : Dev nD) : (dats m 0 c).arrAt 8 cfg0.N = R8 m c := by
  refine (dats m 0 c).arrAt_eq_of_covers 8 _ (by decide +kernel) fun t _ y => ?_
  blk_simp
  rw [after0_8]; frame_out
  pointwise [R8, k0_pay1, k0_pay2, k0_pay3, k0_pay4, k0_pay5, k0_pay6, k0_pay7, k0_pay8, k0_pay9, k0_pay10, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41]
  refine Gate.gate ?_ ?_ ?_
  · blk_point [iblk, V, maps t]
  · blk_point [iblk, V, maps t]
  · blk_point [iblk, V, maps t]

theorem result9 (c : Dev nD) : (dats m 0 c).arrAt 9 cfg0.N = R9 m c := by
  refine (dats m 0 c).arrAt_eq_of_covers 9 _ (by decide +kernel) fun t _ y => ?_
  blk_simp
  rw [after0_9]; frame_out
  pointwise [R9, k0_pay1, k0_pay2, k0_pay3, k0_pay4, k0_pay5, k0_pay6, k0_pay7, k0_pay8, k0_pay9, k0_pay10, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41]
  refine Gate.gate ?_ ?_ ?_
  · blk_point [iblk, V, maps t]
  · blk_point [iblk, V, maps t]
  · blk_point [iblk, V, maps t]

end Cert.MergeBwdIdeal.Value

namespace Cert.MergeBwd.Claims
open Cert Idealize.ShloMosaic Idealize.ShloMosaic.TcCoe Idealize.SL.Sem

theorem reference_frame : Cert.quiescent_RefMergeBwdIdeal (hRefMergeBwdIdeal := Cert.RefMergeBwdIdeal.Gen.facts) := fun m ρ _ =>
  (θ_run _ _ _).mono (fun r h => ⟨fun c => (h c).2.2.2.2, sem_eq_zero_of_no_sems (by decide) r.2⟩) (Cert.RefMergeBwdIdeal.Value.run m ρ)

theorem algebraic : Cert.algebraic_MergeBwdIdeal_RefMergeBwdIdeal (hMergeBwdIdeal := Cert.MergeBwdIdeal.Gen.facts)
    (hRefMergeBwdIdeal := Cert.RefMergeBwdIdeal.Gen.facts) := by
  intro m g m' g' _ hm
  refine ⟨_, _, _, _, Cert.MergeBwdIdeal.Value.run_blocks m g, (θ_run _ _ _).mono (fun r h c => ⟨(h c).1.trans ?_, (h c).2.1.trans ?_, (h c).2.2.1.trans ?_, (h c).2.2.2.1.trans ?_, (h c).2.2.2.2⟩) (Cert.RefMergeBwdIdeal.Value.run m' g')⟩
  · obtain ⟨e0, e1, e2, e3, e4⟩ := hm c
    rw [Cert.MergeBwdIdeal.Value.result6 m c, Cert.RefMergeBwdIdeal.Read.val_main_v38_eq, e0, e1, e4]
    rfl
  · obtain ⟨e0, e1, e2, e3, e4⟩ := hm c
    rw [Cert.MergeBwdIdeal.Value.result7 m c, Cert.RefMergeBwdIdeal.Read.val_main_v39_eq, e0, e1, e4]
    rfl
  · obtain ⟨e0, e1, e2, e3, e4⟩ := hm c
    rw [Cert.MergeBwdIdeal.Value.result8 m c, Cert.RefMergeBwdIdeal.Read.val_main_v40_eq, e0, e1, e2, e4]
    rfl
  · obtain ⟨e0, e1, e2, e3, e4⟩ := hm c
    rw [Cert.MergeBwdIdeal.Value.result9 m c, Cert.RefMergeBwdIdeal.Read.val_main_v41_eq, e0, e1, e3, e4]
    rfl

end Cert.MergeBwd.Claims
end
-- ==== Proof.GateGrad.lean ====
/- Hand-written, untrusted. THE GATE'S OWN GRADIENT: the derivative of `z · σ(z)`, factored on the kernel's side and a sum of two terms on
   the reference's.  They are the same where the gradient that reaches the gate is a real number; `z` may be infinite. -/
module

public import proofs.«01_k».proof.Defs
public import proofs.«01_k».proof.Proof.Gate
public import proofs.«01_k».proof.Proof.Softmax
public import proofs.«01_k».proof.Proof.Finite
public import proofs.«01_k».proof.Proof.Gen.Pre_finite_gate

@[expose] public section

open Idealize.ShloMosaic

namespace Cert.Gate

theorem real_mul {x y : EReal} (hx : ∃ r : ℝ, x = r) (hy : ∃ r : ℝ, y = r) : ∃ r : ℝ, x * y = r := by
  obtain ⟨r, rfl⟩ := hx; obtain ⟨s, rfl⟩ := hy; exact ⟨r * s, (EReal.coe_mul r s).symm⟩

theorem real_dot {ι : Type*} [Fintype ι] {u v : ι → EReal} (hu : ∀ k, ∃ r : ℝ, u k = r) (hv : ∀ k, ∃ r : ℝ, v k = r) :
    ∃ r : ℝ, ∑ k, u k * v k = r := by
  choose f hf using hu; choose g hg using hv
  exact ⟨∑ k, f k * g k, by simp only [hf, hg, Row.coe_sum, EReal.coe_mul]⟩

/-- The logistic function at the two infinities and at a real. -/
theorem sig_bot : Ideal.div 1 (1 + Ideal.exp (-(⊥ : EReal))) = 0 := by
  rw [EReal.neg_bot, Ideal.exp_top, EReal.add_top_of_ne_bot (by decide), Ideal.div, if_neg (by decide), EReal.inv_top, mul_zero]

theorem sig_top : Ideal.div 1 (1 + Ideal.exp (-(⊤ : EReal))) = 1 := by
  rw [EReal.neg_top, Ideal.exp_bot, add_zero, show (1 : EReal) = ((1 : ℝ) : EReal) from rfl, Row.div_coe _ one_ne_zero, div_one]

theorem sig_coe (z : ℝ) : Ideal.div 1 (1 + Ideal.exp (-(z : EReal))) = ((1 / (1 + Real.exp (-z)) : ℝ) : EReal) := by
  rw [← EReal.coe_neg, Ideal.exp_coe, show (1 : EReal) = ((1 : ℝ) : EReal) from rfl, ← EReal.coe_add, Row.div_coe _ (by positivity)]

theorem sig_real (z : EReal) : ∃ r : ℝ, Ideal.div 1 (1 + Ideal.exp (-z)) = r := by
  induction z with
  | bot => exact ⟨0, sig_bot⟩
  | top => exact ⟨1, sig_top⟩
  | coe z => exact ⟨_, sig_coe z⟩

theorem slope (d : ℝ) (z : EReal) :
    (d : EReal) * (Ideal.div 1 (1 + Ideal.exp (-z)) * (1 + z * (1 - Ideal.div 1 (1 + Ideal.exp (-z)))))
      = d * Ideal.div 1 (1 + Ideal.exp (-z)) + z * d * (Ideal.div 1 (1 + Ideal.exp (-z)) * (1 - Ideal.div 1 (1 + Ideal.exp (-z)))) := by
  have h1 : (1 : EReal) = ((1 : ℝ) : EReal) := rfl
  induction z with
  | bot => rw [sig_bot]; simp
  | top =>
    have h0 : (1 : EReal) - 1 = 0 := by rw [h1, ← EReal.coe_sub, sub_self, EReal.coe_zero]
    rw [sig_top, h0]; simp
  | coe z =>
    rw [sig_coe, h1, ← EReal.coe_sub, ← EReal.coe_mul, ← EReal.coe_add, ← EReal.coe_mul, ← EReal.coe_mul, ← EReal.coe_mul,
      ← EReal.coe_mul, ← EReal.coe_mul, ← EReal.coe_mul, ← EReal.coe_add]
    congr 1; ring

variable {P P' a a' b b' z z' : EReal}

/-- What the gate's input gets. -/
theorem third (hP : P = P') (ha : a = a') (hb : b = b') (hz : z = z') (rP : ∃ r : ℝ, P' = r) (ra : ∃ r : ℝ, a' = r) :
    P * a * Ideal.div 1 (1 + Ideal.exp (0 - b)) * (Ideal.div 1 (1 + Ideal.exp (0 - z)) * (1 + z * (1 - Ideal.div 1 (1 + Ideal.exp (0 - z)))))
      = a' * Ideal.div 1 (1 + Ideal.exp (-b')) * P' * Ideal.div 1 (1 + Ideal.exp (-z'))
        + z' * (a' * Ideal.div 1 (1 + Ideal.exp (-b')) * P')
          * (Ideal.div 1 (1 + Ideal.exp (-z')) * (1 - Ideal.div 1 (1 + Ideal.exp (-z')))) := by
  subst hP ha hb hz
  rw [neg_arg, neg_arg, show P * a * Ideal.div 1 (1 + Ideal.exp (-b)) = a * Ideal.div 1 (1 + Ideal.exp (-b)) * P by
    rw [mul_assoc P, mul_comm P]]
  obtain ⟨d, hd⟩ := real_mul (real_mul ra (sig_real b)) rP
  rw [hd]; exact slope d z

theorem pos_inf16 : Ideal.ofBits .bf16 0x7F80#16 = ⊤ := by simp [Ideal.ofBits, Ideal.ieee]
theorem neg_inf16 : Ideal.ofBits .bf16 0xFF80#16 = ⊥ := by simp [Ideal.ofBits, Ideal.ieee]

theorem real_of16 (x : EReal) (h : IntOp.andi (FloatOps.cmpf (F := Ideal) (φ := .bf16) .olt x (Ideal.ofBits .bf16 0x7F80#16))
    (FloatOps.cmpf (F := Ideal) (φ := .bf16) .ogt x (Ideal.ofBits .bf16 0xFF80#16)) = 1#1) : ∃ r : ℝ, x = r := by
  rw [pos_inf16, neg_inf16] at h
  have h' := Finite.and_ones h
  have h1 : x < ⊤ := by simpa using h'.1
  have h2 : ⊥ < x := by simpa using h'.2
  exact ⟨x.toReal, (EReal.coe_toReal h1.ne h2.ne').symm⟩

open Cert.Pre_finite_gate in
theorem fn_real (x0 : FVec Ideal S8192x2048 .bf16) (x1 : FVec Ideal S1024x2048 .f32) (x2 x3 : FVec Ideal S8192x1024 .f32)
    (x4 : FVec Ideal S8192x8704 .f32)
    (h : (Cert.Pre_finite_gate.fn (F := Ideal) x0 x1 x2 x3 x4).1 = (fun _ => 1#1)
      ∧ (Cert.Pre_finite_gate.fn (F := Ideal) x0 x1 x2 x3 x4).2.1 = (fun _ => 1#1)
      ∧ (Cert.Pre_finite_gate.fn (F := Ideal) x0 x1 x2 x3 x4).2.2 = (fun _ => 1#1)) :
    (∀ j, ∃ r : ℝ, (x0 j : EReal) = r) ∧ (∀ j, ∃ r : ℝ, (x1 j : EReal) = r) ∧ (∀ j, ∃ r : ℝ, (x2 j : EReal) = r) :=
  ⟨fun j => real_of16 _ (congrFun h.1 j), fun j => ⟨_, Finite.real_of _ (congrFun h.2.1 j)⟩,
    fun j => ⟨_, Finite.real_of _ (congrFun h.2.2 j)⟩⟩

end Cert.Gate

end
-- ==== Proof.GluGateBwd.lean ====
/- Hand-written, untrusted. THE GATED LINEAR UNIT, BACKWARDS (`glu_gate_bwd`): each point forms the gradient on the branch over a block of
   rows, whole, and what the unit's two halves and its gate get of it, element by element. -/
module

public import proofs.«01_k».proof.Defs
public import proofs.«01_k».proof.Proof.Gen.GluGateBwdIdeal.Value
public import proofs.«01_k».proof.Proof.Gen.RefGluGateBwdIdeal.Run
public import proofs.«01_k».proof.Proof.Gen.RefGluGateBwdIdeal.Read
public import Idealize.ShloMosaic.Lib.Pipeline.ValueKit
public import proofs.«01_k».proof.Proof.Gate
public import proofs.«01_k».proof.Proof.GateGrad

@[expose] public section

set_option maxRecDepth 16384

noncomputable section

namespace Cert.GluGateBwdIdeal.Value

open Cert.GluGateBwdIdeal Cert.GluGateBwdIdeal.Gen Idealize.ShloMosaic Idealize.ShloMosaic.TcCoe Idealize.SL.Sem
open Cert.RefGluGateBwdIdeal.Read
open Idealize.ShloMosaic.Pipeline (Dat)

variable (m : (ℓ : Loc nD τ sig) → Buf (Elt Ideal) ℓ)

theorem maps : ∀ t : Fin cfg0.N, win0_0.index t = ![t.val / 4, 0]
    ∧ win0_1.index t = ![t.val % 4, 0]
    ∧ win0_2.index t = ![t.val / 4, t.val % 4]
    ∧ win0_3.index t = ![t.val / 4, t.val % 4]
    ∧ win0_4.index t = ![t.val / 4, 4 + t.val % 4]
    ∧ win0_5.index t = ![t.val / 4, t.val % 4]
    ∧ win0_6.index t = ![t.val / 4, t.val % 4]
    ∧ win0_7.index t = ![t.val / 4, t.val % 4] :=
  (by decide +kernel : ∀ t : Fin grid0.N, _)

/-- The reference's array `v28` over the kernel's own arguments. -/
def R5 (c : Dev nD) : Buf (Elt Ideal) ((c : Thread nD τ).loc main_v1_0) :=
  val_main_v28 (F := Ideal) (m ((c : Thread nD τ).loc main_arg0)) (m ((c : Thread nD τ).loc main_arg1)) (m ((c : Thread nD τ).loc main_arg3)) (m ((c : Thread nD τ).loc main_arg4))

/-- The reference's array `v29` over the kernel's own arguments. -/
def R6 (c : Dev nD) : Buf (Elt Ideal) ((c : Thread nD τ).loc main_v1_1) :=
  val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's array `v30` over the kernel's own arguments. -/
def R7 (c : Dev nD) : Buf (Elt Ideal) ((c : Thread nD τ).loc main_v1_2) :=
  val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem result5 (c : Dev nD) : (dats m 0 c).arrAt 5 cfg0.N = R5 m c := by
  refine (dats m 0 c).arrAt_eq_of_covers 5 _ (by decide +kernel) fun t _ y => ?_
  blk_simp
  rw [after0_5]; frame_out
  pointwise [R5, k0_pay1, k0_pay2, k0_pay3, k0_pay4, k0_pay5, k0_pay6, k0_pay7, k0_pay8, k0_pay9, k0_pay10, k0_pay11, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_v23, val_main_call1_v0, val_main_call1_v1, val_main_call1_v2, val_main_v24, val_main_v25, val_main_v26, val_main_v27, val_main_v28, val_main_v29, val_main_v30]
  refine Gate.first ?_ ?_ ?_
  · blk_point [iblk, V, maps t]
  · blk_point [iblk, V, maps t]
  · blk_point [iblk, V, maps t]

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, k0_pay4, k0_pay5, k0_pay6, k0_pay7, k0_pay8, k0_pay9, k0_pay10, k0_pay11, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_v23, val_main_call1_v0, val_main_call1_v1, val_main_call1_v2, val_main_v24, val_main_v25, val_main_v26, val_main_v27, val_main_v28, val_main_v29, val_main_v30]
  refine Gate.second ?_ ?_ ?_ ?_
  · blk_point [iblk, V, maps t]
  · blk_point [iblk, V, maps t]
  · blk_point [iblk, V, maps t]
  · blk_point [iblk, V, maps t]

theorem result7 (c : Dev nD) (h0 : ∀ j, ∃ r : ℝ, @Eq EReal (m ((c : Thread nD τ).loc main_arg0) j) r)
    (h1 : ∀ j, ∃ r : ℝ, @Eq EReal (m ((c : Thread nD τ).loc main_arg1) j) r)
    (h2 : ∀ j, ∃ r : ℝ, @Eq EReal (m ((c : Thread nD τ).loc main_arg2) j) r) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, k0_pay4, k0_pay5, k0_pay6, k0_pay7, k0_pay8, k0_pay9, k0_pay10, k0_pay11, val_main_v0, val_main_v1, val_main_v2, val_main_v3, val_main_v4, val_main_v5, val_main_v6, val_main_v7, val_main_v8, val_main_cst, val_main_v9, val_main_v10, val_main_cst_0, val_main_v11, val_main_v12, val_main_cst_1, val_main_v13, val_main_v14, val_main_v15, val_main_v16, val_main_call0_v0, val_main_call0_v1, val_main_call0_cst, val_main_call0_v2, val_main_call0_v3, val_main_call0_cst_0, val_main_call0_v4, val_main_v17_2, val_main_call0_cst_1, val_main_call0_v6, val_main_call0_v7, val_main_v17_1, val_main_v17_0, val_main_v18, val_main_v19, val_main_v20, val_main_v21, val_main_v22, val_main_v23, val_main_call1_v0, val_main_call1_v1, val_main_call1_v2, val_main_v24, val_main_v25, val_main_v26, val_main_v27, val_main_v28, val_main_v29, val_main_v30]
  refine Gate.third ?_ ?_ ?_ ?_ (Gate.real_dot (fun k => h0 _) (fun k => h1 _)) (h2 _)
  · blk_point [iblk, V, maps t]
  · blk_point [iblk, V, maps t]
  · blk_point [iblk, V, maps t]
  · blk_point [iblk, V, maps t]

end Cert.GluGateBwdIdeal.Value

namespace Cert.GluGateBwd.Claims
open Cert Idealize.ShloMosaic Idealize.ShloMosaic.TcCoe Idealize.SL.Sem

theorem reference_frame : Cert.quiescent_RefGluGateBwdIdeal (hRefGluGateBwdIdeal := Cert.RefGluGateBwdIdeal.Gen.facts) := fun m ρ _ =>
  (θ_run _ _ _).mono (fun r h => ⟨fun c => (h c).2.2.2, sem_eq_zero_of_no_sems (by decide) r.2⟩) (Cert.RefGluGateBwdIdeal.Value.run m ρ)

theorem algebraic : Cert.algebraic_GluGateBwdIdeal_RefGluGateBwdIdeal_pre_finite_gate (hGluGateBwdIdeal := Cert.GluGateBwdIdeal.Gen.facts)
    (hRefGluGateBwdIdeal := Cert.RefGluGateBwdIdeal.Gen.facts) (hPre_finite_gate := Cert.Pre_finite_gate.Gen.facts) := by
  letI := Cert.Pre_finite_gate.Gen.facts
  intro m g m' g' hp hm
  refine ⟨_, _, _, Cert.GluGateBwdIdeal.Value.run_blocks m g, (θ_run _ _ _).mono (fun r h c => ⟨(h c).1.trans ?_, (h c).2.1.trans ?_, (h c).2.2.1.trans ?_, (h c).2.2.2⟩) (Cert.RefGluGateBwdIdeal.Value.run m' g')⟩
  · obtain ⟨e0, e1, e2, e3, e4⟩ := hm c
    rw [Cert.GluGateBwdIdeal.Value.result5 m c, Cert.RefGluGateBwdIdeal.Read.val_main_v28_eq, e0, e1, e3, e4]
    rfl
  · obtain ⟨e0, e1, e2, e3, e4⟩ := hm c
    rw [Cert.GluGateBwdIdeal.Value.result6 m c, Cert.RefGluGateBwdIdeal.Read.val_main_v29_eq, e0, e1, e2, e3, e4]
    rfl
  · obtain ⟨e0, e1, e2, e3, e4⟩ := hm c
    obtain ⟨h0, h1, h2⟩ := Gate.fn_real _ _ _ _ _ (hp c)
    rw [Cert.GluGateBwdIdeal.Value.result7 m c h0 h1 h2, Cert.RefGluGateBwdIdeal.Read.val_main_v30_eq, e0, e1, e2, e3, e4]
    rfl

end Cert.GluGateBwd.Claims
end
-- ==== Proof.Cut8.lean ====
/- Hand-written, untrusted. A SUM OF EIGHT: eight terms added in order are the sum over `Fin 8`, a zero in front of it counting for nothing
   (what the optimiser's call does with the eight devices' parts, and what the reference's reduction does).  And the optimiser's formulas,
   of equal arguments. -/
module

public import Idealize.ShloMosaic.PureOps.Ideal

@[expose] public section

namespace Cert.Cut8

theorem sum_eight {z a0 a1 a2 a3 a4 a5 a6 a7 : EReal} (f : Fin 8 → EReal) (hz : z = 0) (h0 : a0 = f 0) (h1 : a1 = f 1) (h2 : a2 = f 2)
    (h3 : a3 = f 3) (h4 : a4 = f 4) (h5 : a5 = f 5) (h6 : a6 = f 6) (h7 : a7 = f 7) :
    a0 + a1 + a2 + a3 + a4 + a5 + a6 + a7 = z + ∑ k, f k := by
  subst hz h0 h1 h2 h3 h4 h5 h6 h7
  rw [Fin.sum_univ_eight, zero_add]

/-- An average with a new value, of equal parts. -/
theorem avg (a b : EReal) {x x' g g' : EReal} (hx : x = x') (hg : g = g') : a * x + b * g = a * x' + b * g' := by rw [hx, hg]

/-- The same for the square of the value. -/
theorem avg_sq (a b : EReal) {x x' g g' : EReal} (hx : x = x') (hg : g = g') : a * x + b * (g * g) = a * x' + b * (g' * g') := by
  rw [hx, hg]

/-- The step of equal averages and an equal weight. -/
theorem step (l d : EReal) (f : EReal → EReal → EReal) {p p' q q' w w' : EReal} (hp : p = p') (hq : q = q') (hw : w = w') :
    l * (f p q + d * w) = l * (f p' q' + d * w') := by rw [hp, hq, hw]

end Cert.Cut8

end
-- ==== Proof.AdamWIn.lean ====
/- Hand-written, untrusted. THE OPTIMISER ON THE INPUT PROJECTION'S WEIGHT (`adamw_w_in`): a row block at a time, the eight devices' parts of
   the gradient are added in order and the step taken from the sum; per entry this is the reference's sum over the parts and its step. -/
module

public import proofs.«01_k».proof.Defs
public import proofs.«01_k».proof.Proof.Gen.AdamWInIdeal.Value
public import proofs.«01_k».proof.Proof.Gen.RefAdamWInIdeal.Run
public import proofs.«01_k».proof.Proof.Gen.RefAdamWInIdeal.Read
public import Idealize.ShloMosaic.Lib.Pipeline.ValueKit
public import proofs.«01_k».proof.Proof.Cut8

@[expose] public section

set_option maxRecDepth 16384

noncomputable section

namespace Cert.AdamWInIdeal.Value

open Cert.AdamWInIdeal Cert.AdamWInIdeal.Gen Idealize.ShloMosaic Idealize.ShloMosaic.TcCoe Idealize.SL.Sem
open Cert.RefAdamWInIdeal.Read
open Idealize.ShloMosaic.Pipeline (Dat)

variable (m : (ℓ : Loc nD τ sig) → Buf (Elt Ideal) ℓ)

theorem maps : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's array `v1` over the kernel's own arguments. -/
def R4 (c : Dev nD) : Buf (Elt Ideal) ((c : Thread nD τ).loc main_v0_0) :=
  val_main_v1 (F := Ideal) (m ((c : Thread nD τ).loc main_arg0))

/-- The reference's array `v25` over the kernel's own arguments. -/
def R5 (c : Dev nD) : Buf (Elt Ideal) ((c : Thread nD τ).loc main_v0_1) :=
  val_main_v25 (F := Ideal) (m ((c : Thread nD τ).loc main_arg0)) (m ((c : Thread nD τ).loc main_arg1)) (m ((c : Thread nD τ).loc main_arg2)) (m ((c : Thread nD τ).loc main_arg3))

/-- The reference's array `v6` over the kernel's own arguments. -/
def R6 (c : Dev nD) : Buf (Elt Ideal) ((c : Thread nD τ).loc main_v0_2) :=
  val_main_v6 (F := Ideal) (m ((c : Thread nD τ).loc main_arg0)) (m ((c : Thread nD τ).loc main_arg2))

/-- The reference's array `v12` over the kernel's own arguments. -/
def R7 (c : Dev nD) : Buf (Elt Ideal) ((c : Thread nD τ).loc main_v0_3) :=
  val_main_v12 (F := Ideal) (m ((c : Thread nD τ).loc main_arg0)) (m ((c : Thread nD τ).loc main_arg3))

/-- The eight devices' parts of one entry, added in order, are the reference's sum. -/
theorem grad (c : Dev nD) (t : Fin cfg0.N) (y : ((cfg0.win 4).xblock (cfg0.grid.coords t)).Idx) :
    k0_pay5 (F := Ideal) (iblk m c 0 t) (iblk m c 1 t) (iblk m c 2 t) (iblk m c 3 t) y = R4 m c (((View.whole main_v0_0).slice (win0_4.rect t)).emb y) := by
  pointwise [R4, k0_pay5]
  refine (Cert.Cut8.sum_eight (fun k => val_main_v0 (F := Ideal) (m ((c : Thread nD τ).loc main_arg0))
    (idx_main_v1 (((View.whole main_v0_0).slice (win0_4.rect t)).emb y) k)) ?_ ?_ ?_ ?_ ?_ ?_ ?_ ?_ ?_).trans (val_main_v1_apply _ _).symm
  · exact Ideal.ofBits_zero_f32
  all_goals blk_point [iblk, V, maps t, val_main_v0]

theorem result4 (c : Dev nD) : (dats m 0 c).arrAt 4 cfg0.N = R4 m c := by
  refine (dats m 0 c).arrAt_eq_of_covers 4 _ (by decide +kernel) fun t _ y => ?_
  blk_simp
  rw [after0_4]; frame_out
  exact grad m c t y

theorem result5 (c : Dev nD) : (dats m 0 c).arrAt 5 cfg0.N = R5 m c := by
  refine (dats m 0 c).arrAt_eq_of_covers 5 _ (by decide +kernel) fun t _ y => ?_
  blk_simp
  rw [after0_5]; frame_out
  pointwise [R5, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.step _ _ (fun p q => Ideal.div (Ideal.div p _) (Ideal.sqrt (Ideal.div q _) + _)) (Cert.Cut8.avg _ _ ?_ ?_) (Cert.Cut8.avg_sq _ _ ?_ ?_) ?_
  · blk_point [iblk, V, maps t]
  · exact grad m c t y
  · blk_point [iblk, V, maps t]
  · exact grad m c t y
  · blk_point [iblk, V, maps t]

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg _ _ ?_ ?_
  · blk_point [iblk, V, maps t]
  · exact grad m c t y

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg_sq _ _ ?_ ?_
  · blk_point [iblk, V, maps t]
  · exact grad m c t y

end Cert.AdamWInIdeal.Value

namespace Cert.AdamWIn.Claims
open Cert Idealize.ShloMosaic Idealize.ShloMosaic.TcCoe Idealize.SL.Sem

theorem reference_frame : Cert.quiescent_RefAdamWInIdeal (hRefAdamWInIdeal := Cert.RefAdamWInIdeal.Gen.facts) := fun m ρ _ =>
  (θ_run _ _ _).mono (fun r h => ⟨fun c => (h c).2.2.2.2, sem_eq_zero_of_no_sems (by decide) r.2⟩) (Cert.RefAdamWInIdeal.Value.run m ρ)

theorem algebraic : Cert.algebraic_AdamWInIdeal_RefAdamWInIdeal (hAdamWInIdeal := Cert.AdamWInIdeal.Gen.facts)
    (hRefAdamWInIdeal := Cert.RefAdamWInIdeal.Gen.facts) := by
  intro m g m' g' _ hm
  refine ⟨_, _, _, _, Cert.AdamWInIdeal.Value.run_blocks m g, (θ_run _ _ _).mono (fun r h c => ⟨(h c).1.trans ?_, (h c).2.1.trans ?_, (h c).2.2.1.trans ?_, (h c).2.2.2.1.trans ?_, (h c).2.2.2.2⟩) (Cert.RefAdamWInIdeal.Value.run m' g')⟩
  · obtain ⟨e0, e1, e2, e3⟩ := hm c
    rw [Cert.AdamWInIdeal.Value.result4 m c, Cert.RefAdamWInIdeal.Read.val_main_v1_eq, e0]
    rfl
  · obtain ⟨e0, e1, e2, e3⟩ := hm c
    rw [Cert.AdamWInIdeal.Value.result5 m c, Cert.RefAdamWInIdeal.Read.val_main_v25_eq, e0, e1, e2, e3]
    rfl
  · obtain ⟨e0, e1, e2, e3⟩ := hm c
    rw [Cert.AdamWInIdeal.Value.result6 m c, Cert.RefAdamWInIdeal.Read.val_main_v6_eq, e0, e2]
    rfl
  · obtain ⟨e0, e1, e2, e3⟩ := hm c
    rw [Cert.AdamWInIdeal.Value.result7 m c, Cert.RefAdamWInIdeal.Read.val_main_v12_eq, e0, e3]
    rfl

end Cert.AdamWIn.Claims
end
-- ==== Proof.AdamStack.lean ====
/- Hand-written, untrusted. THE OPTIMISER ON THE THREE WEIGHTS OF 1024 ROWS, stacked (`adamw_w_1024`): a row block at a time, the eight devices' parts of
   the gradient are added in order and the step taken from the sum; per entry this is the reference's sum over the parts and its step. -/
module

public import proofs.«01_k».proof.Defs
public import proofs.«01_k».proof.Proof.Gen.AdamStackIdeal.Value
public import proofs.«01_k».proof.Proof.Gen.RefAdamStackIdeal.Run
public import proofs.«01_k».proof.Proof.Gen.RefAdamStackIdeal.Read
public import Idealize.ShloMosaic.Lib.Pipeline.ValueKit
public import proofs.«01_k».proof.Proof.Cut8

@[expose] public section

set_option maxRecDepth 16384

noncomputable section

namespace Cert.AdamStackIdeal.Value

open Cert.AdamStackIdeal Cert.AdamStackIdeal.Gen Idealize.ShloMosaic Idealize.ShloMosaic.TcCoe Idealize.SL.Sem
open Cert.RefAdamStackIdeal.Read
open Idealize.ShloMosaic.Pipeline (Dat)

variable (m : (ℓ : Loc nD τ sig) → Buf (Elt Ideal) ℓ)

theorem maps : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's array `v1` over the kernel's own arguments. -/
def R4 (c : Dev nD) : Buf (Elt Ideal) ((c : Thread nD τ).loc main_v0_0) :=
  val_main_v1 (F := Ideal) (m ((c : Thread nD τ).loc main_arg0))

/-- The reference's array `v25` over the kernel's own arguments. -/
def R5 (c : Dev nD) : Buf (Elt Ideal) ((c : Thread nD τ).loc main_v0_1) :=
  val_main_v25 (F := Ideal) (m ((c : Thread nD τ).loc main_arg0)) (m ((c : Thread nD τ).loc main_arg1)) (m ((c : Thread nD τ).loc main_arg2)) (m ((c : Thread nD τ).loc main_arg3))

/-- The reference's array `v6` over the kernel's own arguments. -/
def R6 (c : Dev nD) : Buf (Elt Ideal) ((c : Thread nD τ).loc main_v0_2) :=
  val_main_v6 (F := Ideal) (m ((c : Thread nD τ).loc main_arg0)) (m ((c : Thread nD τ).loc main_arg2))

/-- The reference's array `v12` over the kernel's own arguments. -/
def R7 (c : Dev nD) : Buf (Elt Ideal) ((c : Thread nD τ).loc main_v0_3) :=
  val_main_v12 (F := Ideal) (m ((c : Thread nD τ).loc main_arg0)) (m ((c : Thread nD τ).loc main_arg3))

/-- The eight devices' parts of one entry, added in order, are the reference's sum. -/
theorem grad (c : Dev nD) (t : Fin cfg0.N) (y : ((cfg0.win 4).xblock (cfg0.grid.coords t)).Idx) :
    k0_pay5 (F := Ideal) (iblk m c 0 t) (iblk m c 1 t) (iblk m c 2 t) (iblk m c 3 t) y = R4 m c (((View.whole main_v0_0).slice (win0_4.rect t)).emb y) := by
  pointwise [R4, k0_pay5]
  refine (Cert.Cut8.sum_eight (fun k => val_main_v0 (F := Ideal) (m ((c : Thread nD τ).loc main_arg0))
    (idx_main_v1 (((View.whole main_v0_0).slice (win0_4.rect t)).emb y) k)) ?_ ?_ ?_ ?_ ?_ ?_ ?_ ?_ ?_).trans (val_main_v1_apply _ _).symm
  · exact Ideal.ofBits_zero_f32
  all_goals blk_point [iblk, V, maps t, val_main_v0]

theorem result4 (c : Dev nD) : (dats m 0 c).arrAt 4 cfg0.N = R4 m c := by
  refine (dats m 0 c).arrAt_eq_of_covers 4 _ (by decide +kernel) fun t _ y => ?_
  blk_simp
  rw [after0_4]; frame_out
  exact grad m c t y

theorem result5 (c : Dev nD) : (dats m 0 c).arrAt 5 cfg0.N = R5 m c := by
  refine (dats m 0 c).arrAt_eq_of_covers 5 _ (by decide +kernel) fun t _ y => ?_
  blk_simp
  rw [after0_5]; frame_out
  pointwise [R5, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.step _ _ (fun p q => Ideal.div (Ideal.div p _) (Ideal.sqrt (Ideal.div q _) + _)) (Cert.Cut8.avg _ _ ?_ ?_) (Cert.Cut8.avg_sq _ _ ?_ ?_) ?_
  · blk_point [iblk, V, maps t]
  · exact grad m c t y
  · blk_point [iblk, V, maps t]
  · exact grad m c t y
  · blk_point [iblk, V, maps t]

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg _ _ ?_ ?_
  · blk_point [iblk, V, maps t]
  · exact grad m c t y

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg_sq _ _ ?_ ?_
  · blk_point [iblk, V, maps t]
  · exact grad m c t y

end Cert.AdamStackIdeal.Value

namespace Cert.AdamStack.Claims
open Cert Idealize.ShloMosaic Idealize.ShloMosaic.TcCoe Idealize.SL.Sem

theorem reference_frame : Cert.quiescent_RefAdamStackIdeal (hRefAdamStackIdeal := Cert.RefAdamStackIdeal.Gen.facts) := fun m ρ _ =>
  (θ_run _ _ _).mono (fun r h => ⟨fun c => (h c).2.2.2.2, sem_eq_zero_of_no_sems (by decide) r.2⟩) (Cert.RefAdamStackIdeal.Value.run m ρ)

theorem algebraic : Cert.algebraic_AdamStackIdeal_RefAdamStackIdeal (hAdamStackIdeal := Cert.AdamStackIdeal.Gen.facts)
    (hRefAdamStackIdeal := Cert.RefAdamStackIdeal.Gen.facts) := by
  intro m g m' g' _ hm
  refine ⟨_, _, _, _, Cert.AdamStackIdeal.Value.run_blocks m g, (θ_run _ _ _).mono (fun r h c => ⟨(h c).1.trans ?_, (h c).2.1.trans ?_, (h c).2.2.1.trans ?_, (h c).2.2.2.1.trans ?_, (h c).2.2.2.2⟩) (Cert.RefAdamStackIdeal.Value.run m' g')⟩
  · obtain ⟨e0, e1, e2, e3⟩ := hm c
    rw [Cert.AdamStackIdeal.Value.result4 m c, Cert.RefAdamStackIdeal.Read.val_main_v1_eq, e0]
    rfl
  · obtain ⟨e0, e1, e2, e3⟩ := hm c
    rw [Cert.AdamStackIdeal.Value.result5 m c, Cert.RefAdamStackIdeal.Read.val_main_v25_eq, e0, e1, e2, e3]
    rfl
  · obtain ⟨e0, e1, e2, e3⟩ := hm c
    rw [Cert.AdamStackIdeal.Value.result6 m c, Cert.RefAdamStackIdeal.Read.val_main_v6_eq, e0, e2]
    rfl
  · obtain ⟨e0, e1, e2, e3⟩ := hm c
    rw [Cert.AdamStackIdeal.Value.result7 m c, Cert.RefAdamStackIdeal.Read.val_main_v12_eq, e0, e3]
    rfl

end Cert.AdamStack.Claims
end
-- ==== Proof.AdamWOut.lean ====
/- Hand-written, untrusted. THE OPTIMISER ON THE OUTPUT PROJECTION'S WEIGHT (`adamw_w_out`): a row block at a time, the eight devices' parts of
   the gradient are added in order and the step taken from the sum; per entry this is the reference's sum over the parts and its step. -/
module

public import proofs.«01_k».proof.Defs
public import proofs.«01_k».proof.Proof.Gen.AdamWOutIdeal.Value
public import proofs.«01_k».proof.Proof.Gen.RefAdamWOutIdeal.Run
public import proofs.«01_k».proof.Proof.Gen.RefAdamWOutIdeal.Read
public import Idealize.ShloMosaic.Lib.Pipeline.ValueKit
public import proofs.«01_k».proof.Proof.Cut8

@[expose] public section

set_option maxRecDepth 16384

noncomputable section

namespace Cert.AdamWOutIdeal.Value

open Cert.AdamWOutIdeal Cert.AdamWOutIdeal.Gen Idealize.ShloMosaic Idealize.ShloMosaic.TcCoe Idealize.SL.Sem
open Cert.RefAdamWOutIdeal.Read
open Idealize.ShloMosaic.Pipeline (Dat)

variable (m : (ℓ : Loc nD τ sig) → Buf (Elt Ideal) ℓ)

theorem maps : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The reference's array `v1` over the kernel's own arguments. -/
def R4 (c : Dev nD) : Buf (Elt Ideal) ((c : Thread nD τ).loc main_v0_0) :=
  val_main_v1 (F := Ideal) (m ((c : Thread nD τ).loc main_arg0))

/-- The reference's array `v25` over the kernel's own arguments. -/
def R5 (c : Dev nD) : Buf (Elt Ideal) ((c : Thread nD τ).loc main_v0_1) :=
  val_main_v25 (F := Ideal) (m ((c : Thread nD τ).loc main_arg0)) (m ((c : Thread nD τ).loc main_arg1)) (m ((c : Thread nD τ).loc main_arg2)) (m ((c : Thread nD τ).loc main_arg3))

/-- The reference's array `v6` over the kernel's own arguments. -/
def R6 (c : Dev nD) : Buf (Elt Ideal) ((c : Thread nD τ).loc main_v0_2) :=
  val_main_v6 (F := Ideal) (m ((c : Thread nD τ).loc main_arg0)) (m ((c : Thread nD τ).loc main_arg2))

/-- The reference's array `v12` over the kernel's own arguments. -/
def R7 (c : Dev nD) : Buf (Elt Ideal) ((c : Thread nD τ).loc main_v0_3) :=
  val_main_v12 (F := Ideal) (m ((c : Thread nD τ).loc main_arg0)) (m ((c : Thread nD τ).loc main_arg3))

/-- The eight devices' parts of one entry, added in order, are the reference's sum. -/
theorem grad (c : Dev nD) (t : Fin cfg0.N) (y : ((cfg0.win 4).xblock (cfg0.grid.coords t)).Idx) :
    k0_pay5 (F := Ideal) (iblk m c 0 t) (iblk m c 1 t) (iblk m c 2 t) (iblk m c 3 t) y = R4 m c (((View.whole main_v0_0).slice (win0_4.rect t)).emb y) := by
  pointwise [R4, k0_pay5]
  refine (Cert.Cut8.sum_eight (fun k => val_main_v0 (F := Ideal) (m ((c : Thread nD τ).loc main_arg0))
    (idx_main_v1 (((View.whole main_v0_0).slice (win0_4.rect t)).emb y) k)) ?_ ?_ ?_ ?_ ?_ ?_ ?_ ?_ ?_).trans (val_main_v1_apply _ _).symm
  · exact Ideal.ofBits_zero_f32
  all_goals blk_point [iblk, V, maps t, val_main_v0]

theorem result4 (c : Dev nD) : (dats m 0 c).arrAt 4 cfg0.N = R4 m c := by
  refine (dats m 0 c).arrAt_eq_of_covers 4 _ (by decide +kernel) fun t _ y => ?_
  blk_simp
  rw [after0_4]; frame_out
  exact grad m c t y

theorem result5 (c : Dev nD) : (dats m 0 c).arrAt 5 cfg0.N = R5 m c := by
  refine (dats m 0 c).arrAt_eq_of_covers 5 _ (by decide +kernel) fun t _ y => ?_
  blk_simp
  rw [after0_5]; frame_out
  pointwise [R5, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.step _ _ (fun p q => Ideal.div (Ideal.div p _) (Ideal.sqrt (Ideal.div q _) + _)) (Cert.Cut8.avg _ _ ?_ ?_) (Cert.Cut8.avg_sq _ _ ?_ ?_) ?_
  · blk_point [iblk, V, maps t]
  · exact grad m c t y
  · blk_point [iblk, V, maps t]
  · exact grad m c t y
  · blk_point [iblk, V, maps t]

theorem result6 (c : Dev nD) : (dats m 0 c).arrAt 6 cfg0.N = R6 m c := by
  refine (dats m 0 c).arrAt_eq_of_covers 6 _ (by decide +kernel) fun t _ y => ?_
  blk_simp
  rw [after0_6]; frame_out
  pointwise [R6, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg _ _ ?_ ?_
  · blk_point [iblk, V, maps t]
  · exact grad m c t y

theorem result7 (c : Dev nD) : (dats m 0 c).arrAt 7 cfg0.N = R7 m c := by
  refine (dats m 0 c).arrAt_eq_of_covers 7 _ (by decide +kernel) fun t _ y => ?_
  blk_simp
  rw [after0_7]; frame_out
  pointwise [R7, k0_pay1, k0_pay2, k0_pay3, k0_pay4, val_main_cst, val_main_cst_0, val_main_v2, val_main_v3, val_main_cst_1, val_main_v4, val_main_v5, val_main_v6, val_main_cst_2, val_main_v7, val_main_v8, val_main_v9, val_main_cst_3, val_main_v10, val_main_v11, val_main_v12, val_main_cst_4, val_main_v13, val_main_v14, val_main_cst_5, val_main_v15, val_main_v16, val_main_v17, val_main_cst_6, val_main_v18, val_main_v19, val_main_v20, val_main_cst_7, val_main_v21, val_main_v22, val_main_v23, val_main_cst_8, val_main_v24, val_main_v25]
  refine Cert.Cut8.avg_sq _ _ ?_ ?_
  · blk_point [iblk, V, maps t]
  · exact grad m c t y

end Cert.AdamWOutIdeal.Value

namespace Cert.AdamWOut.Claims
open Cert Idealize.ShloMosaic Idealize.ShloMosaic.TcCoe Idealize.SL.Sem

theorem reference_frame : Cert.quiescent_RefAdamWOutIdeal (hRefAdamWOutIdeal := Cert.RefAdamWOutIdeal.Gen.facts) := fun m ρ _ =>
  (θ_run _ _ _).mono (fun r h => ⟨fun c => (h c).2.2.2.2, sem_eq_zero_of_no_sems (by decide) r.2⟩) (Cert.RefAdamWOutIdeal.Value.run m ρ)

theorem algebraic : Cert.algebraic_AdamWOutIdeal_RefAdamWOutIdeal (hAdamWOutIdeal := Cert.AdamWOutIdeal.Gen.facts)
    (hRefAdamWOutIdeal := Cert.RefAdamWOutIdeal.Gen.facts) := by
  intro m g m' g' _ hm
  refine ⟨_, _, _, _, Cert.AdamWOutIdeal.Value.run_blocks m g, (θ_run _ _ _).mono (fun r h c => ⟨(h c).1.trans ?_, (h c).2.1.trans ?_, (h c).2.2.1.trans ?_, (h c).2.2.2.1.trans ?_, (h c).2.2.2.2⟩) (Cert.RefAdamWOutIdeal.Value.run m' g')⟩
  · obtain ⟨e0, e1, e2, e3⟩ := hm c
    rw [Cert.AdamWOutIdeal.Value.result4 m c, Cert.RefAdamWOutIdeal.Read.val_main_v1_eq, e0]
    rfl
  · obtain ⟨e0, e1, e2, e3⟩ := hm c
    rw [Cert.AdamWOutIdeal.Value.result5 m c, Cert.RefAdamWOutIdeal.Read.val_main_v25_eq, e0, e1, e2, e3]
    rfl
  · obtain ⟨e0, e1, e2, e3⟩ := hm c
    rw [Cert.AdamWOutIdeal.Value.result6 m c, Cert.RefAdamWOutIdeal.Read.val_main_v6_eq, e0, e2]
    rfl
  · obtain ⟨e0, e1, e2, e3⟩ := hm c
    rw [Cert.AdamWOutIdeal.Value.result7 m c, Cert.RefAdamWOutIdeal.Read.val_main_v12_eq, e0, e3]
    rfl

end Cert.AdamWOut.Claims
end
-- ==== Proof.SumSmall.lean ====
/- Hand-written, untrusted. THE SMALL WEIGHTS' GRADIENTS OVER THE DEVICES (`sum_g_small`): one point, which adds the eight devices' packed parts in order; the
   reference sums over the leading axis. -/
module

public import proofs.«01_k».proof.Defs
public import proofs.«01_k».proof.Proof.Gen.SumSmallIdeal.Value
public import proofs.«01_k».proof.Proof.Gen.RefSumSmallIdeal.Run
public import proofs.«01_k».proof.Proof.Gen.RefSumSmallIdeal.Read
public import Idealize.ShloMosaic.Lib.Pipeline.ValueKit
public import proofs.«01_k».proof.Proof.Cut8

@[expose] public section

set_option maxRecDepth 16384

noncomputable section

namespace Cert.SumSmall.Claims
open Cert Idealize.ShloMosaic Idealize.ShloMosaic.TcCoe Idealize.SL.Sem

theorem reference_frame : Cert.quiescent_RefSumSmallIdeal (hRefSumSmallIdeal := Cert.RefSumSmallIdeal.Gen.facts) := fun m ρ _ =>
  (θ_run _ _ _).mono (fun r h => ⟨fun c => (h c).2, sem_eq_zero_of_no_sems (by decide) r.2⟩) (Cert.RefSumSmallIdeal.Value.run m ρ)

theorem algebraic : Cert.algebraic_SumSmallIdeal_RefSumSmallIdeal (hSumSmallIdeal := Cert.SumSmallIdeal.Gen.facts)
    (hRefSumSmallIdeal := Cert.RefSumSmallIdeal.Gen.facts) := by
  intro m g m' g' _ hm
  refine ⟨_, Cert.SumSmallIdeal.Value.run m g, (θ_run _ _ _).mono (fun r h c => ⟨(h c).1.trans ?_, (h c).2⟩) (Cert.RefSumSmallIdeal.Value.run m' g')⟩
  · have e0 := hm c
    rw [Cert.RefSumSmallIdeal.Read.val_main_v0_eq, e0]
    funext i
    refine (Cert.RefSumSmallIdeal.Read.val_main_v0_apply _ i).trans ?_
    pointwise [Cert.SumSmallIdeal.Gen.k0_pay1, Cert.SumSmallIdeal.Value.G1]
    refine (Cert.Cut8.sum_eight (fun k => m ((c : Thread Cert.SumSmallIdeal.nD Cert.SumSmallIdeal.τ).loc Cert.SumSmallIdeal.main_arg0) (Cert.RefSumSmallIdeal.Read.idx_main_v0 i k)) Ideal.ofBits_zero_f32 ?_ ?_ ?_ ?_ ?_ ?_ ?_ ?_).symm
    all_goals exact congrArg _ (funext fun a => by fin_cases a <;> rfl)

end Cert.SumSmall.Claims
end
-- ==== Proof.AdamSmall.lean ====
/- Hand-written, untrusted. THE OPTIMISER ON THE SMALL WEIGHTS (`adamw_*`): one point each, over the whole array; what it leaves is the
   reference's step, element by element, in the same order of operations.  One program per shape. -/
module

public import proofs.«01_k».proof.Defs
public import proofs.«01_k».proof.Proof.Gen.AdamLambdaIdeal.Value
public import proofs.«01_k».proof.Proof.Gen.RefAdamLambdaIdeal.Run
public import proofs.«01_k».proof.Proof.Gen.RefAdamLambdaIdeal.Read
public import proofs.«01_k».proof.Proof.Gen.AdamBIdeal.Value
public import proofs.«01_k».proof.Proof.Gen.RefAdamBIdeal.Run
public import proofs.«01_k».proof.Proof.Gen.RefAdamBIdeal.Read
public import proofs.«01_k».proof.Proof.Gen.AdamCIdeal.Value
public import proofs.«01_k».proof.Proof.Gen.RefAdamCIdeal.Run
public import proofs.«01_k».proof.Proof.Gen.RefAdamCIdeal.Read
public import proofs.«01_k».proof.Proof.Gen.AdamDIdeal.Value
public import proofs.«01_k».proof.Proof.Gen.RefAdamDIdeal.Run
public import proofs.«01_k».proof.Proof.Gen.RefAdamDIdeal.Read
public import proofs.«01_k».proof.Proof.Gen.AdamLogStepIdeal.Value
public import proofs.«01_k».proof.Proof.Gen.RefAdamLogStepIdeal.Run
public import proofs.«01_k».proof.Proof.Gen.RefAdamLogStepIdeal.Read
public import proofs.«01_k».proof.Proof.Gen.AdamSinksIdeal.Value
public import proofs.«01_k».proof.Proof.Gen.RefAdamSinksIdeal.Run
public import proofs.«01_k».proof.Proof.Gen.RefAdamSinksIdeal.Read
public import proofs.«01_k».proof.Proof.Gen.AdamTableIdeal.Value
public import proofs.«01_k».proof.Proof.Gen.RefAdamTableIdeal.Run
public import proofs.«01_k».proof.Proof.Gen.RefAdamTableIdeal.Read
public import proofs.«01_k».proof.Proof.Gen.AdamNormIdeal.Value
public import proofs.«01_k».proof.Proof.Gen.RefAdamNormIdeal.Run
public import proofs.«01_k».proof.Proof.Gen.RefAdamNormIdeal.Read

@[expose] public section

noncomputable section

open Cert Idealize.ShloMosaic Idealize.ShloMosaic.TcCoe Idealize.SL.Sem

namespace Cert.AdamLambda.Claims

theorem reference_frame : Cert.quiescent_RefAdamLambdaIdeal (hRefAdamLambdaIdeal := Cert.RefAdamLambdaIdeal.Gen.facts) := fun m ρ _ =>
  (θ_run _ _ _).mono (fun r h => ⟨fun c => (h c).2.2.2, sem_eq_zero_of_no_sems (by decide) r.2⟩) (Cert.RefAdamLambdaIdeal.Value.run m ρ)

theorem algebraic : Cert.algebraic_AdamLambdaIdeal_RefAdamLambdaIdeal (hAdamLambdaIdeal := Cert.AdamLambdaIdeal.Gen.facts)
    (hRefAdamLambdaIdeal := Cert.RefAdamLambdaIdeal.Gen.facts) := by
  intro m g m' g' _ hm
  refine ⟨_, _, _, Cert.AdamLambdaIdeal.Value.run m g, (θ_run _ _ _).mono (fun r h c => ⟨(h c).1.trans ?_, (h c).2.1.trans ?_, (h c).2.2.1.trans ?_, (h c).2.2.2⟩) (Cert.RefAdamLambdaIdeal.Value.run m' g')⟩
  · obtain ⟨e0, e1, e2, e3⟩ := hm c
    rw [Cert.RefAdamLambdaIdeal.Read.val_main_v23_eq, e0, e1, e2, e3]
    funext i; rfl
  · obtain ⟨e0, e1, e2, e3⟩ := hm c
    rw [Cert.RefAdamLambdaIdeal.Read.val_main_v4_eq, e1, e2]
    funext i; rfl
  · obtain ⟨e0, e1, e2, e3⟩ := hm c
    rw [Cert.RefAdamLambdaIdeal.Read.val_main_v10_eq, e1, e3]
    funext i; rfl

end Cert.AdamLambda.Claims

namespace Cert.AdamB.Claims

theorem reference_frame : Cert.quiescent_RefAdamBIdeal (hRefAdamBIdeal := Cert.RefAdamBIdeal.Gen.facts) := fun m ρ _ =>
  (θ_run _ _ _).mono (fun r h => ⟨fun c => (h c).2.2.2, sem_eq_zero_of_no_sems (by decide) r.2⟩) (Cert.RefAdamBIdeal.Value.run m ρ)

theorem algebraic : Cert.algebraic_AdamBIdeal_RefAdamBIdeal (hAdamBIdeal := Cert.AdamBIdeal.Gen.facts)
    (hRefAdamBIdeal := Cert.RefAdamBIdeal.Gen.facts) := by
  intro m g m' g' _ hm
  refine ⟨_, _, _, Cert.AdamBIdeal.Value.run m g, (θ_run _ _ _).mono (fun r h c => ⟨(h c).1.trans ?_, (h c).2.1.trans ?_, (h c).2.2.1.trans ?_, (h c).2.2.2⟩) (Cert.RefAdamBIdeal.Value.run m' g')⟩
  · obtain ⟨e0, e1, e2, e3⟩ := hm c
    rw [Cert.RefAdamBIdeal.Read.val_main_v23_eq, e0, e1, e2, e3]
    funext i; rfl
  · obtain ⟨e0, e1, e2, e3⟩ := hm c
    rw [Cert.RefAdamBIdeal.Read.val_main_v4_eq, e1, e2]
    funext i; rfl
  · obtain ⟨e0, e1, e2, e3⟩ := hm c
    rw [Cert.RefAdamBIdeal.Read.val_main_v10_eq, e1, e3]
    funext i; rfl

end Cert.AdamB.Claims

namespace Cert.AdamC.Claims

theorem reference_frame : Cert.quiescent_RefAdamCIdeal (hRefAdamCIdeal := Cert.RefAdamCIdeal.Gen.facts) := fun m ρ _ =>
  (θ_run _ _ _).mono (fun r h => ⟨fun c => (h c).2.2.2, sem_eq_zero_of_no_sems (by decide) r.2⟩) (Cert.RefAdamCIdeal.Value.run m ρ)

theorem algebraic : Cert.algebraic_AdamCIdeal_RefAdamCIdeal (hAdamCIdeal := Cert.AdamCIdeal.Gen.facts)
    (hRefAdamCIdeal := Cert.RefAdamCIdeal.Gen.facts) := by
  intro m g m' g' _ hm
  refine ⟨_, _, _, Cert.AdamCIdeal.Value.run m g, (θ_run _ _ _).mono (fun r h c => ⟨(h c).1.trans ?_, (h c).2.1.trans ?_, (h c).2.2.1.trans ?_, (h c).2.2.2⟩) (Cert.RefAdamCIdeal.Value.run m' g')⟩
  · obtain ⟨e0, e1, e2, e3⟩ := hm c
    rw [Cert.RefAdamCIdeal.Read.val_main_v23_eq, e0, e1, e2, e3]
    funext i; rfl
  · obtain ⟨e0, e1, e2, e3⟩ := hm c
    rw [Cert.RefAdamCIdeal.Read.val_main_v4_eq, e1, e2]
    funext i; rfl
  · obtain ⟨e0, e1, e2, e3⟩ := hm c
    rw [Cert.RefAdamCIdeal.Read.val_main_v10_eq, e1, e3]
    funext i; rfl

end Cert.AdamC.Claims

namespace Cert.AdamD.Claims

theorem reference_frame : Cert.quiescent_RefAdamDIdeal (hRefAdamDIdeal := Cert.RefAdamDIdeal.Gen.facts) := fun m ρ _ =>
  (θ_run _ _ _).mono (fun r h => ⟨fun c => (h c).2.2.2, sem_eq_zero_of_no_sems (by decide) r.2⟩) (Cert.RefAdamDIdeal.Value.run m ρ)

theorem algebraic : Cert.algebraic_AdamDIdeal_RefAdamDIdeal (hAdamDIdeal := Cert.AdamDIdeal.Gen.facts)
    (hRefAdamDIdeal := Cert.RefAdamDIdeal.Gen.facts) := by
  intro m g m' g' _ hm
  refine ⟨_, _, _, Cert.AdamDIdeal.Value.run m g, (θ_run _ _ _).mono (fun r h c => ⟨(h c).1.trans ?_, (h c).2.1.trans ?_, (h c).2.2.1.trans ?_, (h c).2.2.2⟩) (Cert.RefAdamDIdeal.Value.run m' g')⟩
  · obtain ⟨e0, e1, e2, e3⟩ := hm c
    rw [Cert.RefAdamDIdeal.Read.val_main_v23_eq, e0, e1, e2, e3]
    funext i; rfl
  · obtain ⟨e0, e1, e2, e3⟩ := hm c
    rw [Cert.RefAdamDIdeal.Read.val_main_v4_eq, e1, e2]
    funext i; rfl
  · obtain ⟨e0, e1, e2, e3⟩ := hm c
    rw [Cert.RefAdamDIdeal.Read.val_main_v10_eq, e1, e3]
    funext i; rfl

end Cert.AdamD.Claims

namespace Cert.AdamLogStep.Claims

theorem reference_frame : Cert.quiescent_RefAdamLogStepIdeal (hRefAdamLogStepIdeal := Cert.RefAdamLogStepIdeal.Gen.facts) := fun m ρ _ =>
  (θ_run _ _ _).mono (fun r h => ⟨fun c => (h c).2.2.2, sem_eq_zero_of_no_sems (by decide) r.2⟩) (Cert.RefAdamLogStepIdeal.Value.run m ρ)

theorem algebraic : Cert.algebraic_AdamLogStepIdeal_RefAdamLogStepIdeal (hAdamLogStepIdeal := Cert.AdamLogStepIdeal.Gen.facts)
    (hRefAdamLogStepIdeal := Cert.RefAdamLogStepIdeal.Gen.facts) := by
  intro m g m' g' _ hm
  refine ⟨_, _, _, Cert.AdamLogStepIdeal.Value.run m g, (θ_run _ _ _).mono (fun r h c => ⟨(h c).1.trans ?_, (h c).2.1.trans ?_, (h c).2.2.1.trans ?_, (h c).2.2.2⟩) (Cert.RefAdamLogStepIdeal.Value.run m' g')⟩
  · obtain ⟨e0, e1, e2, e3⟩ := hm c
    rw [Cert.RefAdamLogStepIdeal.Read.val_main_v23_eq, e0, e1, e2, e3]
    funext i; rfl
  · obtain ⟨e0, e1, e2, e3⟩ := hm c
    rw [Cert.RefAdamLogStepIdeal.Read.val_main_v4_eq, e1, e2]
    funext i; rfl
  · obtain ⟨e0, e1, e2, e3⟩ := hm c
    rw [Cert.RefAdamLogStepIdeal.Read.val_main_v10_eq, e1, e3]
    funext i; rfl

end Cert.AdamLogStep.Claims

namespace Cert.AdamSinks.Claims

theorem reference_frame : Cert.quiescent_RefAdamSinksIdeal (hRefAdamSinksIdeal := Cert.RefAdamSinksIdeal.Gen.facts) := fun m ρ _ =>
  (θ_run _ _ _).mono (fun r h => ⟨fun c => (h c).2.2.2, sem_eq_zero_of_no_sems (by decide) r.2⟩) (Cert.RefAdamSinksIdeal.Value.run m ρ)

theorem algebraic : Cert.algebraic_AdamSinksIdeal_RefAdamSinksIdeal (hAdamSinksIdeal := Cert.AdamSinksIdeal.Gen.facts)
    (hRefAdamSinksIdeal := Cert.RefAdamSinksIdeal.Gen.facts) := by
  intro m g m' g' _ hm
  refine ⟨_, _, _, Cert.AdamSinksIdeal.Value.run m g, (θ_run _ _ _).mono (fun r h c => ⟨(h c).1.trans ?_, (h c).2.1.trans ?_, (h c).2.2.1.trans ?_, (h c).2.2.2⟩) (Cert.RefAdamSinksIdeal.Value.run m' g')⟩
  · obtain ⟨e0, e1, e2, e3⟩ := hm c
    rw [Cert.RefAdamSinksIdeal.Read.val_main_v23_eq, e0, e1, e2, e3]
    funext i; rfl
  · obtain ⟨e0, e1, e2, e3⟩ := hm c
    rw [Cert.RefAdamSinksIdeal.Read.val_main_v4_eq, e1, e2]
    funext i; rfl
  · obtain ⟨e0, e1, e2, e3⟩ := hm c
    rw [Cert.RefAdamSinksIdeal.Read.val_main_v10_eq, e1, e3]
    funext i; rfl

end Cert.AdamSinks.Claims

namespace Cert.AdamTable.Claims

theorem reference_frame : Cert.quiescent_RefAdamTableIdeal (hRefAdamTableIdeal := Cert.RefAdamTableIdeal.Gen.facts) := fun m ρ _ =>
  (θ_run _ _ _).mono (fun r h => ⟨fun c => (h c).2.2.2, sem_eq_zero_of_no_sems (by decide) r.2⟩) (Cert.RefAdamTableIdeal.Value.run m ρ)

theorem algebraic : Cert.algebraic_AdamTableIdeal_RefAdamTableIdeal (hAdamTableIdeal := Cert.AdamTableIdeal.Gen.facts)
    (hRefAdamTableIdeal := Cert.RefAdamTableIdeal.Gen.facts) := by
  intro m g m' g' _ hm
  refine ⟨_, _, _, Cert.AdamTableIdeal.Value.run m g, (θ_run _ _ _).mono (fun r h c => ⟨(h c).1.trans ?_, (h c).2.1.trans ?_, (h c).2.2.1.trans ?_, (h c).2.2.2⟩) (Cert.RefAdamTableIdeal.Value.run m' g')⟩
  · obtain ⟨e0, e1, e2, e3⟩ := hm c
    rw [Cert.RefAdamTableIdeal.Read.val_main_v23_eq, e0, e1, e2, e3]
    funext i; rfl
  · obtain ⟨e0, e1, e2, e3⟩ := hm c
    rw [Cert.RefAdamTableIdeal.Read.val_main_v4_eq, e1, e2]
    funext i; rfl
  · obtain ⟨e0, e1, e2, e3⟩ := hm c
    rw [Cert.RefAdamTableIdeal.Read.val_main_v10_eq, e1, e3]
    funext i; rfl

end Cert.AdamTable.Claims

namespace Cert.AdamNorm.Claims

theorem reference_frame : Cert.quiescent_RefAdamNormIdeal (hRefAdamNormIdeal := Cert.RefAdamNormIdeal.Gen.facts) := fun m ρ _ =>
  (θ_run _ _ _).mono (fun r h => ⟨fun c => (h c).2.2.2, sem_eq_zero_of_no_sems (by decide) r.2⟩) (Cert.RefAdamNormIdeal.Value.run m ρ)

theorem algebraic : Cert.algebraic_AdamNormIdeal_RefAdamNormIdeal (hAdamNormIdeal := Cert.AdamNormIdeal.Gen.facts)
    (hRefAdamNormIdeal := Cert.RefAdamNormIdeal.Gen.facts) := by
  intro m g m' g' _ hm
  refine ⟨_, _, _, Cert.AdamNormIdeal.Value.run m g, (θ_run _ _ _).mono (fun r h c => ⟨(h c).1.trans ?_, (h c).2.1.trans ?_, (h c).2.2.1.trans ?_, (h c).2.2.2⟩) (Cert.RefAdamNormIdeal.Value.run m' g')⟩
  · obtain ⟨e0, e1, e2, e3⟩ := hm c
    rw [Cert.RefAdamNormIdeal.Read.val_main_v23_eq, e0, e1, e2, e3]
    funext i; rfl
  · obtain ⟨e0, e1, e2, e3⟩ := hm c
    rw [Cert.RefAdamNormIdeal.Read.val_main_v4_eq, e1, e2]
    funext i; rfl
  · obtain ⟨e0, e1, e2, e3⟩ := hm c
    rw [Cert.RefAdamNormIdeal.Read.val_main_v10_eq, e1, e3]
    funext i; rfl

end Cert.AdamNorm.Claims

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.GradW
public import proofs.«01_k».proof.Proof.Gen.GradW.Frame
public import proofs.«01_k».proof.Proof.Gen.GradWIdeal
public import proofs.«01_k».proof.Proof.Gen.GradWIdeal.Frame
public import proofs.«01_k».proof.Proof.Gen.GradWIdeal.Value
public import proofs.«01_k».proof.Proof.Gen.GradX
public import proofs.«01_k».proof.Proof.Gen.GradX.Frame
public import proofs.«01_k».proof.Proof.Gen.GradXIdeal
public import proofs.«01_k».proof.Proof.Gen.GradXIdeal.Frame
public import proofs.«01_k».proof.Proof.Gen.GradXIdeal.Value
public import proofs.«01_k».proof.Proof.Gen.RefInProjIdeal
public import proofs.«01_k».proof.Proof.Gen.RefInProjIdeal.Run
public import proofs.«01_k».proof.Proof.Gen.RefInProjIdeal.Read
public import proofs.«01_k».proof.Proof.Gen.RefGradWIdeal
public import proofs.«01_k».proof.Proof.Gen.RefGradWIdeal.Run
public import proofs.«01_k».proof.Proof.Gen.RefGradWIdeal.Read
public import proofs.«01_k».proof.Proof.Gen.RefGradXIdeal
public import proofs.«01_k».proof.Proof.Gen.RefGradXIdeal.Run
public import proofs.«01_k».proof.Proof.Gen.RefGradXIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.GradWOut
public import proofs.«01_k».proof.Proof.Gen.GradWOut.Frame
public import proofs.«01_k».proof.Proof.Gen.GradWOutIdeal
public import proofs.«01_k».proof.Proof.Gen.GradWOutIdeal.Frame
public import proofs.«01_k».proof.Proof.Gen.GradWOutIdeal.Value
public import proofs.«01_k».proof.Proof.Gen.DHAttn
public import proofs.«01_k».proof.Proof.Gen.DHAttn.Frame
public import proofs.«01_k».proof.Proof.Gen.DHAttnIdeal
public import proofs.«01_k».proof.Proof.Gen.DHAttnIdeal.Frame
public import proofs.«01_k».proof.Proof.Gen.DHAttnIdeal.Value
public import proofs.«01_k».proof.Proof.Gen.GradWBranch
public import proofs.«01_k».proof.Proof.Gen.GradWBranch.Frame
public import proofs.«01_k».proof.Proof.Gen.GradWBranchIdeal
public import proofs.«01_k».proof.Proof.Gen.GradWBranchIdeal.Frame
public import proofs.«01_k».proof.Proof.Gen.GradWBranchIdeal.Value
public import proofs.«01_k».proof.Proof.Gen.GluGate
public import proofs.«01_k».proof.Proof.Gen.GluGate.Frame
public import proofs.«01_k».proof.Proof.Gen.GluGateIdeal
public import proofs.«01_k».proof.Proof.Gen.GluGateIdeal.Frame
public import proofs.«01_k».proof.Proof.Gen.GluGateIdeal.Value
public import proofs.«01_k».proof.Proof.Gen.BranchMerge
public import proofs.«01_k».proof.Proof.Gen.BranchMerge.Frame
public import proofs.«01_k».proof.Proof.Gen.BranchMergeIdeal
public import proofs.«01_k».proof.Proof.Gen.BranchMergeIdeal.Frame
public import proofs.«01_k».proof.Proof.Gen.BranchMergeIdeal.Value
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.GluGateBwd
public import proofs.«01_k».proof.Proof.Gen.GluGateBwd.Frame
public import proofs.«01_k».proof.Proof.Gen.GluGateBwdIdeal
public import proofs.«01_k».proof.Proof.Gen.GluGateBwdIdeal.Frame
public import proofs.«01_k».proof.Proof.Gen.GluGateBwdIdeal.Value
public import proofs.«01_k».proof.Proof.Gen.RefOutProjIdeal
public import proofs.«01_k».proof.Proof.Gen.RefOutProjIdeal.Run
public import proofs.«01_k».proof.Proof.Gen.RefOutProjIdeal.Read
public import proofs.«01_k».proof.Proof.Gen.RefGradWOutIdeal
public import proofs.«01_k».proof.Proof.Gen.RefGradWOutIdeal.Run
public import proofs.«01_k».proof.Proof.Gen.RefGradWOutIdeal.Read
public import proofs.«01_k».proof.Proof.Gen.RefDHAttnIdeal
public import proofs.«01_k».proof.Proof.Gen.RefDHAttnIdeal.Run
public import proofs.«01_k».proof.Proof.Gen.RefDHAttnIdeal.Read
public import proofs.«01_k».proof.Proof.Gen.RefGradWBranchIdeal
public import proofs.«01_k».proof.Proof.Gen.RefGradWBranchIdeal.Run
public import proofs.«01_k».proof.Proof.Gen.RefGradWBranchIdeal.Read
public import proofs.«01_k».proof.Proof.Gen.RefGluGateIdeal
public import proofs.«01_k».proof.Proof.Gen.RefGluGateIdeal.Run
public import proofs.«01_k».proof.Proof.Gen.RefGluGateIdeal.Read
public import proofs.«01_k».proof.Proof.Gen.RefBranchMergeIdeal
public import proofs.«01_k».proof.Proof.Gen.RefBranchMergeIdeal.Run
public import proofs.«01_k».proof.Proof.Gen.RefBranchMergeIdeal.Read
public import proofs.«01_k».proof.Proof.Gen.RefMergeBwdIdeal
public import proofs.«01_k».proof.Proof.Gen.RefMergeBwdIdeal.Run
public import proofs.«01_k».proof.Proof.Gen.RefMergeBwdIdeal.Read
public import proofs.«01_k».proof.Proof.Gen.RefGluGateBwdIdeal
public import proofs.«01_k».proof.Proof.Gen.RefGluGateBwdIdeal.Run
public import proofs.«01_k».proof.Proof.Gen.RefGluGateBwdIdeal.Read
public import proofs.«01_k».proof.Proof.Values
public import proofs.«01_k».proof.Proof.Gen.AdamWIn
public import proofs.«01_k».proof.Proof.Gen.AdamWIn.Frame
public import proofs.«01_k».proof.Proof.Gen.AdamWInIdeal
public import proofs.«01_k».proof.Proof.Gen.AdamWInIdeal.Frame
public import proofs.«01_k».proof.Proof.Gen.AdamWInIdeal.Value
public import proofs.«01_k».proof.Proof.Gen.RefAdamWInIdeal
public import proofs.«01_k».proof.Proof.Gen.RefAdamWInIdeal.Run
public import proofs.«01_k».proof.Proof.Gen.RefAdamWInIdeal.Read
public import proofs.«01_k».proof.Proof.Gen.AdamStack
public import proofs.«01_k».proof.Proof.Gen.AdamStack.Frame
public import proofs.«01_k».proof.Proof.Gen.AdamStackIdeal
public import proofs.«01_k».proof.Proof.Gen.AdamStackIdeal.Frame
public import proofs.«01_k».proof.Proof.Gen.AdamStackIdeal.Value
public import proofs.«01_k».proof.Proof.Gen.RefAdamStackIdeal
public import proofs.«01_k».proof.Proof.Gen.RefAdamStackIdeal.Run
public import proofs.«01_k».proof.Proof.Gen.RefAdamStackIdeal.Read
public import proofs.«01_k».proof.Proof.Gen.AdamWOut
public import proofs.«01_k».proof.Proof.Gen.AdamWOut.Frame
public import proofs.«01_k».proof.Proof.Gen.AdamWOutIdeal
public import proofs.«01_k».proof.Proof.Gen.AdamWOutIdeal.Frame
public import proofs.«01_k».proof.Proof.Gen.AdamWOutIdeal.Value
public import proofs.«01_k».proof.Proof.Gen.RefAdamWOutIdeal
public import proofs.«01_k».proof.Proof.Gen.RefAdamWOutIdeal.Run
public import proofs.«01_k».proof.Proof.Gen.RefAdamWOutIdeal.Read
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.RefSumSmallIdeal
public import proofs.«01_k».proof.Proof.Gen.RefSumSmallIdeal.Run
public import proofs.«01_k».proof.Proof.Gen.RefSumSmallIdeal.Read
public import proofs.«01_k».proof.Proof.Gen.AdamLambda
public import proofs.«01_k».proof.Proof.Gen.AdamLambda.Frame
public import proofs.«01_k».proof.Proof.Gen.AdamLambdaIdeal
public import proofs.«01_k».proof.Proof.Gen.AdamLambdaIdeal.Frame
public import proofs.«01_k».proof.Proof.Gen.AdamLambdaIdeal.Value
public import proofs.«01_k».proof.Proof.Gen.RefAdamLambdaIdeal
public import proofs.«01_k».proof.Proof.Gen.RefAdamLambdaIdeal.Run
public import proofs.«01_k».proof.Proof.Gen.RefAdamLambdaIdeal.Read
public import proofs.«01_k».proof.Proof.Gen.AdamB
public import proofs.«01_k».proof.Proof.Gen.AdamB.Frame
public import proofs.«01_k».proof.Proof.Gen.AdamBIdeal
public import proofs.«01_k».proof.Proof.Gen.AdamBIdeal.Frame
public import proofs.«01_k».proof.Proof.Gen.AdamBIdeal.Value
public import proofs.«01_k».proof.Proof.Gen.RefAdamBIdeal
public import proofs.«01_k».proof.Proof.Gen.RefAdamBIdeal.Run
public import proofs.«01_k».proof.Proof.Gen.RefAdamBIdeal.Read
public import proofs.«01_k».proof.Proof.Gen.AdamC
public import proofs.«01_k».proof.Proof.Gen.AdamC.Frame
public import proofs.«01_k».proof.Proof.Gen.AdamCIdeal
public import proofs.«01_k».proof.Proof.Gen.AdamCIdeal.Frame
public import proofs.«01_k».proof.Proof.Gen.AdamCIdeal.Value
public import proofs.«01_k».proof.Proof.Gen.RefAdamCIdeal
public import proofs.«01_k».proof.Proof.Gen.RefAdamCIdeal.Run
public import proofs.«01_k».proof.Proof.Gen.RefAdamCIdeal.Read
public import proofs.«01_k».proof.Proof.Gen.AdamD
public import proofs.«01_k».proof.Proof.Gen.AdamD.Frame
public import proofs.«01_k».proof.Proof.Gen.AdamDIdeal
public import proofs.«01_k».proof.Proof.Gen.AdamDIdeal.Frame
public import proofs.«01_k».proof.Proof.Gen.AdamDIdeal.Value
public import proofs.«01_k».proof.Proof.Gen.RefAdamDIdeal
public import proofs.«01_k».proof.Proof.Gen.RefAdamDIdeal.Run
public import proofs.«01_k».proof.Proof.Gen.RefAdamDIdeal.Read
public import proofs.«01_k».proof.Proof.Gen.AdamLogStep
public import proofs.«01_k».proof.Proof.Gen.AdamLogStep.Frame
public import proofs.«01_k».proof.Proof.Gen.AdamLogStepIdeal
public import proofs.«01_k».proof.Proof.Gen.AdamLogStepIdeal.Frame
public import proofs.«01_k».proof.Proof.Gen.AdamLogStepIdeal.Value
public import proofs.«01_k».proof.Proof.Gen.RefAdamLogStepIdeal
public import proofs.«01_k».proof.Proof.Gen.RefAdamLogStepIdeal.Run
public import proofs.«01_k».proof.Proof.Gen.RefAdamLogStepIdeal.Read
public import proofs.«01_k».proof.Proof.Gen.AdamSinks
public import proofs.«01_k».proof.Proof.Gen.AdamSinks.Frame
public import proofs.«01_k».proof.Proof.Gen.AdamSinksIdeal
public import proofs.«01_k».proof.Proof.Gen.AdamSinksIdeal.Frame
public import proofs.«01_k».proof.Proof.Gen.AdamSinksIdeal.Value
public import proofs.«01_k».proof.Proof.Gen.RefAdamSinksIdeal
public import proofs.«01_k».proof.Proof.Gen.RefAdamSinksIdeal.Run
public import proofs.«01_k».proof.Proof.Gen.RefAdamSinksIdeal.Read
public import proofs.«01_k».proof.Proof.Gen.AdamTable
public import proofs.«01_k».proof.Proof.Gen.AdamTable.Frame
public import proofs.«01_k».proof.Proof.Gen.AdamTableIdeal
public import proofs.«01_k».proof.Proof.Gen.AdamTableIdeal.Frame
public import proofs.«01_k».proof.Proof.Gen.AdamTableIdeal.Value
public import proofs.«01_k».proof.Proof.Gen.RefAdamTableIdeal
public import proofs.«01_k».proof.Proof.Gen.RefAdamTableIdeal.Run
public import proofs.«01_k».proof.Proof.Gen.RefAdamTableIdeal.Read
public import proofs.«01_k».proof.Proof.Gen.AdamNorm
public import proofs.«01_k».proof.Proof.Gen.AdamNorm.Frame
public import proofs.«01_k».proof.Proof.Gen.AdamNormIdeal
public import proofs.«01_k».proof.Proof.Gen.AdamNormIdeal.Frame
public import proofs.«01_k».proof.Proof.Gen.AdamNormIdeal.Value
public import proofs.«01_k».proof.Proof.Gen.RefAdamNormIdeal
public import proofs.«01_k».proof.Proof.Gen.RefAdamNormIdeal.Run
public import proofs.«01_k».proof.Proof.Gen.RefAdamNormIdeal.Read
public import proofs.«01_k».proof.Proof.InProj
public import proofs.«01_k».proof.Proof.GradW
public import proofs.«01_k».proof.Proof.GradX
public import proofs.«01_k».proof.Proof.OutProj
public import proofs.«01_k».proof.Proof.GradWOut
public import proofs.«01_k».proof.Proof.DHAttn
public import proofs.«01_k».proof.Proof.GradWBranch
public import proofs.«01_k».proof.Proof.GluGate
public import proofs.«01_k».proof.Proof.BranchMerge
public import proofs.«01_k».proof.Proof.MergeBwd
public import proofs.«01_k».proof.Proof.GluGateBwd
public import proofs.«01_k».proof.Proof.AdamWIn
public import proofs.«01_k».proof.Proof.AdamStack
public import proofs.«01_k».proof.Proof.AdamWOut
public import proofs.«01_k».proof.Proof.SumSmall
public import proofs.«01_k».proof.Proof.AdamSmall
public import proofs.«01_k».proof.Proof.Gen.Pre_finite_gate

@[expose] public section

noncomputable section

namespace Cert.Proof

open Idealize.ShloMosaic Idealize.SL.Sem Cert.Attn

theorem claim : Cert.Claim := ⟨Cert.Attn.Gen.facts, Cert.AttnIdeal.Gen.facts, Cert.ReferenceIdeal.Gen.facts,
  Cert.InProj.Gen.facts, Cert.InProjIdeal.Gen.facts, Cert.RefInProjIdeal.Gen.facts,
  Cert.GradW.Gen.facts, Cert.GradWIdeal.Gen.facts, Cert.RefGradWIdeal.Gen.facts,
  Cert.GradX.Gen.facts, Cert.GradXIdeal.Gen.facts, Cert.RefGradXIdeal.Gen.facts,
  Cert.OutProj.Gen.facts, Cert.OutProjIdeal.Gen.facts, Cert.RefOutProjIdeal.Gen.facts,
  Cert.GradWOut.Gen.facts, Cert.GradWOutIdeal.Gen.facts, Cert.RefGradWOutIdeal.Gen.facts,
  Cert.DHAttn.Gen.facts, Cert.DHAttnIdeal.Gen.facts, Cert.RefDHAttnIdeal.Gen.facts,
  Cert.GradWBranch.Gen.facts, Cert.GradWBranchIdeal.Gen.facts, Cert.RefGradWBranchIdeal.Gen.facts,
  Cert.GluGate.Gen.facts, Cert.GluGateIdeal.Gen.facts, Cert.RefGluGateIdeal.Gen.facts,
  Cert.BranchMerge.Gen.facts, Cert.BranchMergeIdeal.Gen.facts, Cert.RefBranchMergeIdeal.Gen.facts,
  Cert.MergeBwd.Gen.facts, Cert.MergeBwdIdeal.Gen.facts, Cert.RefMergeBwdIdeal.Gen.facts,
  Cert.GluGateBwd.Gen.facts, Cert.GluGateBwdIdeal.Gen.facts, Cert.RefGluGateBwdIdeal.Gen.facts,
  Cert.AdamWIn.Gen.facts, Cert.AdamWInIdeal.Gen.facts, Cert.RefAdamWInIdeal.Gen.facts,
  Cert.AdamStack.Gen.facts, Cert.AdamStackIdeal.Gen.facts, Cert.RefAdamStackIdeal.Gen.facts,
  Cert.AdamWOut.Gen.facts, Cert.AdamWOutIdeal.Gen.facts, Cert.RefAdamWOutIdeal.Gen.facts,
  Cert.SumSmall.Gen.facts, Cert.SumSmallIdeal.Gen.facts, Cert.RefSumSmallIdeal.Gen.facts,
  Cert.AdamLambda.Gen.facts, Cert.AdamLambdaIdeal.Gen.facts, Cert.RefAdamLambdaIdeal.Gen.facts,
  Cert.AdamB.Gen.facts, Cert.AdamBIdeal.Gen.facts, Cert.RefAdamBIdeal.Gen.facts,
  Cert.AdamC.Gen.facts, Cert.AdamCIdeal.Gen.facts, Cert.RefAdamCIdeal.Gen.facts,
  Cert.AdamD.Gen.facts, Cert.AdamDIdeal.Gen.facts, Cert.RefAdamDIdeal.Gen.facts,
  Cert.AdamLogStep.Gen.facts, Cert.AdamLogStepIdeal.Gen.facts, Cert.RefAdamLogStepIdeal.Gen.facts,
  Cert.AdamSinks.Gen.facts, Cert.AdamSinksIdeal.Gen.facts, Cert.RefAdamSinksIdeal.Gen.facts,
  Cert.AdamTable.Gen.facts, Cert.AdamTableIdeal.Gen.facts, Cert.RefAdamTableIdeal.Gen.facts,
  Cert.AdamNorm.Gen.facts, Cert.AdamNormIdeal.Gen.facts, Cert.RefAdamNormIdeal.Gen.facts,
  Cert.Pre_finite.Gen.facts, Cert.Pre_finite_gate.Gen.facts,
  fun m ρ _ => Cert.Attn.Gen.frame m ρ,
  fun m ρ _ => Cert.AttnIdeal.Gen.frame m ρ,
  fun m ρ _ => Cert.AttnIdeal.Gen.frame m ρ,
  fun m ρ _ => reference_frame m ρ,
  fun m ρ _ => reference_frame m ρ,
  fun m ρ _ => Cert.InProj.Gen.frame m ρ, fun m ρ _ => Cert.InProjIdeal.Gen.frame m ρ, Cert.InProj.Claims.reference_frame,
  fun m ρ _ => Cert.GradW.Gen.frame m ρ, fun m ρ _ => Cert.GradWIdeal.Gen.frame m ρ, Cert.GradW.Claims.reference_frame,
  fun m ρ _ => Cert.GradX.Gen.frame m ρ, fun m ρ _ => Cert.GradXIdeal.Gen.frame m ρ, Cert.GradX.Claims.reference_frame,
  fun m ρ _ => Cert.OutProj.Gen.frame m ρ, fun m ρ _ => Cert.OutProjIdeal.Gen.frame m ρ, Cert.OutProj.Claims.reference_frame,
  fun m ρ _ => Cert.GradWOut.Gen.frame m ρ, fun m ρ _ => Cert.GradWOutIdeal.Gen.frame m ρ, Cert.GradWOut.Claims.reference_frame,
  fun m ρ _ => Cert.DHAttn.Gen.frame m ρ, fun m ρ _ => Cert.DHAttnIdeal.Gen.frame m ρ, Cert.DHAttn.Claims.reference_frame,
  fun m ρ _ => Cert.GradWBranch.Gen.frame m ρ, fun m ρ _ => Cert.GradWBranchIdeal.Gen.frame m ρ, Cert.GradWBranch.Claims.reference_frame,
  fun m ρ _ => Cert.GluGate.Gen.frame m ρ, fun m ρ _ => Cert.GluGateIdeal.Gen.frame m ρ, Cert.GluGate.Claims.reference_frame,
  fun m ρ _ => Cert.BranchMerge.Gen.frame m ρ, fun m ρ _ => Cert.BranchMergeIdeal.Gen.frame m ρ, Cert.BranchMerge.Claims.reference_frame,
  fun m ρ _ => Cert.MergeBwd.Gen.frame m ρ, fun m ρ _ => Cert.MergeBwdIdeal.Gen.frame m ρ, Cert.MergeBwd.Claims.reference_frame,
  fun m ρ _ => Cert.GluGateBwd.Gen.frame m ρ, fun m ρ _ => Cert.GluGateBwdIdeal.Gen.frame m ρ, fun m ρ _ => Cert.GluGateBwdIdeal.Gen.frame m ρ, Cert.GluGateBwd.Claims.reference_frame, fun m ρ _ => Cert.GluGateBwd.Claims.reference_frame m ρ trivial,
  fun m ρ _ => Cert.AdamWIn.Gen.frame m ρ, fun m ρ _ => Cert.AdamWInIdeal.Gen.frame m ρ, Cert.AdamWIn.Claims.reference_frame,
  fun m ρ _ => Cert.AdamStack.Gen.frame m ρ, fun m ρ _ => Cert.AdamStackIdeal.Gen.frame m ρ, Cert.AdamStack.Claims.reference_frame,
  fun m ρ _ => Cert.AdamWOut.Gen.frame m ρ, fun m ρ _ => Cert.AdamWOutIdeal.Gen.frame m ρ, Cert.AdamWOut.Claims.reference_frame,
  fun m ρ _ => Cert.SumSmall.Gen.frame m ρ, fun m ρ _ => Cert.SumSmallIdeal.Gen.frame m ρ, Cert.SumSmall.Claims.reference_frame,
  fun m ρ _ => Cert.AdamLambda.Gen.frame m ρ, fun m ρ _ => Cert.AdamLambdaIdeal.Gen.frame m ρ, Cert.AdamLambda.Claims.reference_frame,
  fun m ρ _ => Cert.AdamB.Gen.frame m ρ, fun m ρ _ => Cert.AdamBIdeal.Gen.frame m ρ, Cert.AdamB.Claims.reference_frame,
  fun m ρ _ => Cert.AdamC.Gen.frame m ρ, fun m ρ _ => Cert.AdamCIdeal.Gen.frame m ρ, Cert.AdamC.Claims.reference_frame,
  fun m ρ _ => Cert.AdamD.Gen.frame m ρ, fun m ρ _ => Cert.AdamDIdeal.Gen.frame m ρ, Cert.AdamD.Claims.reference_frame,
  fun m ρ _ => Cert.AdamLogStep.Gen.frame m ρ, fun m ρ _ => Cert.AdamLogStepIdeal.Gen.frame m ρ, Cert.AdamLogStep.Claims.reference_frame,
  fun m ρ _ => Cert.AdamSinks.Gen.frame m ρ, fun m ρ _ => Cert.AdamSinksIdeal.Gen.frame m ρ, Cert.AdamSinks.Claims.reference_frame,
  fun m ρ _ => Cert.AdamTable.Gen.frame m ρ, fun m ρ _ => Cert.AdamTableIdeal.Gen.frame m ρ, Cert.AdamTable.Claims.reference_frame,
  fun m ρ _ => Cert.AdamNorm.Gen.frame m ρ, fun m ρ _ => Cert.AdamNormIdeal.Gen.frame m ρ, Cert.AdamNorm.Claims.reference_frame,
  IdealRules.named_const.statement Cert.AttnIdeal.κ "mask" .f32 0xF149F2CA#32 ⊥ rfl,
  algebraic,
  trivial, Cert.InProj.Claims.algebraic,
  trivial, Cert.GradW.Claims.algebraic,
  trivial, Cert.GradX.Claims.algebraic,
  trivial, Cert.OutProj.Claims.algebraic,
  trivial, Cert.GradWOut.Claims.algebraic,
  trivial, Cert.DHAttn.Claims.algebraic,
  trivial, Cert.GradWBranch.Claims.algebraic,
  trivial, Cert.GluGate.Claims.algebraic,
  trivial, Cert.BranchMerge.Claims.algebraic,
  trivial, Cert.MergeBwd.Claims.algebraic,
  trivial, Cert.GluGateBwd.Claims.algebraic,
  trivial, Cert.AdamWIn.Claims.algebraic,
  trivial, Cert.AdamStack.Claims.algebraic,
  trivial, Cert.AdamWOut.Claims.algebraic,
  trivial, Cert.SumSmall.Claims.algebraic,
  trivial, Cert.AdamLambda.Claims.algebraic,
  trivial, Cert.AdamB.Claims.algebraic,
  trivial, Cert.AdamC.Claims.algebraic,
  trivial, Cert.AdamD.Claims.algebraic,
  trivial, Cert.AdamLogStep.Claims.algebraic,
  trivial, Cert.AdamSinks.Claims.algebraic,
  trivial, Cert.AdamTable.Claims.algebraic,
  trivial, Cert.AdamNorm.Claims.algebraic⟩

end Cert.Proof

end
